-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_nonneg [hPre_gates_nonneg : Cert.Pre_gates_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_gates_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_nonneg [hPre_gates_nonneg : Cert.Pre_gates_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_EvenPrompt (m : (ℓ : Loc Cert.EvenPrompt.nD Cert.EvenPrompt.τ Cert.EvenPrompt.sig) → Buf (Elt Bits) ℓ) : Prop :=
  True

def Pre_EvenPromptIdeal (m : (ℓ : Loc Cert.EvenPromptIdeal.nD Cert.EvenPromptIdeal.τ Cert.EvenPromptIdeal.sig) → Buf (Elt Ideal) ℓ) : Prop :=
  True

def Pre_EvenPromptRefIdeal (m : (ℓ : Loc Cert.EvenPromptRefIdeal.nD Cert.EvenPromptRefIdeal.τ Cert.EvenPromptRefIdeal.sig) → Buf (Elt Ideal) ℓ) : Prop :=
  True

def Pre_EvenSample (m : (ℓ : Loc Cert.EvenSample.nD Cert.EvenSample.τ Cert.EvenSample.sig) → Buf (Elt Bits) ℓ) : Prop :=
  True

def Pre_EvenSampleIdeal (m : (ℓ : Loc Cert.EvenSampleIdeal.nD Cert.EvenSampleIdeal.τ Cert.EvenSampleIdeal.sig) → Buf (Elt Ideal) ℓ) : Prop :=
  True

def Pre_EvenSampleRefIdeal (m : (ℓ : Loc Cert.EvenSampleRefIdeal.nD Cert.EvenSampleRefIdeal.τ Cert.EvenSampleRefIdeal.sig) → Buf (Elt Ideal) ℓ) : Prop :=
  True

def Pre_OddPrompt (m : (ℓ : Loc Cert.OddPrompt.nD Cert.OddPrompt.τ Cert.OddPrompt.sig) → Buf (Elt Bits) ℓ) : Prop :=
  True

def Pre_OddPromptIdeal (m : (ℓ : Loc Cert.OddPromptIdeal.nD Cert.OddPromptIdeal.τ Cert.OddPromptIdeal.sig) → Buf (Elt Ideal) ℓ) : Prop :=
  True

def Pre_OddPromptRefIdeal (m : (ℓ : Loc Cert.OddPromptRefIdeal.nD Cert.OddPromptRefIdeal.τ Cert.OddPromptRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixPair (m : (ℓ : Loc Cert.MixPair.nD Cert.MixPair.τ Cert.MixPair.sig) → Buf (Elt Bits) ℓ) : Prop :=
  True

def Pre_MixPairIdeal (m : (ℓ : Loc Cert.MixPairIdeal.nD Cert.MixPairIdeal.τ Cert.MixPairIdeal.sig) → Buf (Elt Ideal) ℓ) : Prop :=
  True

def Pre_MixPairRefIdeal (m : (ℓ : Loc Cert.MixPairRefIdeal.nD Cert.MixPairRefIdeal.τ Cert.MixPairRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionRefIdeal (m : (ℓ : Loc Cert.AttentionRefIdeal.nD Cert.AttentionRefIdeal.τ Cert.AttentionRefIdeal.sig) → Buf (Elt Ideal) ℓ) : Prop :=
  True

def Pre_Recurrence (m : (ℓ : Loc Cert.Recurrence.nD Cert.Recurrence.τ Cert.Recurrence.sig) → Buf (Elt Bits) ℓ) : Prop :=
  True

def Pre_RecurrenceIdeal (m : (ℓ : Loc Cert.RecurrenceIdeal.nD Cert.RecurrenceIdeal.τ Cert.RecurrenceIdeal.sig) → Buf (Elt Ideal) ℓ) : Prop :=
  True

def Pre_RecurrenceRefIdeal (m : (ℓ : Loc Cert.RecurrenceRefIdeal.nD Cert.RecurrenceRefIdeal.τ Cert.RecurrenceRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_sample_gates_nonneg [hPre_sample_gates_nonneg : Cert.Pre_sample_gates_nonneg.Facts] (m : (ℓ : Loc Cert.SampleIdeal.nD Cert.SampleIdeal.τ Cert.SampleIdeal.sig) → Buf (Elt Ideal) ℓ) : Prop :=
  ∀ c : Dev Cert.SampleIdeal.nD,
    (Cert.Pre_sample_gates_nonneg.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6))) = (fun _ => 1#1)

def Pre_SampleRefIdeal (m : (ℓ : Loc Cert.SampleRefIdeal.nD Cert.SampleRefIdeal.τ Cert.SampleRefIdeal.sig) → Buf (Elt Ideal) ℓ) : Prop :=
  True

def Pre_SampleRefIdeal_sample_gates_nonneg [hPre_sample_gates_nonneg : Cert.Pre_sample_gates_nonneg.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_sample_gates_nonneg.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6))) = (fun _ => 1#1)

def Pre_Matrix (m : (ℓ : Loc Cert.Matrix.nD Cert.Matrix.τ Cert.Matrix.sig) → Buf (Elt Bits) ℓ) : Prop :=
  True

def Pre_MatrixIdeal (m : (ℓ : Loc Cert.MatrixIdeal.nD Cert.MatrixIdeal.τ Cert.MatrixIdeal.sig) → Buf (Elt Ideal) ℓ) : Prop :=
  True

def Pre_MatrixRefIdeal (m : (ℓ : Loc Cert.MatrixRefIdeal.nD Cert.MatrixRefIdeal.τ Cert.MatrixRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gates_nonneg [hKernelIdeal : Cert.KernelIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gates_nonneg [hReferenceIdeal : Cert.ReferenceIdeal.Facts] [hPre_gates_nonneg : Cert.Pre_gates_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_EvenPrompt [hEvenPrompt : Cert.EvenPrompt.Facts] : Prop :=
  ∀ (m : (ℓ : Loc Cert.EvenPrompt.nD Cert.EvenPrompt.τ Cert.EvenPrompt.sig) → Buf (Elt Bits) ℓ) (g : Dev Cert.EvenPrompt.nD → PrngReg), Pre_EvenPrompt m →
    θ_run (Cert.EvenPrompt.defs (F := Bits)) (onTc (τ := Cert.EvenPrompt.τ) (Cert.EvenPrompt.main (F := Bits))) ⟨m, fun _ => 0, g⟩ (fun r => (∀ c : Dev Cert.EvenPrompt.nD,
      r.2.mem ((c.tc : Thread Cert.EvenPrompt.nD Cert.EvenPrompt.τ).loc Cert.EvenPrompt.main_arg0) = m ((c.tc : Thread Cert.EvenPrompt.nD Cert.EvenPrompt.τ).loc Cert.EvenPrompt.main_arg0)
      ∧ r.2.mem ((c.tc : Thread Cert.EvenPrompt.nD Cert.EvenPrompt.τ).loc Cert.EvenPrompt.main_arg1) = m ((c.tc : Thread Cert.EvenPrompt.nD Cert.EvenPrompt.τ).loc Cert.EvenPrompt.main_arg1))
      ∧ r.2.sem = fun _ => 0)

def quiescent_EvenPromptIdeal [hEvenPromptIdeal : Cert.EvenPromptIdeal.Facts] : Prop :=
  ∀ (m : (ℓ : Loc Cert.EvenPromptIdeal.nD Cert.EvenPromptIdeal.τ Cert.EvenPromptIdeal.sig) → Buf (Elt Ideal) ℓ) (g : Dev Cert.EvenPromptIdeal.nD → PrngReg), Pre_EvenPromptIdeal m →
    θ_run (Cert.EvenPromptIdeal.defs (F := Ideal)) (onTc (τ := Cert.EvenPromptIdeal.τ) (Cert.EvenPromptIdeal.main (F := Ideal))) ⟨m, fun _ => 0, g⟩ (fun r => (∀ c : Dev Cert.EvenPromptIdeal.nD,
      r.2.mem ((c.tc : Thread Cert.EvenPromptIdeal.nD Cert.EvenPromptIdeal.τ).loc Cert.EvenPromptIdeal.main_arg0) = m ((c.tc : Thread Cert.EvenPromptIdeal.nD Cert.EvenPromptIdeal.τ).loc Cert.EvenPromptIdeal.main_arg0)
      ∧ r.2.mem ((c.tc : Thread Cert.EvenPromptIdeal.nD Cert.EvenPromptIdeal.τ).loc Cert.EvenPromptIdeal.main_arg1) = m ((c.tc : Thread Cert.EvenPromptIdeal.nD Cert.EvenPromptIdeal.τ).loc Cert.EvenPromptIdeal.main_arg1))
      ∧ r.2.sem = fun _ => 0)

def quiescent_EvenPromptRefIdeal [hEvenPromptRefIdeal : Cert.EvenPromptRefIdeal.Facts] : Prop :=
  ∀ (m : (ℓ : Loc Cert.EvenPromptRefIdeal.nD Cert.EvenPromptRefIdeal.τ Cert.EvenPromptRefIdeal.sig) → Buf (Elt Ideal) ℓ) (g : Dev Cert.EvenPromptRefIdeal.nD → PrngReg), Pre_EvenPromptRefIdeal m →
    θ_run (Cert.EvenPromptRefIdeal.defs (F := Ideal)) (onTc (τ := Cert.EvenPromptRefIdeal.τ) (Cert.EvenPromptRefIdeal.main (F := Ideal))) ⟨m, fun _ => 0, g⟩ (fun r => (∀ c : Dev Cert.EvenPromptRefIdeal.nD,
      r.2.mem ((c.tc : Thread Cert.EvenPromptRefIdeal.nD Cert.EvenPromptRefIdeal.τ).loc Cert.EvenPromptRefIdeal.main_arg0) = m ((c.tc : Thread Cert.EvenPromptRefIdeal.nD Cert.EvenPromptRefIdeal.τ).loc Cert.EvenPromptRefIdeal.main_arg0)
      ∧ r.2.mem ((c.tc : Thread Cert.EvenPromptRefIdeal.nD Cert.EvenPromptRefIdeal.τ).loc Cert.EvenPromptRefIdeal.main_arg1) = m ((c.tc : Thread Cert.EvenPromptRefIdeal.nD Cert.EvenPromptRefIdeal.τ).loc Cert.EvenPromptRefIdeal.main_arg1))
      ∧ r.2.sem = fun _ => 0)

def quiescent_EvenSample [hEvenSample : Cert.EvenSample.Facts] : Prop :=
  ∀ (m : (ℓ : Loc Cert.EvenSample.nD Cert.EvenSample.τ Cert.EvenSample.sig) → Buf (Elt Bits) ℓ) (g : Dev Cert.EvenSample.nD → PrngReg), Pre_EvenSample m →
    θ_run (Cert.EvenSample.defs (F := Bits)) (onTc (τ := Cert.EvenSample.τ) (Cert.EvenSample.main (F := Bits))) ⟨m, fun _ => 0, g⟩ (fun r => (∀ c : Dev Cert.EvenSample.nD,
      r.2.mem ((c.tc : Thread Cert.EvenSample.nD Cert.EvenSample.τ).loc Cert.EvenSample.main_arg0) = m ((c.tc : Thread Cert.EvenSample.nD Cert.EvenSample.τ).loc Cert.EvenSample.main_arg0)
      ∧ r.2.mem ((c.tc : Thread Cert.EvenSample.nD Cert.EvenSample.τ).loc Cert.EvenSample.main_arg1) = m ((c.tc : Thread Cert.EvenSample.nD Cert.EvenSample.τ).loc Cert.EvenSample.main_arg1))
      ∧ r.2.sem = fun _ => 0)

def quiescent_EvenSampleIdeal [hEvenSampleIdeal : Cert.EvenSampleIdeal.Facts] : Prop :=
  ∀ (m : (ℓ : Loc Cert.EvenSampleIdeal.nD Cert.EvenSampleIdeal.τ Cert.EvenSampleIdeal.sig) → Buf (Elt Ideal) ℓ) (g : Dev Cert.EvenSampleIdeal.nD → PrngReg), Pre_EvenSampleIdeal m →
    θ_run (Cert.EvenSampleIdeal.defs (F := Ideal)) (onTc (τ := Cert.EvenSampleIdeal.τ) (Cert.EvenSampleIdeal.main (F := Ideal))) ⟨m, fun _ => 0, g⟩ (fun r => (∀ c : Dev Cert.EvenSampleIdeal.nD,
      r.2.mem ((c.tc : Thread Cert.EvenSampleIdeal.nD Cert.EvenSampleIdeal.τ).loc Cert.EvenSampleIdeal.main_arg0) = m ((c.tc : Thread Cert.EvenSampleIdeal.nD Cert.EvenSampleIdeal.τ).loc Cert.EvenSampleIdeal.main_arg0)
      ∧ r.2.mem ((c.tc : Thread Cert.EvenSampleIdeal.nD Cert.EvenSampleIdeal.τ).loc Cert.EvenSampleIdeal.main_arg1) = m ((c.tc : Thread Cert.EvenSampleIdeal.nD Cert.EvenSampleIdeal.τ).loc Cert.EvenSampleIdeal.main_arg1))
      ∧ r.2.sem = fun _ => 0)

def quiescent_EvenSampleRefIdeal [hEvenSampleRefIdeal : Cert.EvenSampleRefIdeal.Facts] : Prop :=
  ∀ (m : (ℓ : Loc Cert.EvenSampleRefIdeal.nD Cert.EvenSampleRefIdeal.τ Cert.EvenSampleRefIdeal.sig) → Buf (Elt Ideal) ℓ) (g : Dev Cert.EvenSampleRefIdeal.nD → PrngReg), Pre_EvenSampleRefIdeal m →
    θ_run (Cert.EvenSampleRefIdeal.defs (F := Ideal)) (onTc (τ := Cert.EvenSampleRefIdeal.τ) (Cert.EvenSampleRefIdeal.main (F := Ideal))) ⟨m, fun _ => 0, g⟩ (fun r => (∀ c : Dev Cert.EvenSampleRefIdeal.nD,
      r.2.mem ((c.tc : Thread Cert.EvenSampleRefIdeal.nD Cert.EvenSampleRefIdeal.τ).loc Cert.EvenSampleRefIdeal.main_arg0) = m ((c.tc : Thread Cert.EvenSampleRefIdeal.nD Cert.EvenSampleRefIdeal.τ).loc Cert.EvenSampleRefIdeal.main_arg0)
      ∧ r.2.mem ((c.tc : Thread Cert.EvenSampleRefIdeal.nD Cert.EvenSampleRefIdeal.τ).loc Cert.EvenSampleRefIdeal.main_arg1) = m ((c.tc : Thread Cert.EvenSampleRefIdeal.nD Cert.EvenSampleRefIdeal.τ).loc Cert.EvenSampleRefIdeal.main_arg1))
      ∧ r.2.sem = fun _ => 0)

def quiescent_OddPrompt [hOddPrompt : Cert.OddPrompt.Facts] : Prop :=
  ∀ (m : (ℓ : Loc Cert.OddPrompt.nD Cert.OddPrompt.τ Cert.OddPrompt.sig) → Buf (Elt Bits) ℓ) (g : Dev Cert.OddPrompt.nD → PrngReg), Pre_OddPrompt m →
    θ_run (Cert.OddPrompt.defs (F := Bits)) (onTc (τ := Cert.OddPrompt.τ) (Cert.OddPrompt.main (F := Bits))) ⟨m, fun _ => 0, g⟩ (fun r => (∀ c : Dev Cert.OddPrompt.nD,
      r.2.mem ((c.tc : Thread Cert.OddPrompt.nD Cert.OddPrompt.τ).loc Cert.OddPrompt.main_arg0) = m ((c.tc : Thread Cert.OddPrompt.nD Cert.OddPrompt.τ).loc Cert.OddPrompt.main_arg0)
      ∧ r.2.mem ((c.tc : Thread Cert.OddPrompt.nD Cert.OddPrompt.τ).loc Cert.OddPrompt.main_arg1) = m ((c.tc : Thread Cert.OddPrompt.nD Cert.OddPrompt.τ).loc Cert.OddPrompt.main_arg1))
      ∧ r.2.sem = fun _ => 0)

def quiescent_OddPromptIdeal [hOddPromptIdeal : Cert.OddPromptIdeal.Facts] : Prop :=
  ∀ (m : (ℓ : Loc Cert.OddPromptIdeal.nD Cert.OddPromptIdeal.τ Cert.OddPromptIdeal.sig) → Buf (Elt Ideal) ℓ) (g : Dev Cert.OddPromptIdeal.nD → PrngReg), Pre_OddPromptIdeal m →
    θ_run (Cert.OddPromptIdeal.defs (F := Ideal)) (onTc (τ := Cert.OddPromptIdeal.τ) (Cert.OddPromptIdeal.main (F := Ideal))) ⟨m, fun _ => 0, g⟩ (fun r => (∀ c : Dev Cert.OddPromptIdeal.nD,
      r.2.mem ((c.tc : Thread Cert.OddPromptIdeal.nD Cert.OddPromptIdeal.τ).loc Cert.OddPromptIdeal.main_arg0) = m ((c.tc : Thread Cert.OddPromptIdeal.nD Cert.OddPromptIdeal.τ).loc Cert.OddPromptIdeal.main_arg0)
      ∧ r.2.mem ((c.tc : Thread Cert.OddPromptIdeal.nD Cert.OddPromptIdeal.τ).loc Cert.OddPromptIdeal.main_arg1) = m ((c.tc : Thread Cert.OddPromptIdeal.nD Cert.OddPromptIdeal.τ).loc Cert.OddPromptIdeal.main_arg1))
      ∧ r.2.sem = fun _ => 0)

def quiescent_OddPromptRefIdeal [hOddPromptRefIdeal : Cert.OddPromptRefIdeal.Facts] : Prop :=
  ∀ (m : (ℓ : Loc Cert.OddPromptRefIdeal.nD Cert.OddPromptRefIdeal.τ Cert.OddPromptRefIdeal.sig) → Buf (Elt Ideal) ℓ) (g : Dev Cert.OddPromptRefIdeal.nD → PrngReg), Pre_OddPromptRefIdeal m →
    θ_run (Cert.OddPromptRefIdeal.defs (F := Ideal)) (onTc (τ := Cert.OddPromptRefIdeal.τ) (Cert.OddPromptRefIdeal.main (F := Ideal))) ⟨m, fun _ => 0, g⟩ (fun r => (∀ c : Dev Cert.OddPromptRefIdeal.nD,
      r.2.mem ((c.tc : Thread Cert.OddPromptRefIdeal.nD Cert.OddPromptRefIdeal.τ).loc Cert.OddPromptRefIdeal.main_arg0) = m ((c.tc : Thread Cert.OddPromptRefIdeal.nD Cert.OddPromptRefIdeal.τ).loc Cert.OddPromptRefIdeal.main_arg0)
      ∧ r.2.mem ((c.tc : Thread Cert.OddPromptRefIdeal.nD Cert.OddPromptRefIdeal.τ).loc Cert.OddPromptRefIdeal.main_arg1) = m ((c.tc : Thread Cert.OddPromptRefIdeal.nD Cert.OddPromptRefIdeal.τ).loc Cert.OddPromptRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_MixPair [hMixPair : Cert.MixPair.Facts] : Prop :=
  ∀ (m : (ℓ : Loc Cert.MixPair.nD Cert.MixPair.τ Cert.MixPair.sig) → Buf (Elt Bits) ℓ) (g : Dev Cert.MixPair.nD → PrngReg), Pre_MixPair m →
    θ_run (Cert.MixPair.defs (F := Bits)) (onTc (τ := Cert.MixPair.τ) (Cert.MixPair.main (F := Bits))) ⟨m, fun _ => 0, g⟩ (fun r => (∀ c : Dev Cert.MixPair.nD,
      r.2.mem ((c.tc : Thread Cert.MixPair.nD Cert.MixPair.τ).loc Cert.MixPair.main_arg0) = m ((c.tc : Thread Cert.MixPair.nD Cert.MixPair.τ).loc Cert.MixPair.main_arg0)
      ∧ r.2.mem ((c.tc : Thread Cert.MixPair.nD Cert.MixPair.τ).loc Cert.MixPair.main_arg1) = m ((c.tc : Thread Cert.MixPair.nD Cert.MixPair.τ).loc Cert.MixPair.main_arg1)
      ∧ r.2.mem ((c.tc : Thread Cert.MixPair.nD Cert.MixPair.τ).loc Cert.MixPair.main_arg2) = m ((c.tc : Thread Cert.MixPair.nD Cert.MixPair.τ).loc Cert.MixPair.main_arg2)
      ∧ r.2.mem ((c.tc : Thread Cert.MixPair.nD Cert.MixPair.τ).loc Cert.MixPair.main_arg3) = m ((c.tc : Thread Cert.MixPair.nD Cert.MixPair.τ).loc Cert.MixPair.main_arg3)
      ∧ r.2.mem ((c.tc : Thread Cert.MixPair.nD Cert.MixPair.τ).loc Cert.MixPair.main_arg4) = m ((c.tc : Thread Cert.MixPair.nD Cert.MixPair.τ).loc Cert.MixPair.main_arg4)
      ∧ r.2.mem ((c.tc : Thread Cert.MixPair.nD Cert.MixPair.τ).loc Cert.MixPair.main_arg5) = m ((c.tc : Thread Cert.MixPair.nD Cert.MixPair.τ).loc Cert.MixPair.main_arg5))
      ∧ r.2.sem = fun _ => 0)

def quiescent_MixPairIdeal [hMixPairIdeal : Cert.MixPairIdeal.Facts] : Prop :=
  ∀ (m : (ℓ : Loc Cert.MixPairIdeal.nD Cert.MixPairIdeal.τ Cert.MixPairIdeal.sig) → Buf (Elt Ideal) ℓ) (g : Dev Cert.MixPairIdeal.nD → PrngReg), Pre_MixPairIdeal m →
    θ_run (Cert.MixPairIdeal.defs (F := Ideal)) (onTc (τ := Cert.MixPairIdeal.τ) (Cert.MixPairIdeal.main (F := Ideal))) ⟨m, fun _ => 0, g⟩ (fun r => (∀ c : Dev Cert.MixPairIdeal.nD,
      r.2.mem ((c.tc : Thread Cert.MixPairIdeal.nD Cert.MixPairIdeal.τ).loc Cert.MixPairIdeal.main_arg0) = m ((c.tc : Thread Cert.MixPairIdeal.nD Cert.MixPairIdeal.τ).loc Cert.MixPairIdeal.main_arg0)
      ∧ r.2.mem ((c.tc : Thread Cert.MixPairIdeal.nD Cert.MixPairIdeal.τ).loc Cert.MixPairIdeal.main_arg1) = m ((c.tc : Thread Cert.MixPairIdeal.nD Cert.MixPairIdeal.τ).loc Cert.MixPairIdeal.main_arg1)
      ∧ r.2.mem ((c.tc : Thread Cert.MixPairIdeal.nD Cert.MixPairIdeal.τ).loc Cert.MixPairIdeal.main_arg2) = m ((c.tc : Thread Cert.MixPairIdeal.nD Cert.MixPairIdeal.τ).loc Cert.MixPairIdeal.main_arg2)
      ∧ r.2.mem ((c.tc : Thread Cert.MixPairIdeal.nD Cert.MixPairIdeal.τ).loc Cert.MixPairIdeal.main_arg3) = m ((c.tc : Thread Cert.MixPairIdeal.nD Cert.MixPairIdeal.τ).loc Cert.MixPairIdeal.main_arg3)
      ∧ r.2.mem ((c.tc : Thread Cert.MixPairIdeal.nD Cert.MixPairIdeal.τ).loc Cert.MixPairIdeal.main_arg4) = m ((c.tc : Thread Cert.MixPairIdeal.nD Cert.MixPairIdeal.τ).loc Cert.MixPairIdeal.main_arg4)
      ∧ r.2.mem ((c.tc : Thread Cert.MixPairIdeal.nD Cert.MixPairIdeal.τ).loc Cert.MixPairIdeal.main_arg5) = m ((c.tc : Thread Cert.MixPairIdeal.nD Cert.MixPairIdeal.τ).loc Cert.MixPairIdeal.main_arg5))
      ∧ r.2.sem = fun _ => 0)

def quiescent_MixPairRefIdeal [hMixPairRefIdeal : Cert.MixPairRefIdeal.Facts] : Prop :=
  ∀ (m : (ℓ : Loc Cert.MixPairRefIdeal.nD Cert.MixPairRefIdeal.τ Cert.MixPairRefIdeal.sig) → Buf (Elt Ideal) ℓ) (g : Dev Cert.MixPairRefIdeal.nD → PrngReg), Pre_MixPairRefIdeal m →
    θ_run (Cert.MixPairRefIdeal.defs (F := Ideal)) (onTc (τ := Cert.MixPairRefIdeal.τ) (Cert.MixPairRefIdeal.main (F := Ideal))) ⟨m, fun _ => 0, g⟩ (fun r => (∀ c : Dev Cert.MixPairRefIdeal.nD,
      r.2.mem ((c.tc : Thread Cert.MixPairRefIdeal.nD Cert.MixPairRefIdeal.τ).loc Cert.MixPairRefIdeal.main_arg0) = m ((c.tc : Thread Cert.MixPairRefIdeal.nD Cert.MixPairRefIdeal.τ).loc Cert.MixPairRefIdeal.main_arg0)
      ∧ r.2.mem ((c.tc : Thread Cert.MixPairRefIdeal.nD Cert.MixPairRefIdeal.τ).loc Cert.MixPairRefIdeal.main_arg1) = m ((c.tc : Thread Cert.MixPairRefIdeal.nD Cert.MixPairRefIdeal.τ).loc Cert.MixPairRefIdeal.main_arg1)
      ∧ r.2.mem ((c.tc : Thread Cert.MixPairRefIdeal.nD Cert.MixPairRefIdeal.τ).loc Cert.MixPairRefIdeal.main_arg2) = m ((c.tc : Thread Cert.MixPairRefIdeal.nD Cert.MixPairRefIdeal.τ).loc Cert.MixPairRefIdeal.main_arg2)
      ∧ r.2.mem ((c.tc : Thread Cert.MixPairRefIdeal.nD Cert.MixPairRefIdeal.τ).loc Cert.MixPairRefIdeal.main_arg3) = m ((c.tc : Thread Cert.MixPairRefIdeal.nD Cert.MixPairRefIdeal.τ).loc Cert.MixPairRefIdeal.main_arg3)
      ∧ r.2.mem ((c.tc : Thread Cert.MixPairRefIdeal.nD Cert.MixPairRefIdeal.τ).loc Cert.MixPairRefIdeal.main_arg4) = m ((c.tc : Thread Cert.MixPairRefIdeal.nD Cert.MixPairRefIdeal.τ).loc Cert.MixPairRefIdeal.main_arg4)
      ∧ r.2.mem ((c.tc : Thread Cert.MixPairRefIdeal.nD Cert.MixPairRefIdeal.τ).loc Cert.MixPairRefIdeal.main_arg5) = m ((c.tc : Thread Cert.MixPairRefIdeal.nD Cert.MixPairRefIdeal.τ).loc Cert.MixPairRefIdeal.main_arg5))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Recurrence [hRecurrence : Cert.Recurrence.Facts] : Prop :=
  ∀ (m : (ℓ : Loc Cert.Recurrence.nD Cert.Recurrence.τ Cert.Recurrence.sig) → Buf (Elt Bits) ℓ) (g : Dev Cert.Recurrence.nD → PrngReg), Pre_Recurrence m →
    θ_run (Cert.Recurrence.defs (F := Bits)) (onTc (τ := Cert.Recurrence.τ) (Cert.Recurrence.main (F := Bits))) ⟨m, fun _ => 0, g⟩ (fun r => (∀ c : Dev Cert.Recurrence.nD,
      r.2.mem ((c.tc : Thread Cert.Recurrence.nD Cert.Recurrence.τ).loc Cert.Recurrence.main_arg0) = m ((c.tc : Thread Cert.Recurrence.nD Cert.Recurrence.τ).loc Cert.Recurrence.main_arg0)
      ∧ r.2.mem ((c.tc : Thread Cert.Recurrence.nD Cert.Recurrence.τ).loc Cert.Recurrence.main_arg1) = m ((c.tc : Thread Cert.Recurrence.nD Cert.Recurrence.τ).loc Cert.Recurrence.main_arg1)
      ∧ r.2.mem ((c.tc : Thread Cert.Recurrence.nD Cert.Recurrence.τ).loc Cert.Recurrence.main_arg2) = m ((c.tc : Thread Cert.Recurrence.nD Cert.Recurrence.τ).loc Cert.Recurrence.main_arg2)
      ∧ r.2.mem ((c.tc : Thread Cert.Recurrence.nD Cert.Recurrence.τ).loc Cert.Recurrence.main_arg3) = m ((c.tc : Thread Cert.Recurrence.nD Cert.Recurrence.τ).loc Cert.Recurrence.main_arg3)
      ∧ r.2.mem ((c.tc : Thread Cert.Recurrence.nD Cert.Recurrence.τ).loc Cert.Recurrence.main_arg4) = m ((c.tc : Thread Cert.Recurrence.nD Cert.Recurrence.τ).loc Cert.Recurrence.main_arg4)
      ∧ r.2.mem ((c.tc : Thread Cert.Recurrence.nD Cert.Recurrence.τ).loc Cert.Recurrence.main_arg5) = m ((c.tc : Thread Cert.Recurrence.nD Cert.Recurrence.τ).loc Cert.Recurrence.main_arg5)
      ∧ r.2.mem ((c.tc : Thread Cert.Recurrence.nD Cert.Recurrence.τ).loc Cert.Recurrence.main_arg6) = m ((c.tc : Thread Cert.Recurrence.nD Cert.Recurrence.τ).loc Cert.Recurrence.main_arg6)
      ∧ r.2.mem ((c.tc : Thread Cert.Recurrence.nD Cert.Recurrence.τ).loc Cert.Recurrence.main_arg7) = m ((c.tc : Thread Cert.Recurrence.nD Cert.Recurrence.τ).loc Cert.Recurrence.main_arg7)
      ∧ r.2.mem ((c.tc : Thread Cert.Recurrence.nD Cert.Recurrence.τ).loc Cert.Recurrence.main_arg8) = m ((c.tc : Thread Cert.Recurrence.nD Cert.Recurrence.τ).loc Cert.Recurrence.main_arg8)
      ∧ r.2.mem ((c.tc : Thread Cert.Recurrence.nD Cert.Recurrence.τ).loc Cert.Recurrence.main_arg9) = m ((c.tc : Thread Cert.Recurrence.nD Cert.Recurrence.τ).loc Cert.Recurrence.main_arg9)
      ∧ r.2.mem ((c.tc : Thread Cert.Recurrence.nD Cert.Recurrence.τ).loc Cert.Recurrence.main_arg10) = m ((c.tc : Thread Cert.Recurrence.nD Cert.Recurrence.τ).loc Cert.Recurrence.main_arg10))
      ∧ r.2.sem = fun _ => 0)

def quiescent_RecurrenceIdeal [hRecurrenceIdeal : Cert.RecurrenceIdeal.Facts] : Prop :=
  ∀ (m : (ℓ : Loc Cert.RecurrenceIdeal.nD Cert.RecurrenceIdeal.τ Cert.RecurrenceIdeal.sig) → Buf (Elt Ideal) ℓ) (g : Dev Cert.RecurrenceIdeal.nD → PrngReg), Pre_RecurrenceIdeal m →
    θ_run (Cert.RecurrenceIdeal.defs (F := Ideal)) (onTc (τ := Cert.RecurrenceIdeal.τ) (Cert.RecurrenceIdeal.main (F := Ideal))) ⟨m, fun _ => 0, g⟩ (fun r => (∀ c : Dev Cert.RecurrenceIdeal.nD,
      r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
      ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
      ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2)
      ∧ r.2.mem ((c.tc : Thread Cert.RecurrenceIdeal.nD Cert.RecurrenceIdeal.τ).loc Cert.RecurrenceIdeal.main_arg3) = m ((c.tc : Thread Cert.RecurrenceIdeal.nD Cert.RecurrenceIdeal.τ).loc Cert.RecurrenceIdeal.main_arg3)
      ∧ r.2.mem ((c.tc : Thread Cert.RecurrenceIdeal.nD Cert.RecurrenceIdeal.τ).loc Cert.RecurrenceIdeal.main_arg4) = m ((c.tc : Thread Cert.RecurrenceIdeal.nD Cert.RecurrenceIdeal.τ).loc Cert.RecurrenceIdeal.main_arg4)
      ∧ r.2.mem ((c.tc : Thread Cert.RecurrenceIdeal.nD Cert.RecurrenceIdeal.τ).loc Cert.RecurrenceIdeal.main_arg5) = m ((c.tc : Thread Cert.RecurrenceIdeal.nD Cert.RecurrenceIdeal.τ).loc Cert.RecurrenceIdeal.main_arg5)
      ∧ r.2.mem ((c.tc : Thread Cert.RecurrenceIdeal.nD Cert.RecurrenceIdeal.τ).loc Cert.RecurrenceIdeal.main_arg6) = m ((c.tc : Thread Cert.RecurrenceIdeal.nD Cert.RecurrenceIdeal.τ).loc Cert.RecurrenceIdeal.main_arg6)
      ∧ r.2.mem ((c.tc : Thread Cert.RecurrenceIdeal.nD Cert.RecurrenceIdeal.τ).loc Cert.RecurrenceIdeal.main_arg7) = m ((c.tc : Thread Cert.RecurrenceIdeal.nD Cert.RecurrenceIdeal.τ).loc Cert.RecurrenceIdeal.main_arg7)
      ∧ r.2.mem ((c.tc : Thread Cert.RecurrenceIdeal.nD Cert.RecurrenceIdeal.τ).loc Cert.RecurrenceIdeal.main_arg8) = m ((c.tc : Thread Cert.RecurrenceIdeal.nD Cert.RecurrenceIdeal.τ).loc Cert.RecurrenceIdeal.main_arg8)
      ∧ r.2.mem ((c.tc : Thread Cert.RecurrenceIdeal.nD Cert.RecurrenceIdeal.τ).loc Cert.RecurrenceIdeal.main_arg9) = m ((c.tc : Thread Cert.RecurrenceIdeal.nD Cert.RecurrenceIdeal.τ).loc Cert.RecurrenceIdeal.main_arg9)
      ∧ r.2.mem ((c.tc : Thread Cert.RecurrenceIdeal.nD Cert.RecurrenceIdeal.τ).loc Cert.RecurrenceIdeal.main_arg10) = m ((c.tc : Thread Cert.RecurrenceIdeal.nD Cert.RecurrenceIdeal.τ).loc Cert.RecurrenceIdeal.main_arg10))
      ∧ r.2.sem = fun _ => 0)

def quiescent_RecurrenceRefIdeal [hRecurrenceRefIdeal : Cert.RecurrenceRefIdeal.Facts] : Prop :=
  ∀ (m : (ℓ : Loc Cert.RecurrenceRefIdeal.nD Cert.RecurrenceRefIdeal.τ Cert.RecurrenceRefIdeal.sig) → Buf (Elt Ideal) ℓ) (g : Dev Cert.RecurrenceRefIdeal.nD → PrngReg), Pre_RecurrenceRefIdeal m →
    θ_run (Cert.RecurrenceRefIdeal.defs (F := Ideal)) (onTc (τ := Cert.RecurrenceRefIdeal.τ) (Cert.RecurrenceRefIdeal.main (F := Ideal))) ⟨m, fun _ => 0, g⟩ (fun r => (∀ c : Dev Cert.RecurrenceRefIdeal.nD,
      r.2.mem ((c.tc : Thread Cert.RecurrenceRefIdeal.nD Cert.RecurrenceRefIdeal.τ).loc Cert.RecurrenceRefIdeal.main_arg0) = m ((c.tc : Thread Cert.RecurrenceRefIdeal.nD Cert.RecurrenceRefIdeal.τ).loc Cert.RecurrenceRefIdeal.main_arg0)
      ∧ r.2.mem ((c.tc : Thread Cert.RecurrenceRefIdeal.nD Cert.RecurrenceRefIdeal.τ).loc Cert.RecurrenceRefIdeal.main_arg1) = m ((c.tc : Thread Cert.RecurrenceRefIdeal.nD Cert.RecurrenceRefIdeal.τ).loc Cert.RecurrenceRefIdeal.main_arg1)
      ∧ r.2.mem ((c.tc : Thread Cert.RecurrenceRefIdeal.nD Cert.RecurrenceRefIdeal.τ).loc Cert.RecurrenceRefIdeal.main_arg2) = m ((c.tc : Thread Cert.RecurrenceRefIdeal.nD Cert.RecurrenceRefIdeal.τ).loc Cert.RecurrenceRefIdeal.main_arg2)
      ∧ r.2.mem ((c.tc : Thread Cert.RecurrenceRefIdeal.nD Cert.RecurrenceRefIdeal.τ).loc Cert.RecurrenceRefIdeal.main_arg3) = m ((c.tc : Thread Cert.RecurrenceRefIdeal.nD Cert.RecurrenceRefIdeal.τ).loc Cert.RecurrenceRefIdeal.main_arg3)
      ∧ r.2.mem ((c.tc : Thread Cert.RecurrenceRefIdeal.nD Cert.RecurrenceRefIdeal.τ).loc Cert.RecurrenceRefIdeal.main_arg4) = m ((c.tc : Thread Cert.RecurrenceRefIdeal.nD Cert.RecurrenceRefIdeal.τ).loc Cert.RecurrenceRefIdeal.main_arg4)
      ∧ r.2.mem ((c.tc : Thread Cert.RecurrenceRefIdeal.nD Cert.RecurrenceRefIdeal.τ).loc Cert.RecurrenceRefIdeal.main_arg5) = m ((c.tc : Thread Cert.RecurrenceRefIdeal.nD Cert.RecurrenceRefIdeal.τ).loc Cert.RecurrenceRefIdeal.main_arg5)
      ∧ r.2.mem ((c.tc : Thread Cert.RecurrenceRefIdeal.nD Cert.RecurrenceRefIdeal.τ).loc Cert.RecurrenceRefIdeal.main_arg6) = m ((c.tc : Thread Cert.RecurrenceRefIdeal.nD Cert.RecurrenceRefIdeal.τ).loc Cert.RecurrenceRefIdeal.main_arg6)
      ∧ r.2.mem ((c.tc : Thread Cert.RecurrenceRefIdeal.nD Cert.RecurrenceRefIdeal.τ).loc Cert.RecurrenceRefIdeal.main_arg7) = m ((c.tc : Thread Cert.RecurrenceRefIdeal.nD Cert.RecurrenceRefIdeal.τ).loc Cert.RecurrenceRefIdeal.main_arg7)
      ∧ r.2.mem ((c.tc : Thread Cert.RecurrenceRefIdeal.nD Cert.RecurrenceRefIdeal.τ).loc Cert.RecurrenceRefIdeal.main_arg8) = m ((c.tc : Thread Cert.RecurrenceRefIdeal.nD Cert.RecurrenceRefIdeal.τ).loc Cert.RecurrenceRefIdeal.main_arg8)
      ∧ r.2.mem ((c.tc : Thread Cert.RecurrenceRefIdeal.nD Cert.RecurrenceRefIdeal.τ).loc Cert.RecurrenceRefIdeal.main_arg9) = m ((c.tc : Thread Cert.RecurrenceRefIdeal.nD Cert.RecurrenceRefIdeal.τ).loc Cert.RecurrenceRefIdeal.main_arg9)
      ∧ r.2.mem ((c.tc : Thread Cert.RecurrenceRefIdeal.nD Cert.RecurrenceRefIdeal.τ).loc Cert.RecurrenceRefIdeal.main_arg10) = m ((c.tc : Thread Cert.RecurrenceRefIdeal.nD Cert.RecurrenceRefIdeal.τ).loc Cert.RecurrenceRefIdeal.main_arg10))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6))
      ∧ r.2.sem = fun _ => 0)

def quiescent_SampleIdeal_pre_sample_gates_nonneg [hSampleIdeal : Cert.SampleIdeal.Facts] [hPre_sample_gates_nonneg : Cert.Pre_sample_gates_nonneg.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_sample_gates_nonneg m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6))
      ∧ r.2.sem = fun _ => 0)

def quiescent_SampleRefIdeal_pre_sample_gates_nonneg [hSampleRefIdeal : Cert.SampleRefIdeal.Facts] [hPre_sample_gates_nonneg : Cert.Pre_sample_gates_nonneg.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal_sample_gates_nonneg m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6))
      ∧ r.2.sem = fun _ => 0)

def quiescent_Matrix [hMatrix : Cert.Matrix.Facts] : Prop :=
  ∀ (m : (ℓ : Loc Cert.Matrix.nD Cert.Matrix.τ Cert.Matrix.sig) → Buf (Elt Bits) ℓ) (g : Dev Cert.Matrix.nD → PrngReg), Pre_Matrix m →
    θ_run (Cert.Matrix.defs (F := Bits)) (onTc (τ := Cert.Matrix.τ) (Cert.Matrix.main (F := Bits))) ⟨m, fun _ => 0, g⟩ (fun r => (∀ c : Dev Cert.Matrix.nD,
      r.2.mem ((c.tc : Thread Cert.Matrix.nD Cert.Matrix.τ).loc Cert.Matrix.main_arg0) = m ((c.tc : Thread Cert.Matrix.nD Cert.Matrix.τ).loc Cert.Matrix.main_arg0)
      ∧ r.2.mem ((c.tc : Thread Cert.Matrix.nD Cert.Matrix.τ).loc Cert.Matrix.main_arg1) = m ((c.tc : Thread Cert.Matrix.nD Cert.Matrix.τ).loc Cert.Matrix.main_arg1)
      ∧ r.2.mem ((c.tc : Thread Cert.Matrix.nD Cert.Matrix.τ).loc Cert.Matrix.main_arg2) = m ((c.tc : Thread Cert.Matrix.nD Cert.Matrix.τ).loc Cert.Matrix.main_arg2)
      ∧ r.2.mem ((c.tc : Thread Cert.Matrix.nD Cert.Matrix.τ).loc Cert.Matrix.main_arg3) = m ((c.tc : Thread Cert.Matrix.nD Cert.Matrix.τ).loc Cert.Matrix.main_arg3)
      ∧ r.2.mem ((c.tc : Thread Cert.Matrix.nD Cert.Matrix.τ).loc Cert.Matrix.main_arg4) = m ((c.tc : Thread Cert.Matrix.nD Cert.Matrix.τ).loc Cert.Matrix.main_arg4)
      ∧ r.2.mem ((c.tc : Thread Cert.Matrix.nD Cert.Matrix.τ).loc Cert.Matrix.main_arg5) = m ((c.tc : Thread Cert.Matrix.nD Cert.Matrix.τ).loc Cert.Matrix.main_arg5)
      ∧ r.2.mem ((c.tc : Thread Cert.Matrix.nD Cert.Matrix.τ).loc Cert.Matrix.main_arg6) = m ((c.tc : Thread Cert.Matrix.nD Cert.Matrix.τ).loc Cert.Matrix.main_arg6)
      ∧ r.2.mem ((c.tc : Thread Cert.Matrix.nD Cert.Matrix.τ).loc Cert.Matrix.main_arg7) = m ((c.tc : Thread Cert.Matrix.nD Cert.Matrix.τ).loc Cert.Matrix.main_arg7)
      ∧ r.2.mem ((c.tc : Thread Cert.Matrix.nD Cert.Matrix.τ).loc Cert.Matrix.main_arg8) = m ((c.tc : Thread Cert.Matrix.nD Cert.Matrix.τ).loc Cert.Matrix.main_arg8)
      ∧ r.2.mem ((c.tc : Thread Cert.Matrix.nD Cert.Matrix.τ).loc Cert.Matrix.main_arg9) = m ((c.tc : Thread Cert.Matrix.nD Cert.Matrix.τ).loc Cert.Matrix.main_arg9))
      ∧ r.2.sem = fun _ => 0)

def quiescent_MatrixIdeal [hMatrixIdeal : Cert.MatrixIdeal.Facts] : Prop :=
  ∀ (m : (ℓ : Loc Cert.MatrixIdeal.nD Cert.MatrixIdeal.τ Cert.MatrixIdeal.sig) → Buf (Elt Ideal) ℓ) (g : Dev Cert.MatrixIdeal.nD → PrngReg), Pre_MatrixIdeal m →
    θ_run (Cert.MatrixIdeal.defs (F := Ideal)) (onTc (τ := Cert.MatrixIdeal.τ) (Cert.MatrixIdeal.main (F := Ideal))) ⟨m, fun _ => 0, g⟩ (fun r => (∀ c : Dev Cert.MatrixIdeal.nD,
      r.2.mem ((c.tc : Thread Cert.MatrixIdeal.nD Cert.MatrixIdeal.τ).loc Cert.MatrixIdeal.main_arg0) = m ((c.tc : Thread Cert.MatrixIdeal.nD Cert.MatrixIdeal.τ).loc Cert.MatrixIdeal.main_arg0)
      ∧ r.2.mem ((c.tc : Thread Cert.MatrixIdeal.nD Cert.MatrixIdeal.τ).loc Cert.MatrixIdeal.main_arg1) = m ((c.tc : Thread Cert.MatrixIdeal.nD Cert.MatrixIdeal.τ).loc Cert.MatrixIdeal.main_arg1)
      ∧ r.2.mem ((c.tc : Thread Cert.MatrixIdeal.nD Cert.MatrixIdeal.τ).loc Cert.MatrixIdeal.main_arg2) = m ((c.tc : Thread Cert.MatrixIdeal.nD Cert.MatrixIdeal.τ).loc Cert.MatrixIdeal.main_arg2)
      ∧ r.2.mem ((c.tc : Thread Cert.MatrixIdeal.nD Cert.MatrixIdeal.τ).loc Cert.MatrixIdeal.main_arg3) = m ((c.tc : Thread Cert.MatrixIdeal.nD Cert.MatrixIdeal.τ).loc Cert.MatrixIdeal.main_arg3)
      ∧ r.2.mem ((c.tc : Thread Cert.MatrixIdeal.nD Cert.MatrixIdeal.τ).loc Cert.MatrixIdeal.main_arg4) = m ((c.tc : Thread Cert.MatrixIdeal.nD Cert.MatrixIdeal.τ).loc Cert.MatrixIdeal.main_arg4)
      ∧ r.2.mem ((c.tc : Thread Cert.MatrixIdeal.nD Cert.MatrixIdeal.τ).loc Cert.MatrixIdeal.main_arg5) = m ((c.tc : Thread Cert.MatrixIdeal.nD Cert.MatrixIdeal.τ).loc Cert.MatrixIdeal.main_arg5)
      ∧ r.2.mem ((c.tc : Thread Cert.MatrixIdeal.nD Cert.MatrixIdeal.τ).loc Cert.MatrixIdeal.main_arg6) = m ((c.tc : Thread Cert.MatrixIdeal.nD Cert.MatrixIdeal.τ).loc Cert.MatrixIdeal.main_arg6)
      ∧ r.2.mem ((c.tc : Thread Cert.MatrixIdeal.nD Cert.MatrixIdeal.τ).loc Cert.MatrixIdeal.main_arg7) = m ((c.tc : Thread Cert.MatrixIdeal.nD Cert.MatrixIdeal.τ).loc Cert.MatrixIdeal.main_arg7)
      ∧ r.2.mem ((c.tc : Thread Cert.MatrixIdeal.nD Cert.MatrixIdeal.τ).loc Cert.MatrixIdeal.main_arg8) = m ((c.tc : Thread Cert.MatrixIdeal.nD Cert.MatrixIdeal.τ).loc Cert.MatrixIdeal.main_arg8)
      ∧ r.2.mem ((c.tc : Thread Cert.MatrixIdeal.nD Cert.MatrixIdeal.τ).loc Cert.MatrixIdeal.main_arg9) = m ((c.tc : Thread Cert.MatrixIdeal.nD Cert.MatrixIdeal.τ).loc Cert.MatrixIdeal.main_arg9))
      ∧ r.2.sem = fun _ => 0)

def quiescent_MatrixRefIdeal [hMatrixRefIdeal : Cert.MatrixRefIdeal.Facts] : Prop :=
  ∀ (m : (ℓ : Loc Cert.MatrixRefIdeal.nD Cert.MatrixRefIdeal.τ Cert.MatrixRefIdeal.sig) → Buf (Elt Ideal) ℓ) (g : Dev Cert.MatrixRefIdeal.nD → PrngReg), Pre_MatrixRefIdeal m →
    θ_run (Cert.MatrixRefIdeal.defs (F := Ideal)) (onTc (τ := Cert.MatrixRefIdeal.τ) (Cert.MatrixRefIdeal.main (F := Ideal))) ⟨m, fun _ => 0, g⟩ (fun r => (∀ c : Dev Cert.MatrixRefIdeal.nD,
      r.2.mem ((c.tc : Thread Cert.MatrixRefIdeal.nD Cert.MatrixRefIdeal.τ).loc Cert.MatrixRefIdeal.main_arg0) = m ((c.tc : Thread Cert.MatrixRefIdeal.nD Cert.MatrixRefIdeal.τ).loc Cert.MatrixRefIdeal.main_arg0)
      ∧ r.2.mem ((c.tc : Thread Cert.MatrixRefIdeal.nD Cert.MatrixRefIdeal.τ).loc Cert.MatrixRefIdeal.main_arg1) = m ((c.tc : Thread Cert.MatrixRefIdeal.nD Cert.MatrixRefIdeal.τ).loc Cert.MatrixRefIdeal.main_arg1)
      ∧ r.2.mem ((c.tc : Thread Cert.MatrixRefIdeal.nD Cert.MatrixRefIdeal.τ).loc Cert.MatrixRefIdeal.main_arg2) = m ((c.tc : Thread Cert.MatrixRefIdeal.nD Cert.MatrixRefIdeal.τ).loc Cert.MatrixRefIdeal.main_arg2)
      ∧ r.2.mem ((c.tc : Thread Cert.MatrixRefIdeal.nD Cert.MatrixRefIdeal.τ).loc Cert.MatrixRefIdeal.main_arg3) = m ((c.tc : Thread Cert.MatrixRefIdeal.nD Cert.MatrixRefIdeal.τ).loc Cert.MatrixRefIdeal.main_arg3)
      ∧ r.2.mem ((c.tc : Thread Cert.MatrixRefIdeal.nD Cert.MatrixRefIdeal.τ).loc Cert.MatrixRefIdeal.main_arg4) = m ((c.tc : Thread Cert.MatrixRefIdeal.nD Cert.MatrixRefIdeal.τ).loc Cert.MatrixRefIdeal.main_arg4)
      ∧ r.2.mem ((c.tc : Thread Cert.MatrixRefIdeal.nD Cert.MatrixRefIdeal.τ).loc Cert.MatrixRefIdeal.main_arg5) = m ((c.tc : Thread Cert.MatrixRefIdeal.nD Cert.MatrixRefIdeal.τ).loc Cert.MatrixRefIdeal.main_arg5)
      ∧ r.2.mem ((c.tc : Thread Cert.MatrixRefIdeal.nD Cert.MatrixRefIdeal.τ).loc Cert.MatrixRefIdeal.main_arg6) = m ((c.tc : Thread Cert.MatrixRefIdeal.nD Cert.MatrixRefIdeal.τ).loc Cert.MatrixRefIdeal.main_arg6)
      ∧ r.2.mem ((c.tc : Thread Cert.MatrixRefIdeal.nD Cert.MatrixRefIdeal.τ).loc Cert.MatrixRefIdeal.main_arg7) = m ((c.tc : Thread Cert.MatrixRefIdeal.nD Cert.MatrixRefIdeal.τ).loc Cert.MatrixRefIdeal.main_arg7)
      ∧ r.2.mem ((c.tc : Thread Cert.MatrixRefIdeal.nD Cert.MatrixRefIdeal.τ).loc Cert.MatrixRefIdeal.main_arg8) = m ((c.tc : Thread Cert.MatrixRefIdeal.nD Cert.MatrixRefIdeal.τ).loc Cert.MatrixRefIdeal.main_arg8)
      ∧ r.2.mem ((c.tc : Thread Cert.MatrixRefIdeal.nD Cert.MatrixRefIdeal.τ).loc Cert.MatrixRefIdeal.main_arg9) = m ((c.tc : Thread Cert.MatrixRefIdeal.nD Cert.MatrixRefIdeal.τ).loc Cert.MatrixRefIdeal.main_arg9))
      ∧ r.2.sem = fun _ => 0)

def preserves_Kernel_KernelIdeal : Prop :=
  True

def algebraic_KernelIdeal_ReferenceIdeal_pre_gates_nonneg [hKernelIdeal : Cert.KernelIdeal.Facts] [hReferenceIdeal : Cert.ReferenceIdeal.Facts] [hPre_gates_nonneg : Cert.Pre_gates_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_v32) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v14_0)) (v1 : (c : Dev Cert.MemoryIdeal.nD) → Buf (Elt Ideal) ((c.tc : Thread Cert.MemoryIdeal.nD Cert.MemoryIdeal.τ).loc Cert.MemoryIdeal.main_v14_1)) (v2 : (c : Dev Cert.MemoryIdeal.nD) → Buf (Elt Ideal) ((c.tc : Thread Cert.MemoryIdeal.nD Cert.MemoryIdeal.τ).loc Cert.MemoryIdeal.main_v14_2)) (v3 : (c : Dev Cert.MemoryIdeal.nD) → Buf (Elt Ideal) ((c.tc : Thread Cert.MemoryIdeal.nD Cert.MemoryIdeal.τ).loc Cert.MemoryIdeal.main_v14_3)) (v4 : (c : Dev Cert.MemoryIdeal.nD) → Buf (Elt Ideal) ((c.tc : Thread Cert.MemoryIdeal.nD Cert.MemoryIdeal.τ).loc Cert.MemoryIdeal.main_v14_4)) (v5 : (c : Dev Cert.MemoryIdeal.nD) → Buf (Elt Ideal) ((c.tc : Thread Cert.MemoryIdeal.nD Cert.MemoryIdeal.τ).loc Cert.MemoryIdeal.main_v14_5)) (v6 : (c : Dev Cert.MemoryIdeal.nD) → Buf (Elt Ideal) ((c.tc : Thread Cert.MemoryIdeal.nD Cert.MemoryIdeal.τ).loc Cert.MemoryIdeal.main_v14_6)) (v7 : (c : Dev Cert.MemoryIdeal.nD) → Buf (Elt Ideal) ((c.tc : Thread Cert.MemoryIdeal.nD Cert.MemoryIdeal.τ).loc Cert.MemoryIdeal.main_v14_7)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v14_0) = v0 c
          ∧ r.2.mem ((c.tc : Thread Cert.MemoryIdeal.nD Cert.MemoryIdeal.τ).loc Cert.MemoryIdeal.main_v14_1) = v1 c
          ∧ r.2.mem ((c.tc : Thread Cert.MemoryIdeal.nD Cert.MemoryIdeal.τ).loc Cert.MemoryIdeal.main_v14_2) = v2 c
          ∧ r.2.mem ((c.tc : Thread Cert.MemoryIdeal.nD Cert.MemoryIdeal.τ).loc Cert.MemoryIdeal.main_v14_3) = v3 c
          ∧ r.2.mem ((c.tc : Thread Cert.MemoryIdeal.nD Cert.MemoryIdeal.τ).loc Cert.MemoryIdeal.main_v14_4) = v4 c
          ∧ r.2.mem ((c.tc : Thread Cert.MemoryIdeal.nD Cert.MemoryIdeal.τ).loc Cert.MemoryIdeal.main_v14_5) = v5 c
          ∧ r.2.mem ((c.tc : Thread Cert.MemoryIdeal.nD Cert.MemoryIdeal.τ).loc Cert.MemoryIdeal.main_v14_6) = v6 c
          ∧ r.2.mem ((c.tc : Thread Cert.MemoryIdeal.nD Cert.MemoryIdeal.τ).loc Cert.MemoryIdeal.main_v14_7) = v7 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v3) = v0 c
          ∧ r.2.mem ((c.tc : Thread Cert.MemoryRefIdeal.nD Cert.MemoryRefIdeal.τ).loc Cert.MemoryRefIdeal.main_v13) = v1 c
          ∧ r.2.mem ((c.tc : Thread Cert.MemoryRefIdeal.nD Cert.MemoryRefIdeal.τ).loc Cert.MemoryRefIdeal.main_v6) = v2 c
          ∧ r.2.mem ((c.tc : Thread Cert.MemoryRefIdeal.nD Cert.MemoryRefIdeal.τ).loc Cert.MemoryRefIdeal.main_v14) = v3 c
          ∧ r.2.mem ((c.tc : Thread Cert.MemoryRefIdeal.nD Cert.MemoryRefIdeal.τ).loc Cert.MemoryRefIdeal.main_v9) = v4 c
          ∧ r.2.mem ((c.tc : Thread Cert.MemoryRefIdeal.nD Cert.MemoryRefIdeal.τ).loc Cert.MemoryRefIdeal.main_v15) = v5 c
          ∧ r.2.mem ((c.tc : Thread Cert.MemoryRefIdeal.nD Cert.MemoryRefIdeal.τ).loc Cert.MemoryRefIdeal.main_v12) = v6 c
          ∧ r.2.mem ((c.tc : Thread Cert.MemoryRefIdeal.nD Cert.MemoryRefIdeal.τ).loc Cert.MemoryRefIdeal.main_v16) = v7 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_EvenPrompt_EvenPromptIdeal : Prop :=
  True

def algebraic_EvenPromptIdeal_EvenPromptRefIdeal [hEvenPromptIdeal : Cert.EvenPromptIdeal.Facts] [hEvenPromptRefIdeal : Cert.EvenPromptRefIdeal.Facts] : Prop :=
  ∀ (m : (ℓ : Loc Cert.EvenPromptIdeal.nD Cert.EvenPromptIdeal.τ Cert.EvenPromptIdeal.sig) → Buf (Elt Ideal) ℓ) (g : Dev Cert.EvenPromptIdeal.nD → PrngReg)
    (m' : (ℓ : Loc Cert.EvenPromptRefIdeal.nD Cert.EvenPromptRefIdeal.τ Cert.EvenPromptRefIdeal.sig) → Buf (Elt Ideal) ℓ) (g' : Dev Cert.EvenPromptRefIdeal.nD → PrngReg), Pre_EvenPromptIdeal m →
    (∀ c : Dev Cert.EvenPromptIdeal.nD,
      m' ((c.tc : Thread Cert.EvenPromptRefIdeal.nD Cert.EvenPromptRefIdeal.τ).loc Cert.EvenPromptRefIdeal.main_arg0) = m ((c.tc : Thread Cert.EvenPromptIdeal.nD Cert.EvenPromptIdeal.τ).loc Cert.EvenPromptIdeal.main_arg0)
      ∧ m' ((c.tc : Thread Cert.EvenPromptRefIdeal.nD Cert.EvenPromptRefIdeal.τ).loc Cert.EvenPromptRefIdeal.main_arg1) = m ((c.tc : Thread Cert.EvenPromptIdeal.nD Cert.EvenPromptIdeal.τ).loc Cert.EvenPromptIdeal.main_arg1)) →
    ∃ (v0 : (c : Dev Cert.EvenPromptIdeal.nD) → Buf (Elt Ideal) ((c.tc : Thread Cert.EvenPromptIdeal.nD Cert.EvenPromptIdeal.τ).loc Cert.EvenPromptIdeal.main_v20_0)) (v1 : (c : Dev Cert.EvenPromptIdeal.nD) → Buf (Elt Ideal) ((c.tc : Thread Cert.EvenPromptIdeal.nD Cert.EvenPromptIdeal.τ).loc Cert.EvenPromptIdeal.main_v20_1)) (v2 : (c : Dev Cert.EvenPromptIdeal.nD) → Buf (Elt Ideal) ((c.tc : Thread Cert.EvenPromptIdeal.nD Cert.EvenPromptIdeal.τ).loc Cert.EvenPromptIdeal.main_v20_2)) (v3 : (c : Dev Cert.EvenPromptIdeal.nD) → Buf (Elt Ideal) ((c.tc : Thread Cert.EvenPromptIdeal.nD Cert.EvenPromptIdeal.τ).loc Cert.EvenPromptIdeal.main_v20_3)) (v4 : (c : Dev Cert.EvenPromptIdeal.nD) → Buf (Elt Ideal) ((c.tc : Thread Cert.EvenPromptIdeal.nD Cert.EvenPromptIdeal.τ).loc Cert.EvenPromptIdeal.main_v20_4)) (v5 : (c : Dev Cert.EvenPromptIdeal.nD) → Buf (Elt Ideal) ((c.tc : Thread Cert.EvenPromptIdeal.nD Cert.EvenPromptIdeal.τ).loc Cert.EvenPromptIdeal.main_v20_5)) (v6 : (c : Dev Cert.EvenPromptIdeal.nD) → Buf (Elt Ideal) ((c.tc : Thread Cert.EvenPromptIdeal.nD Cert.EvenPromptIdeal.τ).loc Cert.EvenPromptIdeal.main_v20_6)) (v7 : (c : Dev Cert.EvenPromptIdeal.nD) → Buf (Elt Ideal) ((c.tc : Thread Cert.EvenPromptIdeal.nD Cert.EvenPromptIdeal.τ).loc Cert.EvenPromptIdeal.main_v20_7)) (v8 : (c : Dev Cert.EvenPromptIdeal.nD) → Buf (Elt Ideal) ((c.tc : Thread Cert.EvenPromptIdeal.nD Cert.EvenPromptIdeal.τ).loc Cert.EvenPromptIdeal.main_v20_8)) (v9 : (c : Dev Cert.EvenPromptIdeal.nD) → Buf (Elt Ideal) ((c.tc : Thread Cert.EvenPromptIdeal.nD Cert.EvenPromptIdeal.τ).loc Cert.EvenPromptIdeal.main_v20_9)) (v10 : (c : Dev Cert.EvenPromptIdeal.nD) → Buf (Elt Ideal) ((c.tc : Thread Cert.EvenPromptIdeal.nD Cert.EvenPromptIdeal.τ).loc Cert.EvenPromptIdeal.main_v20_10)),
      θ_run (Cert.EvenPromptIdeal.defs (F := Ideal)) (onTc (τ := Cert.EvenPromptIdeal.τ) (Cert.EvenPromptIdeal.main (F := Ideal))) ⟨m, fun _ => 0, g⟩ (fun r => ∀ c : Dev Cert.EvenPromptIdeal.nD,
          r.2.mem ((c.tc : Thread Cert.EvenPromptIdeal.nD Cert.EvenPromptIdeal.τ).loc Cert.EvenPromptIdeal.main_v20_0) = v0 c
          ∧ r.2.mem ((c.tc : Thread Cert.EvenPromptIdeal.nD Cert.EvenPromptIdeal.τ).loc Cert.EvenPromptIdeal.main_v20_1) = v1 c
          ∧ r.2.mem ((c.tc : Thread Cert.EvenPromptIdeal.nD Cert.EvenPromptIdeal.τ).loc Cert.EvenPromptIdeal.main_v20_2) = v2 c
          ∧ r.2.mem ((c.tc : Thread Cert.EvenPromptIdeal.nD Cert.EvenPromptIdeal.τ).loc Cert.EvenPromptIdeal.main_v20_3) = v3 c
          ∧ r.2.mem ((c.tc : Thread Cert.EvenPromptIdeal.nD Cert.EvenPromptIdeal.τ).loc Cert.EvenPromptIdeal.main_v20_4) = v4 c
          ∧ r.2.mem ((c.tc : Thread Cert.EvenPromptIdeal.nD Cert.EvenPromptIdeal.τ).loc Cert.EvenPromptIdeal.main_v20_5) = v5 c
          ∧ r.2.mem ((c.tc : Thread Cert.EvenPromptIdeal.nD Cert.EvenPromptIdeal.τ).loc Cert.EvenPromptIdeal.main_v20_6) = v6 c
          ∧ r.2.mem ((c.tc : Thread Cert.EvenPromptIdeal.nD Cert.EvenPromptIdeal.τ).loc Cert.EvenPromptIdeal.main_v20_7) = v7 c
          ∧ r.2.mem ((c.tc : Thread Cert.EvenPromptIdeal.nD Cert.EvenPromptIdeal.τ).loc Cert.EvenPromptIdeal.main_v20_8) = v8 c
          ∧ r.2.mem ((c.tc : Thread Cert.EvenPromptIdeal.nD Cert.EvenPromptIdeal.τ).loc Cert.EvenPromptIdeal.main_v20_9) = v9 c
          ∧ r.2.mem ((c.tc : Thread Cert.EvenPromptIdeal.nD Cert.EvenPromptIdeal.τ).loc Cert.EvenPromptIdeal.main_v20_10) = v10 c
          ∧ r.2.mem ((c.tc : Thread Cert.EvenPromptIdeal.nD Cert.EvenPromptIdeal.τ).loc Cert.EvenPromptIdeal.main_arg0) = m ((c.tc : Thread Cert.EvenPromptIdeal.nD Cert.EvenPromptIdeal.τ).loc Cert.EvenPromptIdeal.main_arg0)
          ∧ r.2.mem ((c.tc : Thread Cert.EvenPromptIdeal.nD Cert.EvenPromptIdeal.τ).loc Cert.EvenPromptIdeal.main_arg1) = m ((c.tc : Thread Cert.EvenPromptIdeal.nD Cert.EvenPromptIdeal.τ).loc Cert.EvenPromptIdeal.main_arg1))
      ∧ θ_run (Cert.EvenPromptRefIdeal.defs (F := Ideal)) (onTc (τ := Cert.EvenPromptRefIdeal.τ) (Cert.EvenPromptRefIdeal.main (F := Ideal))) ⟨m', fun _ => 0, g'⟩ (fun r => ∀ c : Dev Cert.EvenPromptRefIdeal.nD,
          r.2.mem ((c.tc : Thread Cert.EvenPromptRefIdeal.nD Cert.EvenPromptRefIdeal.τ).loc Cert.EvenPromptRefIdeal.main_v11) = v0 c
          ∧ r.2.mem ((c.tc : Thread Cert.EvenPromptRefIdeal.nD Cert.EvenPromptRefIdeal.τ).loc Cert.EvenPromptRefIdeal.main_v4) = v1 c
          ∧ r.2.mem ((c.tc : Thread Cert.EvenPromptRefIdeal.nD Cert.EvenPromptRefIdeal.τ).loc Cert.EvenPromptRefIdeal.main_v12) = v2 c
          ∧ r.2.mem ((c.tc : Thread Cert.EvenPromptRefIdeal.nD Cert.EvenPromptRefIdeal.τ).loc Cert.EvenPromptRefIdeal.main_v5) = v3 c
          ∧ r.2.mem ((c.tc : Thread Cert.EvenPromptRefIdeal.nD Cert.EvenPromptRefIdeal.τ).loc Cert.EvenPromptRefIdeal.main_v13) = v4 c
          ∧ r.2.mem ((c.tc : Thread Cert.EvenPromptRefIdeal.nD Cert.EvenPromptRefIdeal.τ).loc Cert.EvenPromptRefIdeal.main_v14) = v5 c
          ∧ r.2.mem ((c.tc : Thread Cert.EvenPromptRefIdeal.nD Cert.EvenPromptRefIdeal.τ).loc Cert.EvenPromptRefIdeal.main_v7) = v6 c
          ∧ r.2.mem ((c.tc : Thread Cert.EvenPromptRefIdeal.nD Cert.EvenPromptRefIdeal.τ).loc Cert.EvenPromptRefIdeal.main_v15) = v7 c
          ∧ r.2.mem ((c.tc : Thread Cert.EvenPromptRefIdeal.nD Cert.EvenPromptRefIdeal.τ).loc Cert.EvenPromptRefIdeal.main_v16) = v8 c
          ∧ r.2.mem ((c.tc : Thread Cert.EvenPromptRefIdeal.nD Cert.EvenPromptRefIdeal.τ).loc Cert.EvenPromptRefIdeal.main_v9) = v9 c
          ∧ r.2.mem ((c.tc : Thread Cert.EvenPromptRefIdeal.nD Cert.EvenPromptRefIdeal.τ).loc Cert.EvenPromptRefIdeal.main_v10) = v10 c
          ∧ r.2.mem ((c.tc : Thread Cert.EvenPromptRefIdeal.nD Cert.EvenPromptRefIdeal.τ).loc Cert.EvenPromptRefIdeal.main_arg0) = m' ((c.tc : Thread Cert.EvenPromptRefIdeal.nD Cert.EvenPromptRefIdeal.τ).loc Cert.EvenPromptRefIdeal.main_arg0)
          ∧ r.2.mem ((c.tc : Thread Cert.EvenPromptRefIdeal.nD Cert.EvenPromptRefIdeal.τ).loc Cert.EvenPromptRefIdeal.main_arg1) = m' ((c.tc : Thread Cert.EvenPromptRefIdeal.nD Cert.EvenPromptRefIdeal.τ).loc Cert.EvenPromptRefIdeal.main_arg1))

def preserves_EvenSample_EvenSampleIdeal : Prop :=
  True

def algebraic_EvenSampleIdeal_EvenSampleRefIdeal [hEvenSampleIdeal : Cert.EvenSampleIdeal.Facts] [hEvenSampleRefIdeal : Cert.EvenSampleRefIdeal.Facts] : Prop :=
  ∀ (m : (ℓ : Loc Cert.EvenSampleIdeal.nD Cert.EvenSampleIdeal.τ Cert.EvenSampleIdeal.sig) → Buf (Elt Ideal) ℓ) (g : Dev Cert.EvenSampleIdeal.nD → PrngReg)
    (m' : (ℓ : Loc Cert.EvenSampleRefIdeal.nD Cert.EvenSampleRefIdeal.τ Cert.EvenSampleRefIdeal.sig) → Buf (Elt Ideal) ℓ) (g' : Dev Cert.EvenSampleRefIdeal.nD → PrngReg), Pre_EvenSampleIdeal m →
    (∀ c : Dev Cert.EvenSampleIdeal.nD,
      m' ((c.tc : Thread Cert.EvenSampleRefIdeal.nD Cert.EvenSampleRefIdeal.τ).loc Cert.EvenSampleRefIdeal.main_arg0) = m ((c.tc : Thread Cert.EvenSampleIdeal.nD Cert.EvenSampleIdeal.τ).loc Cert.EvenSampleIdeal.main_arg0)
      ∧ m' ((c.tc : Thread Cert.EvenSampleRefIdeal.nD Cert.EvenSampleRefIdeal.τ).loc Cert.EvenSampleRefIdeal.main_arg1) = m ((c.tc : Thread Cert.EvenSampleIdeal.nD Cert.EvenSampleIdeal.τ).loc Cert.EvenSampleIdeal.main_arg1)) →
    ∃ (v0 : (c : Dev Cert.EvenSampleIdeal.nD) → Buf (Elt Ideal) ((c.tc : Thread Cert.EvenSampleIdeal.nD Cert.EvenSampleIdeal.τ).loc Cert.EvenSampleIdeal.main_v20_0)) (v1 : (c : Dev Cert.EvenSampleIdeal.nD) → Buf (Elt Ideal) ((c.tc : Thread Cert.EvenSampleIdeal.nD Cert.EvenSampleIdeal.τ).loc Cert.EvenSampleIdeal.main_v20_1)) (v2 : (c : Dev Cert.EvenSampleIdeal.nD) → Buf (Elt Ideal) ((c.tc : Thread Cert.EvenSampleIdeal.nD Cert.EvenSampleIdeal.τ).loc Cert.EvenSampleIdeal.main_v20_2)) (v3 : (c : Dev Cert.EvenSampleIdeal.nD) → Buf (Elt Ideal) ((c.tc : Thread Cert.EvenSampleIdeal.nD Cert.EvenSampleIdeal.τ).loc Cert.EvenSampleIdeal.main_v20_3)) (v4 : (c : Dev Cert.EvenSampleIdeal.nD) → Buf (Elt Ideal) ((c.tc : Thread Cert.EvenSampleIdeal.nD Cert.EvenSampleIdeal.τ).loc Cert.EvenSampleIdeal.main_v20_4)) (v5 : (c : Dev Cert.EvenSampleIdeal.nD) → Buf (Elt Ideal) ((c.tc : Thread Cert.EvenSampleIdeal.nD Cert.EvenSampleIdeal.τ).loc Cert.EvenSampleIdeal.main_v20_5)) (v6 : (c : Dev Cert.EvenSampleIdeal.nD) → Buf (Elt Ideal) ((c.tc : Thread Cert.EvenSampleIdeal.nD Cert.EvenSampleIdeal.τ).loc Cert.EvenSampleIdeal.main_v20_6)) (v7 : (c : Dev Cert.EvenSampleIdeal.nD) → Buf (Elt Ideal) ((c.tc : Thread Cert.EvenSampleIdeal.nD Cert.EvenSampleIdeal.τ).loc Cert.EvenSampleIdeal.main_v20_7)),
      θ_run (Cert.EvenSampleIdeal.defs (F := Ideal)) (onTc (τ := Cert.EvenSampleIdeal.τ) (Cert.EvenSampleIdeal.main (F := Ideal))) ⟨m, fun _ => 0, g⟩ (fun r => ∀ c : Dev Cert.EvenSampleIdeal.nD,
          r.2.mem ((c.tc : Thread Cert.EvenSampleIdeal.nD Cert.EvenSampleIdeal.τ).loc Cert.EvenSampleIdeal.main_v20_0) = v0 c
          ∧ r.2.mem ((c.tc : Thread Cert.EvenSampleIdeal.nD Cert.EvenSampleIdeal.τ).loc Cert.EvenSampleIdeal.main_v20_1) = v1 c
          ∧ r.2.mem ((c.tc : Thread Cert.EvenSampleIdeal.nD Cert.EvenSampleIdeal.τ).loc Cert.EvenSampleIdeal.main_v20_2) = v2 c
          ∧ r.2.mem ((c.tc : Thread Cert.EvenSampleIdeal.nD Cert.EvenSampleIdeal.τ).loc Cert.EvenSampleIdeal.main_v20_3) = v3 c
          ∧ r.2.mem ((c.tc : Thread Cert.EvenSampleIdeal.nD Cert.EvenSampleIdeal.τ).loc Cert.EvenSampleIdeal.main_v20_4) = v4 c
          ∧ r.2.mem ((c.tc : Thread Cert.EvenSampleIdeal.nD Cert.EvenSampleIdeal.τ).loc Cert.EvenSampleIdeal.main_v20_5) = v5 c
          ∧ r.2.mem ((c.tc : Thread Cert.EvenSampleIdeal.nD Cert.EvenSampleIdeal.τ).loc Cert.EvenSampleIdeal.main_v20_6) = v6 c
          ∧ r.2.mem ((c.tc : Thread Cert.EvenSampleIdeal.nD Cert.EvenSampleIdeal.τ).loc Cert.EvenSampleIdeal.main_v20_7) = v7 c
          ∧ r.2.mem ((c.tc : Thread Cert.EvenSampleIdeal.nD Cert.EvenSampleIdeal.τ).loc Cert.EvenSampleIdeal.main_arg0) = m ((c.tc : Thread Cert.EvenSampleIdeal.nD Cert.EvenSampleIdeal.τ).loc Cert.EvenSampleIdeal.main_arg0)
          ∧ r.2.mem ((c.tc : Thread Cert.EvenSampleIdeal.nD Cert.EvenSampleIdeal.τ).loc Cert.EvenSampleIdeal.main_arg1) = m ((c.tc : Thread Cert.EvenSampleIdeal.nD Cert.EvenSampleIdeal.τ).loc Cert.EvenSampleIdeal.main_arg1))
      ∧ θ_run (Cert.EvenSampleRefIdeal.defs (F := Ideal)) (onTc (τ := Cert.EvenSampleRefIdeal.τ) (Cert.EvenSampleRefIdeal.main (F := Ideal))) ⟨m', fun _ => 0, g'⟩ (fun r => ∀ c : Dev Cert.EvenSampleRefIdeal.nD,
          r.2.mem ((c.tc : Thread Cert.EvenSampleRefIdeal.nD Cert.EvenSampleRefIdeal.τ).loc Cert.EvenSampleRefIdeal.main_v3) = v0 c
          ∧ r.2.mem ((c.tc : Thread Cert.EvenSampleRefIdeal.nD Cert.EvenSampleRefIdeal.τ).loc Cert.EvenSampleRefIdeal.main_v4) = v1 c
          ∧ r.2.mem ((c.tc : Thread Cert.EvenSampleRefIdeal.nD Cert.EvenSampleRefIdeal.τ).loc Cert.EvenSampleRefIdeal.main_v5) = v2 c
          ∧ r.2.mem ((c.tc : Thread Cert.EvenSampleRefIdeal.nD Cert.EvenSampleRefIdeal.τ).loc Cert.EvenSampleRefIdeal.main_v6) = v3 c
          ∧ r.2.mem ((c.tc : Thread Cert.EvenSampleRefIdeal.nD Cert.EvenSampleRefIdeal.τ).loc Cert.EvenSampleRefIdeal.main_v7) = v4 c
          ∧ r.2.mem ((c.tc : Thread Cert.EvenSampleRefIdeal.nD Cert.EvenSampleRefIdeal.τ).loc Cert.EvenSampleRefIdeal.main_v11) = v5 c
          ∧ r.2.mem ((c.tc : Thread Cert.EvenSampleRefIdeal.nD Cert.EvenSampleRefIdeal.τ).loc Cert.EvenSampleRefIdeal.main_v9) = v6 c
          ∧ r.2.mem ((c.tc : Thread Cert.EvenSampleRefIdeal.nD Cert.EvenSampleRefIdeal.τ).loc Cert.EvenSampleRefIdeal.main_v10) = v7 c
          ∧ r.2.mem ((c.tc : Thread Cert.EvenSampleRefIdeal.nD Cert.EvenSampleRefIdeal.τ).loc Cert.EvenSampleRefIdeal.main_arg0) = m' ((c.tc : Thread Cert.EvenSampleRefIdeal.nD Cert.EvenSampleRefIdeal.τ).loc Cert.EvenSampleRefIdeal.main_arg0)
          ∧ r.2.mem ((c.tc : Thread Cert.EvenSampleRefIdeal.nD Cert.EvenSampleRefIdeal.τ).loc Cert.EvenSampleRefIdeal.main_arg1) = m' ((c.tc : Thread Cert.EvenSampleRefIdeal.nD Cert.EvenSampleRefIdeal.τ).loc Cert.EvenSampleRefIdeal.main_arg1))

def preserves_OddPrompt_OddPromptIdeal : Prop :=
  True

def algebraic_OddPromptIdeal_OddPromptRefIdeal [hOddPromptIdeal : Cert.OddPromptIdeal.Facts] [hOddPromptRefIdeal : Cert.OddPromptRefIdeal.Facts] : Prop :=
  ∀ (m : (ℓ : Loc Cert.OddPromptIdeal.nD Cert.OddPromptIdeal.τ Cert.OddPromptIdeal.sig) → Buf (Elt Ideal) ℓ) (g : Dev Cert.OddPromptIdeal.nD → PrngReg)
    (m' : (ℓ : Loc Cert.OddPromptRefIdeal.nD Cert.OddPromptRefIdeal.τ Cert.OddPromptRefIdeal.sig) → Buf (Elt Ideal) ℓ) (g' : Dev Cert.OddPromptRefIdeal.nD → PrngReg), Pre_OddPromptIdeal m →
    (∀ c : Dev Cert.OddPromptIdeal.nD,
      m' ((c.tc : Thread Cert.OddPromptRefIdeal.nD Cert.OddPromptRefIdeal.τ).loc Cert.OddPromptRefIdeal.main_arg0) = m ((c.tc : Thread Cert.OddPromptIdeal.nD Cert.OddPromptIdeal.τ).loc Cert.OddPromptIdeal.main_arg0)
      ∧ m' ((c.tc : Thread Cert.OddPromptRefIdeal.nD Cert.OddPromptRefIdeal.τ).loc Cert.OddPromptRefIdeal.main_arg1) = m ((c.tc : Thread Cert.OddPromptIdeal.nD Cert.OddPromptIdeal.τ).loc Cert.OddPromptIdeal.main_arg1)) →
    ∃ (v0 : (c : Dev Cert.OddPromptIdeal.nD) → Buf (Elt Ideal) ((c.tc : Thread Cert.OddPromptIdeal.nD Cert.OddPromptIdeal.τ).loc Cert.OddPromptIdeal.main_v13_0)) (v1 : (c : Dev Cert.OddPromptIdeal.nD) → Buf (Elt Ideal) ((c.tc : Thread Cert.OddPromptIdeal.nD Cert.OddPromptIdeal.τ).loc Cert.OddPromptIdeal.main_v13_1)) (v2 : (c : Dev Cert.OddPromptIdeal.nD) → Buf (Elt Ideal) ((c.tc : Thread Cert.OddPromptIdeal.nD Cert.OddPromptIdeal.τ).loc Cert.OddPromptIdeal.main_v13_2)) (v3 : (c : Dev Cert.OddPromptIdeal.nD) → Buf (Elt Ideal) ((c.tc : Thread Cert.OddPromptIdeal.nD Cert.OddPromptIdeal.τ).loc Cert.OddPromptIdeal.main_v13_3)) (v4 : (c : Dev Cert.OddPromptIdeal.nD) → Buf (Elt Ideal) ((c.tc : Thread Cert.OddPromptIdeal.nD Cert.OddPromptIdeal.τ).loc Cert.OddPromptIdeal.main_v13_4)),
      θ_run (Cert.OddPromptIdeal.defs (F := Ideal)) (onTc (τ := Cert.OddPromptIdeal.τ) (Cert.OddPromptIdeal.main (F := Ideal))) ⟨m, fun _ => 0, g⟩ (fun r => ∀ c : Dev Cert.OddPromptIdeal.nD,
          r.2.mem ((c.tc : Thread Cert.OddPromptIdeal.nD Cert.OddPromptIdeal.τ).loc Cert.OddPromptIdeal.main_v13_0) = v0 c
          ∧ r.2.mem ((c.tc : Thread Cert.OddPromptIdeal.nD Cert.OddPromptIdeal.τ).loc Cert.OddPromptIdeal.main_v13_1) = v1 c
          ∧ r.2.mem ((c.tc : Thread Cert.OddPromptIdeal.nD Cert.OddPromptIdeal.τ).loc Cert.OddPromptIdeal.main_v13_2) = v2 c
          ∧ r.2.mem ((c.tc : Thread Cert.OddPromptIdeal.nD Cert.OddPromptIdeal.τ).loc Cert.OddPromptIdeal.main_v13_3) = v3 c
          ∧ r.2.mem ((c.tc : Thread Cert.OddPromptIdeal.nD Cert.OddPromptIdeal.τ).loc Cert.OddPromptIdeal.main_v13_4) = v4 c
          ∧ r.2.mem ((c.tc : Thread Cert.OddPromptIdeal.nD Cert.OddPromptIdeal.τ).loc Cert.OddPromptIdeal.main_arg0) = m ((c.tc : Thread Cert.OddPromptIdeal.nD Cert.OddPromptIdeal.τ).loc Cert.OddPromptIdeal.main_arg0)
          ∧ r.2.mem ((c.tc : Thread Cert.OddPromptIdeal.nD Cert.OddPromptIdeal.τ).loc Cert.OddPromptIdeal.main_arg1) = m ((c.tc : Thread Cert.OddPromptIdeal.nD Cert.OddPromptIdeal.τ).loc Cert.OddPromptIdeal.main_arg1))
      ∧ θ_run (Cert.OddPromptRefIdeal.defs (F := Ideal)) (onTc (τ := Cert.OddPromptRefIdeal.τ) (Cert.OddPromptRefIdeal.main (F := Ideal))) ⟨m', fun _ => 0, g'⟩ (fun r => ∀ c : Dev Cert.OddPromptRefIdeal.nD,
          r.2.mem ((c.tc : Thread Cert.OddPromptRefIdeal.nD Cert.OddPromptRefIdeal.τ).loc Cert.OddPromptRefIdeal.main_v7) = v0 c
          ∧ r.2.mem ((c.tc : Thread Cert.OddPromptRefIdeal.nD Cert.OddPromptRefIdeal.τ).loc Cert.OddPromptRefIdeal.main_v8) = v1 c
          ∧ r.2.mem ((c.tc : Thread Cert.OddPromptRefIdeal.nD Cert.OddPromptRefIdeal.τ).loc Cert.OddPromptRefIdeal.main_v9) = v2 c
          ∧ r.2.mem ((c.tc : Thread Cert.OddPromptRefIdeal.nD Cert.OddPromptRefIdeal.τ).loc Cert.OddPromptRefIdeal.main_v5) = v3 c
          ∧ r.2.mem ((c.tc : Thread Cert.OddPromptRefIdeal.nD Cert.OddPromptRefIdeal.τ).loc Cert.OddPromptRefIdeal.main_v10) = v4 c
          ∧ r.2.mem ((c.tc : Thread Cert.OddPromptRefIdeal.nD Cert.OddPromptRefIdeal.τ).loc Cert.OddPromptRefIdeal.main_arg0) = m' ((c.tc : Thread Cert.OddPromptRefIdeal.nD Cert.OddPromptRefIdeal.τ).loc Cert.OddPromptRefIdeal.main_arg0)
          ∧ r.2.mem ((c.tc : Thread Cert.OddPromptRefIdeal.nD Cert.OddPromptRefIdeal.τ).loc Cert.OddPromptRefIdeal.main_arg1) = m' ((c.tc : Thread Cert.OddPromptRefIdeal.nD Cert.OddPromptRefIdeal.τ).loc Cert.OddPromptRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v1) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v3_0)) (v1 : (c : Dev Cert.MixIdeal.nD) → Buf (Elt Ideal) ((c.tc : Thread Cert.MixIdeal.nD Cert.MixIdeal.τ).loc Cert.MixIdeal.main_v3_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3_0) = v0 c
          ∧ r.2.mem ((c.tc : Thread Cert.MixIdeal.nD Cert.MixIdeal.τ).loc Cert.MixIdeal.main_v3_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v28) = v0 c
          ∧ r.2.mem ((c.tc : Thread Cert.MixRefIdeal.nD Cert.MixRefIdeal.τ).loc Cert.MixRefIdeal.main_v29) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_MixPair_MixPairIdeal : Prop :=
  True

def algebraic_MixPairIdeal_MixPairRefIdeal [hMixPairIdeal : Cert.MixPairIdeal.Facts] [hMixPairRefIdeal : Cert.MixPairRefIdeal.Facts] : Prop :=
  ∀ (m : (ℓ : Loc Cert.MixPairIdeal.nD Cert.MixPairIdeal.τ Cert.MixPairIdeal.sig) → Buf (Elt Ideal) ℓ) (g : Dev Cert.MixPairIdeal.nD → PrngReg)
    (m' : (ℓ : Loc Cert.MixPairRefIdeal.nD Cert.MixPairRefIdeal.τ Cert.MixPairRefIdeal.sig) → Buf (Elt Ideal) ℓ) (g' : Dev Cert.MixPairRefIdeal.nD → PrngReg), Pre_MixPairIdeal m →
    (∀ c : Dev Cert.MixPairIdeal.nD,
      m' ((c.tc : Thread Cert.MixPairRefIdeal.nD Cert.MixPairRefIdeal.τ).loc Cert.MixPairRefIdeal.main_arg0) = m ((c.tc : Thread Cert.MixPairIdeal.nD Cert.MixPairIdeal.τ).loc Cert.MixPairIdeal.main_arg0)
      ∧ m' ((c.tc : Thread Cert.MixPairRefIdeal.nD Cert.MixPairRefIdeal.τ).loc Cert.MixPairRefIdeal.main_arg1) = m ((c.tc : Thread Cert.MixPairIdeal.nD Cert.MixPairIdeal.τ).loc Cert.MixPairIdeal.main_arg1)
      ∧ m' ((c.tc : Thread Cert.MixPairRefIdeal.nD Cert.MixPairRefIdeal.τ).loc Cert.MixPairRefIdeal.main_arg2) = m ((c.tc : Thread Cert.MixPairIdeal.nD Cert.MixPairIdeal.τ).loc Cert.MixPairIdeal.main_arg2)
      ∧ m' ((c.tc : Thread Cert.MixPairRefIdeal.nD Cert.MixPairRefIdeal.τ).loc Cert.MixPairRefIdeal.main_arg3) = m ((c.tc : Thread Cert.MixPairIdeal.nD Cert.MixPairIdeal.τ).loc Cert.MixPairIdeal.main_arg3)
      ∧ m' ((c.tc : Thread Cert.MixPairRefIdeal.nD Cert.MixPairRefIdeal.τ).loc Cert.MixPairRefIdeal.main_arg4) = m ((c.tc : Thread Cert.MixPairIdeal.nD Cert.MixPairIdeal.τ).loc Cert.MixPairIdeal.main_arg4)
      ∧ m' ((c.tc : Thread Cert.MixPairRefIdeal.nD Cert.MixPairRefIdeal.τ).loc Cert.MixPairRefIdeal.main_arg5) = m ((c.tc : Thread Cert.MixPairIdeal.nD Cert.MixPairIdeal.τ).loc Cert.MixPairIdeal.main_arg5)) →
    ∃ (v0 : (c : Dev Cert.MixPairIdeal.nD) → Buf (Elt Ideal) ((c.tc : Thread Cert.MixPairIdeal.nD Cert.MixPairIdeal.τ).loc Cert.MixPairIdeal.main_v5_0)) (v1 : (c : Dev Cert.MixPairIdeal.nD) → Buf (Elt Ideal) ((c.tc : Thread Cert.MixPairIdeal.nD Cert.MixPairIdeal.τ).loc Cert.MixPairIdeal.main_v5_1)),
      θ_run (Cert.MixPairIdeal.defs (F := Ideal)) (onTc (τ := Cert.MixPairIdeal.τ) (Cert.MixPairIdeal.main (F := Ideal))) ⟨m, fun _ => 0, g⟩ (fun r => ∀ c : Dev Cert.MixPairIdeal.nD,
          r.2.mem ((c.tc : Thread Cert.MixPairIdeal.nD Cert.MixPairIdeal.τ).loc Cert.MixPairIdeal.main_v5_0) = v0 c
          ∧ r.2.mem ((c.tc : Thread Cert.MixPairIdeal.nD Cert.MixPairIdeal.τ).loc Cert.MixPairIdeal.main_v5_1) = v1 c
          ∧ r.2.mem ((c.tc : Thread Cert.MixPairIdeal.nD Cert.MixPairIdeal.τ).loc Cert.MixPairIdeal.main_arg0) = m ((c.tc : Thread Cert.MixPairIdeal.nD Cert.MixPairIdeal.τ).loc Cert.MixPairIdeal.main_arg0)
          ∧ r.2.mem ((c.tc : Thread Cert.MixPairIdeal.nD Cert.MixPairIdeal.τ).loc Cert.MixPairIdeal.main_arg1) = m ((c.tc : Thread Cert.MixPairIdeal.nD Cert.MixPairIdeal.τ).loc Cert.MixPairIdeal.main_arg1)
          ∧ r.2.mem ((c.tc : Thread Cert.MixPairIdeal.nD Cert.MixPairIdeal.τ).loc Cert.MixPairIdeal.main_arg2) = m ((c.tc : Thread Cert.MixPairIdeal.nD Cert.MixPairIdeal.τ).loc Cert.MixPairIdeal.main_arg2)
          ∧ r.2.mem ((c.tc : Thread Cert.MixPairIdeal.nD Cert.MixPairIdeal.τ).loc Cert.MixPairIdeal.main_arg3) = m ((c.tc : Thread Cert.MixPairIdeal.nD Cert.MixPairIdeal.τ).loc Cert.MixPairIdeal.main_arg3)
          ∧ r.2.mem ((c.tc : Thread Cert.MixPairIdeal.nD Cert.MixPairIdeal.τ).loc Cert.MixPairIdeal.main_arg4) = m ((c.tc : Thread Cert.MixPairIdeal.nD Cert.MixPairIdeal.τ).loc Cert.MixPairIdeal.main_arg4)
          ∧ r.2.mem ((c.tc : Thread Cert.MixPairIdeal.nD Cert.MixPairIdeal.τ).loc Cert.MixPairIdeal.main_arg5) = m ((c.tc : Thread Cert.MixPairIdeal.nD Cert.MixPairIdeal.τ).loc Cert.MixPairIdeal.main_arg5))
      ∧ θ_run (Cert.MixPairRefIdeal.defs (F := Ideal)) (onTc (τ := Cert.MixPairRefIdeal.τ) (Cert.MixPairRefIdeal.main (F := Ideal))) ⟨m', fun _ => 0, g'⟩ (fun r => ∀ c : Dev Cert.MixPairRefIdeal.nD,
          r.2.mem ((c.tc : Thread Cert.MixPairRefIdeal.nD Cert.MixPairRefIdeal.τ).loc Cert.MixPairRefIdeal.main_v29) = v0 c
          ∧ r.2.mem ((c.tc : Thread Cert.MixPairRefIdeal.nD Cert.MixPairRefIdeal.τ).loc Cert.MixPairRefIdeal.main_v30) = v1 c
          ∧ r.2.mem ((c.tc : Thread Cert.MixPairRefIdeal.nD Cert.MixPairRefIdeal.τ).loc Cert.MixPairRefIdeal.main_arg0) = m' ((c.tc : Thread Cert.MixPairRefIdeal.nD Cert.MixPairRefIdeal.τ).loc Cert.MixPairRefIdeal.main_arg0)
          ∧ r.2.mem ((c.tc : Thread Cert.MixPairRefIdeal.nD Cert.MixPairRefIdeal.τ).loc Cert.MixPairRefIdeal.main_arg1) = m' ((c.tc : Thread Cert.MixPairRefIdeal.nD Cert.MixPairRefIdeal.τ).loc Cert.MixPairRefIdeal.main_arg1)
          ∧ r.2.mem ((c.tc : Thread Cert.MixPairRefIdeal.nD Cert.MixPairRefIdeal.τ).loc Cert.MixPairRefIdeal.main_arg2) = m' ((c.tc : Thread Cert.MixPairRefIdeal.nD Cert.MixPairRefIdeal.τ).loc Cert.MixPairRefIdeal.main_arg2)
          ∧ r.2.mem ((c.tc : Thread Cert.MixPairRefIdeal.nD Cert.MixPairRefIdeal.τ).loc Cert.MixPairRefIdeal.main_arg3) = m' ((c.tc : Thread Cert.MixPairRefIdeal.nD Cert.MixPairRefIdeal.τ).loc Cert.MixPairRefIdeal.main_arg3)
          ∧ r.2.mem ((c.tc : Thread Cert.MixPairRefIdeal.nD Cert.MixPairRefIdeal.τ).loc Cert.MixPairRefIdeal.main_arg4) = m' ((c.tc : Thread Cert.MixPairRefIdeal.nD Cert.MixPairRefIdeal.τ).loc Cert.MixPairRefIdeal.main_arg4)
          ∧ r.2.mem ((c.tc : Thread Cert.MixPairRefIdeal.nD Cert.MixPairRefIdeal.τ).loc Cert.MixPairRefIdeal.main_arg5) = m' ((c.tc : Thread Cert.MixPairRefIdeal.nD Cert.MixPairRefIdeal.τ).loc Cert.MixPairRefIdeal.main_arg5))

def preserves_Attention_AttentionIdeal : Prop :=
  True

def algebraic_AttentionIdeal_AttentionRefIdeal [hAttentionIdeal : Cert.AttentionIdeal.Facts] [hAttentionRefIdeal : Cert.AttentionRefIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v23) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Recurrence_RecurrenceIdeal : Prop :=
  True

def algebraic_RecurrenceIdeal_RecurrenceRefIdeal [hRecurrenceIdeal : Cert.RecurrenceIdeal.Facts] [hRecurrenceRefIdeal : Cert.RecurrenceRefIdeal.Facts] : Prop :=
  ∀ (m : (ℓ : Loc Cert.RecurrenceIdeal.nD Cert.RecurrenceIdeal.τ Cert.RecurrenceIdeal.sig) → Buf (Elt Ideal) ℓ) (g : Dev Cert.RecurrenceIdeal.nD → PrngReg)
    (m' : (ℓ : Loc Cert.RecurrenceRefIdeal.nD Cert.RecurrenceRefIdeal.τ Cert.RecurrenceRefIdeal.sig) → Buf (Elt Ideal) ℓ) (g' : Dev Cert.RecurrenceRefIdeal.nD → PrngReg), Pre_RecurrenceIdeal m →
    (∀ c : Dev Cert.RecurrenceIdeal.nD,
      m' ((c.tc : Thread Cert.RecurrenceRefIdeal.nD Cert.RecurrenceRefIdeal.τ).loc Cert.RecurrenceRefIdeal.main_arg0) = m ((c.tc : Thread Cert.RecurrenceIdeal.nD Cert.RecurrenceIdeal.τ).loc Cert.RecurrenceIdeal.main_arg0)
      ∧ m' ((c.tc : Thread Cert.RecurrenceRefIdeal.nD Cert.RecurrenceRefIdeal.τ).loc Cert.RecurrenceRefIdeal.main_arg1) = m ((c.tc : Thread Cert.RecurrenceIdeal.nD Cert.RecurrenceIdeal.τ).loc Cert.RecurrenceIdeal.main_arg1)
      ∧ m' ((c.tc : Thread Cert.RecurrenceRefIdeal.nD Cert.RecurrenceRefIdeal.τ).loc Cert.RecurrenceRefIdeal.main_arg2) = m ((c.tc : Thread Cert.RecurrenceIdeal.nD Cert.RecurrenceIdeal.τ).loc Cert.RecurrenceIdeal.main_arg2)
      ∧ m' ((c.tc : Thread Cert.RecurrenceRefIdeal.nD Cert.RecurrenceRefIdeal.τ).loc Cert.RecurrenceRefIdeal.main_arg3) = m ((c.tc : Thread Cert.RecurrenceIdeal.nD Cert.RecurrenceIdeal.τ).loc Cert.RecurrenceIdeal.main_arg3)
      ∧ m' ((c.tc : Thread Cert.RecurrenceRefIdeal.nD Cert.RecurrenceRefIdeal.τ).loc Cert.RecurrenceRefIdeal.main_arg4) = m ((c.tc : Thread Cert.RecurrenceIdeal.nD Cert.RecurrenceIdeal.τ).loc Cert.RecurrenceIdeal.main_arg4)
      ∧ m' ((c.tc : Thread Cert.RecurrenceRefIdeal.nD Cert.RecurrenceRefIdeal.τ).loc Cert.RecurrenceRefIdeal.main_arg5) = m ((c.tc : Thread Cert.RecurrenceIdeal.nD Cert.RecurrenceIdeal.τ).loc Cert.RecurrenceIdeal.main_arg5)
      ∧ m' ((c.tc : Thread Cert.RecurrenceRefIdeal.nD Cert.RecurrenceRefIdeal.τ).loc Cert.RecurrenceRefIdeal.main_arg6) = m ((c.tc : Thread Cert.RecurrenceIdeal.nD Cert.RecurrenceIdeal.τ).loc Cert.RecurrenceIdeal.main_arg6)
      ∧ m' ((c.tc : Thread Cert.RecurrenceRefIdeal.nD Cert.RecurrenceRefIdeal.τ).loc Cert.RecurrenceRefIdeal.main_arg7) = m ((c.tc : Thread Cert.RecurrenceIdeal.nD Cert.RecurrenceIdeal.τ).loc Cert.RecurrenceIdeal.main_arg7)
      ∧ m' ((c.tc : Thread Cert.RecurrenceRefIdeal.nD Cert.RecurrenceRefIdeal.τ).loc Cert.RecurrenceRefIdeal.main_arg8) = m ((c.tc : Thread Cert.RecurrenceIdeal.nD Cert.RecurrenceIdeal.τ).loc Cert.RecurrenceIdeal.main_arg8)
      ∧ m' ((c.tc : Thread Cert.RecurrenceRefIdeal.nD Cert.RecurrenceRefIdeal.τ).loc Cert.RecurrenceRefIdeal.main_arg9) = m ((c.tc : Thread Cert.RecurrenceIdeal.nD Cert.RecurrenceIdeal.τ).loc Cert.RecurrenceIdeal.main_arg9)
      ∧ m' ((c.tc : Thread Cert.RecurrenceRefIdeal.nD Cert.RecurrenceRefIdeal.τ).loc Cert.RecurrenceRefIdeal.main_arg10) = m ((c.tc : Thread Cert.RecurrenceIdeal.nD Cert.RecurrenceIdeal.τ).loc Cert.RecurrenceIdeal.main_arg10)) →
    ∃ (v0 : (c : Dev Cert.RecurrenceIdeal.nD) → Buf (Elt Ideal) ((c.tc : Thread Cert.RecurrenceIdeal.nD Cert.RecurrenceIdeal.τ).loc Cert.RecurrenceIdeal.main_v36_0)) (v1 : (c : Dev Cert.RecurrenceIdeal.nD) → Buf (Elt Ideal) ((c.tc : Thread Cert.RecurrenceIdeal.nD Cert.RecurrenceIdeal.τ).loc Cert.RecurrenceIdeal.main_v36_1)),
      θ_run (Cert.RecurrenceIdeal.defs (F := Ideal)) (onTc (τ := Cert.RecurrenceIdeal.τ) (Cert.RecurrenceIdeal.main (F := Ideal))) ⟨m, fun _ => 0, g⟩ (fun r => ∀ c : Dev Cert.RecurrenceIdeal.nD,
          r.2.mem ((c.tc : Thread Cert.RecurrenceIdeal.nD Cert.RecurrenceIdeal.τ).loc Cert.RecurrenceIdeal.main_v36_0) = v0 c
          ∧ r.2.mem ((c.tc : Thread Cert.RecurrenceIdeal.nD Cert.RecurrenceIdeal.τ).loc Cert.RecurrenceIdeal.main_v36_1) = v1 c
          ∧ r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
          ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
          ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2)
          ∧ r.2.mem ((c.tc : Thread Cert.RecurrenceIdeal.nD Cert.RecurrenceIdeal.τ).loc Cert.RecurrenceIdeal.main_arg3) = m ((c.tc : Thread Cert.RecurrenceIdeal.nD Cert.RecurrenceIdeal.τ).loc Cert.RecurrenceIdeal.main_arg3)
          ∧ r.2.mem ((c.tc : Thread Cert.RecurrenceIdeal.nD Cert.RecurrenceIdeal.τ).loc Cert.RecurrenceIdeal.main_arg4) = m ((c.tc : Thread Cert.RecurrenceIdeal.nD Cert.RecurrenceIdeal.τ).loc Cert.RecurrenceIdeal.main_arg4)
          ∧ r.2.mem ((c.tc : Thread Cert.RecurrenceIdeal.nD Cert.RecurrenceIdeal.τ).loc Cert.RecurrenceIdeal.main_arg5) = m ((c.tc : Thread Cert.RecurrenceIdeal.nD Cert.RecurrenceIdeal.τ).loc Cert.RecurrenceIdeal.main_arg5)
          ∧ r.2.mem ((c.tc : Thread Cert.RecurrenceIdeal.nD Cert.RecurrenceIdeal.τ).loc Cert.RecurrenceIdeal.main_arg6) = m ((c.tc : Thread Cert.RecurrenceIdeal.nD Cert.RecurrenceIdeal.τ).loc Cert.RecurrenceIdeal.main_arg6)
          ∧ r.2.mem ((c.tc : Thread Cert.RecurrenceIdeal.nD Cert.RecurrenceIdeal.τ).loc Cert.RecurrenceIdeal.main_arg7) = m ((c.tc : Thread Cert.RecurrenceIdeal.nD Cert.RecurrenceIdeal.τ).loc Cert.RecurrenceIdeal.main_arg7)
          ∧ r.2.mem ((c.tc : Thread Cert.RecurrenceIdeal.nD Cert.RecurrenceIdeal.τ).loc Cert.RecurrenceIdeal.main_arg8) = m ((c.tc : Thread Cert.RecurrenceIdeal.nD Cert.RecurrenceIdeal.τ).loc Cert.RecurrenceIdeal.main_arg8)
          ∧ r.2.mem ((c.tc : Thread Cert.RecurrenceIdeal.nD Cert.RecurrenceIdeal.τ).loc Cert.RecurrenceIdeal.main_arg9) = m ((c.tc : Thread Cert.RecurrenceIdeal.nD Cert.RecurrenceIdeal.τ).loc Cert.RecurrenceIdeal.main_arg9)
          ∧ r.2.mem ((c.tc : Thread Cert.RecurrenceIdeal.nD Cert.RecurrenceIdeal.τ).loc Cert.RecurrenceIdeal.main_arg10) = m ((c.tc : Thread Cert.RecurrenceIdeal.nD Cert.RecurrenceIdeal.τ).loc Cert.RecurrenceIdeal.main_arg10))
      ∧ θ_run (Cert.RecurrenceRefIdeal.defs (F := Ideal)) (onTc (τ := Cert.RecurrenceRefIdeal.τ) (Cert.RecurrenceRefIdeal.main (F := Ideal))) ⟨m', fun _ => 0, g'⟩ (fun r => ∀ c : Dev Cert.RecurrenceRefIdeal.nD,
          r.2.mem ((c.tc : Thread Cert.RecurrenceRefIdeal.nD Cert.RecurrenceRefIdeal.τ).loc Cert.RecurrenceRefIdeal.main_v92) = v0 c
          ∧ r.2.mem ((c.tc : Thread Cert.RecurrenceRefIdeal.nD Cert.RecurrenceRefIdeal.τ).loc Cert.RecurrenceRefIdeal.main_v77) = v1 c
          ∧ r.2.mem ((c.tc : Thread Cert.RecurrenceRefIdeal.nD Cert.RecurrenceRefIdeal.τ).loc Cert.RecurrenceRefIdeal.main_arg0) = m' ((c.tc : Thread Cert.RecurrenceRefIdeal.nD Cert.RecurrenceRefIdeal.τ).loc Cert.RecurrenceRefIdeal.main_arg0)
          ∧ r.2.mem ((c.tc : Thread Cert.RecurrenceRefIdeal.nD Cert.RecurrenceRefIdeal.τ).loc Cert.RecurrenceRefIdeal.main_arg1) = m' ((c.tc : Thread Cert.RecurrenceRefIdeal.nD Cert.RecurrenceRefIdeal.τ).loc Cert.RecurrenceRefIdeal.main_arg1)
          ∧ r.2.mem ((c.tc : Thread Cert.RecurrenceRefIdeal.nD Cert.RecurrenceRefIdeal.τ).loc Cert.RecurrenceRefIdeal.main_arg2) = m' ((c.tc : Thread Cert.RecurrenceRefIdeal.nD Cert.RecurrenceRefIdeal.τ).loc Cert.RecurrenceRefIdeal.main_arg2)
          ∧ r.2.mem ((c.tc : Thread Cert.RecurrenceRefIdeal.nD Cert.RecurrenceRefIdeal.τ).loc Cert.RecurrenceRefIdeal.main_arg3) = m' ((c.tc : Thread Cert.RecurrenceRefIdeal.nD Cert.RecurrenceRefIdeal.τ).loc Cert.RecurrenceRefIdeal.main_arg3)
          ∧ r.2.mem ((c.tc : Thread Cert.RecurrenceRefIdeal.nD Cert.RecurrenceRefIdeal.τ).loc Cert.RecurrenceRefIdeal.main_arg4) = m' ((c.tc : Thread Cert.RecurrenceRefIdeal.nD Cert.RecurrenceRefIdeal.τ).loc Cert.RecurrenceRefIdeal.main_arg4)
          ∧ r.2.mem ((c.tc : Thread Cert.RecurrenceRefIdeal.nD Cert.RecurrenceRefIdeal.τ).loc Cert.RecurrenceRefIdeal.main_arg5) = m' ((c.tc : Thread Cert.RecurrenceRefIdeal.nD Cert.RecurrenceRefIdeal.τ).loc Cert.RecurrenceRefIdeal.main_arg5)
          ∧ r.2.mem ((c.tc : Thread Cert.RecurrenceRefIdeal.nD Cert.RecurrenceRefIdeal.τ).loc Cert.RecurrenceRefIdeal.main_arg6) = m' ((c.tc : Thread Cert.RecurrenceRefIdeal.nD Cert.RecurrenceRefIdeal.τ).loc Cert.RecurrenceRefIdeal.main_arg6)
          ∧ r.2.mem ((c.tc : Thread Cert.RecurrenceRefIdeal.nD Cert.RecurrenceRefIdeal.τ).loc Cert.RecurrenceRefIdeal.main_arg7) = m' ((c.tc : Thread Cert.RecurrenceRefIdeal.nD Cert.RecurrenceRefIdeal.τ).loc Cert.RecurrenceRefIdeal.main_arg7)
          ∧ r.2.mem ((c.tc : Thread Cert.RecurrenceRefIdeal.nD Cert.RecurrenceRefIdeal.τ).loc Cert.RecurrenceRefIdeal.main_arg8) = m' ((c.tc : Thread Cert.RecurrenceRefIdeal.nD Cert.RecurrenceRefIdeal.τ).loc Cert.RecurrenceRefIdeal.main_arg8)
          ∧ r.2.mem ((c.tc : Thread Cert.RecurrenceRefIdeal.nD Cert.RecurrenceRefIdeal.τ).loc Cert.RecurrenceRefIdeal.main_arg9) = m' ((c.tc : Thread Cert.RecurrenceRefIdeal.nD Cert.RecurrenceRefIdeal.τ).loc Cert.RecurrenceRefIdeal.main_arg9)
          ∧ r.2.mem ((c.tc : Thread Cert.RecurrenceRefIdeal.nD Cert.RecurrenceRefIdeal.τ).loc Cert.RecurrenceRefIdeal.main_arg10) = m' ((c.tc : Thread Cert.RecurrenceRefIdeal.nD Cert.RecurrenceRefIdeal.τ).loc Cert.RecurrenceRefIdeal.main_arg10))

def preserves_Sample_SampleIdeal : Prop :=
  True

def algebraic_SampleIdeal_SampleRefIdeal_pre_sample_gates_nonneg [hSampleIdeal : Cert.SampleIdeal.Facts] [hSampleRefIdeal : Cert.SampleRefIdeal.Facts] [hPre_sample_gates_nonneg : Cert.Pre_sample_gates_nonneg.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal_sample_gates_nonneg m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)) →
    ∃ (v0 : (c : Dev Cert.SampleIdeal.nD) → Buf (Elt Ideal) ((c.tc : Thread Cert.SampleIdeal.nD Cert.SampleIdeal.τ).loc Cert.SampleIdeal.main_v6_0)) (v1 : (c : Dev Cert.SampleIdeal.nD) → Buf (Elt Ideal) ((c.tc : Thread Cert.SampleIdeal.nD Cert.SampleIdeal.τ).loc Cert.SampleIdeal.main_v6_1)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v6_0) = v0 c
          ∧ r.2.mem ((c.tc : Thread Cert.SampleIdeal.nD Cert.SampleIdeal.τ).loc Cert.SampleIdeal.main_v6_1) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v147) = v0 c
          ∧ r.2.mem ((c.tc : Thread Cert.SampleRefIdeal.nD Cert.SampleRefIdeal.τ).loc Cert.SampleRefIdeal.main_v148) = v1 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6))

def preserves_Matrix_MatrixIdeal : Prop :=
  True

def algebraic_MatrixIdeal_MatrixRefIdeal [hMatrixIdeal : Cert.MatrixIdeal.Facts] [hMatrixRefIdeal : Cert.MatrixRefIdeal.Facts] : Prop :=
  ∀ (m : (ℓ : Loc Cert.MatrixIdeal.nD Cert.MatrixIdeal.τ Cert.MatrixIdeal.sig) → Buf (Elt Ideal) ℓ) (g : Dev Cert.MatrixIdeal.nD → PrngReg)
    (m' : (ℓ : Loc Cert.MatrixRefIdeal.nD Cert.MatrixRefIdeal.τ Cert.MatrixRefIdeal.sig) → Buf (Elt Ideal) ℓ) (g' : Dev Cert.MatrixRefIdeal.nD → PrngReg), Pre_MatrixIdeal m →
    (∀ c : Dev Cert.MatrixIdeal.nD,
      m' ((c.tc : Thread Cert.MatrixRefIdeal.nD Cert.MatrixRefIdeal.τ).loc Cert.MatrixRefIdeal.main_arg0) = m ((c.tc : Thread Cert.MatrixIdeal.nD Cert.MatrixIdeal.τ).loc Cert.MatrixIdeal.main_arg0)
      ∧ m' ((c.tc : Thread Cert.MatrixRefIdeal.nD Cert.MatrixRefIdeal.τ).loc Cert.MatrixRefIdeal.main_arg1) = m ((c.tc : Thread Cert.MatrixIdeal.nD Cert.MatrixIdeal.τ).loc Cert.MatrixIdeal.main_arg1)
      ∧ m' ((c.tc : Thread Cert.MatrixRefIdeal.nD Cert.MatrixRefIdeal.τ).loc Cert.MatrixRefIdeal.main_arg2) = m ((c.tc : Thread Cert.MatrixIdeal.nD Cert.MatrixIdeal.τ).loc Cert.MatrixIdeal.main_arg2)
      ∧ m' ((c.tc : Thread Cert.MatrixRefIdeal.nD Cert.MatrixRefIdeal.τ).loc Cert.MatrixRefIdeal.main_arg3) = m ((c.tc : Thread Cert.MatrixIdeal.nD Cert.MatrixIdeal.τ).loc Cert.MatrixIdeal.main_arg3)
      ∧ m' ((c.tc : Thread Cert.MatrixRefIdeal.nD Cert.MatrixRefIdeal.τ).loc Cert.MatrixRefIdeal.main_arg4) = m ((c.tc : Thread Cert.MatrixIdeal.nD Cert.MatrixIdeal.τ).loc Cert.MatrixIdeal.main_arg4)
      ∧ m' ((c.tc : Thread Cert.MatrixRefIdeal.nD Cert.MatrixRefIdeal.τ).loc Cert.MatrixRefIdeal.main_arg5) = m ((c.tc : Thread Cert.MatrixIdeal.nD Cert.MatrixIdeal.τ).loc Cert.MatrixIdeal.main_arg5)
      ∧ m' ((c.tc : Thread Cert.MatrixRefIdeal.nD Cert.MatrixRefIdeal.τ).loc Cert.MatrixRefIdeal.main_arg6) = m ((c.tc : Thread Cert.MatrixIdeal.nD Cert.MatrixIdeal.τ).loc Cert.MatrixIdeal.main_arg6)
      ∧ m' ((c.tc : Thread Cert.MatrixRefIdeal.nD Cert.MatrixRefIdeal.τ).loc Cert.MatrixRefIdeal.main_arg7) = m ((c.tc : Thread Cert.MatrixIdeal.nD Cert.MatrixIdeal.τ).loc Cert.MatrixIdeal.main_arg7)
      ∧ m' ((c.tc : Thread Cert.MatrixRefIdeal.nD Cert.MatrixRefIdeal.τ).loc Cert.MatrixRefIdeal.main_arg8) = m ((c.tc : Thread Cert.MatrixIdeal.nD Cert.MatrixIdeal.τ).loc Cert.MatrixIdeal.main_arg8)
      ∧ m' ((c.tc : Thread Cert.MatrixRefIdeal.nD Cert.MatrixRefIdeal.τ).loc Cert.MatrixRefIdeal.main_arg9) = m ((c.tc : Thread Cert.MatrixIdeal.nD Cert.MatrixIdeal.τ).loc Cert.MatrixIdeal.main_arg9)) →
    ∃ (v0 : (c : Dev Cert.MatrixIdeal.nD) → Buf (Elt Ideal) ((c.tc : Thread Cert.MatrixIdeal.nD Cert.MatrixIdeal.τ).loc Cert.MatrixIdeal.main_v2_0)) (v1 : (c : Dev Cert.MatrixIdeal.nD) → Buf (Elt Ideal) ((c.tc : Thread Cert.MatrixIdeal.nD Cert.MatrixIdeal.τ).loc Cert.MatrixIdeal.main_v2_1)) (v2 : (c : Dev Cert.MatrixIdeal.nD) → Buf (Elt Ideal) ((c.tc : Thread Cert.MatrixIdeal.nD Cert.MatrixIdeal.τ).loc Cert.MatrixIdeal.main_v2_2)) (v3 : (c : Dev Cert.MatrixIdeal.nD) → Buf (Elt Ideal) ((c.tc : Thread Cert.MatrixIdeal.nD Cert.MatrixIdeal.τ).loc Cert.MatrixIdeal.main_v2_3)),
      θ_run (Cert.MatrixIdeal.defs (F := Ideal)) (onTc (τ := Cert.MatrixIdeal.τ) (Cert.MatrixIdeal.main (F := Ideal))) ⟨m, fun _ => 0, g⟩ (fun r => ∀ c : Dev Cert.MatrixIdeal.nD,
          r.2.mem ((c.tc : Thread Cert.MatrixIdeal.nD Cert.MatrixIdeal.τ).loc Cert.MatrixIdeal.main_v2_0) = v0 c
          ∧ r.2.mem ((c.tc : Thread Cert.MatrixIdeal.nD Cert.MatrixIdeal.τ).loc Cert.MatrixIdeal.main_v2_1) = v1 c
          ∧ r.2.mem ((c.tc : Thread Cert.MatrixIdeal.nD Cert.MatrixIdeal.τ).loc Cert.MatrixIdeal.main_v2_2) = v2 c
          ∧ r.2.mem ((c.tc : Thread Cert.MatrixIdeal.nD Cert.MatrixIdeal.τ).loc Cert.MatrixIdeal.main_v2_3) = v3 c
          ∧ r.2.mem ((c.tc : Thread Cert.MatrixIdeal.nD Cert.MatrixIdeal.τ).loc Cert.MatrixIdeal.main_arg0) = m ((c.tc : Thread Cert.MatrixIdeal.nD Cert.MatrixIdeal.τ).loc Cert.MatrixIdeal.main_arg0)
          ∧ r.2.mem ((c.tc : Thread Cert.MatrixIdeal.nD Cert.MatrixIdeal.τ).loc Cert.MatrixIdeal.main_arg1) = m ((c.tc : Thread Cert.MatrixIdeal.nD Cert.MatrixIdeal.τ).loc Cert.MatrixIdeal.main_arg1)
          ∧ r.2.mem ((c.tc : Thread Cert.MatrixIdeal.nD Cert.MatrixIdeal.τ).loc Cert.MatrixIdeal.main_arg2) = m ((c.tc : Thread Cert.MatrixIdeal.nD Cert.MatrixIdeal.τ).loc Cert.MatrixIdeal.main_arg2)
          ∧ r.2.mem ((c.tc : Thread Cert.MatrixIdeal.nD Cert.MatrixIdeal.τ).loc Cert.MatrixIdeal.main_arg3) = m ((c.tc : Thread Cert.MatrixIdeal.nD Cert.MatrixIdeal.τ).loc Cert.MatrixIdeal.main_arg3)
          ∧ r.2.mem ((c.tc : Thread Cert.MatrixIdeal.nD Cert.MatrixIdeal.τ).loc Cert.MatrixIdeal.main_arg4) = m ((c.tc : Thread Cert.MatrixIdeal.nD Cert.MatrixIdeal.τ).loc Cert.MatrixIdeal.main_arg4)
          ∧ r.2.mem ((c.tc : Thread Cert.MatrixIdeal.nD Cert.MatrixIdeal.τ).loc Cert.MatrixIdeal.main_arg5) = m ((c.tc : Thread Cert.MatrixIdeal.nD Cert.MatrixIdeal.τ).loc Cert.MatrixIdeal.main_arg5)
          ∧ r.2.mem ((c.tc : Thread Cert.MatrixIdeal.nD Cert.MatrixIdeal.τ).loc Cert.MatrixIdeal.main_arg6) = m ((c.tc : Thread Cert.MatrixIdeal.nD Cert.MatrixIdeal.τ).loc Cert.MatrixIdeal.main_arg6)
          ∧ r.2.mem ((c.tc : Thread Cert.MatrixIdeal.nD Cert.MatrixIdeal.τ).loc Cert.MatrixIdeal.main_arg7) = m ((c.tc : Thread Cert.MatrixIdeal.nD Cert.MatrixIdeal.τ).loc Cert.MatrixIdeal.main_arg7)
          ∧ r.2.mem ((c.tc : Thread Cert.MatrixIdeal.nD Cert.MatrixIdeal.τ).loc Cert.MatrixIdeal.main_arg8) = m ((c.tc : Thread Cert.MatrixIdeal.nD Cert.MatrixIdeal.τ).loc Cert.MatrixIdeal.main_arg8)
          ∧ r.2.mem ((c.tc : Thread Cert.MatrixIdeal.nD Cert.MatrixIdeal.τ).loc Cert.MatrixIdeal.main_arg9) = m ((c.tc : Thread Cert.MatrixIdeal.nD Cert.MatrixIdeal.τ).loc Cert.MatrixIdeal.main_arg9))
      ∧ θ_run (Cert.MatrixRefIdeal.defs (F := Ideal)) (onTc (τ := Cert.MatrixRefIdeal.τ) (Cert.MatrixRefIdeal.main (F := Ideal))) ⟨m', fun _ => 0, g'⟩ (fun r => ∀ c : Dev Cert.MatrixRefIdeal.nD,
          r.2.mem ((c.tc : Thread Cert.MatrixRefIdeal.nD Cert.MatrixRefIdeal.τ).loc Cert.MatrixRefIdeal.main_v87) = v0 c
          ∧ r.2.mem ((c.tc : Thread Cert.MatrixRefIdeal.nD Cert.MatrixRefIdeal.τ).loc Cert.MatrixRefIdeal.main_v51) = v1 c
          ∧ r.2.mem ((c.tc : Thread Cert.MatrixRefIdeal.nD Cert.MatrixRefIdeal.τ).loc Cert.MatrixRefIdeal.main_v58) = v2 c
          ∧ r.2.mem ((c.tc : Thread Cert.MatrixRefIdeal.nD Cert.MatrixRefIdeal.τ).loc Cert.MatrixRefIdeal.main_v88) = v3 c
          ∧ r.2.mem ((c.tc : Thread Cert.MatrixRefIdeal.nD Cert.MatrixRefIdeal.τ).loc Cert.MatrixRefIdeal.main_arg0) = m' ((c.tc : Thread Cert.MatrixRefIdeal.nD Cert.MatrixRefIdeal.τ).loc Cert.MatrixRefIdeal.main_arg0)
          ∧ r.2.mem ((c.tc : Thread Cert.MatrixRefIdeal.nD Cert.MatrixRefIdeal.τ).loc Cert.MatrixRefIdeal.main_arg1) = m' ((c.tc : Thread Cert.MatrixRefIdeal.nD Cert.MatrixRefIdeal.τ).loc Cert.MatrixRefIdeal.main_arg1)
          ∧ r.2.mem ((c.tc : Thread Cert.MatrixRefIdeal.nD Cert.MatrixRefIdeal.τ).loc Cert.MatrixRefIdeal.main_arg2) = m' ((c.tc : Thread Cert.MatrixRefIdeal.nD Cert.MatrixRefIdeal.τ).loc Cert.MatrixRefIdeal.main_arg2)
          ∧ r.2.mem ((c.tc : Thread Cert.MatrixRefIdeal.nD Cert.MatrixRefIdeal.τ).loc Cert.MatrixRefIdeal.main_arg3) = m' ((c.tc : Thread Cert.MatrixRefIdeal.nD Cert.MatrixRefIdeal.τ).loc Cert.MatrixRefIdeal.main_arg3)
          ∧ r.2.mem ((c.tc : Thread Cert.MatrixRefIdeal.nD Cert.MatrixRefIdeal.τ).loc Cert.MatrixRefIdeal.main_arg4) = m' ((c.tc : Thread Cert.MatrixRefIdeal.nD Cert.MatrixRefIdeal.τ).loc Cert.MatrixRefIdeal.main_arg4)
          ∧ r.2.mem ((c.tc : Thread Cert.MatrixRefIdeal.nD Cert.MatrixRefIdeal.τ).loc Cert.MatrixRefIdeal.main_arg5) = m' ((c.tc : Thread Cert.MatrixRefIdeal.nD Cert.MatrixRefIdeal.τ).loc Cert.MatrixRefIdeal.main_arg5)
          ∧ r.2.mem ((c.tc : Thread Cert.MatrixRefIdeal.nD Cert.MatrixRefIdeal.τ).loc Cert.MatrixRefIdeal.main_arg6) = m' ((c.tc : Thread Cert.MatrixRefIdeal.nD Cert.MatrixRefIdeal.τ).loc Cert.MatrixRefIdeal.main_arg6)
          ∧ r.2.mem ((c.tc : Thread Cert.MatrixRefIdeal.nD Cert.MatrixRefIdeal.τ).loc Cert.MatrixRefIdeal.main_arg7) = m' ((c.tc : Thread Cert.MatrixRefIdeal.nD Cert.MatrixRefIdeal.τ).loc Cert.MatrixRefIdeal.main_arg7)
          ∧ r.2.mem ((c.tc : Thread Cert.MatrixRefIdeal.nD Cert.MatrixRefIdeal.τ).loc Cert.MatrixRefIdeal.main_arg8) = m' ((c.tc : Thread Cert.MatrixRefIdeal.nD Cert.MatrixRefIdeal.τ).loc Cert.MatrixRefIdeal.main_arg8)
          ∧ r.2.mem ((c.tc : Thread Cert.MatrixRefIdeal.nD Cert.MatrixRefIdeal.τ).loc Cert.MatrixRefIdeal.main_arg9) = m' ((c.tc : Thread Cert.MatrixRefIdeal.nD Cert.MatrixRefIdeal.τ).loc Cert.MatrixRefIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMemory : Cert.Memory.Facts) (hMemoryIdeal : Cert.MemoryIdeal.Facts) (hMemoryRefIdeal : Cert.MemoryRefIdeal.Facts) (hEvenPrompt : Cert.EvenPrompt.Facts) (hEvenPromptIdeal : Cert.EvenPromptIdeal.Facts) (hEvenPromptRefIdeal : Cert.EvenPromptRefIdeal.Facts) (hEvenSample : Cert.EvenSample.Facts) (hEvenSampleIdeal : Cert.EvenSampleIdeal.Facts) (hEvenSampleRefIdeal : Cert.EvenSampleRefIdeal.Facts) (hOddPrompt : Cert.OddPrompt.Facts) (hOddPromptIdeal : Cert.OddPromptIdeal.Facts) (hOddPromptRefIdeal : Cert.OddPromptRefIdeal.Facts) (hQuery : Cert.Query.Facts) (hQueryIdeal : Cert.QueryIdeal.Facts) (hQueryRefIdeal : Cert.QueryRefIdeal.Facts) (hMix : Cert.Mix.Facts) (hMixIdeal : Cert.MixIdeal.Facts) (hMixRefIdeal : Cert.MixRefIdeal.Facts) (hMixPair : Cert.MixPair.Facts) (hMixPairIdeal : Cert.MixPairIdeal.Facts) (hMixPairRefIdeal : Cert.MixPairRefIdeal.Facts) (hAttention : Cert.Attention.Facts) (hAttentionIdeal : Cert.AttentionIdeal.Facts) (hAttentionRefIdeal : Cert.AttentionRefIdeal.Facts) (hRecurrence : Cert.Recurrence.Facts) (hRecurrenceIdeal : Cert.RecurrenceIdeal.Facts) (hRecurrenceRefIdeal : Cert.RecurrenceRefIdeal.Facts) (hSample : Cert.Sample.Facts) (hSampleIdeal : Cert.SampleIdeal.Facts) (hSampleRefIdeal : Cert.SampleRefIdeal.Facts) (hMatrix : Cert.Matrix.Facts) (hMatrixIdeal : Cert.MatrixIdeal.Facts) (hMatrixRefIdeal : Cert.MatrixRefIdeal.Facts) (hPre_gates_nonneg : Cert.Pre_gates_nonneg.Facts) (hPre_sample_gates_nonneg : Cert.Pre_sample_gates_nonneg.Facts),
    quiescent_Kernel (hKernel := hKernel)
    ∧ quiescent_KernelIdeal (hKernelIdeal := hKernelIdeal)
    ∧ quiescent_KernelIdeal_pre_gates_nonneg (hKernelIdeal := hKernelIdeal) (hPre_gates_nonneg := hPre_gates_nonneg)
    ∧ quiescent_ReferenceIdeal (hReferenceIdeal := hReferenceIdeal)
    ∧ quiescent_ReferenceIdeal_pre_gates_nonneg (hReferenceIdeal := hReferenceIdeal) (hPre_gates_nonneg := hPre_gates_nonneg)
    ∧ quiescent_Ffn (hFfn := hFfn)
    ∧ quiescent_FfnIdeal (hFfnIdeal := hFfnIdeal)
    ∧ quiescent_FfnRefIdeal (hFfnRefIdeal := hFfnRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_EvenPrompt (hEvenPrompt := hEvenPrompt)
    ∧ quiescent_EvenPromptIdeal (hEvenPromptIdeal := hEvenPromptIdeal)
    ∧ quiescent_EvenPromptRefIdeal (hEvenPromptRefIdeal := hEvenPromptRefIdeal)
    ∧ quiescent_EvenSample (hEvenSample := hEvenSample)
    ∧ quiescent_EvenSampleIdeal (hEvenSampleIdeal := hEvenSampleIdeal)
    ∧ quiescent_EvenSampleRefIdeal (hEvenSampleRefIdeal := hEvenSampleRefIdeal)
    ∧ quiescent_OddPrompt (hOddPrompt := hOddPrompt)
    ∧ quiescent_OddPromptIdeal (hOddPromptIdeal := hOddPromptIdeal)
    ∧ quiescent_OddPromptRefIdeal (hOddPromptRefIdeal := hOddPromptRefIdeal)
    ∧ quiescent_Query (hQuery := hQuery)
    ∧ quiescent_QueryIdeal (hQueryIdeal := hQueryIdeal)
    ∧ quiescent_QueryRefIdeal (hQueryRefIdeal := hQueryRefIdeal)
    ∧ quiescent_Mix (hMix := hMix)
    ∧ quiescent_MixIdeal (hMixIdeal := hMixIdeal)
    ∧ quiescent_MixRefIdeal (hMixRefIdeal := hMixRefIdeal)
    ∧ quiescent_MixPair (hMixPair := hMixPair)
    ∧ quiescent_MixPairIdeal (hMixPairIdeal := hMixPairIdeal)
    ∧ quiescent_MixPairRefIdeal (hMixPairRefIdeal := hMixPairRefIdeal)
    ∧ quiescent_Attention (hAttention := hAttention)
    ∧ quiescent_AttentionIdeal (hAttentionIdeal := hAttentionIdeal)
    ∧ quiescent_AttentionRefIdeal (hAttentionRefIdeal := hAttentionRefIdeal)
    ∧ quiescent_Recurrence (hRecurrence := hRecurrence)
    ∧ quiescent_RecurrenceIdeal (hRecurrenceIdeal := hRecurrenceIdeal)
    ∧ quiescent_RecurrenceRefIdeal (hRecurrenceRefIdeal := hRecurrenceRefIdeal)
    ∧ quiescent_Sample (hSample := hSample)
    ∧ quiescent_SampleIdeal (hSampleIdeal := hSampleIdeal)
    ∧ quiescent_SampleIdeal_pre_sample_gates_nonneg (hSampleIdeal := hSampleIdeal) (hPre_sample_gates_nonneg := hPre_sample_gates_nonneg)
    ∧ quiescent_SampleRefIdeal (hSampleRefIdeal := hSampleRefIdeal)
    ∧ quiescent_SampleRefIdeal_pre_sample_gates_nonneg (hSampleRefIdeal := hSampleRefIdeal) (hPre_sample_gates_nonneg := hPre_sample_gates_nonneg)
    ∧ quiescent_Matrix (hMatrix := hMatrix)
    ∧ quiescent_MatrixIdeal (hMatrixIdeal := hMatrixIdeal)
    ∧ quiescent_MatrixRefIdeal (hMatrixRefIdeal := hMatrixRefIdeal)
    ∧ preserves_Kernel_KernelIdeal
    ∧ algebraic_KernelIdeal_ReferenceIdeal_pre_gates_nonneg (hKernelIdeal := hKernelIdeal) (hReferenceIdeal := hReferenceIdeal) (hPre_gates_nonneg := hPre_gates_nonneg)
    ∧ preserves_Ffn_FfnIdeal
    ∧ algebraic_FfnIdeal_FfnRefIdeal (hFfnIdeal := hFfnIdeal) (hFfnRefIdeal := hFfnRefIdeal)
    ∧ preserves_Memory_MemoryIdeal
    ∧ algebraic_MemoryIdeal_MemoryRefIdeal (hMemoryIdeal := hMemoryIdeal) (hMemoryRefIdeal := hMemoryRefIdeal)
    ∧ preserves_EvenPrompt_EvenPromptIdeal
    ∧ algebraic_EvenPromptIdeal_EvenPromptRefIdeal (hEvenPromptIdeal := hEvenPromptIdeal) (hEvenPromptRefIdeal := hEvenPromptRefIdeal)
    ∧ preserves_EvenSample_EvenSampleIdeal
    ∧ algebraic_EvenSampleIdeal_EvenSampleRefIdeal (hEvenSampleIdeal := hEvenSampleIdeal) (hEvenSampleRefIdeal := hEvenSampleRefIdeal)
    ∧ preserves_OddPrompt_OddPromptIdeal
    ∧ algebraic_OddPromptIdeal_OddPromptRefIdeal (hOddPromptIdeal := hOddPromptIdeal) (hOddPromptRefIdeal := hOddPromptRefIdeal)
    ∧ preserves_Query_QueryIdeal
    ∧ algebraic_QueryIdeal_QueryRefIdeal (hQueryIdeal := hQueryIdeal) (hQueryRefIdeal := hQueryRefIdeal)
    ∧ preserves_Mix_MixIdeal
    ∧ algebraic_MixIdeal_MixRefIdeal (hMixIdeal := hMixIdeal) (hMixRefIdeal := hMixRefIdeal)
    ∧ preserves_MixPair_MixPairIdeal
    ∧ algebraic_MixPairIdeal_MixPairRefIdeal (hMixPairIdeal := hMixPairIdeal) (hMixPairRefIdeal := hMixPairRefIdeal)
    ∧ preserves_Attention_AttentionIdeal
    ∧ algebraic_AttentionIdeal_AttentionRefIdeal (hAttentionIdeal := hAttentionIdeal) (hAttentionRefIdeal := hAttentionRefIdeal)
    ∧ preserves_Recurrence_RecurrenceIdeal
    ∧ algebraic_RecurrenceIdeal_RecurrenceRefIdeal (hRecurrenceIdeal := hRecurrenceIdeal) (hRecurrenceRefIdeal := hRecurrenceRefIdeal)
    ∧ preserves_Sample_SampleIdeal
    ∧ algebraic_SampleIdeal_SampleRefIdeal_pre_sample_gates_nonneg (hSampleIdeal := hSampleIdeal) (hSampleRefIdeal := hSampleRefIdeal) (hPre_sample_gates_nonneg := hPre_sample_gates_nonneg)
    ∧ preserves_Matrix_MatrixIdeal
    ∧ algebraic_MatrixIdeal_MatrixRefIdeal (hMatrixIdeal := hMatrixIdeal) (hMatrixRefIdeal := hMatrixRefIdeal)
-- ==== Pre_gates_nonneg.lean ====
abbrev S16384x1024 : Shape := ⟨2, ![16384, 1024]⟩
abbrev S16384x128 : Shape := ⟨2, ![16384, 128]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x1024 .f32) (main_arg1 : FVec F S16384x128 .f32) (main_arg2 : FVec F S8x1024x3584 .f32) (main_arg3 : FVec F S8x1024x3584 .f32) (main_arg4 : FVec F S8x3584x1024 .f32) (main_arg5 : FVec F S1024 .f32) (main_arg6 : FVec F S1024 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg1 main_v0
  let main_cst_0 : FVec F S_ .f32 := constant S_ .f32 0x7F800000#32
  let main_v2 : FVec F S16384x128 .f32 := broadcastInDim S16384x128 ![] bcast_S_S16384x128 main_cst_0
  let main_v3 : IVec S16384x128 1 := cmpf .olt main_arg1 main_v2
  let main_v4 : IVec S16384x128 1 := andi main_v1 main_v3
  main_v4
-- ==== Pre_sample_gates_nonneg.lean ====
abbrev S128x1024 : Shape := ⟨2, ![128, 1024]⟩
abbrev S128x128 : Shape := ⟨2, ![128, 128]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩

class Facts : Prop where
  bcast_S_S128x128 : S_.BroadcastsInDim S128x128 (![] : Fin 0 → Fin S128x128.rank)

variable [Facts]

def fn {F : FTy → Type} [FloatOps F] (main_arg0 : FVec F S128x1024 .f32) (main_arg1 : FVec F S128x128 .f32) (main_arg2 : FVec F S8x1024x3584 .f32) (main_arg3 : FVec F S8x1024x3584 .f32) (main_arg4 : FVec F S8x3584x1024 .f32) (main_arg5 : FVec F S1024 .f32) (main_arg6 : FVec F S1024 .f32) : IVec S128x128 1 :=
  let main_cst : FVec F S_ .f32 := constant S_ .f32 0x00000000#32
  let main_v0 : FVec F S128x128 .f32 := broadcastInDim S128x128 ![] bcast_S_S128x128 main_cst
  let main_v1 : IVec S128x128 1 := cmpf .oge main_arg1 main_v0
  let main_cst_0 : FVec F S_ .f32 := constant S_ .f32 0x7F800000#32
  let main_v2 : FVec F S128x128 .f32 := broadcastInDim S128x128 ![] bcast_S_S128x128 main_cst_0
  let main_v3 : IVec S128x128 1 := cmpf .olt main_arg1 main_v2
  let main_v4 : IVec S128x128 1 := andi main_v1 main_v3
  main_v4
-- ==== Kernel.lean ====
abbrev S16384x1024 : Shape := ⟨2, ![16384, 1024]⟩
abbrev S16384x128 : Shape := ⟨2, ![16384, 128]⟩
abbrev S8x1024x3584 : Shape := ⟨3, ![8, 1024, 3584]⟩
abbrev S8x3584x1024 : Shape := ⟨3, ![8, 3584, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1024x512 : Shape := ⟨3, ![1, 1024, 512]⟩
abbrev S1x512x1024 : Shape := ⟨3, ![1, 512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S1024, .f32⟩
  | .hbm, ⟨6, _⟩ => ⟨S1024, .f32⟩
  | .hbm, ⟨7, _⟩ => ⟨S16384x1024, .bf16⟩
  | .hbm, ⟨8, _⟩ => ⟨S8x1024x3584, .bf16⟩
  | .hbm, ⟨9, _⟩ => ⟨S8x1024x3584, .bf16⟩
  | .hbm, ⟨10, _⟩ => ⟨S8x3584x1024, .bf16⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![32, 8, 7], ![false, false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let arg2 : BitVec 32 := BitVec.ofNat 32 (i 2).val
  let c6_i32 : BitVec 32 := 6#32
  let v36 : BitVec 1 := Scalar.cmpi .eq arg2 c6_i32
  let v37 : BitVec 1 := Scalar.andi v35 v36
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
abbrev S16384x1024 : Shape := ⟨2, ![16384, 1024]⟩
abbrev S16384x128 : Shape := ⟨2, ![16384, 128]⟩
abbrev S8x1024x3584 : Shape := ⟨3, ![8, 1024, 3584]⟩
abbrev S8x3584x1024 : Shape := ⟨3, ![8, 3584, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1024x512 : Shape := ⟨3, ![1, 1024, 512]⟩
abbrev S1x512x1024 : Shape := ⟨3, ![1, 512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S1024, .f32⟩
  | .hbm, ⟨6, _⟩ => ⟨S1024, .f32⟩
  | .hbm, ⟨7, _⟩ => ⟨S16384x1024, .bf16⟩
  | .hbm, ⟨8, _⟩ => ⟨S8x1024x3584, .bf16⟩
  | .hbm, ⟨9, _⟩ => ⟨S8x1024x3584, .bf16⟩
  | .hbm, ⟨10, _⟩ => ⟨S8x3584x1024, .bf16⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![32, 8, 7], ![false, false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let arg2 : BitVec 32 := BitVec.ofNat 32 (i 2).val
  let c6_i32 : BitVec 32 := 6#32
  let v36 : BitVec 1 := Scalar.cmpi .eq arg2 c6_i32
  let v37 : BitVec 1 := Scalar.andi v35 v36
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S16384x1024 : Shape := ⟨2, ![16384, 1024]⟩
abbrev S16384x128 : Shape := ⟨2, ![16384, 128]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩
abbrev S1x1024x3584 : Shape := ⟨3, ![1, 1024, 3584]⟩
abbrev S1024x3584 : Shape := ⟨2, ![1024, 3584]⟩
abbrev S16384x3584 : Shape := ⟨2, ![16384, 3584]⟩
abbrev S16384x1 : Shape := ⟨2, ![16384, 1]⟩
abbrev S1x3584x1024 : Shape := ⟨3, ![1, 3584, 1024]⟩
abbrev S3584x1024 : Shape := ⟨2, ![3584, 1024]⟩
abbrev S16384 : Shape := ⟨1, ![16384]⟩
abbrev S1x1024 : Shape := ⟨2, ![1, 1024]⟩

abbrev nBuf : Space → Nat
  | .hbm => 227
  | .vmem => 0
  | .smem => 0
  | _ => 0

abbrev hbmTy0_0 (i : Nat) : BufTy := match i % 128 with
  | 0 => ⟨S16384x1024, .f32⟩
  | 1 => ⟨S16384x128, .f32⟩
  | 2 => ⟨S8x1024x3584, .f32⟩
  | 3 => ⟨S8x1024x3584, .f32⟩
  | 4 => ⟨S8x3584x1024, .f32⟩
  | 5 => ⟨S1024, .f32⟩
  | 6 => ⟨S1024, .f32⟩
  | 7 => ⟨S_, .f32⟩
  | 8 => ⟨S16384x1024, .f32⟩
  | 9 => ⟨S1x1024x3584, .f32⟩
  | 10 => ⟨S1024x3584, .f32⟩
  | 11 => ⟨S16384x3584, .f32⟩
  | 12 => ⟨S16384x3584, .f32⟩
  | 13 => ⟨S16384x3584, .f32⟩
  | 14 => ⟨S_, .f32⟩
  | 15 => ⟨S16384x3584, .f32⟩
  | 16 => ⟨S16384x3584, .f32⟩
  | 17 => ⟨S_, .f32⟩
  | 18 => ⟨S16384x3584, .f32⟩
  | 19 => ⟨S16384x3584, .f32⟩
  | 20 => ⟨S16384x3584, .f32⟩
  | 21 => ⟨S1x1024x3584, .f32⟩
  | 22 => ⟨S1024x3584, .f32⟩
  | 23 => ⟨S16384x3584, .f32⟩
  | 24 => ⟨S16384x3584, .f32⟩
  | 25 => ⟨S16384x1, .f32⟩
  | 26 => ⟨S1x3584x1024, .f32⟩
  | 27 => ⟨S3584x1024, .f32⟩
  | 28 => ⟨S16384x1024, .f32⟩
  | 29 => ⟨S16384x1024, .f32⟩
  | 30 => ⟨S16384x1024, .f32⟩
  | 31 => ⟨S16384x1024, .f32⟩
  | 32 => ⟨S1x1024x3584, .f32⟩
  | 33 => ⟨S1024x3584, .f32⟩
  | 34 => ⟨S16384x3584, .f32⟩
  | 35 => ⟨S16384x3584, .f32⟩
  | 36 => ⟨S16384x3584, .f32⟩
  | 37 => ⟨S_, .f32⟩
  | 38 => ⟨S16384x3584, .f32⟩
  | 39 => ⟨S16384x3584, .f32⟩
  | 40 => ⟨S_, .f32⟩
  | 41 => ⟨S16384x3584, .f32⟩
  | 42 => ⟨S16384x3584, .f32⟩
  | 43 => ⟨S16384x3584, .f32⟩
  | 44 => ⟨S1x1024x3584, .f32⟩
  | 45 => ⟨S1024x3584, .f32⟩
  | 46 => ⟨S16384x3584, .f32⟩
  | 47 => ⟨S16384x3584, .f32⟩
  | 48 => ⟨S16384x1, .f32⟩
  | 49 => ⟨S1x3584x1024, .f32⟩
  | 50 => ⟨S3584x1024, .f32⟩
  | 51 => ⟨S16384x1024, .f32⟩
  | 52 => ⟨S16384x1024, .f32⟩
  | 53 => ⟨S16384x1024, .f32⟩
  | 54 => ⟨S16384x1024, .f32⟩
  | 55 => ⟨S1x1024x3584, .f32⟩
  | 56 => ⟨S1024x3584, .f32⟩
  | 57 => ⟨S16384x3584, .f32⟩
  | 58 => ⟨S16384x3584, .f32⟩
  | 59 => ⟨S16384x3584, .f32⟩
  | 60 => ⟨S_, .f32⟩
  | 61 => ⟨S16384x3584, .f32⟩
  | 62 => ⟨S16384x3584, .f32⟩
  | 63 => ⟨S_, .f32⟩
  | 64 => ⟨S16384x3584, .f32⟩
  | 65 => ⟨S16384x3584, .f32⟩
  | 66 => ⟨S16384x3584, .f32⟩
  | 67 => ⟨S1x1024x3584, .f32⟩
  | 68 => ⟨S1024x3584, .f32⟩
  | 69 => ⟨S16384x3584, .f32⟩
  | 70 => ⟨S16384x3584, .f32⟩
  | 71 => ⟨S16384x1, .f32⟩
  | 72 => ⟨S1x3584x1024, .f32⟩
  | 73 => ⟨S3584x1024, .f32⟩
  | 74 => ⟨S16384x1024, .f32⟩
  | 75 => ⟨S16384x1024, .f32⟩
  | 76 => ⟨S16384x1024, .f32⟩
  | 77 => ⟨S16384x1024, .f32⟩
  | 78 => ⟨S1x1024x3584, .f32⟩
  | 79 => ⟨S1024x3584, .f32⟩
  | 80 => ⟨S16384x3584, .f32⟩
  | 81 => ⟨S16384x3584, .f32⟩
  | 82 => ⟨S16384x3584, .f32⟩
  | 83 => ⟨S_, .f32⟩
  | 84 => ⟨S16384x3584, .f32⟩
  | 85 => ⟨S16384x3584, .f32⟩
  | 86 => ⟨S_, .f32⟩
  | 87 => ⟨S16384x3584, .f32⟩
  | 88 => ⟨S16384x3584, .f32⟩
  | 89 => ⟨S16384x3584, .f32⟩
  | 90 => ⟨S1x1024x3584, .f32⟩
  | 91 => ⟨S1024x3584, .f32⟩
  | 92 => ⟨S16384x3584, .f32⟩
  | 93 => ⟨S16384x3584, .f32⟩
  | 94 => ⟨S16384x1, .f32⟩
  | 95 => ⟨S1x3584x1024, .f32⟩
  | 96 => ⟨S3584x1024, .f32⟩
  | 97 => ⟨S16384x1024, .f32⟩
  | 98 => ⟨S16384x1024, .f32⟩
  | 99 => ⟨S16384x1024, .f32⟩
  | 100 => ⟨S16384x1024, .f32⟩
  | 101 => ⟨S1x1024x3584, .f32⟩
  | 102 => ⟨S1024x3584, .f32⟩
  | 103 => ⟨S16384x3584, .f32⟩
  | 104 => ⟨S16384x3584, .f32⟩
  | 105 => ⟨S16384x3584, .f32⟩
  | 106 => ⟨S_, .f32⟩
  | 107 => ⟨S16384x3584, .f32⟩
  | 108 => ⟨S16384x3584, .f32⟩
  | 109 => ⟨S_, .f32⟩
  | 110 => ⟨S16384x3584, .f32⟩
  | 111 => ⟨S16384x3584, .f32⟩
  | 112 => ⟨S16384x3584, .f32⟩
  | 113 => ⟨S1x1024x3584, .f32⟩
  | 114 => ⟨S1024x3584, .f32⟩
  | 115 => ⟨S16384x3584, .f32⟩
  | 116 => ⟨S16384x3584, .f32⟩
  | 117 => ⟨S16384x1, .f32⟩
  | 118 => ⟨S1x3584x1024, .f32⟩
  | 119 => ⟨S3584x1024, .f32⟩
  | 120 => ⟨S16384x1024, .f32⟩
  | 121 => ⟨S16384x1024, .f32⟩
  | 122 => ⟨S16384x1024, .f32⟩
  | 123 => ⟨S16384x1024, .f32⟩
  | 124 => ⟨S1x1024x3584, .f32⟩
  | 125 => ⟨S1024x3584, .f32⟩
  | 126 => ⟨S16384x3584, .f32⟩
  | 127 => ⟨S16384x3584, .f32⟩
  | _ => ⟨S16384x1024, .f32⟩

abbrev hbmTy0_1 (i : Nat) : BufTy := match i % 128 with
  | 0 => ⟨S16384x3584, .f32⟩
  | 1 => ⟨S_, .f32⟩
  | 2 => ⟨S16384x3584, .f32⟩
  | 3 => ⟨S16384x3584, .f32⟩
  | 4 => ⟨S_, .f32⟩
  | 5 => ⟨S16384x3584, .f32⟩
  | 6 => ⟨S16384x3584, .f32⟩
  | 7 => ⟨S16384x3584, .f32⟩
  | 8 => ⟨S1x1024x3584, .f32⟩
  | 9 => ⟨S1024x3584, .f32⟩
  | 10 => ⟨S16384x3584, .f32⟩
  | 11 => ⟨S16384x3584, .f32⟩
  | 12 => ⟨S16384x1, .f32⟩
  | 13 => ⟨S1x3584x1024, .f32⟩
  | 14 => ⟨S3584x1024, .f32⟩
  | 15 => ⟨S16384x1024, .f32⟩
  | 16 => ⟨S16384x1024, .f32⟩
  | 17 => ⟨S16384x1024, .f32⟩
  | 18 => ⟨S16384x1024, .f32⟩
  | 19 => ⟨S1x1024x3584, .f32⟩
  | 20 => ⟨S1024x3584, .f32⟩
  | 21 => ⟨S16384x3584, .f32⟩
  | 22 => ⟨S16384x3584, .f32⟩
  | 23 => ⟨S16384x3584, .f32⟩
  | 24 => ⟨S_, .f32⟩
  | 25 => ⟨S16384x3584, .f32⟩
  | 26 => ⟨S16384x3584, .f32⟩
  | 27 => ⟨S_, .f32⟩
  | 28 => ⟨S16384x3584, .f32⟩
  | 29 => ⟨S16384x3584, .f32⟩
  | 30 => ⟨S16384x3584, .f32⟩
  | 31 => ⟨S1x1024x3584, .f32⟩
  | 32 => ⟨S1024x3584, .f32⟩
  | 33 => ⟨S16384x3584, .f32⟩
  | 34 => ⟨S16384x3584, .f32⟩
  | 35 => ⟨S16384x1, .f32⟩
  | 36 => ⟨S1x3584x1024, .f32⟩
  | 37 => ⟨S3584x1024, .f32⟩
  | 38 => ⟨S16384x1024, .f32⟩
  | 39 => ⟨S16384x1024, .f32⟩
  | 40 => ⟨S16384x1024, .f32⟩
  | 41 => ⟨S16384x1024, .f32⟩
  | 42 => ⟨S1x1024x3584, .f32⟩
  | 43 => ⟨S1024x3584, .f32⟩
  | 44 => ⟨S16384x3584, .f32⟩
  | 45 => ⟨S16384x3584, .f32⟩
  | 46 => ⟨S16384x3584, .f32⟩
  | 47 => ⟨S_, .f32⟩
  | 48 => ⟨S16384x3584, .f32⟩
  | 49 => ⟨S16384x3584, .f32⟩
  | 50 => ⟨S_, .f32⟩
  | 51 => ⟨S16384x3584, .f32⟩
  | 52 => ⟨S16384x3584, .f32⟩
  | 53 => ⟨S16384x3584, .f32⟩
  | 54 => ⟨S1x1024x3584, .f32⟩
  | 55 => ⟨S1024x3584, .f32⟩
  | 56 => ⟨S16384x3584, .f32⟩
  | 57 => ⟨S16384x3584, .f32⟩
  | 58 => ⟨S16384x1, .f32⟩
  | 59 => ⟨S1x3584x1024, .f32⟩
  | 60 => ⟨S3584x1024, .f32⟩
  | 61 => ⟨S16384x1024, .f32⟩
  | 62 => ⟨S16384x1024, .f32⟩
  | 63 => ⟨S16384x1024, .f32⟩
  | 64 => ⟨S16384x1024, .f32⟩
  | 65 => ⟨S_, .f32⟩
  | 66 => ⟨S16384x1024, .f32⟩
  | 67 => ⟨S16384x1024, .f32⟩
  | 68 => ⟨S16384x1024, .f32⟩
  | 69 => ⟨S_, .f32⟩
  | 70 => ⟨S16384, .f32⟩
  | 71 => ⟨S16384x1, .f32⟩
  | 72 => ⟨S_, .f32⟩
  | 73 => ⟨S16384x1, .f32⟩
  | 74 => ⟨S16384x1, .f32⟩
  | 75 => ⟨S16384x1024, .f32⟩
  | 76 => ⟨S16384x1024, .f32⟩
  | 77 => ⟨S16384x1024, .f32⟩
  | 78 => ⟨S_, .f32⟩
  | 79 => ⟨S16384, .f32⟩
  | 80 => ⟨S16384x1, .f32⟩
  | 81 => ⟨S_, .f32⟩
  | 82 => ⟨S16384x1, .f32⟩
  | 83 => ⟨S16384x1, .f32⟩
  | 84 => ⟨S16384x1024, .f32⟩
  | 85 => ⟨S16384x1024, .f32⟩
  | 86 => ⟨S_, .f32⟩
  | 87 => ⟨S16384x1, .f32⟩
  | 88 => ⟨S16384x1, .f32⟩
  | 89 => ⟨S16384x1, .f32⟩
  | 90 => ⟨S16384x1024, .f32⟩
  | 91 => ⟨S16384x1024, .f32⟩
  | 92 => ⟨S1x1024, .f32⟩
  | 93 => ⟨S16384x1024, .f32⟩
  | 94 => ⟨S16384x1024, .f32⟩
  | 95 => ⟨S1x1024, .f32⟩
  | 96 => ⟨S16384x1024, .f32⟩
  | 97 => ⟨S16384x1024, .f32⟩
  | 98 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call5_v0 : Ref sig .tc := ⟨.hbm, 127, rfl⟩
abbrev main_call5_v1 : Ref sig .tc := ⟨.hbm, 128, rfl⟩
abbrev main_call5_cst : Ref sig .tc := ⟨.hbm, 129, rfl⟩
abbrev main_call5_v2 : Ref sig .tc := ⟨.hbm, 130, rfl⟩
abbrev main_call5_v3 : Ref sig .tc := ⟨.hbm, 131, rfl⟩
abbrev main_call5_cst_0 : Ref sig .tc := ⟨.hbm, 132, rfl⟩
abbrev main_call5_v4 : Ref sig .tc := ⟨.hbm, 133, rfl⟩
abbrev main_call5_v5 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_0 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_1 : Ref sig .tc := ⟨.hbm, 197, rfl⟩
abbrev main_v124 : Ref sig .tc := ⟨.hbm, 198, rfl⟩
abbrev main_v125 : Ref sig .tc := ⟨.hbm, 199, rfl⟩
abbrev main_cst_2 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_3 : Ref sig .tc := ⟨.hbm, 206, rfl⟩
abbrev main_v131 : Ref sig .tc := ⟨.hbm, 207, rfl⟩
abbrev main_v132 : Ref sig .tc := ⟨.hbm, 208, rfl⟩
abbrev main_cst_4 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_5 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩

abbrev nD : Nat := 1
abbrev τ : Topo := Topo.v7x

variable {F : FTy → Type} [FloatOps F]
-- ==== Ffn.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x1024, .bf16⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S16384x1024 : Shape := ⟨2, ![16384, 1024]⟩
abbrev S1024x2816 : Shape := ⟨2, ![1024, 2816]⟩
abbrev S2816x1024 : Shape := ⟨2, ![2816, 1024]⟩
abbrev S1024 : Shape := ⟨1, ![1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Memory.lean ====
abbrev S4x256x1024 : Shape := ⟨3, ![4, 256, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 25
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S2x1024x1024, .f32⟩
  | .hbm, ⟨2, _⟩ => ⟨S2x1024x1024, .f32⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S1x1024x1024, .f32⟩
  | .hbm, ⟨10, _⟩ => ⟨S1024x1024, .f32⟩
  | .hbm, ⟨11, _⟩ => ⟨S1024x1024, .bf16⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev main_v14_3 : Ref sig .tc := ⟨.hbm, 20, rfl⟩
abbrev main_v14_4 : Ref sig .tc := ⟨.hbm, 21, rfl⟩
abbrev main_v14_5 : Ref sig .tc := ⟨.hbm, 22, rfl⟩
abbrev main_v14_6 : Ref sig .tc := ⟨.hbm, 23, rfl⟩
abbrev main_v14_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MemoryRefIdeal.lean ====
abbrev S4x256x1024 : Shape := ⟨3, ![4, 256, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1x1024x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== EvenPrompt.lean ====
abbrev S4x4096x1024 : Shape := ⟨3, ![4, 4096, 1024]⟩
abbrev S1x1024x2884 : Shape := ⟨3, ![1, 1024, 2884]⟩
abbrev S16384x1024 : Shape := ⟨2, ![16384, 1024]⟩
abbrev S1024x2884 : Shape := ⟨2, ![1024, 2884]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x128 : Shape := ⟨2, ![1024, 128]⟩
abbrev S16384x512 : Shape := ⟨2, ![16384, 512]⟩
abbrev S16384x256 : Shape := ⟨2, ![16384, 256]⟩
abbrev S16384x64 : Shape := ⟨2, ![16384, 64]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S512x64 : Shape := ⟨2, ![512, 64]⟩
abbrev S512x128 : Shape := ⟨2, ![512, 128]⟩

abbrev nBuf : Space → Nat
  | .hbm => 35
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2884, .f32⟩
  | .hbm, ⟨2, _⟩ => ⟨S16384x1024, .f32⟩
  | .hbm, ⟨3, _⟩ => ⟨S16384x1024, .bf16⟩
  | .hbm, ⟨4, _⟩ => ⟨S1024x2884, .f32⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S1024x512, .bf16⟩
  | .hbm, ⟨9, _⟩ => ⟨S1024x512, .f32⟩
  | .hbm, ⟨10, _⟩ => ⟨S1024x512, .bf16⟩
  | .hbm, ⟨11, _⟩ => ⟨S1024x256, .f32⟩
  | .hbm, ⟨12, _⟩ => ⟨S1024x256, .bf16⟩
  | .hbm, ⟨13, _⟩ => ⟨S1024x64, .f32⟩
  | .hbm, ⟨14, _⟩ => ⟨S1024x64, .bf16⟩
  | .hbm, ⟨15, _⟩ => ⟨S1024x4, .f32⟩
  | .hbm, ⟨16, _⟩ => ⟨S1024x4, .bf16⟩
  | .hbm, ⟨17, _⟩ => ⟨S1024x512, .f32⟩
  | .hbm, ⟨18, _⟩ => ⟨S1024x512, .bf16⟩
  | .hbm, ⟨19, _⟩ => ⟨S1024x512, .f32⟩
  | .hbm, ⟨20, _⟩ => ⟨S1024x512, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S16384x512, .bf16⟩
  | .hbm, ⟨25, _⟩ => ⟨S16384x512, .f32⟩
  | .hbm, ⟨26, _⟩ => ⟨S16384x512, .bf16⟩
  | .hbm, ⟨27, _⟩ => ⟨S16384x512, .f32⟩
  | .hbm, ⟨28, _⟩ => ⟨S16384x512, .bf16⟩
  | .hbm, ⟨29, _⟩ => ⟨S16384x256, .bf16⟩
  | .hbm, ⟨30, _⟩ => ⟨S16384x64, .f32⟩
  | .hbm, ⟨31, _⟩ => ⟨S16384x64, .bf16⟩
  | .hbm, ⟨32, _⟩ => ⟨S16384x128, .f32⟩
  | .hbm, ⟨33, _⟩ => ⟨S16384x512, .f32⟩
  | .hbm, ⟨34, _⟩ => ⟨S16384x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x256, .bf16⟩
  | .local _ .vmem, ⟨6, _⟩ => ⟨S1024x64, .bf16⟩
  | .local _ .vmem, ⟨7, _⟩ => ⟨S1024x128, .bf16⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x256, .bf16⟩
  | .local _ .vmem, ⟨21, _⟩ => ⟨S512x256, .bf16⟩
  | .local _ .vmem, ⟨22, _⟩ => ⟨S512x64, .f32⟩
  | .local _ .vmem, ⟨23, _⟩ => ⟨S512x64, .f32⟩
  | .local _ .vmem, ⟨24, _⟩ => ⟨S512x64, .bf16⟩
  | .local _ .vmem, ⟨25, _⟩ => ⟨S512x64, .bf16⟩
  | .local _ .vmem, ⟨26, _⟩ => ⟨S512x128, .f32⟩
  | .local _ .vmem, ⟨27, _⟩ => ⟨S512x128, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_call0_v0 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev main_v20_3 : Ref sig .tc := ⟨.hbm, 27, rfl⟩
abbrev main_v20_4 : Ref sig .tc := ⟨.hbm, 28, rfl⟩
abbrev main_v20_5 : Ref sig .tc := ⟨.hbm, 29, rfl⟩
abbrev main_v20_6 : Ref sig .tc := ⟨.hbm, 30, rfl⟩
abbrev main_v20_7 : Ref sig .tc := ⟨.hbm, 31, rfl⟩
abbrev main_v20_8 : Ref sig .tc := ⟨.hbm, 32, rfl⟩
abbrev main_v20_9 : Ref sig .tc := ⟨.hbm, 33, rfl⟩
abbrev main_v20_10 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== EvenPromptRefIdeal.lean ====
abbrev S4x4096x1024 : Shape := ⟨3, ![4, 4096, 1024]⟩
abbrev S1x1024x2884 : Shape := ⟨3, ![1, 1024, 2884]⟩
abbrev S16384x1024 : Shape := ⟨2, ![16384, 1024]⟩
abbrev S1024x2884 : Shape := ⟨2, ![1024, 2884]⟩
abbrev S16384x2884 : Shape := ⟨2, ![16384, 2884]⟩
abbrev S16384x512 : Shape := ⟨2, ![16384, 512]⟩
abbrev S16384x256 : Shape := ⟨2, ![16384, 256]⟩
abbrev S16384x64 : Shape := ⟨2, ![16384, 64]⟩
abbrev S16384x4 : Shape := ⟨2, ![16384, 4]⟩
abbrev S_ : Shape := ⟨0, ![]⟩
abbrev S16384x128 : Shape := ⟨2, ![16384, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2884, .f32⟩
  | .hbm, ⟨2, _⟩ => ⟨S16384x1024, .f32⟩
  | .hbm, ⟨3, _⟩ => ⟨S1024x2884, .f32⟩
  | .hbm, ⟨4, _⟩ => ⟨S16384x2884, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x256, .f32⟩
  | .hbm, ⟨9, _⟩ => ⟨S16384x64, .f32⟩
  | .hbm, ⟨10, _⟩ => ⟨S16384x4, .f32⟩
  | .hbm, ⟨11, _⟩ => ⟨S16384x512, .f32⟩
  | .hbm, ⟨12, _⟩ => ⟨S16384x512, .f32⟩
  | .hbm, ⟨13, _⟩ => ⟨S16384x512, .bf16⟩
  | .hbm, ⟨14, _⟩ => ⟨S16384x512, .bf16⟩
  | .hbm, ⟨15, _⟩ => ⟨S16384x512, .bf16⟩
  | .hbm, ⟨16, _⟩ => ⟨S16384x256, .bf16⟩
  | .hbm, ⟨17, _⟩ => ⟨S16384x64, .bf16⟩
  | .hbm, ⟨18, _⟩ => ⟨S_, .i32⟩
  | .hbm, ⟨19, _⟩ => ⟨S_, .f32⟩
  | .hbm, ⟨20, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c : Ref sig .tc := ⟨.hbm, 18, rfl⟩
abbrev main_call0_v0 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== EvenSample.lean ====
abbrev S128x1x1024 : Shape := ⟨3, ![128, 1, 1024]⟩
abbrev S1x1024x2884 : Shape := ⟨3, ![1, 1024, 2884]⟩
abbrev S128x1024 : Shape := ⟨2, ![128, 1024]⟩
abbrev S1024x2884 : Shape := ⟨2, ![1024, 2884]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x128 : Shape := ⟨2, ![1024, 128]⟩
abbrev S128x512 : Shape := ⟨2, ![128, 512]⟩
abbrev S128x256 : Shape := ⟨2, ![128, 256]⟩
abbrev S128x64 : Shape := ⟨2, ![128, 64]⟩
abbrev S128x128 : Shape := ⟨2, ![128, 128]⟩

abbrev nBuf : Space → Nat
  | .hbm => 32
  | .vmem => 17
  | .smem => 0
  | _ => 0

abbrev bufTy : (tb : Table) → Fin (tcTables nBuf tb) → BufTy
  | .hbm, ⟨0, _⟩ => ⟨S128x1x1024, .f32⟩
  | .hbm, ⟨1, _⟩ => ⟨S1x1024x2884, .f32⟩
  | .hbm, ⟨2, _⟩ => ⟨S128x1024, .f32⟩
  | .hbm, ⟨3, _⟩ => ⟨S128x1024, .bf16⟩
  | .hbm, ⟨4, _⟩ => ⟨S1024x2884, .f32⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S1024x512, .bf16⟩
  | .hbm, ⟨9, _⟩ => ⟨S1024x512, .f32⟩
  | .hbm, ⟨10, _⟩ => ⟨S1024x512, .bf16⟩
  | .hbm, ⟨11, _⟩ => ⟨S1024x256, .f32⟩
  | .hbm, ⟨12, _⟩ => ⟨S1024x256, .bf16⟩
  | .hbm, ⟨13, _⟩ => ⟨S1024x64, .f32⟩
  | .hbm, ⟨14, _⟩ => ⟨S1024x64, .bf16⟩
  | .hbm, ⟨15, _⟩ => ⟨S1024x4, .f32⟩
  | .hbm, ⟨16, _⟩ => ⟨S1024x4, .bf16⟩
  | .hbm, ⟨17, _⟩ => ⟨S1024x512, .f32⟩
  | .hbm, ⟨18, _⟩ => ⟨S1024x512, .bf16⟩
  | .hbm, ⟨19, _⟩ => ⟨S1024x512, .f32⟩
  | .hbm, ⟨20, _⟩ => ⟨S1024x512, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x256, .f32⟩
  | .hbm, ⟨28, _⟩ => ⟨S128x64, .f32⟩
  | .hbm, ⟨29, _⟩ => ⟨S128x128, .f32⟩
  | .hbm, ⟨30, _⟩ => ⟨S128x512, .f32⟩
  | .hbm, ⟨31, _⟩ => ⟨S128x512, .f32⟩
  | .local _ .vmem, ⟨0, _⟩ => ⟨S128x1024, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x64, .bf16⟩
  | .local _ .vmem, ⟨6, _⟩ => ⟨S1024x128, .bf16⟩
  | .local _ .vmem, ⟨7, _⟩ => ⟨S1024x512, .bf16⟩
  | .local _ .vmem, ⟨8, _⟩ => ⟨S1024x512, .bf16⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x256, .f32⟩
  | .local _ .vmem, ⟨13, _⟩ => ⟨S128x64, .f32⟩
  | .local _ .vmem, ⟨14, _⟩ => ⟨S128x128, .f32⟩
  | .local _ .vmem, ⟨15, _⟩ => ⟨S128x512, .f32⟩
  | .local _ .vmem, ⟨16, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_c : Ref sig .tc := ⟨.hbm, 21, rfl⟩
abbrev main_call0_v0 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev main_v20_3 : Ref sig .tc := ⟨.hbm, 27, rfl⟩
abbrev main_v20_4 : Ref sig .tc := ⟨.hbm, 28, rfl⟩
abbrev main_v20_5 : Ref sig .tc := ⟨.hbm, 29, rfl⟩
abbrev main_v20_6 : Ref sig .tc := ⟨.hbm, 30, rfl⟩
abbrev main_v20_7 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== EvenSampleRefIdeal.lean ====
abbrev S128x1x1024 : Shape := ⟨3, ![128, 1, 1024]⟩
abbrev S1x1024x2884 : Shape := ⟨3, ![1, 1024, 2884]⟩
abbrev S128x1024 : Shape := ⟨2, ![128, 1024]⟩
abbrev S1024x2884 : Shape := ⟨2, ![1024, 2884]⟩
abbrev S128x2884 : Shape := ⟨2, ![128, 2884]⟩
abbrev S128x512 : Shape := ⟨2, ![128, 512]⟩
abbrev S128x256 : Shape := ⟨2, ![128, 256]⟩
abbrev S128x64 : Shape := ⟨2, ![128, 64]⟩
abbrev S128x4 : Shape := ⟨2, ![128, 4]⟩
abbrev S_ : Shape := ⟨0, ![]⟩
abbrev S128x128 : Shape := ⟨2, ![128, 128]⟩

abbrev nBuf : Space → Nat
  | .hbm => 16
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x1024x2884, .f32⟩
  | .hbm, ⟨2, _⟩ => ⟨S128x1024, .f32⟩
  | .hbm, ⟨3, _⟩ => ⟨S1024x2884, .f32⟩
  | .hbm, ⟨4, _⟩ => ⟨S128x2884, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x256, .f32⟩
  | .hbm, ⟨9, _⟩ => ⟨S128x64, .f32⟩
  | .hbm, ⟨10, _⟩ => ⟨S128x4, .f32⟩
  | .hbm, ⟨11, _⟩ => ⟨S128x512, .f32⟩
  | .hbm, ⟨12, _⟩ => ⟨S128x512, .f32⟩
  | .hbm, ⟨13, _⟩ => ⟨S_, .i32⟩
  | .hbm, ⟨14, _⟩ => ⟨S_, .f32⟩
  | .hbm, ⟨15, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== OddPrompt.lean ====
abbrev S16384x1024 : Shape := ⟨2, ![16384, 1024]⟩
abbrev S1x1024x4104 : Shape := ⟨3, ![1, 1024, 4104]⟩
abbrev S1024x4104 : Shape := ⟨2, ![1024, 4104]⟩
abbrev S1024x1024 : Shape := ⟨2, ![1024, 1024]⟩
abbrev S1024x8 : Shape := ⟨2, ![1024, 8]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x128 : Shape := ⟨2, ![512, 128]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024x4104, .f32⟩
  | .hbm, ⟨2, _⟩ => ⟨S1024x4104, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x8, .f32⟩
  | .hbm, ⟨12, _⟩ => ⟨S1024x8, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S16384x1024, .bf16⟩
  | .hbm, ⟨20, _⟩ => ⟨S16384x1024, .f32⟩
  | .hbm, ⟨21, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev main_v13_2 : Ref sig .tc := ⟨.hbm, 19, rfl⟩
abbrev main_v13_3 : Ref sig .tc := ⟨.hbm, 20, rfl⟩
abbrev main_v13_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OddPromptRefIdeal.lean ====
abbrev S16384x1024 : Shape := ⟨2, ![16384, 1024]⟩
abbrev S1x1024x4104 : Shape := ⟨3, ![1, 1024, 4104]⟩
abbrev S1024x4104 : Shape := ⟨2, ![1024, 4104]⟩
abbrev S16384x4104 : Shape := ⟨2, ![16384, 4104]⟩
abbrev S16384x8 : Shape := ⟨2, ![16384, 8]⟩
abbrev S_ : Shape := ⟨0, ![]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x4104, .f32⟩
  | .hbm, ⟨2, _⟩ => ⟨S1024x4104, .f32⟩
  | .hbm, ⟨3, _⟩ => ⟨S16384x4104, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x8, .f32⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S_, .i32⟩
  | .hbm, ⟨13, _⟩ => ⟨S_, .f32⟩
  | .hbm, ⟨14, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Query.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QueryRefIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mix.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MixPair.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixPairRefIdeal.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S16384x1024, .bf16⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Attention.lean ====
abbrev S4x4096x1024 : Shape := ⟨3, ![4, 4096, 1024]⟩
abbrev S4x256x1024 : Shape := ⟨3, ![4, 256, 1024]⟩
abbrev S1x512x1024 : Shape := ⟨3, ![1, 512, 1024]⟩
abbrev S1x256x1024 : Shape := ⟨3, ![1, 256, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x1024, .bf16⟩
  | .hbm, ⟨1, _⟩ => ⟨S4x256x1024, .bf16⟩
  | .hbm, ⟨2, _⟩ => ⟨S4x256x1024, .bf16⟩
  | .hbm, ⟨3, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x512x1024, .bf16⟩
  | .local _ .vmem, ⟨7, _⟩ => ⟨S1x512x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttentionRefIdeal.lean ====
abbrev S4x4096x1024 : Shape := ⟨3, ![4, 4096, 1024]⟩
abbrev S4x256x1024 : Shape := ⟨3, ![4, 256, 1024]⟩
abbrev S4x4096x4x256 : Shape := ⟨4, ![4, 4096, 4, 256]⟩
abbrev S4x256x4x256 : Shape := ⟨4, ![4, 256, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x256x1024, .bf16⟩
  | .hbm, ⟨2, _⟩ => ⟨S4x256x1024, .bf16⟩
  | .hbm, ⟨3, _⟩ => ⟨S4x4096x1024, .f32⟩
  | .hbm, ⟨4, _⟩ => ⟨S4x4096x4x256, .f32⟩
  | .hbm, ⟨5, _⟩ => ⟨S4x256x1024, .f32⟩
  | .hbm, ⟨6, _⟩ => ⟨S4x256x4x256, .f32⟩
  | .hbm, ⟨7, _⟩ => ⟨S4x256x1024, .f32⟩
  | .hbm, ⟨8, _⟩ => ⟨S4x256x4x256, .f32⟩
  | .hbm, ⟨9, _⟩ => ⟨S4x4x4096x256, .f32⟩
  | .hbm, ⟨10, _⟩ => ⟨S_, .f32⟩
  | .hbm, ⟨11, _⟩ => ⟨S4x4x4096x256, .f32⟩
  | .hbm, ⟨12, _⟩ => ⟨S4x4x4096x256, .f32⟩
  | .hbm, ⟨13, _⟩ => ⟨S_, .f32⟩
  | .hbm, ⟨14, _⟩ => ⟨S4x4x4096, .f32⟩
  | .hbm, ⟨15, _⟩ => ⟨S_, .f32⟩
  | .hbm, ⟨16, _⟩ => ⟨S4x4x4096, .f32⟩
  | .hbm, ⟨17, _⟩ => ⟨S4x4x4096, .f32⟩
  | .hbm, ⟨18, _⟩ => ⟨S4x4x4096x1, .f32⟩
  | .hbm, ⟨19, _⟩ => ⟨S4x4x4096x256, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S4x4x4096x1, .f32⟩
  | .hbm, ⟨25, _⟩ => ⟨S4x4x4096x256, .f32⟩
  | .hbm, ⟨26, _⟩ => ⟨S4x4x4096x256, .f32⟩
  | .hbm, ⟨27, _⟩ => ⟨S4x4x256x4096, .f32⟩
  | .hbm, ⟨28, _⟩ => ⟨S4x4096x4x256, .f32⟩
  | .hbm, ⟨29, _⟩ => ⟨S4x4096x1024, .f32⟩
  | .hbm, ⟨30, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Recurrence.lean ====
abbrev S128x512 : Shape := ⟨2, ![128, 512]⟩
abbrev S128x3x512 : Shape := ⟨3, ![128, 3, 512]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S128x1x512 : Shape := ⟨3, ![128, 1, 512]⟩
abbrev S1x512 : Shape := ⟨2, ![1, 512]⟩

abbrev nBuf : Space → Nat
  | .hbm => 51
  | .vmem => 15
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x3x512, .f32⟩
  | .hbm, ⟨3, _⟩ => ⟨S128x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x64x1x64, .f32⟩
  | .hbm, ⟨19, _⟩ => ⟨S8x1x8x1, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S512x512, .f32⟩
  | .hbm, ⟨24, _⟩ => ⟨S512x512, .bf16⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S8x64x1x64, .f32⟩
  | .hbm, ⟨33, _⟩ => ⟨S8x1x8x1, .f32⟩
  | .hbm, ⟨34, _⟩ => ⟨S8x64x8x64, .f32⟩
  | .hbm, ⟨35, _⟩ => ⟨S8x64x8x64, .f32⟩
  | .hbm, ⟨36, _⟩ => ⟨S8x64x8x64, .f32⟩
  | .hbm, ⟨37, _⟩ => ⟨S512x512, .f32⟩
  | .hbm, ⟨38, _⟩ => ⟨S512x512, .bf16⟩
  | .hbm, ⟨39, _⟩ => ⟨S128x1x512, .f32⟩
  | .hbm, ⟨40, _⟩ => ⟨S128x512, .f32⟩
  | .hbm, ⟨41, _⟩ => ⟨S128x1x512, .f32⟩
  | .hbm, ⟨42, _⟩ => ⟨S128x512, .f32⟩
  | .hbm, ⟨43, _⟩ => ⟨S128x1x512, .f32⟩
  | .hbm, ⟨44, _⟩ => ⟨S128x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S128x512, .bf16⟩
  | .hbm, ⟨50, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S4x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S128x512, .bf16⟩
  | .local _ .vmem, ⟨14, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== RecurrenceRefIdeal.lean ====
abbrev S128x512 : Shape := ⟨2, ![128, 512]⟩
abbrev S128x3x512 : Shape := ⟨3, ![128, 3, 512]⟩
abbrev S4x512 : Shape := ⟨2, ![4, 512]⟩
abbrev S512 : Shape := ⟨1, ![512]⟩
abbrev S8x64x64 : Shape := ⟨3, ![8, 64, 64]⟩
abbrev S128x1x512 : Shape := ⟨3, ![128, 1, 512]⟩
abbrev S128x4x512 : Shape := ⟨3, ![128, 4, 512]⟩
abbrev S1x512 : Shape := ⟨2, ![1, 512]⟩
abbrev S128x8x64 : Shape := ⟨3, ![128, 8, 64]⟩
abbrev S8x64x128 : Shape := ⟨3, ![8, 64, 128]⟩
abbrev S_ : Shape := ⟨0, ![]⟩

abbrev nBuf : Space → Nat
  | .hbm => 127
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x3x512, .f32⟩
  | .hbm, ⟨3, _⟩ => ⟨S128x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S128x1x512, .f32⟩
  | .hbm, ⟨12, _⟩ => ⟨S128x4x512, .f32⟩
  | .hbm, ⟨13, _⟩ => ⟨S1x512, .f32⟩
  | .hbm, ⟨14, _⟩ => ⟨S512, .f32⟩
  | .hbm, ⟨15, _⟩ => ⟨S128x1x512, .f32⟩
  | .hbm, ⟨16, _⟩ => ⟨S128x512, .f32⟩
  | .hbm, ⟨17, _⟩ => ⟨S1x512, .f32⟩
  | .hbm, ⟨18, _⟩ => ⟨S128x512, .f32⟩
  | .hbm, ⟨19, _⟩ => ⟨S128x512, .f32⟩
  | .hbm, ⟨20, _⟩ => ⟨S1x512, .f32⟩
  | .hbm, ⟨21, _⟩ => ⟨S128x512, .f32⟩
  | .hbm, ⟨22, _⟩ => ⟨S128x512, .f32⟩
  | .hbm, ⟨23, _⟩ => ⟨S1x512, .f32⟩
  | .hbm, ⟨24, _⟩ => ⟨S512, .f32⟩
  | .hbm, ⟨25, _⟩ => ⟨S128x1x512, .f32⟩
  | .hbm, ⟨26, _⟩ => ⟨S128x512, .f32⟩
  | .hbm, ⟨27, _⟩ => ⟨S1x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S1x512, .f32⟩
  | .hbm, ⟨32, _⟩ => ⟨S512, .f32⟩
  | .hbm, ⟨33, _⟩ => ⟨S128x1x512, .f32⟩
  | .hbm, ⟨34, _⟩ => ⟨S128x512, .f32⟩
  | .hbm, ⟨35, _⟩ => ⟨S1x512, .f32⟩
  | .hbm, ⟨36, _⟩ => ⟨S128x512, .f32⟩
  | .hbm, ⟨37, _⟩ => ⟨S128x512, .f32⟩
  | .hbm, ⟨38, _⟩ => ⟨S128x512, .f32⟩
  | .hbm, ⟨39, _⟩ => ⟨S1x512, .f32⟩
  | .hbm, ⟨40, _⟩ => ⟨S512, .f32⟩
  | .hbm, ⟨41, _⟩ => ⟨S128x1x512, .f32⟩
  | .hbm, ⟨42, _⟩ => ⟨S128x512, .f32⟩
  | .hbm, ⟨43, _⟩ => ⟨S1x512, .f32⟩
  | .hbm, ⟨44, _⟩ => ⟨S128x512, .f32⟩
  | .hbm, ⟨45, _⟩ => ⟨S128x512, .f32⟩
  | .hbm, ⟨46, _⟩ => ⟨S128x512, .f32⟩
  | .hbm, ⟨47, _⟩ => ⟨S128x8x64, .f32⟩
  | .hbm, ⟨48, _⟩ => ⟨S8x64x128, .f32⟩
  | .hbm, ⟨49, _⟩ => ⟨S128x8x64, .f32⟩
  | .hbm, ⟨50, _⟩ => ⟨S128x512, .f32⟩
  | .hbm, ⟨51, _⟩ => ⟨S1x512, .f32⟩
  | .hbm, ⟨52, _⟩ => ⟨S128x512, .f32⟩
  | .hbm, ⟨53, _⟩ => ⟨S128x512, .f32⟩
  | .hbm, ⟨54, _⟩ => ⟨S128x512, .f32⟩
  | .hbm, ⟨55, _⟩ => ⟨S128x512, .f32⟩
  | .hbm, ⟨56, _⟩ => ⟨S_, .f32⟩
  | .hbm, ⟨57, _⟩ => ⟨S128x512, .f32⟩
  | .hbm, ⟨58, _⟩ => ⟨S128x512, .f32⟩
  | .hbm, ⟨59, _⟩ => ⟨S_, .f32⟩
  | .hbm, ⟨60, _⟩ => ⟨S128x512, .f32⟩
  | .hbm, ⟨61, _⟩ => ⟨S128x512, .f32⟩
  | .hbm, ⟨62, _⟩ => ⟨S8x64x128, .f32⟩
  | .hbm, ⟨63, _⟩ => ⟨S128x8x64, .f32⟩
  | .hbm, ⟨64, _⟩ => ⟨S128x512, .f32⟩
  | .hbm, ⟨65, _⟩ => ⟨S1x512, .f32⟩
  | .hbm, ⟨66, _⟩ => ⟨S128x512, .f32⟩
  | .hbm, ⟨67, _⟩ => ⟨S128x512, .f32⟩
  | .hbm, ⟨68, _⟩ => ⟨S128x512, .f32⟩
  | .hbm, ⟨69, _⟩ => ⟨S128x512, .f32⟩
  | .hbm, ⟨70, _⟩ => ⟨S_, .f32⟩
  | .hbm, ⟨71, _⟩ => ⟨S128x512, .f32⟩
  | .hbm, ⟨72, _⟩ => ⟨S128x512, .f32⟩
  | .hbm, ⟨73, _⟩ => ⟨S_, .f32⟩
  | .hbm, ⟨74, _⟩ => ⟨S128x512, .f32⟩
  | .hbm, ⟨75, _⟩ => ⟨S128x512, .f32⟩
  | .hbm, ⟨76, _⟩ => ⟨S_, .f32⟩
  | .hbm, ⟨77, _⟩ => ⟨S128x512, .f32⟩
  | .hbm, ⟨78, _⟩ => ⟨S128x512, .f32⟩
  | .hbm, ⟨79, _⟩ => ⟨S512, .f32⟩
  | .hbm, ⟨80, _⟩ => ⟨S_, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S512, .f32⟩
  | .hbm, ⟨85, _⟩ => ⟨S512, .i1⟩
  | .hbm, ⟨86, _⟩ => ⟨S512, .f32⟩
  | .hbm, ⟨87, _⟩ => ⟨S512, .f32⟩
  | .hbm, ⟨88, _⟩ => ⟨S512, .f32⟩
  | .hbm, ⟨89, _⟩ => ⟨S512, .f32⟩
  | .hbm, ⟨90, _⟩ => ⟨S512, .f32⟩
  | .hbm, ⟨91, _⟩ => ⟨S512, .f32⟩
  | .hbm, ⟨92, _⟩ => ⟨S512, .f32⟩
  | .hbm, ⟨93, _⟩ => ⟨S512, .f32⟩
  | .hbm, ⟨94, _⟩ => ⟨S1x512, .f32⟩
  | .hbm, ⟨95, _⟩ => ⟨S128x512, .f32⟩
  | .hbm, ⟨96, _⟩ => ⟨S128x512, .f32⟩
  | .hbm, ⟨97, _⟩ => ⟨S128x512, .f32⟩
  | .hbm, ⟨98, _⟩ => ⟨S_, .f32⟩
  | .hbm, ⟨99, _⟩ => ⟨S128x512, .f32⟩
  | .hbm, ⟨100, _⟩ => ⟨S128x512, .f32⟩
  | .hbm, ⟨101, _⟩ => ⟨S128x512, .f32⟩
  | .hbm, ⟨102, _⟩ => ⟨S128x512, .f32⟩
  | .hbm, ⟨103, _⟩ => ⟨S128x512, .f32⟩
  | .hbm, ⟨104, _⟩ => ⟨S128x512, .f32⟩
  | .hbm, ⟨105, _⟩ => ⟨S128x512, .f32⟩
  | .hbm, ⟨106, _⟩ => ⟨S128x512, .f32⟩
  | .hbm, ⟨107, _⟩ => ⟨S128x512, .f32⟩
  | .hbm, ⟨108, _⟩ => ⟨S128x512, .f32⟩
  | .hbm, ⟨109, _⟩ => ⟨S128x512, .f32⟩
  | .hbm, ⟨110, _⟩ => ⟨S_, .f32⟩
  | .hbm, ⟨111, _⟩ => ⟨S128x512, .f32⟩
  | .hbm, ⟨112, _⟩ => ⟨S128x512, .f32⟩
  | .hbm, ⟨113, _⟩ => ⟨S128x512, .f32⟩
  | .hbm, ⟨114, _⟩ => ⟨S_, .f32⟩
  | .hbm, ⟨115, _⟩ => ⟨S128x512, .f32⟩
  | .hbm, ⟨116, _⟩ => ⟨S128x512, .f32⟩
  | .hbm, ⟨117, _⟩ => ⟨S128x512, .f32⟩
  | .hbm, ⟨118, _⟩ => ⟨S_, .f32⟩
  | .hbm, ⟨119, _⟩ => ⟨S128x512, .f32⟩
  | .hbm, ⟨120, _⟩ => ⟨S128x512, .f32⟩
  | .hbm, ⟨121, _⟩ => ⟨S_, .f32⟩
  | .hbm, ⟨122, _⟩ => ⟨S128x512, .f32⟩
  | .hbm, ⟨123, _⟩ => ⟨S128x512, .f32⟩
  | .hbm, ⟨124, _⟩ => ⟨S128x512, .f32⟩
  | .hbm, ⟨125, _⟩ => ⟨S128x512, .f32⟩
  | .hbm, ⟨126, _⟩ => ⟨S128x512, .bf16⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst : Ref sig .tc := ⟨.hbm, 56, rfl⟩
abbrev main_v45 : Ref sig .tc := ⟨.hbm, 57, rfl⟩
abbrev main_v46 : Ref sig .tc := ⟨.hbm, 58, rfl⟩
abbrev main_cst_0 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_1 : Ref sig .tc := ⟨.hbm, 70, rfl⟩
abbrev main_v57 : Ref sig .tc := ⟨.hbm, 71, rfl⟩
abbrev main_v58 : Ref sig .tc := ⟨.hbm, 72, rfl⟩
abbrev main_cst_2 : Ref sig .tc := ⟨.hbm, 73, rfl⟩
abbrev main_v59 : Ref sig .tc := ⟨.hbm, 74, rfl⟩
abbrev main_v60 : Ref sig .tc := ⟨.hbm, 75, rfl⟩
abbrev main_cst_3 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_4 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_5 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_6 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_7 : Ref sig .tc := ⟨.hbm, 118, rfl⟩
abbrev main_v86 : Ref sig .tc := ⟨.hbm, 119, rfl⟩
abbrev main_v87 : Ref sig .tc := ⟨.hbm, 120, rfl⟩
abbrev main_cst_8 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Sample.lean ====
abbrev S128x1024 : Shape := ⟨2, ![128, 1024]⟩
abbrev S128x128 : Shape := ⟨2, ![128, 128]⟩
abbrev S8x1024x3584 : Shape := ⟨3, ![8, 1024, 3584]⟩
abbrev S8x3584x1024 : Shape := ⟨3, ![8, 3584, 1024]⟩
abbrev S1024 : Shape := ⟨1, ![1024]⟩
abbrev S1x1024 : Shape := ⟨2, ![1, 1024]⟩
abbrev S1x1024x512 : Shape := ⟨3, ![1, 1024, 512]⟩
abbrev S1x512x1024 : Shape := ⟨3, ![1, 512, 1024]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S512x1024 : Shape := ⟨2, ![512, 1024]⟩

abbrev nBuf : Space → Nat
  | .hbm => 15
  | .vmem => 14
  | .smem => 0
  | _ => 0

abbrev bufTy : (tb : Table) → Fin (tcTables nBuf tb) → BufTy
  | .hbm, ⟨0, _⟩ => ⟨S128x1024, .f32⟩
  | .hbm, ⟨1, _⟩ => ⟨S128x128, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S1024, .f32⟩
  | .hbm, ⟨6, _⟩ => ⟨S1024, .f32⟩
  | .hbm, ⟨7, _⟩ => ⟨S128x1024, .bf16⟩
  | .hbm, ⟨8, _⟩ => ⟨S8x1024x3584, .bf16⟩
  | .hbm, ⟨9, _⟩ => ⟨S8x1024x3584, .bf16⟩
  | .hbm, ⟨10, _⟩ => ⟨S8x3584x1024, .bf16⟩
  | .hbm, ⟨11, _⟩ => ⟨S1x1024, .f32⟩
  | .hbm, ⟨12, _⟩ => ⟨S1x1024, .f32⟩
  | .hbm, ⟨13, _⟩ => ⟨S128x1024, .f32⟩
  | .hbm, ⟨14, _⟩ => ⟨S128x1024, .bf16⟩
  | .local _ .vmem, ⟨0, _⟩ => ⟨S128x1024, .bf16⟩
  | .local _ .vmem, ⟨1, _⟩ => ⟨S128x1024, .f32⟩
  | .local _ .vmem, ⟨2, _⟩ => ⟨S128x128, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .bf16⟩
  | .local _ .vmem, ⟨13, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨3, ![1, 8, 7], ![false, false, false]⟩

def k0_cond2 (i : grid0.Coords) : BitVec 1 :=
  let arg1 : BitVec 32 := BitVec.ofNat 32 (i 1).val
  let c7_i32 : BitVec 32 := 7#32
  let v35 : BitVec 1 := Scalar.cmpi .eq arg1 c7_i32
  let arg2 : BitVec 32 := BitVec.ofNat 32 (i 2).val
  let c6_i32 : BitVec 32 := 6#32
  let v36 : BitVec 1 := Scalar.cmpi .eq arg2 c6_i32
  let v37 : BitVec 1 := Scalar.andi v35 v36
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]
-- ==== SampleRefIdeal.lean ====
abbrev S128x1024 : Shape := ⟨2, ![128, 1024]⟩
abbrev S128x128 : Shape := ⟨2, ![128, 128]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩
abbrev S1x1024x3584 : Shape := ⟨3, ![1, 1024, 3584]⟩
abbrev S1024x3584 : Shape := ⟨2, ![1024, 3584]⟩
abbrev S128x3584 : Shape := ⟨2, ![128, 3584]⟩
abbrev S128x1 : Shape := ⟨2, ![128, 1]⟩
abbrev S1x3584x1024 : Shape := ⟨3, ![1, 3584, 1024]⟩
abbrev S3584x1024 : Shape := ⟨2, ![3584, 1024]⟩
abbrev S128 : Shape := ⟨1, ![128]⟩
abbrev S1x1024 : Shape := ⟨2, ![1, 1024]⟩

abbrev nBuf : Space → Nat
  | .hbm => 227
  | .vmem => 0
  | .smem => 0
  | _ => 0

abbrev hbmTy0_0 (i : Nat) : BufTy := match i % 128 with
  | 0 => ⟨S128x1024, .f32⟩
  | 1 => ⟨S128x128, .f32⟩
  | 2 => ⟨S8x1024x3584, .f32⟩
  | 3 => ⟨S8x1024x3584, .f32⟩
  | 4 => ⟨S8x3584x1024, .f32⟩
  | 5 => ⟨S1024, .f32⟩
  | 6 => ⟨S1024, .f32⟩
  | 7 => ⟨S_, .f32⟩
  | 8 => ⟨S128x1024, .f32⟩
  | 9 => ⟨S1x1024x3584, .f32⟩
  | 10 => ⟨S1024x3584, .f32⟩
  | 11 => ⟨S128x3584, .f32⟩
  | 12 => ⟨S128x3584, .f32⟩
  | 13 => ⟨S128x3584, .f32⟩
  | 14 => ⟨S_, .f32⟩
  | 15 => ⟨S128x3584, .f32⟩
  | 16 => ⟨S128x3584, .f32⟩
  | 17 => ⟨S_, .f32⟩
  | 18 => ⟨S128x3584, .f32⟩
  | 19 => ⟨S128x3584, .f32⟩
  | 20 => ⟨S128x3584, .f32⟩
  | 21 => ⟨S1x1024x3584, .f32⟩
  | 22 => ⟨S1024x3584, .f32⟩
  | 23 => ⟨S128x3584, .f32⟩
  | 24 => ⟨S128x3584, .f32⟩
  | 25 => ⟨S128x1, .f32⟩
  | 26 => ⟨S1x3584x1024, .f32⟩
  | 27 => ⟨S3584x1024, .f32⟩
  | 28 => ⟨S128x1024, .f32⟩
  | 29 => ⟨S128x1024, .f32⟩
  | 30 => ⟨S128x1024, .f32⟩
  | 31 => ⟨S128x1024, .f32⟩
  | 32 => ⟨S1x1024x3584, .f32⟩
  | 33 => ⟨S1024x3584, .f32⟩
  | 34 => ⟨S128x3584, .f32⟩
  | 35 => ⟨S128x3584, .f32⟩
  | 36 => ⟨S128x3584, .f32⟩
  | 37 => ⟨S_, .f32⟩
  | 38 => ⟨S128x3584, .f32⟩
  | 39 => ⟨S128x3584, .f32⟩
  | 40 => ⟨S_, .f32⟩
  | 41 => ⟨S128x3584, .f32⟩
  | 42 => ⟨S128x3584, .f32⟩
  | 43 => ⟨S128x3584, .f32⟩
  | 44 => ⟨S1x1024x3584, .f32⟩
  | 45 => ⟨S1024x3584, .f32⟩
  | 46 => ⟨S128x3584, .f32⟩
  | 47 => ⟨S128x3584, .f32⟩
  | 48 => ⟨S128x1, .f32⟩
  | 49 => ⟨S1x3584x1024, .f32⟩
  | 50 => ⟨S3584x1024, .f32⟩
  | 51 => ⟨S128x1024, .f32⟩
  | 52 => ⟨S128x1024, .f32⟩
  | 53 => ⟨S128x1024, .f32⟩
  | 54 => ⟨S128x1024, .f32⟩
  | 55 => ⟨S1x1024x3584, .f32⟩
  | 56 => ⟨S1024x3584, .f32⟩
  | 57 => ⟨S128x3584, .f32⟩
  | 58 => ⟨S128x3584, .f32⟩
  | 59 => ⟨S128x3584, .f32⟩
  | 60 => ⟨S_, .f32⟩
  | 61 => ⟨S128x3584, .f32⟩
  | 62 => ⟨S128x3584, .f32⟩
  | 63 => ⟨S_, .f32⟩
  | 64 => ⟨S128x3584, .f32⟩
  | 65 => ⟨S128x3584, .f32⟩
  | 66 => ⟨S128x3584, .f32⟩
  | 67 => ⟨S1x1024x3584, .f32⟩
  | 68 => ⟨S1024x3584, .f32⟩
  | 69 => ⟨S128x3584, .f32⟩
  | 70 => ⟨S128x3584, .f32⟩
  | 71 => ⟨S128x1, .f32⟩
  | 72 => ⟨S1x3584x1024, .f32⟩
  | 73 => ⟨S3584x1024, .f32⟩
  | 74 => ⟨S128x1024, .f32⟩
  | 75 => ⟨S128x1024, .f32⟩
  | 76 => ⟨S128x1024, .f32⟩
  | 77 => ⟨S128x1024, .f32⟩
  | 78 => ⟨S1x1024x3584, .f32⟩
  | 79 => ⟨S1024x3584, .f32⟩
  | 80 => ⟨S128x3584, .f32⟩
  | 81 => ⟨S128x3584, .f32⟩
  | 82 => ⟨S128x3584, .f32⟩
  | 83 => ⟨S_, .f32⟩
  | 84 => ⟨S128x3584, .f32⟩
  | 85 => ⟨S128x3584, .f32⟩
  | 86 => ⟨S_, .f32⟩
  | 87 => ⟨S128x3584, .f32⟩
  | 88 => ⟨S128x3584, .f32⟩
  | 89 => ⟨S128x3584, .f32⟩
  | 90 => ⟨S1x1024x3584, .f32⟩
  | 91 => ⟨S1024x3584, .f32⟩
  | 92 => ⟨S128x3584, .f32⟩
  | 93 => ⟨S128x3584, .f32⟩
  | 94 => ⟨S128x1, .f32⟩
  | 95 => ⟨S1x3584x1024, .f32⟩
  | 96 => ⟨S3584x1024, .f32⟩
  | 97 => ⟨S128x1024, .f32⟩
  | 98 => ⟨S128x1024, .f32⟩
  | 99 => ⟨S128x1024, .f32⟩
  | 100 => ⟨S128x1024, .f32⟩
  | 101 => ⟨S1x1024x3584, .f32⟩
  | 102 => ⟨S1024x3584, .f32⟩
  | 103 => ⟨S128x3584, .f32⟩
  | 104 => ⟨S128x3584, .f32⟩
  | 105 => ⟨S128x3584, .f32⟩
  | 106 => ⟨S_, .f32⟩
  | 107 => ⟨S128x3584, .f32⟩
  | 108 => ⟨S128x3584, .f32⟩
  | 109 => ⟨S_, .f32⟩
  | 110 => ⟨S128x3584, .f32⟩
  | 111 => ⟨S128x3584, .f32⟩
  | 112 => ⟨S128x3584, .f32⟩
  | 113 => ⟨S1x1024x3584, .f32⟩
  | 114 => ⟨S1024x3584, .f32⟩
  | 115 => ⟨S128x3584, .f32⟩
  | 116 => ⟨S128x3584, .f32⟩
  | 117 => ⟨S128x1, .f32⟩
  | 118 => ⟨S1x3584x1024, .f32⟩
  | 119 => ⟨S3584x1024, .f32⟩
  | 120 => ⟨S128x1024, .f32⟩
  | 121 => ⟨S128x1024, .f32⟩
  | 122 => ⟨S128x1024, .f32⟩
  | 123 => ⟨S128x1024, .f32⟩
  | 124 => ⟨S1x1024x3584, .f32⟩
  | 125 => ⟨S1024x3584, .f32⟩
  | 126 => ⟨S128x3584, .f32⟩
  | 127 => ⟨S128x3584, .f32⟩
  | _ => ⟨S128x1024, .f32⟩

abbrev hbmTy0_1 (i : Nat) : BufTy := match i % 128 with
  | 0 => ⟨S128x3584, .f32⟩
  | 1 => ⟨S_, .f32⟩
  | 2 => ⟨S128x3584, .f32⟩
  | 3 => ⟨S128x3584, .f32⟩
  | 4 => ⟨S_, .f32⟩
  | 5 => ⟨S128x3584, .f32⟩
  | 6 => ⟨S128x3584, .f32⟩
  | 7 => ⟨S128x3584, .f32⟩
  | 8 => ⟨S1x1024x3584, .f32⟩
  | 9 => ⟨S1024x3584, .f32⟩
  | 10 => ⟨S128x3584, .f32⟩
  | 11 => ⟨S128x3584, .f32⟩
  | 12 => ⟨S128x1, .f32⟩
  | 13 => ⟨S1x3584x1024, .f32⟩
  | 14 => ⟨S3584x1024, .f32⟩
  | 15 => ⟨S128x1024, .f32⟩
  | 16 => ⟨S128x1024, .f32⟩
  | 17 => ⟨S128x1024, .f32⟩
  | 18 => ⟨S128x1024, .f32⟩
  | 19 => ⟨S1x1024x3584, .f32⟩
  | 20 => ⟨S1024x3584, .f32⟩
  | 21 => ⟨S128x3584, .f32⟩
  | 22 => ⟨S128x3584, .f32⟩
  | 23 => ⟨S128x3584, .f32⟩
  | 24 => ⟨S_, .f32⟩
  | 25 => ⟨S128x3584, .f32⟩
  | 26 => ⟨S128x3584, .f32⟩
  | 27 => ⟨S_, .f32⟩
  | 28 => ⟨S128x3584, .f32⟩
  | 29 => ⟨S128x3584, .f32⟩
  | 30 => ⟨S128x3584, .f32⟩
  | 31 => ⟨S1x1024x3584, .f32⟩
  | 32 => ⟨S1024x3584, .f32⟩
  | 33 => ⟨S128x3584, .f32⟩
  | 34 => ⟨S128x3584, .f32⟩
  | 35 => ⟨S128x1, .f32⟩
  | 36 => ⟨S1x3584x1024, .f32⟩
  | 37 => ⟨S3584x1024, .f32⟩
  | 38 => ⟨S128x1024, .f32⟩
  | 39 => ⟨S128x1024, .f32⟩
  | 40 => ⟨S128x1024, .f32⟩
  | 41 => ⟨S128x1024, .f32⟩
  | 42 => ⟨S1x1024x3584, .f32⟩
  | 43 => ⟨S1024x3584, .f32⟩
  | 44 => ⟨S128x3584, .f32⟩
  | 45 => ⟨S128x3584, .f32⟩
  | 46 => ⟨S128x3584, .f32⟩
  | 47 => ⟨S_, .f32⟩
  | 48 => ⟨S128x3584, .f32⟩
  | 49 => ⟨S128x3584, .f32⟩
  | 50 => ⟨S_, .f32⟩
  | 51 => ⟨S128x3584, .f32⟩
  | 52 => ⟨S128x3584, .f32⟩
  | 53 => ⟨S128x3584, .f32⟩
  | 54 => ⟨S1x1024x3584, .f32⟩
  | 55 => ⟨S1024x3584, .f32⟩
  | 56 => ⟨S128x3584, .f32⟩
  | 57 => ⟨S128x3584, .f32⟩
  | 58 => ⟨S128x1, .f32⟩
  | 59 => ⟨S1x3584x1024, .f32⟩
  | 60 => ⟨S3584x1024, .f32⟩
  | 61 => ⟨S128x1024, .f32⟩
  | 62 => ⟨S128x1024, .f32⟩
  | 63 => ⟨S128x1024, .f32⟩
  | 64 => ⟨S128x1024, .f32⟩
  | 65 => ⟨S_, .f32⟩
  | 66 => ⟨S128x1024, .f32⟩
  | 67 => ⟨S128x1024, .f32⟩
  | 68 => ⟨S128x1024, .f32⟩
  | 69 => ⟨S_, .f32⟩
  | 70 => ⟨S128, .f32⟩
  | 71 => ⟨S128x1, .f32⟩
  | 72 => ⟨S_, .f32⟩
  | 73 => ⟨S128x1, .f32⟩
  | 74 => ⟨S128x1, .f32⟩
  | 75 => ⟨S128x1024, .f32⟩
  | 76 => ⟨S128x1024, .f32⟩
  | 77 => ⟨S128x1024, .f32⟩
  | 78 => ⟨S_, .f32⟩
  | 79 => ⟨S128, .f32⟩
  | 80 => ⟨S128x1, .f32⟩
  | 81 => ⟨S_, .f32⟩
  | 82 => ⟨S128x1, .f32⟩
  | 83 => ⟨S128x1, .f32⟩
  | 84 => ⟨S128x1024, .f32⟩
  | 85 => ⟨S128x1024, .f32⟩
  | 86 => ⟨S_, .f32⟩
  | 87 => ⟨S128x1, .f32⟩
  | 88 => ⟨S128x1, .f32⟩
  | 89 => ⟨S128x1, .f32⟩
  | 90 => ⟨S128x1024, .f32⟩
  | 91 => ⟨S128x1024, .f32⟩
  | 92 => ⟨S1x1024, .f32⟩
  | 93 => ⟨S128x1024, .f32⟩
  | 94 => ⟨S128x1024, .f32⟩
  | 95 => ⟨S1x1024, .f32⟩
  | 96 => ⟨S128x1024, .f32⟩
  | 97 => ⟨S128x1024, .f32⟩
  | 98 => ⟨S128x1024, .bf16⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call5_v0 : Ref sig .tc := ⟨.hbm, 127, rfl⟩
abbrev main_call5_v1 : Ref sig .tc := ⟨.hbm, 128, rfl⟩
abbrev main_call5_cst : Ref sig .tc := ⟨.hbm, 129, rfl⟩
abbrev main_call5_v2 : Ref sig .tc := ⟨.hbm, 130, rfl⟩
abbrev main_call5_v3 : Ref sig .tc := ⟨.hbm, 131, rfl⟩
abbrev main_call5_cst_0 : Ref sig .tc := ⟨.hbm, 132, rfl⟩
abbrev main_call5_v4 : Ref sig .tc := ⟨.hbm, 133, rfl⟩
abbrev main_call5_v5 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_call6_v0 : Ref sig .tc := ⟨.hbm, 150, rfl⟩
abbrev main_call6_v1 : Ref sig .tc := ⟨.hbm, 151, rfl⟩
abbrev main_call6_cst : Ref sig .tc := ⟨.hbm, 152, rfl⟩
abbrev main_call6_v2 : Ref sig .tc := ⟨.hbm, 153, rfl⟩
abbrev main_call6_v3 : Ref sig .tc := ⟨.hbm, 154, rfl⟩
abbrev main_call6_cst_0 : Ref sig .tc := ⟨.hbm, 155, rfl⟩
abbrev main_call6_v4 : Ref sig .tc := ⟨.hbm, 156, rfl⟩
abbrev main_call6_v5 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_call7_v0 : Ref sig .tc := ⟨.hbm, 173, rfl⟩
abbrev main_call7_v1 : Ref sig .tc := ⟨.hbm, 174, rfl⟩
abbrev main_call7_cst : Ref sig .tc := ⟨.hbm, 175, rfl⟩
abbrev main_call7_v2 : Ref sig .tc := ⟨.hbm, 176, rfl⟩
abbrev main_call7_v3 : Ref sig .tc := ⟨.hbm, 177, rfl⟩
abbrev main_call7_cst_0 : Ref sig .tc := ⟨.hbm, 178, rfl⟩
abbrev main_call7_v4 : Ref sig .tc := ⟨.hbm, 179, rfl⟩
abbrev main_call7_v5 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_0 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_1 : Ref sig .tc := ⟨.hbm, 197, rfl⟩
abbrev main_v124 : Ref sig .tc := ⟨.hbm, 198, rfl⟩
abbrev main_v125 : Ref sig .tc := ⟨.hbm, 199, rfl⟩
abbrev main_cst_2 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_3 : Ref sig .tc := ⟨.hbm, 206, rfl⟩
abbrev main_v131 : Ref sig .tc := ⟨.hbm, 207, rfl⟩
abbrev main_v132 : Ref sig .tc := ⟨.hbm, 208, rfl⟩
abbrev main_cst_4 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_5 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩

abbrev nD : Nat := 1
abbrev τ : Topo := Topo.v7x

variable {F : FTy → Type} [FloatOps F]
-- ==== Matrix.lean ====
abbrev S128x1024 : Shape := ⟨2, ![128, 1024]⟩
abbrev S128x128 : Shape := ⟨2, ![128, 128]⟩
abbrev S1x128 : Shape := ⟨2, ![1, 128]⟩
abbrev S1024 : Shape := ⟨1, ![1024]⟩
abbrev S128x4x256x256 : Shape := ⟨4, ![128, 4, 256, 256]⟩
abbrev S128x4x256 : Shape := ⟨3, ![128, 4, 256]⟩
abbrev S128x4 : Shape := ⟨2, ![128, 4]⟩
abbrev S_ : Shape := ⟨0, ![]⟩
abbrev S1x1024 : Shape := ⟨2, ![1, 1024]⟩
abbrev S8x1024 : Shape := ⟨2, ![8, 1024]⟩
abbrev S8x128 : Shape := ⟨2, ![8, 128]⟩
abbrev S8x4x256x256 : Shape := ⟨4, ![8, 4, 256, 256]⟩
abbrev S8x4x256 : Shape := ⟨3, ![8, 4, 256]⟩
abbrev S1x256 : Shape := ⟨2, ![1, 256]⟩
abbrev S1x1 : Shape := ⟨2, ![1, 1]⟩
abbrev S1x1x256x256 : Shape := ⟨4, ![1, 1, 256, 256]⟩
abbrev S256x256 : Shape := ⟨2, ![256, 256]⟩
abbrev S1x1x256 : Shape := ⟨3, ![1, 1, 256]⟩
abbrev S1 : Shape := ⟨1, ![1]⟩
abbrev S8x256 : Shape := ⟨2, ![8, 256]⟩

abbrev nBuf : Space → Nat
  | .hbm => 18
  | .vmem => 26
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S1x128, .f32⟩
  | .hbm, ⟨6, _⟩ => ⟨S1024, .f32⟩
  | .hbm, ⟨7, _⟩ => ⟨S128x4x256x256, .f32⟩
  | .hbm, ⟨8, _⟩ => ⟨S128x4x256, .f32⟩
  | .hbm, ⟨9, _⟩ => ⟨S128x4, .f32⟩
  | .hbm, ⟨10, _⟩ => ⟨S_, .i32⟩
  | .hbm, ⟨11, _⟩ => ⟨S_, .f32⟩
  | .hbm, ⟨12, _⟩ => ⟨S128x128, .f32⟩
  | .hbm, ⟨13, _⟩ => ⟨S1x1024, .f32⟩
  | .hbm, ⟨14, _⟩ => ⟨S128x1024, .f32⟩
  | .hbm, ⟨15, _⟩ => ⟨S128x4x256x256, .f32⟩
  | .hbm, ⟨16, _⟩ => ⟨S128x4x256, .f32⟩
  | .hbm, ⟨17, _⟩ => ⟨S128x128, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x1024, .f32⟩
  | .local _ .vmem, ⟨12, _⟩ => ⟨S8x4x256x256, .f32⟩
  | .local _ .vmem, ⟨13, _⟩ => ⟨S8x4x256x256, .f32⟩
  | .local _ .vmem, ⟨14, _⟩ => ⟨S8x4x256, .f32⟩
  | .local _ .vmem, ⟨15, _⟩ => ⟨S8x4x256, .f32⟩
  | .local _ .vmem, ⟨16, _⟩ => ⟨S8x128, .f32⟩
  | .local _ .vmem, ⟨17, _⟩ => ⟨S8x128, .f32⟩
  | .local _ .vmem, ⟨18, _⟩ => ⟨S8x1024, .f32⟩
  | .local _ .vmem, ⟨19, _⟩ => ⟨S8x1024, .f32⟩
  | .local _ .vmem, ⟨20, _⟩ => ⟨S8x4x256x256, .f32⟩
  | .local _ .vmem, ⟨21, _⟩ => ⟨S8x4x256x256, .f32⟩
  | .local _ .vmem, ⟨22, _⟩ => ⟨S8x4x256, .f32⟩
  | .local _ .vmem, ⟨23, _⟩ => ⟨S8x4x256, .f32⟩
  | .local _ .vmem, ⟨24, _⟩ => ⟨S8x128, .f32⟩
  | .local _ .vmem, ⟨25, _⟩ => ⟨S8x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let v3 : Index := Scalar.indexCast arg15
  let c0_2 : Index := 0#32
  ![v3.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let v7 : Index := Scalar.indexCast arg15
  let c0_5 : Index := 0#32
  ![v7.toNat, 0]
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let v35 : Index := Scalar.indexCast arg15
  let c0_13 : Index := 0#32
  ![v35.toNat, 0]
def k0_off4 (k0_t1 : Fin k0_t1_loop.trips) : Fin 4 → Nat :=
  let c0_i32 : BitVec 32 := 0#32
  let c1_i32 : BitVec 32 := 1#32
  let arg15 : BitVec 32 := Scf.iv c0_i32 c1_i32 k0_t1
  let v38 : Index := Scalar.indexCast arg15
  let c0_14 : Index := 0#32
  let c0_15 : Index := 0#32
  let c0_16 : Index := 0#32
  ![v38.toNat, 0, 0, 0]
def k0_off5 (k0_t1 : Fin k0_t1_loop.trips) : Fin 3 → Nat :=
  let c0_i32 : BitVec 32 := 0#32
  let c1_i32 : BitVec 32 := 1#32
  let arg15 : BitVec 32 := Scf.iv c0_i32 c1_i32 k0_t1
  let v41 : Index := Scalar.indexCast arg15
  let c0_17 : Index := 0#32
  let c0_18 : Index := 0#32
  ![v41.toNat, 0, 0]
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let v131 : Index := Scalar.indexCast arg15
  let c256 : Index := 256#32
  ![v131.toNat, 256]
def k0_off7 (k0_t1 : Fin k0_t1_loop.trips) : Fin 2 → Nat :=
  let c0_i32 : BitVec 32 := 0#32
  let c1_i32 : BitVec 32 := 1#32
  let arg15 : BitVec 32 := Scf.iv c0_i32 c1_i32 k0_t1
  let v159 : Index := Scalar.indexCast arg15
  let c1 : Index := 1#32
  ![v159.toNat, 1]
def k0_off8 (k0_t1 : Fin k0_t1_loop.trips) : Fin 4 → Nat :=
  let c0_i32 : BitVec 32 := 0#32
  let c1_i32 : BitVec 32 := 1#32
  let arg15 : BitVec 32 := Scf.iv c0_i32 c1_i32 k0_t1
  let v162 : Index := Scalar.indexCast arg15
  let c1_48 : Index := 1#32
  let c0_49 : Index := 0#32
  let c0_50 : Index := 0#32
  ![v162.toNat, 1, 0, 0]
def k0_off9 (k0_t1 : Fin k0_t1_loop.trips) : Fin 3 → Nat :=
  let c0_i32 : BitVec 32 := 0#32
  let c1_i32 : BitVec 32 := 1#32
  let arg15 : BitVec 32 := Scf.iv c0_i32 c1_i32 k0_t1
  let v165 : Index := Scalar.indexCast arg15
  let c1_51 : Index := 1#32
  let c0_52 : Index := 0#32
  ![v165.toNat, 1, 0]
def k0_off10 (k0_t1 : Fin k0_t1_loop.trips) : Fin 2 → Nat :=
  let c0_i32 : BitVec 32 := 0#32
  let c1_i32 : BitVec 32 := 1#32
  let arg15 : BitVec 32 := Scf.iv c0_i32 c1_i32 k0_t1
  let v255 : Index := Scalar.indexCast arg15
  let c512 : Index := 512#32
  ![v255.toNat, 512]
def k0_off11 (k0_t1 : Fin k0_t1_loop.trips) : Fin 2 → Nat :=
  let c0_i32 : BitVec 32 := 0#32
  let c1_i32 : BitVec 32 := 1#32
  let arg15 : BitVec 32 := Scf.iv c0_i32 c1_i32 k0_t1
  let v283 : Index := Scalar.indexCast arg15
  let c2 : Index := 2#32
  ![v283.toNat, 2]
def k0_off12 (k0_t1 : Fin k0_t1_loop.trips) : Fin 4 → Nat :=
  let c0_i32 : BitVec 32 := 0#32
  let c1_i32 : BitVec 32 := 1#32
  let arg15 : BitVec 32 := Scf.iv c0_i32 c1_i32 k0_t1
  let v286 : Index := Scalar.indexCast arg15
  let c2_82 : Index := 2#32
  let c0_83 : Index := 0#32
  let c0_84 : Index := 0#32
  ![v286.toNat, 2, 0, 0]
def k0_off13 (k0_t1 : Fin k0_t1_loop.trips) : Fin 3 → Nat :=
  let c0_i32 : BitVec 32 := 0#32
  let c1_i32 : BitVec 32 := 1#32
  let arg15 : BitVec 32 := Scf.iv c0_i32 c1_i32 k0_t1
  let v289 : Index := Scalar.indexCast arg15
  let c2_85 : Index := 2#32
  let c0_86 : Index := 0#32
  ![v289.toNat, 2, 0]
def k0_off14 (k0_t1 : Fin k0_t1_loop.trips) : Fin 2 → Nat :=
  let c0_i32 : BitVec 32 := 0#32
  let c1_i32 : BitVec 32 := 1#32
  let arg15 : BitVec 32 := Scf.iv c0_i32 c1_i32 k0_t1
  let v379 : Index := Scalar.indexCast arg15
  let c768 : Index := 768#32
  ![v379.toNat, 768]
def k0_off15 (k0_t1 : Fin k0_t1_loop.trips) : Fin 2 → Nat :=
  let c0_i32 : BitVec 32 := 0#32
  let c1_i32 : BitVec 32 := 1#32
  let arg15 : BitVec 32 := Scf.iv c0_i32 c1_i32 k0_t1
  let v407 : Index := Scalar.indexCast arg15
  let c3 : Index := 3#32
  ![v407.toNat, 3]
def k0_off16 (k0_t1 : Fin k0_t1_loop.trips) : Fin 4 → Nat :=
  let c0_i32 : BitVec 32 := 0#32
  let c1_i32 : BitVec 32 := 1#32
  let arg15 : BitVec 32 := Scf.iv c0_i32 c1_i32 k0_t1
  let v410 : Index := Scalar.indexCast arg15
  let c3_116 : Index := 3#32
  let c0_117 : Index := 0#32
  let c0_118 : Index := 0#32
  ![v410.toNat, 3, 0, 0]
def k0_off17 (k0_t1 : Fin k0_t1_loop.trips) : Fin 3 → Nat :=
  let c0_i32 : BitVec 32 := 0#32
  let c1_i32 : BitVec 32 := 1#32
  let arg15 : BitVec 32 := Scf.iv c0_i32 c1_i32 k0_t1
  let v413 : Index := Scalar.indexCast arg15
  let c3_119 : Index := 3#32
  let c0_120 : Index := 0#32
  ![v413.toNat, 3, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x4x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MatrixRefIdeal.lean ====
abbrev S128x1024 : Shape := ⟨2, ![128, 1024]⟩
abbrev S128x128 : Shape := ⟨2, ![128, 128]⟩
abbrev S1x128 : Shape := ⟨2, ![1, 128]⟩
abbrev S1024 : Shape := ⟨1, ![1024]⟩
abbrev S128x4x256x256 : Shape := ⟨4, ![128, 4, 256, 256]⟩
abbrev S128x4x256 : Shape := ⟨3, ![128, 4, 256]⟩
abbrev S128x4 : Shape := ⟨2, ![128, 4]⟩
abbrev S1x4 : Shape := ⟨2, ![1, 4]⟩
abbrev S_ : Shape := ⟨0, ![]⟩
abbrev S128x4x1 : Shape := ⟨3, ![128, 4, 1]⟩
abbrev S128x4x1x1 : Shape := ⟨4, ![128, 4, 1, 1]⟩
abbrev S128x4x256x1 : Shape := ⟨4, ![128, 4, 256, 1]⟩
abbrev S128x4x1x256 : Shape := ⟨4, ![128, 4, 1, 256]⟩
abbrev S1x1024 : Shape := ⟨2, ![1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S1x128, .f32⟩
  | .hbm, ⟨6, _⟩ => ⟨S1024, .f32⟩
  | .hbm, ⟨7, _⟩ => ⟨S128x4x256x256, .f32⟩
  | .hbm, ⟨8, _⟩ => ⟨S128x4x256, .f32⟩
  | .hbm, ⟨9, _⟩ => ⟨S128x4, .f32⟩
  | .hbm, ⟨10, _⟩ => ⟨S128x4, .f32⟩
  | .hbm, ⟨11, _⟩ => ⟨S1x4, .f32⟩
  | .hbm, ⟨12, _⟩ => ⟨S128x4, .f32⟩
  | .hbm, ⟨13, _⟩ => ⟨S128x4, .f32⟩
  | .hbm, ⟨14, _⟩ => ⟨S128x4, .f32⟩
  | .hbm, ⟨15, _⟩ => ⟨S1x4, .f32⟩
  | .hbm, ⟨16, _⟩ => ⟨S128x4, .f32⟩
  | .hbm, ⟨17, _⟩ => ⟨S128x4, .f32⟩
  | .hbm, ⟨18, _⟩ => ⟨S128x4, .f32⟩
  | .hbm, ⟨19, _⟩ => ⟨S_, .f32⟩
  | .hbm, ⟨20, _⟩ => ⟨S128x4, .f32⟩
  | .hbm, ⟨21, _⟩ => ⟨S128x4, .f32⟩
  | .hbm, ⟨22, _⟩ => ⟨S128x4, .f32⟩
  | .hbm, ⟨23, _⟩ => ⟨S128x4, .f32⟩
  | .hbm, ⟨24, _⟩ => ⟨S128x4, .i1⟩
  | .hbm, ⟨25, _⟩ => ⟨S128x4, .f32⟩
  | .hbm, ⟨26, _⟩ => ⟨S128x4, .f32⟩
  | .hbm, ⟨27, _⟩ => ⟨S128x4, .f32⟩
  | .hbm, ⟨28, _⟩ => ⟨S128x4, .f32⟩
  | .hbm, ⟨29, _⟩ => ⟨S128x4, .f32⟩
  | .hbm, ⟨30, _⟩ => ⟨S128x4, .f32⟩
  | .hbm, ⟨31, _⟩ => ⟨S128x4, .f32⟩
  | .hbm, ⟨32, _⟩ => ⟨S128x4, .f32⟩
  | .hbm, ⟨33, _⟩ => ⟨S128x4, .f32⟩
  | .hbm, ⟨34, _⟩ => ⟨S128x4x256, .f32⟩
  | .hbm, ⟨35, _⟩ => ⟨S128x4x256, .f32⟩
  | .hbm, ⟨36, _⟩ => ⟨S_, .f32⟩
  | .hbm, ⟨37, _⟩ => ⟨S128x4x256, .f32⟩
  | .hbm, ⟨38, _⟩ => ⟨S128x4x256, .f32⟩
  | .hbm, ⟨39, _⟩ => ⟨S128x4x256, .f32⟩
  | .hbm, ⟨40, _⟩ => ⟨S128x4, .f32⟩
  | .hbm, ⟨41, _⟩ => ⟨S128x4, .f32⟩
  | .hbm, ⟨42, _⟩ => ⟨S128x4, .f32⟩
  | .hbm, ⟨43, _⟩ => ⟨S128x4, .f32⟩
  | .hbm, ⟨44, _⟩ => ⟨S128x4, .f32⟩
  | .hbm, ⟨45, _⟩ => ⟨S128x4, .f32⟩
  | .hbm, ⟨46, _⟩ => ⟨S128x4, .f32⟩
  | .hbm, ⟨47, _⟩ => ⟨S128x4, .f32⟩
  | .hbm, ⟨48, _⟩ => ⟨S128x4x1, .f32⟩
  | .hbm, ⟨49, _⟩ => ⟨S128x4x256, .f32⟩
  | .hbm, ⟨50, _⟩ => ⟨S128x4x256, .f32⟩
  | .hbm, ⟨51, _⟩ => ⟨S128x4x256, .f32⟩
  | .hbm, ⟨52, _⟩ => ⟨S128x4x1, .f32⟩
  | .hbm, ⟨53, _⟩ => ⟨S128x4x256, .f32⟩
  | .hbm, ⟨54, _⟩ => ⟨S128x4x256, .f32⟩
  | .hbm, ⟨55, _⟩ => ⟨S128x4x256, .f32⟩
  | .hbm, ⟨56, _⟩ => ⟨S128x4, .f32⟩
  | .hbm, ⟨57, _⟩ => ⟨S128x4, .f32⟩
  | .hbm, ⟨58, _⟩ => ⟨S128x4, .f32⟩
  | .hbm, ⟨59, _⟩ => ⟨S128x4, .f32⟩
  | .hbm, ⟨60, _⟩ => ⟨S128x4, .f32⟩
  | .hbm, ⟨61, _⟩ => ⟨S128x4, .f32⟩
  | .hbm, ⟨62, _⟩ => ⟨S128x4, .f32⟩
  | .hbm, ⟨63, _⟩ => ⟨S128x4x1, .f32⟩
  | .hbm, ⟨64, _⟩ => ⟨S128x4x256, .f32⟩
  | .hbm, ⟨65, _⟩ => ⟨S128x4x256, .f32⟩
  | .hbm, ⟨66, _⟩ => ⟨S128x4x1x1, .f32⟩
  | .hbm, ⟨67, _⟩ => ⟨S128x4x256x256, .f32⟩
  | .hbm, ⟨68, _⟩ => ⟨S128x4x256x256, .f32⟩
  | .hbm, ⟨69, _⟩ => ⟨S128x4x1, .f32⟩
  | .hbm, ⟨70, _⟩ => ⟨S128x4x256, .f32⟩
  | .hbm, ⟨71, _⟩ => ⟨S128x4x256, .f32⟩
  | .hbm, ⟨72, _⟩ => ⟨S128x4x256x1, .f32⟩
  | .hbm, ⟨73, _⟩ => ⟨S128x4x1x256, .f32⟩
  | .hbm, ⟨74, _⟩ => ⟨S128x4x256x256, .f32⟩
  | .hbm, ⟨75, _⟩ => ⟨S128x4x256x256, .f32⟩
  | .hbm, ⟨76, _⟩ => ⟨S128x4x256x256, .f32⟩
  | .hbm, ⟨77, _⟩ => ⟨S128x4x256x256, .f32⟩
  | .hbm, ⟨78, _⟩ => ⟨S128x4x1, .f32⟩
  | .hbm, ⟨79, _⟩ => ⟨S128x4x256, .f32⟩
  | .hbm, ⟨80, _⟩ => ⟨S128x4x256, .f32⟩
  | .hbm, ⟨81, _⟩ => ⟨S128x4x1, .f32⟩
  | .hbm, ⟨82, _⟩ => ⟨S128x4x256, .f32⟩
  | .hbm, ⟨83, _⟩ => ⟨S128x4x256, .f32⟩
  | .hbm, ⟨84, _⟩ => ⟨S128x4x256, .f32⟩
  | .hbm, ⟨85, _⟩ => ⟨S_, .f32⟩
  | .hbm, ⟨86, _⟩ => ⟨S128x4, .f32⟩
  | .hbm, ⟨87, _⟩ => ⟨S128x4x1, .f32⟩
  | .hbm, ⟨88, _⟩ => ⟨S_, .f32⟩
  | .hbm, ⟨89, _⟩ => ⟨S128x4x1, .f32⟩
  | .hbm, ⟨90, _⟩ => ⟨S128x4x1, .f32⟩
  | .hbm, ⟨91, _⟩ => ⟨S128x4x256, .f32⟩
  | .hbm, ⟨92, _⟩ => ⟨S128x4x256, .f32⟩
  | .hbm, ⟨93, _⟩ => ⟨S128x4x256, .f32⟩
  | .hbm, ⟨94, _⟩ => ⟨S_, .f32⟩
  | .hbm, ⟨95, _⟩ => ⟨S128x4, .f32⟩
  | .hbm, ⟨96, _⟩ => ⟨S128x4x1, .f32⟩
  | .hbm, ⟨97, _⟩ => ⟨S_, .f32⟩
  | .hbm, ⟨98, _⟩ => ⟨S128x4x1, .f32⟩
  | .hbm, ⟨99, _⟩ => ⟨S128x4x1, .f32⟩
  | .hbm, ⟨100, _⟩ => ⟨S128x4x256, .f32⟩
  | .hbm, ⟨101, _⟩ => ⟨S128x4x256, .f32⟩
  | .hbm, ⟨102, _⟩ => ⟨S_, .f32⟩
  | .hbm, ⟨103, _⟩ => ⟨S128x4x1, .f32⟩
  | .hbm, ⟨104, _⟩ => ⟨S128x4x1, .f32⟩
  | .hbm, ⟨105, _⟩ => ⟨S128x4x1, .f32⟩
  | .hbm, ⟨106, _⟩ => ⟨S128x4x256, .f32⟩
  | .hbm, ⟨107, _⟩ => ⟨S128x4x256, .f32⟩
  | .hbm, ⟨108, _⟩ => ⟨S128x1024, .f32⟩
  | .hbm, ⟨109, _⟩ => ⟨S1x1024, .f32⟩
  | .hbm, ⟨110, _⟩ => ⟨S128x1024, .f32⟩
  | .hbm, ⟨111, _⟩ => ⟨S128x1024, .f32⟩
  | .hbm, ⟨112, _⟩ => ⟨S128x1024, .f32⟩
  | .hbm, ⟨113, _⟩ => ⟨S128x1024, .f32⟩
  | .hbm, ⟨114, _⟩ => ⟨S_, .f32⟩
  | .hbm, ⟨115, _⟩ => ⟨S128x1024, .f32⟩
  | .hbm, ⟨116, _⟩ => ⟨S128x1024, .f32⟩
  | .hbm, ⟨117, _⟩ => ⟨S_, .f32⟩
  | .hbm, ⟨118, _⟩ => ⟨S128x1024, .f32⟩
  | .hbm, ⟨119, _⟩ => ⟨S128x1024, .f32⟩
  | .hbm, ⟨120, _⟩ => ⟨S128x1024, .f32⟩
  | .hbm, ⟨121, _⟩ => ⟨S_, .i32⟩
  | .hbm, ⟨122, _⟩ => ⟨S_, .f32⟩
  | .hbm, ⟨123, _⟩ => ⟨S128x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_0 : Ref sig .tc := ⟨.hbm, 85, rfl⟩
abbrev main_v59 : Ref sig .tc := ⟨.hbm, 86, rfl⟩
abbrev main_v60 : Ref sig .tc := ⟨.hbm, 87, rfl⟩
abbrev main_cst_1 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_2 : Ref sig .tc := ⟨.hbm, 94, rfl⟩
abbrev main_v66 : Ref sig .tc := ⟨.hbm, 95, rfl⟩
abbrev main_v67 : Ref sig .tc := ⟨.hbm, 96, rfl⟩
abbrev main_cst_3 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_4 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_5 : Ref sig .tc := ⟨.hbm, 114, rfl⟩
abbrev main_v83 : Ref sig .tc := ⟨.hbm, 115, rfl⟩
abbrev main_v84 : Ref sig .tc := ⟨.hbm, 116, rfl⟩
abbrev main_cst_6 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c : Ref sig .tc := ⟨.hbm, 121, rfl⟩
abbrev main_call1_v0 : Ref sig .tc := ⟨.hbm, 122, rfl⟩
abbrev main_v88 : Ref sig .tc := ⟨.hbm, 123, rfl⟩

abbrev nD : Nat := 1
abbrev τ : Topo := Topo.v7x

variable {F : FTy → Type} [FloatOps F]
-- ==== Proof.Common.lean ====
/-
  What the programs' values have in common, over the extended reals: the SiLU gate, the row normalization, and a sum
  over a long axis cut into tiles of equal length.
-/
module

public import Idealize.ShloMosaic.PureOps.Ideal.Laws
public import Idealize.ShloMosaic.Lib.Pointwise

@[expose] public section

noncomputable section

open Idealize.ShloMosaic

namespace Cert.Common

/-- The all-zero offsets of a whole rank-two block. -/
theorem hz : (![0, 0] : Fin 2 → Nat) = fun _ => 0 := funext fun a => by fin_cases a <;> rfl

/-- The all-zero offsets of a whole rank-three block. -/
theorem hz3 : (![0, 0, 0] : Fin 3 → Nat) = fun _ => 0 := funext fun a => by fin_cases a <;> rfl

/-- `a · σ(a)`. -/
def silu (a : EReal) : EReal := a * Ideal.logistic a

/-- The mean of a row of 1024 entries. -/
def mean (h : Fin 1024 → EReal) : EReal := Ideal.div (∑ k, h k) (Ideal.ofBits .f32 0x44800000#32)

/-- A row of 1024 entries normalized: centred, divided by the root of its variance plus `1e-5`, scaled and shifted. -/
def layerNorm (h g b : Fin 1024 → EReal) (d : Fin 1024) : EReal :=
  (h d - mean h) * Ideal.rsqrt (mean (fun k => (h k - mean h) * (h k - mean h)) + Ideal.ofBits .f32 0x3727C5AC#32)
    * g d + b d

/-- The scale of the residual, `√2` as the single-precision word the programs hold. -/
def alpha : EReal := Ideal.ofBits .f32 0x3FB504F3#32

/-- A choice between two values by whether two small numbers, as 32-bit words, are the same word. -/
theorem select_word {α : Type} (a b : ℕ) (ha : a < 4294967296) (hb : b < 4294967296) (x y : α) :
    Scalar.select (IntOp.cmpi .eq (BitVec.ofNat 32 a) (BitVec.ofNat 32 b)) x y = if a = b then x else y := by
  have e : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff, beq_iff_eq, decide_eq_true_iff]
    constructor
    · intro h
      have h' := congrArg BitVec.toNat h
      simp only [BitVec.toNat_ofNat] at h'
      omega
    · rintro rfl; rfl
  rw [e]
  by_cases h : a = b <;> simp [h, Scalar.select]

/-- The one entry of a row that a comparison of lane numbers picks out, by summing the masked row. -/
theorem sum_select_word (n : ℕ) (hn : n ≤ 4294967296) (f : Fin n → EReal) (e : ℕ) (he : e < n) :
    (∑ x : Fin n, Scalar.select (IntOp.cmpi .eq (BitVec.ofNat 32 x.val) (BitVec.ofNat 32 e)) (f x) 0) = f ⟨e, he⟩ := by
  have h : ∀ x : Fin n, Scalar.select (IntOp.cmpi .eq (BitVec.ofNat 32 x.val) (BitVec.ofNat 32 e)) (f x) 0
      = if x = ⟨e, he⟩ then f x else 0 := fun x => by
    rw [select_word _ _ (lt_of_lt_of_le x.isLt hn) (lt_of_lt_of_le he hn)]
    simp only [Fin.ext_iff]
  simp only [h, Finset.sum_ite_eq', Finset.mem_univ, if_true]

/-- A number that is not negative and not infinite passes into a sum. -/
theorem mul_sum_of_nonneg {n : ℕ} (g : EReal) (f : Fin n → EReal) (h0 : 0 ≤ g) (h1 : g ≠ ⊤) :
    g * ∑ k, f k = ∑ k, g * f k := by
  induction n with
  | zero => simp
  | succ n ih => rw [Fin.sum_univ_castSucc, Fin.sum_univ_castSucc, EReal.left_distrib_of_nonneg_of_ne_top h0 h1, ih]

end Cert.Common

end
-- ==== Proof.MoePayload.lean ====
/-
  The expert layer's stored values, read at an index over the extended reals.
-/
module

public import proofs.«01_k».proof.Proof.Common
public import proofs.«01_k».proof.Proof.Gen.KernelIdeal.Skeleton

@[expose] public section

set_option maxRecDepth 16384

noncomputable section

open Idealize.ShloMosaic

namespace Cert.KernelIdeal.Payload

open Cert.KernelIdeal Cert.KernelIdeal.Gen Cert.Common Idealize.ShloMosaic.Pointwise

/-- The value stored back into the accumulator is the value computed. -/
theorem pay1_eq (v : Vec Ideal S512x1024 .f32) : k0_pay1 (F := Ideal) v = v := by
  unfold k0_pay1
  exact shapeCast_self _ _

/-- The accumulator starts at the scaled residual. -/
theorem pay4_apply (v : Vec Ideal S512x1024 .f32) (r : Fin 512) (d : Fin 1024) :
    k0_pay4 (F := Ideal) v (ix2 r d) = alpha * v (ix2 r d) := by
  pointwise [k0_pay4]
  rfl

/-- One point adds, for its expert and its tile of 512 hidden columns, the gated products. -/
theorem pay5_apply (i : grid0.Coords) (gt : Vec Ideal S512x128 .f32) (x : Vec Ideal S512x1024 .bf16)
    (wg wu : Vec Ideal S1x1024x512 .bf16) (acc : Vec Ideal S512x1024 .f32)
    (wd : Vec Ideal S1x512x1024 .bf16) (r : Fin 512) (d : Fin 1024) :
    k0_pay5 (F := Ideal) i gt x wg wu acc wd (ix2 r d) = acc (ix2 r d)
      + ∑ k : Fin 512, silu (∑ l : Fin 1024, x (ix2 r l) * wg (ix3 0 l k)) * (∑ l : Fin 1024, x (ix2 r l) * wu (ix3 0 l k))
          * gt (ix2 r ⟨(i 1).val, lt_of_lt_of_le (i 1).isLt (by decide)⟩) * wd (ix3 0 k d) := by
  pointwise [k0_pay5]
  rw [sum_select_word 128 (by decide) (fun l => gt (ix2 r l)) (i 1).val (lt_of_lt_of_le (i 1).isLt (by decide))]
  rfl

/-- The last point of a row tile normalizes the accumulated rows. -/
theorem pay2_apply (v : Vec Ideal S512x1024 .f32) (g b : Vec Ideal S1x1024 .f32) (r : Fin 512) (d : Fin 1024) :
    k0_pay2 (F := Ideal) v g b (ix2 r d)
      = layerNorm (fun k => v (ix2 r k)) (fun k => g (ix2 0 k)) (fun k => b (ix2 0 k)) d := by
  pointwise [k0_pay2]
  rfl

/-- The bfloat16 copy holds the same values. -/
theorem pay3_apply (v : Vec Ideal S512x1024 .f32) (g b : Vec Ideal S1x1024 .f32) (r : Fin 512) (d : Fin 1024) :
    k0_pay3 (F := Ideal) v g b (ix2 r d)
      = layerNorm (fun k => v (ix2 r k)) (fun k => g (ix2 0 k)) (fun k => b (ix2 0 k)) d :=
  pay2_apply v g b r d

end Cert.KernelIdeal.Payload

end
-- ==== Proof.MoeCases.lean ====
/-
  What one point of the expert layer's grid leaves in the accumulator and in its two result blocks, as the stored
  values of the blocks it read. Three kinds of points: the first of a row tile, the last, and those between.
-/
module

public import proofs.«01_k».proof.Proof.MoePayload
public import proofs.«01_k».proof.Proof.Gen.KernelIdeal.Frame

@[expose] public section

set_option maxRecDepth 16384

noncomputable section

open Idealize.ShloMosaic Idealize.ShloMosaic.TcCoe Idealize.SL.Sem

namespace Cert.KernelIdeal.Cases

open Cert.KernelIdeal Cert.KernelIdeal.Gen Cert.Common

variable (c : Dev nD) (i : grid0.Coords)
variable (a3 : Memref sig .tc .vmem S512x1024 .bf16) (h3 : a3.IsWhole) (a4 : Memref sig .tc .vmem S512x1024 .f32) (h4 : a4.IsWhole)
  (a5 : Memref sig .tc .vmem S512x128 .f32) (h5 : a5.IsWhole) (a6 : Memref sig .tc .vmem S1x1024x512 .bf16) (h6 : a6.IsWhole)
  (a7 : Memref sig .tc .vmem S1x1024x512 .bf16) (h7 : a7.IsWhole) (a8 : Memref sig .tc .vmem S1x512x1024 .bf16) (h8 : a8.IsWhole)
  (a9 : Memref sig .tc .vmem S1x1024 .f32) (h9 : a9.IsWhole) (a10 : Memref sig .tc .vmem S1x1024 .f32) (h10 : a10.IsWhole)
  (a11 : Memref sig .tc .vmem S512x1024 .f32) (h11 : a11.IsWhole) (a12 : Memref sig .tc .vmem S512x1024 .bf16) (h12 : a12.IsWhole)
  (a13 : Memref sig .tc .vmem S512x1024 .f32) (h13 : a13.IsWhole)
variable (x0 : Vec Ideal S512x1024 .bf16) (x1 : Vec Ideal S512x1024 .f32) (x2 : Vec Ideal S512x128 .f32)
  (x3 x4 : Vec Ideal S1x1024x512 .bf16) (x5 : Vec Ideal S1x512x1024 .bf16) (x6 x7 : Vec Ideal S1x1024 .f32)
  (xs : Vec Ideal S512x1024 .f32)

/-- Between the first and the last point: the accumulator grows by the point's products. -/
theorem acc_B (hc0 : ¬cond0_0 i) (hc1 : ¬cond0_1 i) :
    sout0_B_0 c i a3 h3 a4 h4 a5 h5 a6 h6 a7 h7 a8 h8 a9 h9 a10 h10 a11 h11 a12 h12 a13 h13 hc0 hc1 x0 x1 x2 x3 x4 x5 x6 x7 xs
      = k0_pay5 i x2 x0 x3 x4 xs x5 := by
  unfold sout0_B_0
  rw [View.read_writes_eq_canon _ _ _ (scover0_B_0 c i a3 h3 a4 h4 a5 h5 a6 h6 a7 h7 a8 h8 a9 h9 a10 h10 a11 h11 a12 h12 a13 h13 hc0 hc1 x0 x1 x2 x3 x4 x5 x6 x7 xs)]
  unfold kernelRun0_B
  dsimp only
  (try sl_unfold_words)
  rw [View.canon_unit_zero hz, Payload.pay1_eq]
  simp only [View.readAt_eq_ld, h3.read_unread, h5.read_unread, h6.read_unread, h7.read_unread, h8.read_unread, h13.read_unread,
    View.ld_unit_zero (S := S512x1024) hz, View.ld_unit_zero (S := S512x128) hz, View.ld_unit_zero (S := S1x1024x512) hz3,
    View.ld_unit_zero (S := S1x512x1024) hz3]

/-- The first point of a row tile: the accumulator is set to the scaled residual, then grows by the point's products. -/
theorem acc_A (hc0 : cond0_0 i) (hc1 : ¬cond0_1 i) :
    sout0_A_0 c i a3 h3 a4 h4 a5 h5 a6 h6 a7 h7 a8 h8 a9 h9 a10 h10 a11 h11 a12 h12 a13 h13 hc0 hc1 x0 x1 x2 x3 x4 x5 x6 x7
      = k0_pay5 i x2 x0 x3 x4 (k0_pay4 x1) x5 := by
  unfold sout0_A_0
  rw [View.read_writes_eq_canon _ _ _ (scover0_A_0 c i a3 h3 a4 h4 a5 h5 a6 h6 a7 h7 a8 h8 a9 h9 a10 h10 a11 h11 a12 h12 a13 h13 hc0 hc1 x0 x1 x2 x3 x4 x5 x6 x7)]
  unfold kernelRun0_A
  dsimp only
  (try sl_unfold_words)
  rw [View.canon_cons_unit_zero (S := S512x1024) hz, View.readCov_unit_zero (S := S512x1024) _ hz, Payload.pay1_eq]
  simp only [View.readAt_eq_ld, h3.read_unread, h4.read_unread, h5.read_unread, h6.read_unread, h7.read_unread, h8.read_unread,
    View.ld_unit_zero (S := S512x1024) hz, View.ld_unit_zero (S := S512x128) hz, View.ld_unit_zero (S := S1x1024x512) hz3,
    View.ld_unit_zero (S := S1x512x1024) hz3]

/-- The last point of a row tile: the result block holds the normalized rows of the completed accumulator. -/
theorem out8_C (hc0 : ¬cond0_0 i) (hc1 : cond0_1 i) :
    out0_C_8 c i a3 h3 a4 h4 a5 h5 a6 h6 a7 h7 a8 h8 a9 h9 a10 h10 a11 h11 a12 h12 a13 h13 hc0 hc1 x0 x1 x2 x3 x4 x5 x6 x7 xs
      = k0_pay2 (k0_pay5 i x2 x0 x3 x4 xs x5) x6 x7 := by
  unfold out0_C_8
  rw [View.read_writes_eq_canon _ _ _ (cover0_C_8 c i a3 h3 a4 h4 a5 h5 a6 h6 a7 h7 a8 h8 a9 h9 a10 h10 a11 h11 a12 h12 a13 h13 hc0 hc1 x0 x1 x2 x3 x4 x5 x6 x7 xs)]
  unfold kernelRun0_C
  dsimp only
  (try sl_unfold_words)
  rw [View.canon_unit_zero hz, View.readCov_unit_zero (S := S512x1024) _ hz, Payload.pay1_eq]
  simp only [View.readAt_eq_ld, h3.read_unread, h5.read_unread, h6.read_unread, h7.read_unread, h8.read_unread, h9.read_unread,
    h10.read_unread, h13.read_unread,
    View.ld_unit_zero (S := S512x1024) hz, View.ld_unit_zero (S := S512x128) hz, View.ld_unit_zero (S := S1x1024x512) hz3,
    View.ld_unit_zero (S := S1x512x1024) hz3, View.ld_unit_zero (S := S1x1024) hz]

/-- And the second result block the same rows, in the shorter format. -/
theorem out9_C (hc0 : ¬cond0_0 i) (hc1 : cond0_1 i) :
    out0_C_9 c i a3 h3 a4 h4 a5 h5 a6 h6 a7 h7 a8 h8 a9 h9 a10 h10 a11 h11 a12 h12 a13 h13 hc0 hc1 x0 x1 x2 x3 x4 x5 x6 x7 xs
      = k0_pay3 (k0_pay5 i x2 x0 x3 x4 xs x5) x6 x7 := by
  unfold out0_C_9
  rw [View.read_writes_eq_canon _ _ _ (cover0_C_9 c i a3 h3 a4 h4 a5 h5 a6 h6 a7 h7 a8 h8 a9 h9 a10 h10 a11 h11 a12 h12 a13 h13 hc0 hc1 x0 x1 x2 x3 x4 x5 x6 x7 xs)]
  unfold kernelRun0_C
  dsimp only
  (try sl_unfold_words)
  rw [View.canon_unit_zero hz, View.readCov_unit_zero (S := S512x1024) _ hz, Payload.pay1_eq]
  simp only [View.readAt_eq_ld, h3.read_unread, h5.read_unread, h6.read_unread, h7.read_unread, h8.read_unread, h9.read_unread,
    h10.read_unread, h13.read_unread,
    View.ld_unit_zero (S := S512x1024) hz, View.ld_unit_zero (S := S512x128) hz, View.ld_unit_zero (S := S1x1024x512) hz3,
    View.ld_unit_zero (S := S1x512x1024) hz3, View.ld_unit_zero (S := S1x1024) hz]

end Cert.KernelIdeal.Cases

end
-- ==== Proof.MoeBlocks.lean ====
/-
  The blocks one point of the expert layer's grid reads, as entries of the launch's arguments. Point `t` works on row
  tile `t / 56`, expert `t / 7 % 8` and hidden tile `t % 7`.
-/
module

public import proofs.«01_k».proof.Proof.Common
public import proofs.«01_k».proof.Proof.Gen.KernelIdeal.Frame

@[expose] public section

set_option maxRecDepth 16384

noncomputable section

open Idealize.ShloMosaic Idealize.ShloMosaic.TcCoe Idealize.SL.Sem

namespace Cert.KernelIdeal.Blocks

open Cert.KernelIdeal Cert.KernelIdeal.Gen Cert.Common Idealize.ShloMosaic.Pointwise

variable (m : (ℓ : Loc nD τ sig) → Buf (Elt Ideal) ℓ) (c : Dev nD)

/-! The launch's arguments. -/

abbrev argX : S16384x1024.Idx → EReal := m ((c : Thread nD τ).loc main_arg0)
abbrev argGate : S16384x128.Idx → EReal := m ((c : Thread nD τ).loc main_arg1)
abbrev argWg : S8x1024x3584.Idx → EReal := m ((c : Thread nD τ).loc main_arg2)
abbrev argWu : S8x1024x3584.Idx → EReal := m ((c : Thread nD τ).loc main_arg3)
abbrev argWd : S8x3584x1024.Idx → EReal := m ((c : Thread nD τ).loc main_arg4)
abbrev argG : S1024.Idx → EReal := m ((c : Thread nD τ).loc main_arg5)
abbrev argB : S1024.Idx → EReal := m ((c : Thread nD τ).loc main_arg6)

/-! What the arrays behind the windows hold when the grid starts: a conversion of format changes no value, and a
    row vector holds the entries of the vector. -/

theorem V_x : (V m c main_v0 : S16384x1024.Idx → EReal) = argX m c := by
  show StableHlo.after hostOps0 _ (Proc.devRef .tc main_v0) = _
  after_results
  rfl

theorem V_r : (V m c main_arg0 : S16384x1024.Idx → EReal) = argX m c := by
  show StableHlo.after hostOps0 _ (Proc.devRef .tc main_arg0) = _
  after_results

theorem V_gate : (V m c main_arg1 : S16384x128.Idx → EReal) = argGate m c := by
  show StableHlo.after hostOps0 _ (Proc.devRef .tc main_arg1) = _
  after_results

theorem V_wg : (V m c main_v1 : S8x1024x3584.Idx → EReal) = argWg m c := by
  show StableHlo.after hostOps0 _ (Proc.devRef .tc main_v1) = _
  after_results
  rfl

theorem V_wu : (V m c main_v2 : S8x1024x3584.Idx → EReal) = argWu m c := by
  show StableHlo.after hostOps0 _ (Proc.devRef .tc main_v2) = _
  after_results
  rfl

theorem V_wd : (V m c main_v3 : S8x3584x1024.Idx → EReal) = argWd m c := by
  show StableHlo.after hostOps0 _ (Proc.devRef .tc main_v3) = _
  after_results
  rfl

theorem V_g : (V m c main_v4 : S1x1024.Idx → EReal) = shapeCast S1x1024 (argG m c) shapeCasts_S1024_S1x1024 := by
  show StableHlo.after hostOps0 _ (Proc.devRef .tc main_v4) = _
  after_results
  rfl

theorem V_b : (V m c main_v5 : S1x1024.Idx → EReal) = shapeCast S1x1024 (argB m c) shapeCasts_S1024_S1x1024 := by
  show StableHlo.after hostOps0 _ (Proc.devRef .tc main_v5) = _
  after_results
  rfl

/-! The index maps, as functions of the point's number. -/

theorem idx_x : ∀ t : Fin cfg0.N, win0_0.index t (0 : Fin 2) = t.val / 56 ∧ win0_0.index t (1 : Fin 2) = 0 := by decide +kernel
theorem idx_r : ∀ t : Fin cfg0.N, win0_1.index t (0 : Fin 2) = t.val / 56 ∧ win0_1.index t (1 : Fin 2) = 0 := by decide +kernel
theorem idx_gate : ∀ t : Fin cfg0.N, win0_2.index t (0 : Fin 2) = t.val / 56 ∧ win0_2.index t (1 : Fin 2) = 0 := by decide +kernel
theorem idx_wg : ∀ t : Fin cfg0.N, win0_3.index t (0 : Fin 3) = t.val / 7 % 8 ∧ win0_3.index t (1 : Fin 3) = 0
    ∧ win0_3.index t (2 : Fin 3) = t.val % 7 := by decide +kernel
theorem idx_wu : ∀ t : Fin cfg0.N, win0_4.index t (0 : Fin 3) = t.val / 7 % 8 ∧ win0_4.index t (1 : Fin 3) = 0
    ∧ win0_4.index t (2 : Fin 3) = t.val % 7 := by decide +kernel
theorem idx_wd : ∀ t : Fin cfg0.N, win0_5.index t (0 : Fin 3) = t.val / 7 % 8 ∧ win0_5.index t (1 : Fin 3) = t.val % 7
    ∧ win0_5.index t (2 : Fin 3) = 0 := by decide +kernel
theorem idx_g : ∀ t : Fin cfg0.N, win0_6.index t (0 : Fin 2) = 0 ∧ win0_6.index t (1 : Fin 2) = 0 := by decide +kernel
theorem idx_b : ∀ t : Fin cfg0.N, win0_7.index t (0 : Fin 2) = 0 ∧ win0_7.index t (1 : Fin 2) = 0 := by decide +kernel
theorem coord_e : ∀ t : Fin cfg0.N, (grid0.coords t 1).val = t.val / 7 % 8 := by decide +kernel

/-! The blocks. -/

theorem N_lt (t : Fin cfg0.N) : t.val < 1792 := lt_of_lt_of_eq t.isLt (show cfg0.N = 1792 from N_0)

/-- The row of the array that row `r` of point `t`'s row tile is. -/
def row (t : Fin cfg0.N) (r : Fin 512) : Fin 16384 := ⟨t.val / 56 * 512 + r.val, by have := N_lt t; have := r.isLt; omega⟩
/-- Point `t`'s expert. -/
def exp (t : Fin cfg0.N) : Fin 8 := ⟨t.val / 7 % 8, Nat.mod_lt _ (by decide)⟩
/-- The hidden column that column `k` of point `t`'s hidden tile is. -/
def col (t : Fin cfg0.N) (k : Fin 512) : Fin 3584 := ⟨t.val % 7 * 512 + k.val, by
  have := Nat.mod_lt t.val (show 0 < 7 by decide); have := k.isLt; omega⟩

theorem blk_x (t : Fin cfg0.N) (r : Fin 512) (l : Fin 1024) :
    (iblk m c 0 t : S512x1024.Idx → EReal) (ix2 r l) = argX m c (ix2 (row t r) l) := by
  unfold iblk
  rw [View.read_apply]
  show (V m c main_v0 : S16384x1024.Idx → EReal) _ = _
  rw [V_x]
  refine congrArg _ (funext fun a => Fin.ext ?_)
  match a with
  | ⟨0, _⟩ => show win0_0.index t 0 * 512 + 1 * r.val = t.val / 56 * 512 + r.val; rw [(idx_x t).1]; omega
  | ⟨1, _⟩ => show win0_0.index t 1 * 1024 + 1 * l.val = l.val; rw [(idx_x t).2]; omega

theorem blk_r (t : Fin cfg0.N) (r : Fin 512) (l : Fin 1024) :
    (iblk m c 1 t : S512x1024.Idx → EReal) (ix2 r l) = argX m c (ix2 (row t r) l) := by
  unfold iblk
  rw [View.read_apply]
  show (V m c main_arg0 : S16384x1024.Idx → EReal) _ = _
  rw [V_r]
  refine congrArg _ (funext fun a => Fin.ext ?_)
  match a with
  | ⟨0, _⟩ => show win0_1.index t 0 * 512 + 1 * r.val = t.val / 56 * 512 + r.val; rw [(idx_r t).1]; omega
  | ⟨1, _⟩ => show win0_1.index t 1 * 1024 + 1 * l.val = l.val; rw [(idx_r t).2]; omega

theorem blk_gate (t : Fin cfg0.N) (r : Fin 512) (l : Fin 128) :
    (iblk m c 2 t : S512x128.Idx → EReal) (ix2 r l) = argGate m c (ix2 (row t r) l) := by
  unfold iblk
  rw [View.read_apply]
  show (V m c main_arg1 : S16384x128.Idx → EReal) _ = _
  rw [V_gate]
  refine congrArg _ (funext fun a => Fin.ext ?_)
  match a with
  | ⟨0, _⟩ => show win0_2.index t 0 * 512 + 1 * r.val = t.val / 56 * 512 + r.val; rw [(idx_gate t).1]; omega
  | ⟨1, _⟩ => show win0_2.index t 1 * 128 + 1 * l.val = l.val; rw [(idx_gate t).2]; omega

theorem blk_wg (t : Fin cfg0.N) (l : Fin 1024) (k : Fin 512) :
    (iblk m c 3 t : S1x1024x512.Idx → EReal) (ix3 0 l k) = argWg m c (ix3 (exp t) l (col t k)) := by
  unfold iblk
  rw [View.read_apply]
  show (V m c main_v1 : S8x1024x3584.Idx → EReal) _ = _
  rw [V_wg]
  refine congrArg _ (funext fun a => Fin.ext ?_)
  match a with
  | ⟨0, _⟩ => show win0_3.index t 0 * 1 + 1 * 0 = t.val / 7 % 8; rw [(idx_wg t).1]; omega
  | ⟨1, _⟩ => show win0_3.index t 1 * 1024 + 1 * l.val = l.val; rw [(idx_wg t).2.1]; omega
  | ⟨2, _⟩ => show win0_3.index t 2 * 512 + 1 * k.val = t.val % 7 * 512 + k.val; rw [(idx_wg t).2.2]; omega

theorem blk_wu (t : Fin cfg0.N) (l : Fin 1024) (k : Fin 512) :
    (iblk m c 4 t : S1x1024x512.Idx → EReal) (ix3 0 l k) = argWu m c (ix3 (exp t) l (col t k)) := by
  unfold iblk
  rw [View.read_apply]
  show (V m c main_v2 : S8x1024x3584.Idx → EReal) _ = _
  rw [V_wu]
  refine congrArg _ (funext fun a => Fin.ext ?_)
  match a with
  | ⟨0, _⟩ => show win0_4.index t 0 * 1 + 1 * 0 = t.val / 7 % 8; rw [(idx_wu t).1]; omega
  | ⟨1, _⟩ => show win0_4.index t 1 * 1024 + 1 * l.val = l.val; rw [(idx_wu t).2.1]; omega
  | ⟨2, _⟩ => show win0_4.index t 2 * 512 + 1 * k.val = t.val % 7 * 512 + k.val; rw [(idx_wu t).2.2]; omega

theorem blk_wd (t : Fin cfg0.N) (k : Fin 512) (d : Fin 1024) :
    (iblk m c 5 t : S1x512x1024.Idx → EReal) (ix3 0 k d) = argWd m c (ix3 (exp t) (col t k) d) := by
  unfold iblk
  rw [View.read_apply]
  show (V m c main_v3 : S8x3584x1024.Idx → EReal) _ = _
  rw [V_wd]
  refine congrArg _ (funext fun a => Fin.ext ?_)
  match a with
  | ⟨0, _⟩ => show win0_5.index t 0 * 1 + 1 * 0 = t.val / 7 % 8; rw [(idx_wd t).1]; omega
  | ⟨1, _⟩ => show win0_5.index t 1 * 512 + 1 * k.val = t.val % 7 * 512 + k.val; rw [(idx_wd t).2.1]; omega
  | ⟨2, _⟩ => show win0_5.index t 2 * 1024 + 1 * d.val = d.val; rw [(idx_wd t).2.2]; omega

theorem blk_g (t : Fin cfg0.N) (d : Fin 1024) :
    (iblk m c 6 t : S1x1024.Idx → EReal) (ix2 0 d) = argG m c (ix1 d) := by
  have e : (iblk m c 6 t : S1x1024.Idx → EReal) (ix2 0 d) = (V m c main_v4 : S1x1024.Idx → EReal) (ix2 0 d) := by
    unfold iblk
    rw [View.read_apply]
    show (V m c main_v4 : S1x1024.Idx → EReal) _ = _
    refine congrArg _ (funext fun a => Fin.ext ?_)
    match a with
    | ⟨0, _⟩ => show win0_6.index t 0 * 1 + 1 * 0 = 0; rw [(idx_g t).1]
    | ⟨1, _⟩ => show win0_6.index t 1 * 1024 + 1 * d.val = d.val; rw [(idx_g t).2]; omega
  rw [e, V_g]
  pointwise

theorem blk_b (t : Fin cfg0.N) (d : Fin 1024) :
    (iblk m c 7 t : S1x1024.Idx → EReal) (ix2 0 d) = argB m c (ix1 d) := by
  have e : (iblk m c 7 t : S1x1024.Idx → EReal) (ix2 0 d) = (V m c main_v5 : S1x1024.Idx → EReal) (ix2 0 d) := by
    unfold iblk
    rw [View.read_apply]
    show (V m c main_v5 : S1x1024.Idx → EReal) _ = _
    refine congrArg _ (funext fun a => Fin.ext ?_)
    match a with
    | ⟨0, _⟩ => show win0_7.index t 0 * 1 + 1 * 0 = 0; rw [(idx_b t).1]
    | ⟨1, _⟩ => show win0_7.index t 1 * 1024 + 1 * d.val = d.val; rw [(idx_b t).2]; omega
  rw [e, V_b]
  pointwise

end Cert.KernelIdeal.Blocks

end
-- ==== Proof.MoeValue.lean ====
/-
  The result of the expert layer, entry by entry: after point `56 q + j` the accumulator holds the scaled residual of
  row tile `q` plus the products of the first `j + 1` points of the tile, in their order; the last point normalizes it.
-/
module

public import proofs.«01_k».proof.Proof.MoeCases
public import proofs.«01_k».proof.Proof.MoeBlocks
public import proofs.«01_k».proof.Proof.Gen.KernelIdeal.Value

@[expose] public section

set_option maxRecDepth 16384

noncomputable section

open Idealize.ShloMosaic Idealize.ShloMosaic.TcCoe Idealize.SL.Sem

namespace Cert.KernelIdeal.MoeValue

open Cert.KernelIdeal Cert.KernelIdeal.Gen Cert.KernelIdeal.Blocks Cert.Common Idealize.ShloMosaic.Pointwise

variable (m : (ℓ : Loc nD τ sig) → Buf (Elt Ideal) ℓ) (c : Dev nD)

/-- What row `R` owes to hidden column `n` of expert `e`, at output column `d`: the gated product. -/
def term (R : Fin 16384) (d : Fin 1024) (e : Fin 8) (n : Fin 3584) : EReal :=
  silu (∑ l : Fin 1024, argX m c (ix2 R l) * argWg m c (ix3 e l n)) * (∑ l : Fin 1024, argX m c (ix2 R l) * argWu m c (ix3 e l n))
    * argGate m c (ix2 R ⟨e.val, lt_trans e.isLt (by decide)⟩) * argWd m c (ix3 e n d)

/-- What one point adds. -/
def part (t : Fin cfg0.N) (r : Fin 512) (d : Fin 1024) : EReal :=
  ∑ k : Fin 512, term m c (row t r) d (exp t) (col t k)

/-- One point's step of the accumulator, at an index. -/
theorem step (t : Fin cfg0.N) (acc : Vec Ideal S512x1024 .f32) (r : Fin 512) (d : Fin 1024) :
    k0_pay5 (F := Ideal) (grid0.coords t) (iblk m c 2 t) (iblk m c 0 t) (iblk m c 3 t) (iblk m c 4 t) acc (iblk m c 5 t) (ix2 r d)
      = acc (ix2 r d) + part m c t r d := by
  rw [Payload.pay5_apply]
  refine congrArg (acc (ix2 r d) + ·) (Finset.sum_congr rfl fun k _ => ?_)
  unfold term
  simp only [blk_x m c t, blk_wg m c t, blk_wu m c t, blk_wd m c t, blk_gate m c t]
  have he : (⟨(grid0.coords t 1).val, lt_of_lt_of_le (grid0.coords t 1).isLt (by decide)⟩ : Fin 128)
      = ⟨(exp t).val, lt_trans (exp t).isLt (by decide)⟩ := Fin.ext (coord_e t)
  rw [he]

/-- Point `56 q + j`. -/
def pt (q : Fin 32) (j : ℕ) (hj : j < 56) : Fin cfg0.N :=
  ⟨56 * q.val + j, by rw [show cfg0.N = 1792 from N_0]; have := q.isLt; omega⟩

/-- The accumulator after point `56 q + j`, before the last point of the tile. -/
theorem acc_eq (q : Fin 32) (r : Fin 512) (d : Fin 1024) : ∀ (j : ℕ) (hj : j < 55),
    (outsAt0 m c (pt q j (by omega)).val (pt q j (by omega)).isLt).2.2 (ix2 r d)
      = alpha * argX m c (ix2 (row (pt q 0 (by omega)) r) d)
        + ∑ i : Fin (j + 1), part m c (pt q i.val (by have := i.isLt; omega)) r d
  | 0, hj => by
    rw [outsAt0_A m c (pt q 0 (by omega)) (by show (56 * q.val + 0) % 56 = 0; omega) (by show ¬(56 * q.val + 0) % 56 = 55; omega)]
    dsimp only
    rw [Cases.acc_A, step, Payload.pay4_apply, blk_r]
    simp
  | j + 1, hj => by
    have ih := acc_eq q r d j (by omega)
    rw [outsAt0_B m c (pt q (j + 1) (by omega)) (by show ¬(56 * q.val + (j + 1)) % 56 = 0; omega)
      (by show ¬(56 * q.val + (j + 1)) % 56 = 55; omega)]
    dsimp only
    rw [Cases.acc_B, step, Fin.sum_univ_castSucc, ← add_assoc]
    exact congrArg (· + part m c (pt q (j + 1) (by omega)) r d) ih

/-- The 56 points of a row tile add up to the products of all experts and all their hidden columns. -/
theorem sum_part (q : Fin 32) (r : Fin 512) (d : Fin 1024) :
    (∑ i : Fin 56, part m c (pt q i.val i.isLt) r d)
      = ∑ e : Fin 8, ∑ n : Fin 3584, term m c (row (pt q 0 (by omega)) r) d e n := by
  rw [Fin.sum_univ_tiles 8 7 rfl]
  refine Finset.sum_congr rfl fun e _ => ?_
  rw [Fin.sum_univ_tiles 7 512 rfl]
  refine Finset.sum_congr rfl fun f _ => Finset.sum_congr rfl fun k _ => ?_
  have he := e.isLt
  have hf := f.isLt
  have e1 : row (pt q (e.val * 7 + f.val) (by omega)) r = row (pt q 0 (by omega)) r := Fin.ext (by
    show (56 * q.val + (e.val * 7 + f.val)) / 56 * 512 + r.val = (56 * q.val + 0) / 56 * 512 + r.val; omega)
  have e2 : exp (pt q (e.val * 7 + f.val) (by omega)) = e := Fin.ext (by
    show (56 * q.val + (e.val * 7 + f.val)) / 7 % 8 = e.val; omega)
  have e3 : col (pt q (e.val * 7 + f.val) (by omega)) k = ⟨f.val * 512 + k.val, by have := k.isLt; omega⟩ := Fin.ext (by
    show (56 * q.val + (e.val * 7 + f.val)) % 7 * 512 + k.val = f.val * 512 + k.val; omega)
  rw [e1, e2, e3]

/-- Row `R` before the normalization. -/
def pre (R : Fin 16384) (d : Fin 1024) : EReal :=
  alpha * argX m c (ix2 R d) + ∑ e : Fin 8, ∑ n : Fin 3584, term m c R d e n

/-- The completed accumulator of a row tile. -/
theorem acc_last (q : Fin 32) (r : Fin 512) (d : Fin 1024) :
    k0_pay5 (F := Ideal) (grid0.coords (pt q 55 (by omega))) (iblk m c 2 (pt q 55 (by omega))) (iblk m c 0 (pt q 55 (by omega)))
      (iblk m c 3 (pt q 55 (by omega))) (iblk m c 4 (pt q 55 (by omega)))
      (outsAt0 m c (pt q 54 (by omega)).val (pt q 54 (by omega)).isLt).2.2 (iblk m c 5 (pt q 55 (by omega))) (ix2 r d)
      = pre m c (row (pt q 0 (by omega)) r) d := by
  rw [step, acc_eq m c q r d 54 (by omega)]
  unfold pre
  rw [← sum_part, Fin.sum_univ_castSucc (n := 55), ← add_assoc]
  rfl

/-- The result, as contents of the result array. -/
def result (i : S16384x1024.Idx) : EReal :=
  layerNorm (pre m c ⟨(i 0).val, (i 0).isLt⟩) (fun d => argG m c (ix1 d)) (fun d => argB m c (ix1 d)) ⟨(i 1).val, (i 1).isLt⟩

/-- The state's fold read at a point is the state at the point. -/
theorem G8_eq : (Value.G8 m c : S16384x1024.Idx → EReal) = result m c := by
  funext i
  have h0 : (i 0).val < 16384 := (i 0).isLt
  have h1 : (i 1).val < 1024 := (i 1).isLt
  let q : Fin 32 := ⟨(i 0).val / 512, by omega⟩
  have hp : Value.pt8Of i = (pt q 55 (by omega)).val := by
    show 56 * (1 * ((i 0).val / 512 - 0) + 1 * ((i 1).val / 1024 - 0)) + 55 = 56 * ((i 0).val / 512) + 55
    omega
  unfold Value.G8
  rw [dif_pos (by rw [hp]; exact (pt q 55 (by omega)).isLt), ← Value.outsAt0_sweep m c (Value.pt8Of i) (by rw [hp]; exact (pt q 55 (by omega)).isLt)]
  simp only [hp]
  rw [outsAt0_C m c (pt q 55 (by omega)) (by show ¬(56 * q.val + 55) % 56 = 0; omega) (by show (56 * q.val + 55) % 56 = 55; omega)]
  dsimp only
  rw [Cases.out8_C]
  have hl : Value.loc8Of i = ix2 (⟨(i 0).val % 512, Nat.mod_lt _ (by decide)⟩ : Fin 512) (⟨(i 1).val, h1⟩ : Fin 1024) := by
    funext a; apply Fin.ext
    match a with
    | ⟨0, _⟩ => rfl
    | ⟨1, _⟩ => show (i 1).val % 1024 = (i 1).val; omega
  rw [hl, Payload.pay2_apply]
  have hr : row (pt q 0 (by omega)) ⟨(i 0).val % 512, Nat.mod_lt _ (by decide)⟩ = ⟨(i 0).val, h0⟩ := Fin.ext (by
    show (56 * ((i 0).val / 512) + 0) / 56 * 512 + (i 0).val % 512 = (i 0).val; omega)
  unfold result
  congr 1
  · funext d
    rw [← hr]
    exact acc_last m c q _ d
  · funext d; exact blk_g m c _ d
  · funext d; exact blk_b m c _ d

/-- The second result holds the same entries. -/
theorem G9_eq : (Value.G9 m c : S16384x1024.Idx → EReal) = result m c := by
  funext i
  have h0 : (i 0).val < 16384 := (i 0).isLt
  have h1 : (i 1).val < 1024 := (i 1).isLt
  let q : Fin 32 := ⟨(i 0).val / 512, by omega⟩
  have hp : Value.pt9Of i = (pt q 55 (by omega)).val := by
    show 56 * (1 * ((i 0).val / 512 - 0) + 1 * ((i 1).val / 1024 - 0)) + 55 = 56 * ((i 0).val / 512) + 55
    omega
  unfold Value.G9
  rw [dif_pos (by rw [hp]; exact (pt q 55 (by omega)).isLt), ← Value.outsAt0_sweep m c (Value.pt9Of i) (by rw [hp]; exact (pt q 55 (by omega)).isLt)]
  simp only [hp]
  rw [outsAt0_C m c (pt q 55 (by omega)) (by show ¬(56 * q.val + 55) % 56 = 0; omega) (by show (56 * q.val + 55) % 56 = 55; omega)]
  dsimp only
  rw [Cases.out9_C]
  have hl : Value.loc9Of i = ix2 (⟨(i 0).val % 512, Nat.mod_lt _ (by decide)⟩ : Fin 512) (⟨(i 1).val, h1⟩ : Fin 1024) := by
    funext a; apply Fin.ext
    match a with
    | ⟨0, _⟩ => rfl
    | ⟨1, _⟩ => show (i 1).val % 1024 = (i 1).val; omega
  rw [hl, Payload.pay3_apply]
  have hr : row (pt q 0 (by omega)) ⟨(i 0).val % 512, Nat.mod_lt _ (by decide)⟩ = ⟨(i 0).val, h0⟩ := Fin.ext (by
    show (56 * ((i 0).val / 512) + 0) / 56 * 512 + (i 0).val % 512 = (i 0).val; omega)
  unfold result
  congr 1
  · funext d
    rw [← hr]
    exact acc_last m c q _ d
  · funext d; exact blk_g m c _ d
  · funext d; exact blk_b m c _ d

end Cert.KernelIdeal.MoeValue

end
-- ==== Proof.MoeRef.lean ====
/-
  The expert layer's reference, entry by entry.
-/
module

public import proofs.«01_k».proof.Proof.Common
public import proofs.«01_k».proof.Proof.Gen.ReferenceIdeal.Read

@[expose] public section

set_option maxRecDepth 16384

noncomputable section

open Idealize.ShloMosaic

namespace Cert.ReferenceIdeal.Entry

open Cert.ReferenceIdeal Cert.ReferenceIdeal.Gen Cert.ReferenceIdeal.Read Cert.Common Idealize.ShloMosaic.Pointwise

variable (x : S16384x1024.Idx → EReal) (gates : S16384x128.Idx → EReal) (wg wu : S8x1024x3584.Idx → EReal)
  (wd : S8x3584x1024.Idx → EReal) (g b : S1024.Idx → EReal)

/-- What expert `e` makes of row `R`, at output column `d`. -/
def expert (R : Fin 16384) (d : Fin 1024) (e : Fin 8) : EReal :=
  ∑ n : Fin 3584, silu (∑ l : Fin 1024, x (ix2 R l) * wg (ix3 e l n)) * (∑ l : Fin 1024, x (ix2 R l) * wu (ix3 e l n))
    * wd (ix3 e n d)

/-- The gated sum of the experts, in their order. -/
theorem sum_apply (R : Fin 16384) (d : Fin 1024) :
    val_main_v120 (F := Ideal) x gates wg wu wd (ix2 R d)
      = ∑ e : Fin 8, gates (ix2 R ⟨e.val, lt_trans e.isLt (by decide)⟩) * expert x wg wu wd R d e := by
  pointwise [val_main_v120, val_main_v119, val_main_v118, val_main_v117, val_main_v116, val_main_v115, val_main_v114,
    val_main_v113, val_main_v112, val_main_v111, val_main_v110, val_main_v109, val_main_call7_v5,
    val_main_call7_v4, val_main_call7_cst_0, val_main_call7_v3, val_main_call7_v2, val_main_call7_cst,
    val_main_call7_v1, val_main_call7_v0, val_main_v108, val_main_v107, val_main_v106, val_main_v105,
    val_main_v104, val_main_v103, val_main_v102, val_main_v101, val_main_v100, val_main_v99, val_main_v98,
    val_main_v97, val_main_v96, val_main_v95, val_main_v94, val_main_call6_v5, val_main_call6_v4,
    val_main_call6_cst_0, val_main_call6_v3, val_main_call6_v2, val_main_call6_cst, val_main_call6_v1,
    val_main_call6_v0, val_main_v93, val_main_v92, val_main_v91, val_main_v90, val_main_v89, val_main_v88,
    val_main_v87, val_main_v86, val_main_v85, val_main_v84, val_main_v83, val_main_v82, val_main_v81, val_main_v80,
    val_main_v79, val_main_call5_v5, val_main_call5_v4, val_main_call5_cst_0, val_main_call5_v3, val_main_call5_v2,
    val_main_call5_cst, val_main_call5_v1, val_main_call5_v0, val_main_v78, val_main_v77, val_main_v76,
    val_main_v75, val_main_v74, val_main_v73, val_main_v72, val_main_v71, val_main_v70, val_main_v69, val_main_v68,
    val_main_v67, val_main_v66, val_main_v65, val_main_v64, val_main_call4_v5, val_main_call4_v4,
    val_main_call4_cst_0, val_main_call4_v3, val_main_call4_v2, val_main_call4_cst, val_main_call4_v1,
    val_main_call4_v0, val_main_v63, val_main_v62, val_main_v61, val_main_v60, val_main_v59, val_main_v58,
    val_main_v57, val_main_v56, val_main_v55, val_main_v54, val_main_v53, val_main_v52, val_main_v51, val_main_v50,
    val_main_v49, val_main_call3_v5, val_main_call3_v4, val_main_call3_cst_0, val_main_call3_v3, val_main_call3_v2,
    val_main_call3_cst, val_main_call3_v1, val_main_call3_v0, val_main_v48, val_main_v47, val_main_v46,
    val_main_v45, val_main_v44, val_main_v43, val_main_v42, val_main_v41, val_main_v40, val_main_v39, val_main_v38,
    val_main_v37, val_main_v36, val_main_v35, val_main_v34, val_main_call2_v5, val_main_call2_v4,
    val_main_call2_cst_0, val_main_call2_v3, val_main_call2_v2, val_main_call2_cst, val_main_call2_v1,
    val_main_call2_v0, val_main_v33, val_main_v32, val_main_v31, val_main_v30, val_main_v29, val_main_v28,
    val_main_v27, val_main_v26, val_main_v25, val_main_v24, val_main_v23, val_main_v22, val_main_v21, val_main_v20,
    val_main_v19, val_main_call1_v5, val_main_call1_v4, val_main_call1_cst_0, val_main_call1_v3, val_main_call1_v2,
    val_main_call1_cst, val_main_call1_v1, val_main_call1_v0, val_main_v18, val_main_v17, val_main_v16,
    val_main_v15, val_main_v14, val_main_v13, val_main_v12, val_main_v11, val_main_v10, val_main_v9, val_main_v8,
    val_main_v7, val_main_v6, val_main_v5, val_main_v4, val_main_call0_v5, val_main_call0_v4, val_main_call0_cst_0,
    val_main_call0_v3, val_main_call0_v2, val_main_call0_cst, val_main_call0_v1, val_main_call0_v0, val_main_v3,
    val_main_v2, val_main_v1, val_main_v0, val_main_cst]
  rw [Fin.sum_univ_eight]
  rfl

/-- The row before the normalization. -/
theorem pre_apply (R : Fin 16384) (d : Fin 1024) :
    val_main_v123 (F := Ideal) x gates wg wu wd (ix2 R d) = alpha * x (ix2 R d)
      + ∑ e : Fin 8, gates (ix2 R ⟨e.val, lt_trans e.isLt (by decide)⟩) * expert x wg wu wd R d e := by
  rw [← sum_apply]
  pointwise [val_main_v123, val_main_v122, val_main_v121, val_main_cst_0]
  rfl

/-- The result. -/
theorem out_apply (R : Fin 16384) (d : Fin 1024) :
    val_main_v147 (F := Ideal) x gates wg wu wd g b (ix2 R d)
      = layerNorm (fun k => val_main_v123 (F := Ideal) x gates wg wu wd (ix2 R k)) (fun k => g (ix1 k)) (fun k => b (ix1 k)) d := by
  pointwise [val_main_v147, val_main_v146, val_main_v145, val_main_v144, val_main_v143, val_main_v142, val_main_v141,
    val_main_v140, val_main_v139, val_main_v138, val_main_v137, val_main_cst_5, val_main_v136, val_main_v135, val_main_v134,
    val_main_v133, val_main_cst_4, val_main_v132, val_main_v131, val_main_cst_3, val_main_v130, val_main_v129, val_main_v128,
    val_main_v127, val_main_v126, val_main_cst_2, val_main_v125, val_main_v124, val_main_cst_1]
  rfl

end Cert.ReferenceIdeal.Entry

end
-- ==== Proof.MoeClaims.lean ====
/-
  The expert layer's claims. The kernel scales each expert's hidden activations by the gate before the last product,
  the reference scales the product: with gates that are finite and not negative the two sums agree.
-/
module

public import proofs.«01_k».proof.Defs
public import proofs.«01_k».proof.Proof.MoeValue
public import proofs.«01_k».proof.Proof.MoeRef
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_gates_nonneg

@[expose] public section

noncomputable section

open Idealize.ShloMosaic Idealize.SL.Sem

namespace Cert.Proof.MoeClaims

open Cert.Common Idealize.ShloMosaic.Pointwise

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_gates_nonneg := fun m ρ _ => Cert.KernelIdeal.Gen.frame m ρ

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref_pre : Cert.quiescent_ReferenceIdeal_pre_gates_nonneg := fun m ρ _ => frame_ref m ρ trivial

theorem preserves : Cert.preserves_Kernel_KernelIdeal := trivial

section

variable (m : (ℓ : Loc Cert.KernelIdeal.nD Cert.KernelIdeal.τ Cert.KernelIdeal.sig) → Buf (Elt Ideal) ℓ) (c : Dev Cert.KernelIdeal.nD)

/-- What the precondition says of one gate. -/
theorem gate_range (h : Cert.Pre_KernelIdeal_gates_nonneg m) (i : Cert.KernelIdeal.S16384x128.Idx) :
    0 ≤ Cert.KernelIdeal.Blocks.argGate m c i ∧ Cert.KernelIdeal.Blocks.argGate m c i ≠ ⊤ := by
  have h1 : IntOp.andi (Ideal.cmp .oge (Cert.KernelIdeal.Blocks.argGate m c i) (Ideal.ofBits .f32 0x00000000#32))
      (Ideal.cmp .olt (Cert.KernelIdeal.Blocks.argGate m c i) (Ideal.ofBits .f32 0x7F800000#32)) = 1#1 := congrFun (h c) i
  have hz : Ideal.ofBits .f32 0x00000000#32 = 0 := by simp
  have ht : Ideal.ofBits .f32 0x7F800000#32 = ⊤ := by simp [Ideal.ofBits, Ideal.ieee]
  rw [hz, ht] at h1
  by_cases ha : 0 ≤ Cert.KernelIdeal.Blocks.argGate m c i <;> by_cases hb : Cert.KernelIdeal.Blocks.argGate m c i < ⊤
  · exact ⟨ha, ne_of_lt hb⟩
  all_goals simp [Ideal.cmp, IntOp.andi, ha, hb] at h1

/-- A row's two sums. -/
theorem sum_eq (h : Cert.Pre_KernelIdeal_gates_nonneg m) (R : Fin 16384) (d : Fin 1024) (e : Fin 8) :
    Cert.KernelIdeal.Blocks.argGate m c (ix2 R ⟨e.val, lt_trans e.isLt (by decide)⟩)
      * Cert.ReferenceIdeal.Entry.expert (Cert.KernelIdeal.Blocks.argX m c) (Cert.KernelIdeal.Blocks.argWg m c)
          (Cert.KernelIdeal.Blocks.argWu m c) (Cert.KernelIdeal.Blocks.argWd m c) R d e
      = ∑ n : Fin 3584, Cert.KernelIdeal.MoeValue.term m c R d e n := by
  obtain ⟨h0, h1⟩ := gate_range m c h (ix2 R ⟨e.val, lt_trans e.isLt (by decide)⟩)
  unfold Cert.ReferenceIdeal.Entry.expert
  rw [mul_sum_of_nonneg _ _ h0 h1]
  refine Finset.sum_congr rfl fun n _ => ?_
  unfold Cert.KernelIdeal.MoeValue.term
  ac_rfl

/-- The reference's first result, of the kernel's arguments. -/
theorem ref_eq (h : Cert.Pre_KernelIdeal_gates_nonneg m) :
    Cert.ReferenceIdeal.Read.val_main_v147 (F := Ideal) (Cert.KernelIdeal.Blocks.argX m c) (Cert.KernelIdeal.Blocks.argGate m c)
      (Cert.KernelIdeal.Blocks.argWg m c) (Cert.KernelIdeal.Blocks.argWu m c) (Cert.KernelIdeal.Blocks.argWd m c)
      (Cert.KernelIdeal.Blocks.argG m c) (Cert.KernelIdeal.Blocks.argB m c)
      = Cert.KernelIdeal.MoeValue.result m c := by
  funext i
  have hi : i = ix2 (⟨(i 0).val, (i 0).isLt⟩ : Fin 16384) (⟨(i 1).val, (i 1).isLt⟩ : Fin 1024) := by
    funext a; match a with
    | ⟨0, _⟩ => rfl
    | ⟨1, _⟩ => rfl
  rw [hi, Cert.ReferenceIdeal.Entry.out_apply]
  unfold Cert.KernelIdeal.MoeValue.result
  congr 1
  funext k
  rw [Cert.ReferenceIdeal.Entry.pre_apply]
  exact congrArg (alpha * Cert.KernelIdeal.Blocks.argX m c _ + ·) (Finset.sum_congr rfl fun e _ => sum_eq m c h _ k e)

end

/-- The kernel's two results and the reference's are the same extended reals. -/
theorem algebraic : Cert.algebraic_KernelIdeal_ReferenceIdeal_pre_gates_nonneg := by
  intro m ρ m' ρ' hpre hag
  refine ⟨fun c => Cert.KernelIdeal.Value.G8 m c, fun c => Cert.KernelIdeal.Value.G9 m c, Cert.KernelIdeal.Value.run m ρ, ?_⟩
  refine (θ_run Cert.ReferenceIdeal.defs _ _).mono (fun _ h c => ?_) (Cert.ReferenceIdeal.Value.run (F := Ideal) m' ρ')
  obtain ⟨h1, h2, hk⟩ := h c
  obtain ⟨a0, a1, a2, a3, a4, a5, a6⟩ := hag c
  have e0 : StableHlo.launchContents m' c (Proc.devRef .tc Cert.ReferenceIdeal.main_arg0) = Cert.KernelIdeal.Blocks.argX m c := a0
  have e1 : StableHlo.launchContents m' c (Proc.devRef .tc Cert.ReferenceIdeal.main_arg1) = Cert.KernelIdeal.Blocks.argGate m c := a1
  have e2 : StableHlo.launchContents m' c (Proc.devRef .tc Cert.ReferenceIdeal.main_arg2) = Cert.KernelIdeal.Blocks.argWg m c := a2
  have e3 : StableHlo.launchContents m' c (Proc.devRef .tc Cert.ReferenceIdeal.main_arg3) = Cert.KernelIdeal.Blocks.argWu m c := a3
  have e4 : StableHlo.launchContents m' c (Proc.devRef .tc Cert.ReferenceIdeal.main_arg4) = Cert.KernelIdeal.Blocks.argWd m c := a4
  have e5 : StableHlo.launchContents m' c (Proc.devRef .tc Cert.ReferenceIdeal.main_arg5) = Cert.KernelIdeal.Blocks.argG m c := a5
  have e6 : StableHlo.launchContents m' c (Proc.devRef .tc Cert.ReferenceIdeal.main_arg6) = Cert.KernelIdeal.Blocks.argB m c := a6
  refine ⟨h1.trans ?_, h2.trans ?_, hk⟩
  · rw [Cert.ReferenceIdeal.Read.val_main_v147_eq, e0, e1, e2, e3, e4, e5, e6]
    exact (ref_eq m c hpre).trans (Cert.KernelIdeal.MoeValue.G8_eq m c).symm
  · rw [Cert.ReferenceIdeal.Read.val_main_v148_eq, e0, e1, e2, e3, e4, e5, e6]
    exact (ref_eq m c hpre).trans (Cert.KernelIdeal.MoeValue.G9_eq m c).symm

end Cert.Proof.MoeClaims

end
-- ==== Proof.FfnPayload.lean ====
/-
  The feed-forward kernel's stored values, read at an index over the extended reals.
-/
module

public import proofs.«01_k».proof.Proof.Common
public import proofs.«01_k».proof.Proof.Gen.FfnIdeal.Skeleton

@[expose] public section

set_option maxRecDepth 16384

noncomputable section

open Idealize.ShloMosaic

namespace Cert.FfnIdeal.Payload

open Cert.FfnIdeal Cert.FfnIdeal.Gen Cert.Common Idealize.ShloMosaic.Pointwise

theorem pay1_apply (v : Vec Ideal S512x1024 .f32) (r : Fin 512) (d : Fin 1024) :
    k0_pay1 (F := Ideal) v (ix2 r d) = alpha * v (ix2 r d) := by
  pointwise [k0_pay1]
  rfl

theorem pay2_apply (x : Vec Ideal S512x1024 .bf16) (wg wu : Vec Ideal S1024x256 .bf16) (acc : Vec Ideal S512x1024 .f32)
    (wd : Vec Ideal S256x1024 .bf16) (r : Fin 512) (d : Fin 1024) :
    k0_pay2 (F := Ideal) x wg wu acc wd (ix2 r d) = acc (ix2 r d)
      + ∑ k : Fin 256, silu (∑ l : Fin 1024, x (ix2 r l) * wg (ix2 l k)) * (∑ l : Fin 1024, x (ix2 r l) * wu (ix2 l k))
          * wd (ix2 k d) := by
  pointwise [k0_pay2]
  rfl

theorem pay3_apply (v : Vec Ideal S512x1024 .f32) (g b : Vec Ideal S1x1024 .f32) (r : Fin 512) (d : Fin 1024) :
    k0_pay3 (F := Ideal) v g b (ix2 r d)
      = layerNorm (fun k => v (ix2 r k)) (fun k => g (ix2 0 k)) (fun k => b (ix2 0 k)) d := by
  pointwise [k0_pay3]
  rfl

theorem pay4_apply (v : Vec Ideal S512x1024 .f32) (g b : Vec Ideal S1x1024 .f32) (r : Fin 512) (d : Fin 1024) :
    k0_pay4 (F := Ideal) v g b (ix2 r d)
      = layerNorm (fun k => v (ix2 r k)) (fun k => g (ix2 0 k)) (fun k => b (ix2 0 k)) d :=
  pay3_apply v g b r d

end Cert.FfnIdeal.Payload

end
-- ==== Proof.FfnCases.lean ====
/-
  What one point of the feed-forward grid leaves in the accumulator and in its two result blocks, as the stored values
  of the blocks it read. Three kinds of points: the first of a row tile, the last, and those between.
-/
module

public import proofs.«01_k».proof.Proof.FfnPayload
public import proofs.«01_k».proof.Proof.Gen.FfnIdeal.Frame

@[expose] public section

set_option maxRecDepth 16384

noncomputable section

open Idealize.ShloMosaic Idealize.ShloMosaic.TcCoe Idealize.SL.Sem

namespace Cert.FfnIdeal.Cases

open Cert.FfnIdeal Cert.FfnIdeal.Gen Cert.Common

variable (c : Dev nD) (i : grid0.Coords)
variable (a2 : Memref sig .tc .vmem S512x1024 .bf16) (h2 : a2.IsWhole) (a3 : Memref sig .tc .vmem S512x1024 .f32) (h3 : a3.IsWhole)
  (a4 : Memref sig .tc .vmem S1024x256 .bf16) (h4 : a4.IsWhole) (a5 : Memref sig .tc .vmem S1024x256 .bf16) (h5 : a5.IsWhole)
  (a6 : Memref sig .tc .vmem S256x1024 .bf16) (h6 : a6.IsWhole)
  (a7 : Memref sig .tc .vmem S1x1024 .f32) (h7 : a7.IsWhole) (a8 : Memref sig .tc .vmem S1x1024 .f32) (h8 : a8.IsWhole)
  (a9 : Memref sig .tc .vmem S512x1024 .f32) (h9 : a9.IsWhole) (a10 : Memref sig .tc .vmem S512x1024 .bf16) (h10 : a10.IsWhole)
  (a11 : Memref sig .tc .vmem S512x1024 .f32) (h11 : a11.IsWhole)
variable (x0 : Vec Ideal S512x1024 .bf16) (x1 : Vec Ideal S512x1024 .f32)
  (x2 x3 : Vec Ideal S1024x256 .bf16) (x4 : Vec Ideal S256x1024 .bf16) (x5 x6 : Vec Ideal S1x1024 .f32)
  (xs : Vec Ideal S512x1024 .f32)

/-- Between the first and the last point: the accumulator grows by the point's products. -/
theorem acc_B (hc0 : ¬cond0_0 i) (hc1 : ¬cond0_1 i) :
    sout0_B_0 c i a2 h2 a3 h3 a4 h4 a5 h5 a6 h6 a7 h7 a8 h8 a9 h9 a10 h10 a11 h11 hc0 hc1 x0 x1 x2 x3 x4 x5 x6 xs
      = k0_pay2 x0 x2 x3 xs x4 := by
  unfold sout0_B_0
  rw [View.read_writes_eq_canon _ _ _ (scover0_B_0 c i a2 h2 a3 h3 a4 h4 a5 h5 a6 h6 a7 h7 a8 h8 a9 h9 a10 h10 a11 h11 hc0 hc1 x0 x1 x2 x3 x4 x5 x6 xs)]
  unfold kernelRun0_B
  dsimp only
  (try sl_unfold_words)
  rw [View.canon_unit_zero hz]
  simp only [View.readAt_eq_ld, h2.read_unread, h4.read_unread, h5.read_unread, h6.read_unread, h11.read_unread,
    View.ld_unit_zero (S := S512x1024) hz, View.ld_unit_zero (S := S1024x256) hz, View.ld_unit_zero (S := S256x1024) hz]

/-- The first point of a row tile: the accumulator is set to the scaled residual, then grows by the point's products. -/
theorem acc_A (hc0 : cond0_0 i) (hc1 : ¬cond0_1 i) :
    sout0_A_0 c i a2 h2 a3 h3 a4 h4 a5 h5 a6 h6 a7 h7 a8 h8 a9 h9 a10 h10 a11 h11 hc0 hc1 x0 x1 x2 x3 x4 x5 x6
      = k0_pay2 x0 x2 x3 (k0_pay1 x1) x4 := by
  unfold sout0_A_0
  rw [View.read_writes_eq_canon _ _ _ (scover0_A_0 c i a2 h2 a3 h3 a4 h4 a5 h5 a6 h6 a7 h7 a8 h8 a9 h9 a10 h10 a11 h11 hc0 hc1 x0 x1 x2 x3 x4 x5 x6)]
  unfold kernelRun0_A
  dsimp only
  (try sl_unfold_words)
  rw [View.canon_cons_unit_zero (S := S512x1024) hz, View.readCov_unit_zero (S := S512x1024) _ hz]
  simp only [View.readAt_eq_ld, h2.read_unread, h3.read_unread, h4.read_unread, h5.read_unread, h6.read_unread,
    View.ld_unit_zero (S := S512x1024) hz, View.ld_unit_zero (S := S1024x256) hz, View.ld_unit_zero (S := S256x1024) hz]

/-- The last point of a row tile: the result block holds the normalized rows of the completed accumulator. -/
theorem out7_C (hc0 : ¬cond0_0 i) (hc1 : cond0_1 i) :
    out0_C_7 c i a2 h2 a3 h3 a4 h4 a5 h5 a6 h6 a7 h7 a8 h8 a9 h9 a10 h10 a11 h11 hc0 hc1 x0 x1 x2 x3 x4 x5 x6 xs
      = k0_pay3 (k0_pay2 x0 x2 x3 xs x4) x5 x6 := by
  unfold out0_C_7
  rw [View.read_writes_eq_canon _ _ _ (cover0_C_7 c i a2 h2 a3 h3 a4 h4 a5 h5 a6 h6 a7 h7 a8 h8 a9 h9 a10 h10 a11 h11 hc0 hc1 x0 x1 x2 x3 x4 x5 x6 xs)]
  unfold kernelRun0_C
  dsimp only
  (try sl_unfold_words)
  rw [View.canon_unit_zero hz, View.readCov_unit_zero (S := S512x1024) _ hz]
  simp only [View.readAt_eq_ld, h2.read_unread, h4.read_unread, h5.read_unread, h6.read_unread, h7.read_unread, h8.read_unread,
    h11.read_unread, View.ld_unit_zero (S := S512x1024) hz, View.ld_unit_zero (S := S1024x256) hz,
    View.ld_unit_zero (S := S256x1024) hz, View.ld_unit_zero (S := S1x1024) hz]

/-- And the second result block the same rows, in the shorter format. -/
theorem out8_C (hc0 : ¬cond0_0 i) (hc1 : cond0_1 i) :
    out0_C_8 c i a2 h2 a3 h3 a4 h4 a5 h5 a6 h6 a7 h7 a8 h8 a9 h9 a10 h10 a11 h11 hc0 hc1 x0 x1 x2 x3 x4 x5 x6 xs
      = k0_pay4 (k0_pay2 x0 x2 x3 xs x4) x5 x6 := by
  unfold out0_C_8
  rw [View.read_writes_eq_canon _ _ _ (cover0_C_8 c i a2 h2 a3 h3 a4 h4 a5 h5 a6 h6 a7 h7 a8 h8 a9 h9 a10 h10 a11 h11 hc0 hc1 x0 x1 x2 x3 x4 x5 x6 xs)]
  unfold kernelRun0_C
  dsimp only
  (try sl_unfold_words)
  rw [View.canon_unit_zero hz, View.readCov_unit_zero (S := S512x1024) _ hz]
  simp only [View.readAt_eq_ld, h2.read_unread, h4.read_unread, h5.read_unread, h6.read_unread, h7.read_unread, h8.read_unread,
    h11.read_unread, View.ld_unit_zero (S := S512x1024) hz, View.ld_unit_zero (S := S1024x256) hz,
    View.ld_unit_zero (S := S256x1024) hz, View.ld_unit_zero (S := S1x1024) hz]

end Cert.FfnIdeal.Cases

end
-- ==== Proof.FfnBlocks.lean ====
/-
  The blocks one point of the feed-forward grid reads, as entries of the launch's arguments. Point `t` works on row tile
  `t / 11` and hidden tile `t % 11`.
-/
module

public import proofs.«01_k».proof.Proof.Common
public import proofs.«01_k».proof.Proof.Gen.FfnIdeal.Frame

@[expose] public section

set_option maxRecDepth 16384

noncomputable section

open Idealize.ShloMosaic Idealize.ShloMosaic.TcCoe Idealize.SL.Sem

namespace Cert.FfnIdeal.Blocks

open Cert.FfnIdeal Cert.FfnIdeal.Gen Cert.Common Idealize.ShloMosaic.Pointwise

variable (m : (ℓ : Loc nD τ sig) → Buf (Elt Ideal) ℓ) (c : Dev nD)

/-! The launch's arguments. -/

abbrev argX : S16384x1024.Idx → EReal := m ((c : Thread nD τ).loc main_arg0)
abbrev argWg : S1024x2816.Idx → EReal := m ((c : Thread nD τ).loc main_arg1)
abbrev argWu : S1024x2816.Idx → EReal := m ((c : Thread nD τ).loc main_arg2)
abbrev argWd : S2816x1024.Idx → EReal := m ((c : Thread nD τ).loc main_arg3)
abbrev argG : S1024.Idx → EReal := m ((c : Thread nD τ).loc main_arg4)
abbrev argB : S1024.Idx → EReal := m ((c : Thread nD τ).loc main_arg5)

/-! What the arrays behind the windows hold when the grid starts: a conversion of format changes no value, and a
    row vector holds the entries of the vector. -/

theorem V_x : (V m c main_v0 : S16384x1024.Idx → EReal) = argX m c := by
  show StableHlo.after hostOps0 _ (Proc.devRef .tc main_v0) = _
  after_results
  rfl

theorem V_r : (V m c main_arg0 : S16384x1024.Idx → EReal) = argX m c := by
  show StableHlo.after hostOps0 _ (Proc.devRef .tc main_arg0) = _
  after_results

theorem V_wg : (V m c main_v1 : S1024x2816.Idx → EReal) = argWg m c := by
  show StableHlo.after hostOps0 _ (Proc.devRef .tc main_v1) = _
  after_results
  rfl

theorem V_wu : (V m c main_v2 : S1024x2816.Idx → EReal) = argWu m c := by
  show StableHlo.after hostOps0 _ (Proc.devRef .tc main_v2) = _
  after_results
  rfl

theorem V_wd : (V m c main_v3 : S2816x1024.Idx → EReal) = argWd m c := by
  show StableHlo.after hostOps0 _ (Proc.devRef .tc main_v3) = _
  after_results
  rfl

theorem V_g : (V m c main_v4 : S1x1024.Idx → EReal) = shapeCast S1x1024 (argG m c) shapeCasts_S1024_S1x1024 := by
  show StableHlo.after hostOps0 _ (Proc.devRef .tc main_v4) = _
  after_results
  rfl

theorem V_b : (V m c main_v5 : S1x1024.Idx → EReal) = shapeCast S1x1024 (argB m c) shapeCasts_S1024_S1x1024 := by
  show StableHlo.after hostOps0 _ (Proc.devRef .tc main_v5) = _
  after_results
  rfl

/-! The index maps, as functions of the point's number. -/

theorem idx_x : ∀ t : Fin cfg0.N, win0_0.index t (0 : Fin 2) = t.val / 11 ∧ win0_0.index t (1 : Fin 2) = 0 := by decide +kernel
theorem idx_r : ∀ t : Fin cfg0.N, win0_1.index t (0 : Fin 2) = t.val / 11 ∧ win0_1.index t (1 : Fin 2) = 0 := by decide +kernel
theorem idx_wg : ∀ t : Fin cfg0.N, win0_2.index t (0 : Fin 2) = 0 ∧ win0_2.index t (1 : Fin 2) = t.val % 11 := by decide +kernel
theorem idx_wu : ∀ t : Fin cfg0.N, win0_3.index t (0 : Fin 2) = 0 ∧ win0_3.index t (1 : Fin 2) = t.val % 11 := by decide +kernel
theorem idx_wd : ∀ t : Fin cfg0.N, win0_4.index t (0 : Fin 2) = t.val % 11 ∧ win0_4.index t (1 : Fin 2) = 0 := by decide +kernel
theorem idx_g : ∀ t : Fin cfg0.N, win0_5.index t (0 : Fin 2) = 0 ∧ win0_5.index t (1 : Fin 2) = 0 := by decide +kernel
theorem idx_b : ∀ t : Fin cfg0.N, win0_6.index t (0 : Fin 2) = 0 ∧ win0_6.index t (1 : Fin 2) = 0 := by decide +kernel

/-! The blocks. -/

theorem N_lt (t : Fin cfg0.N) : t.val < 352 := lt_of_lt_of_eq t.isLt (show cfg0.N = 352 from N_0)

/-- The row of the array that row `r` of point `t`'s row tile is. -/
def row (t : Fin cfg0.N) (r : Fin 512) : Fin 16384 := ⟨t.val / 11 * 512 + r.val, by have := N_lt t; have := r.isLt; omega⟩
/-- The hidden column that column `k` of point `t`'s hidden tile is. -/
def col (t : Fin cfg0.N) (k : Fin 256) : Fin 2816 := ⟨t.val % 11 * 256 + k.val, by
  have := Nat.mod_lt t.val (show 0 < 11 by decide); have := k.isLt; omega⟩

theorem blk_x (t : Fin cfg0.N) (r : Fin 512) (l : Fin 1024) :
    (iblk m c 0 t : S512x1024.Idx → EReal) (ix2 r l) = argX m c (ix2 (row t r) l) := by
  unfold iblk
  rw [View.read_apply]
  show (V m c main_v0 : S16384x1024.Idx → EReal) _ = _
  rw [V_x]
  refine congrArg _ (funext fun a => Fin.ext ?_)
  match a with
  | ⟨0, _⟩ => show win0_0.index t 0 * 512 + 1 * r.val = t.val / 11 * 512 + r.val; rw [(idx_x t).1]; omega
  | ⟨1, _⟩ => show win0_0.index t 1 * 1024 + 1 * l.val = l.val; rw [(idx_x t).2]; omega

theorem blk_r (t : Fin cfg0.N) (r : Fin 512) (l : Fin 1024) :
    (iblk m c 1 t : S512x1024.Idx → EReal) (ix2 r l) = argX m c (ix2 (row t r) l) := by
  unfold iblk
  rw [View.read_apply]
  show (V m c main_arg0 : S16384x1024.Idx → EReal) _ = _
  rw [V_r]
  refine congrArg _ (funext fun a => Fin.ext ?_)
  match a with
  | ⟨0, _⟩ => show win0_1.index t 0 * 512 + 1 * r.val = t.val / 11 * 512 + r.val; rw [(idx_r t).1]; omega
  | ⟨1, _⟩ => show win0_1.index t 1 * 1024 + 1 * l.val = l.val; rw [(idx_r t).2]; omega

theorem blk_wg (t : Fin cfg0.N) (l : Fin 1024) (k : Fin 256) :
    (iblk m c 2 t : S1024x256.Idx → EReal) (ix2 l k) = argWg m c (ix2 l (col t k)) := by
  unfold iblk
  rw [View.read_apply]
  show (V m c main_v1 : S1024x2816.Idx → EReal) _ = _
  rw [V_wg]
  refine congrArg _ (funext fun a => Fin.ext ?_)
  match a with
  | ⟨0, _⟩ => show win0_2.index t 0 * 1024 + 1 * l.val = l.val; rw [(idx_wg t).1]; omega
  | ⟨1, _⟩ => show win0_2.index t 1 * 256 + 1 * k.val = t.val % 11 * 256 + k.val; rw [(idx_wg t).2]; omega

theorem blk_wu (t : Fin cfg0.N) (l : Fin 1024) (k : Fin 256) :
    (iblk m c 3 t : S1024x256.Idx → EReal) (ix2 l k) = argWu m c (ix2 l (col t k)) := by
  unfold iblk
  rw [View.read_apply]
  show (V m c main_v2 : S1024x2816.Idx → EReal) _ = _
  rw [V_wu]
  refine congrArg _ (funext fun a => Fin.ext ?_)
  match a with
  | ⟨0, _⟩ => show win0_3.index t 0 * 1024 + 1 * l.val = l.val; rw [(idx_wu t).1]; omega
  | ⟨1, _⟩ => show win0_3.index t 1 * 256 + 1 * k.val = t.val % 11 * 256 + k.val; rw [(idx_wu t).2]; omega

theorem blk_wd (t : Fin cfg0.N) (k : Fin 256) (d : Fin 1024) :
    (iblk m c 4 t : S256x1024.Idx → EReal) (ix2 k d) = argWd m c (ix2 (col t k) d) := by
  unfold iblk
  rw [View.read_apply]
  show (V m c main_v3 : S2816x1024.Idx → EReal) _ = _
  rw [V_wd]
  refine congrArg _ (funext fun a => Fin.ext ?_)
  match a with
  | ⟨0, _⟩ => show win0_4.index t 0 * 256 + 1 * k.val = t.val % 11 * 256 + k.val; rw [(idx_wd t).1]; omega
  | ⟨1, _⟩ => show win0_4.index t 1 * 1024 + 1 * d.val = d.val; rw [(idx_wd t).2]; omega

theorem blk_g (t : Fin cfg0.N) (d : Fin 1024) :
    (iblk m c 5 t : S1x1024.Idx → EReal) (ix2 0 d) = argG m c (ix1 d) := by
  have e : (iblk m c 5 t : S1x1024.Idx → EReal) (ix2 0 d) = (V m c main_v4 : S1x1024.Idx → EReal) (ix2 0 d) := by
    unfold iblk
    rw [View.read_apply]
    show (V m c main_v4 : S1x1024.Idx → EReal) _ = _
    refine congrArg _ (funext fun a => Fin.ext ?_)
    match a with
    | ⟨0, _⟩ => show win0_5.index t 0 * 1 + 1 * 0 = 0; rw [(idx_g t).1]
    | ⟨1, _⟩ => show win0_5.index t 1 * 1024 + 1 * d.val = d.val; rw [(idx_g t).2]; omega
  rw [e, V_g]
  pointwise

theorem blk_b (t : Fin cfg0.N) (d : Fin 1024) :
    (iblk m c 6 t : S1x1024.Idx → EReal) (ix2 0 d) = argB m c (ix1 d) := by
  have e : (iblk m c 6 t : S1x1024.Idx → EReal) (ix2 0 d) = (V m c main_v5 : S1x1024.Idx → EReal) (ix2 0 d) := by
    unfold iblk
    rw [View.read_apply]
    show (V m c main_v5 : S1x1024.Idx → EReal) _ = _
    refine congrArg _ (funext fun a => Fin.ext ?_)
    match a with
    | ⟨0, _⟩ => show win0_6.index t 0 * 1 + 1 * 0 = 0; rw [(idx_b t).1]
    | ⟨1, _⟩ => show win0_6.index t 1 * 1024 + 1 * d.val = d.val; rw [(idx_b t).2]; omega
  rw [e, V_b]
  pointwise

end Cert.FfnIdeal.Blocks

end
-- ==== Proof.FfnValue.lean ====
/-
  The result of the feed-forward layer, entry by entry: after point `11 q + j` the accumulator holds the scaled residual
  of row tile `q` plus the products of the first `j + 1` hidden tiles; the last point normalizes it.
-/
module

public import proofs.«01_k».proof.Proof.FfnCases
public import proofs.«01_k».proof.Proof.FfnBlocks
public import proofs.«01_k».proof.Proof.Gen.FfnIdeal.Value

@[expose] public section

set_option maxRecDepth 16384

noncomputable section

open Idealize.ShloMosaic Idealize.ShloMosaic.TcCoe Idealize.SL.Sem

namespace Cert.FfnIdeal.FfnValue

open Cert.FfnIdeal Cert.FfnIdeal.Gen Cert.FfnIdeal.Blocks Cert.Common Idealize.ShloMosaic.Pointwise

variable (m : (ℓ : Loc nD τ sig) → Buf (Elt Ideal) ℓ) (c : Dev nD)

/-- What row `R` owes to hidden column `n`, at output column `d`. -/
def term (R : Fin 16384) (d : Fin 1024) (n : Fin 2816) : EReal :=
  silu (∑ l : Fin 1024, argX m c (ix2 R l) * argWg m c (ix2 l n)) * (∑ l : Fin 1024, argX m c (ix2 R l) * argWu m c (ix2 l n))
    * argWd m c (ix2 n d)

/-- What one point adds. -/
def part (t : Fin cfg0.N) (r : Fin 512) (d : Fin 1024) : EReal :=
  ∑ k : Fin 256, term m c (row t r) d (col t k)

/-- One point's step of the accumulator, at an index. -/
theorem step (t : Fin cfg0.N) (acc : Vec Ideal S512x1024 .f32) (r : Fin 512) (d : Fin 1024) :
    k0_pay2 (F := Ideal) (iblk m c 0 t) (iblk m c 2 t) (iblk m c 3 t) acc (iblk m c 4 t) (ix2 r d)
      = acc (ix2 r d) + part m c t r d := by
  rw [Payload.pay2_apply]
  refine congrArg (acc (ix2 r d) + ·) (Finset.sum_congr rfl fun k _ => ?_)
  unfold term
  simp only [blk_x m c t, blk_wg m c t, blk_wu m c t, blk_wd m c t]

/-- Point `11 q + j`. -/
def pt (q : Fin 32) (j : ℕ) (hj : j < 11) : Fin cfg0.N :=
  ⟨11 * q.val + j, by rw [show cfg0.N = 352 from N_0]; have := q.isLt; omega⟩

/-- The accumulator after point `11 q + j`, before the last point of the tile. -/
theorem acc_eq (q : Fin 32) (r : Fin 512) (d : Fin 1024) : ∀ (j : ℕ) (hj : j < 10),
    (outsAt0 m c (pt q j (by omega)).val (pt q j (by omega)).isLt).2.2 (ix2 r d)
      = alpha * argX m c (ix2 (row (pt q 0 (by omega)) r) d)
        + ∑ i : Fin (j + 1), part m c (pt q i.val (by have := i.isLt; omega)) r d
  | 0, hj => by
    rw [outsAt0_A m c (pt q 0 (by omega)) (by show (11 * q.val + 0) % 11 = 0; omega) (by show ¬(11 * q.val + 0) % 11 = 10; omega)]
    dsimp only
    rw [Cases.acc_A, step, Payload.pay1_apply, blk_r]
    simp
  | j + 1, hj => by
    have ih := acc_eq q r d j (by omega)
    rw [outsAt0_B m c (pt q (j + 1) (by omega)) (by show ¬(11 * q.val + (j + 1)) % 11 = 0; omega)
      (by show ¬(11 * q.val + (j + 1)) % 11 = 10; omega)]
    dsimp only
    rw [Cases.acc_B, step, Fin.sum_univ_castSucc, ← add_assoc]
    exact congrArg (· + part m c (pt q (j + 1) (by omega)) r d) ih

/-- The 11 points of a row tile add up to the products of all hidden columns. -/
theorem sum_part (q : Fin 32) (r : Fin 512) (d : Fin 1024) :
    (∑ i : Fin 11, part m c (pt q i.val i.isLt) r d)
      = ∑ n : Fin 2816, term m c (row (pt q 0 (by omega)) r) d n := by
  rw [Fin.sum_univ_tiles 11 256 rfl]
  refine Finset.sum_congr rfl fun f _ => Finset.sum_congr rfl fun k _ => ?_
  have hf := f.isLt
  have e1 : row (pt q f.val (by omega)) r = row (pt q 0 (by omega)) r := Fin.ext (by
    show (11 * q.val + f.val) / 11 * 512 + r.val = (11 * q.val + 0) / 11 * 512 + r.val; omega)
  have e3 : col (pt q f.val (by omega)) k = ⟨f.val * 256 + k.val, by have := k.isLt; omega⟩ := Fin.ext (by
    show (11 * q.val + f.val) % 11 * 256 + k.val = f.val * 256 + k.val; omega)
  rw [e1, e3]

/-- Row `R` before the normalization. -/
def pre (R : Fin 16384) (d : Fin 1024) : EReal :=
  alpha * argX m c (ix2 R d) + ∑ n : Fin 2816, term m c R d n

/-- The completed accumulator of a row tile. -/
theorem acc_last (q : Fin 32) (r : Fin 512) (d : Fin 1024) :
    k0_pay2 (F := Ideal) (iblk m c 0 (pt q 10 (by omega))) (iblk m c 2 (pt q 10 (by omega))) (iblk m c 3 (pt q 10 (by omega)))
      (outsAt0 m c (pt q 9 (by omega)).val (pt q 9 (by omega)).isLt).2.2 (iblk m c 4 (pt q 10 (by omega))) (ix2 r d)
      = pre m c (row (pt q 0 (by omega)) r) d := by
  rw [step, acc_eq m c q r d 9 (by omega)]
  unfold pre
  rw [← sum_part, Fin.sum_univ_castSucc (n := 10), ← add_assoc]
  rfl

/-- The result, as contents of the result array. -/
def result (i : S16384x1024.Idx) : EReal :=
  layerNorm (pre m c ⟨(i 0).val, (i 0).isLt⟩) (fun d => argG m c (ix1 d)) (fun d => argB m c (ix1 d)) ⟨(i 1).val, (i 1).isLt⟩

/-- The first result array ends at it. -/
theorem G7_eq : (Value.G7 m c : S16384x1024.Idx → EReal) = result m c := by
  funext i
  have h0 : (i 0).val < 16384 := (i 0).isLt
  have h1 : (i 1).val < 1024 := (i 1).isLt
  let q : Fin 32 := ⟨(i 0).val / 512, by omega⟩
  have hp : Value.pt7Of i = (pt q 10 (by omega)).val := by
    show 11 * (1 * ((i 0).val / 512 - 0) + 1 * ((i 1).val / 1024 - 0)) + 10 = 11 * ((i 0).val / 512) + 10
    omega
  unfold Value.G7
  rw [dif_pos (by rw [hp]; exact (pt q 10 (by omega)).isLt), ← Value.outsAt0_sweep m c (Value.pt7Of i) (by rw [hp]; exact (pt q 10 (by omega)).isLt)]
  simp only [hp]
  rw [outsAt0_C m c (pt q 10 (by omega)) (by show ¬(11 * q.val + 10) % 11 = 0; omega) (by show (11 * q.val + 10) % 11 = 10; omega)]
  dsimp only
  rw [Cases.out7_C]
  have hl : Value.loc7Of i = ix2 (⟨(i 0).val % 512, Nat.mod_lt _ (by decide)⟩ : Fin 512) (⟨(i 1).val, h1⟩ : Fin 1024) := by
    funext a; apply Fin.ext
    match a with
    | ⟨0, _⟩ => rfl
    | ⟨1, _⟩ => show (i 1).val % 1024 = (i 1).val; omega
  rw [hl, Payload.pay3_apply]
  have hr : row (pt q 0 (by omega)) ⟨(i 0).val % 512, Nat.mod_lt _ (by decide)⟩ = ⟨(i 0).val, h0⟩ := Fin.ext (by
    show (11 * ((i 0).val / 512) + 0) / 11 * 512 + (i 0).val % 512 = (i 0).val; omega)
  unfold result
  congr 1
  · funext d
    rw [← hr]
    exact acc_last m c q _ d
  · funext d; exact blk_g m c _ d
  · funext d; exact blk_b m c _ d

/-- The second result array holds the same entries. -/
theorem G8_eq : (Value.G8 m c : S16384x1024.Idx → EReal) = result m c := by
  funext i
  have h0 : (i 0).val < 16384 := (i 0).isLt
  have h1 : (i 1).val < 1024 := (i 1).isLt
  let q : Fin 32 := ⟨(i 0).val / 512, by omega⟩
  have hp : Value.pt8Of i = (pt q 10 (by omega)).val := by
    show 11 * (1 * ((i 0).val / 512 - 0) + 1 * ((i 1).val / 1024 - 0)) + 10 = 11 * ((i 0).val / 512) + 10
    omega
  unfold Value.G8
  rw [dif_pos (by rw [hp]; exact (pt q 10 (by omega)).isLt), ← Value.outsAt0_sweep m c (Value.pt8Of i) (by rw [hp]; exact (pt q 10 (by omega)).isLt)]
  simp only [hp]
  rw [outsAt0_C m c (pt q 10 (by omega)) (by show ¬(11 * q.val + 10) % 11 = 0; omega) (by show (11 * q.val + 10) % 11 = 10; omega)]
  dsimp only
  rw [Cases.out8_C]
  have hl : Value.loc8Of i = ix2 (⟨(i 0).val % 512, Nat.mod_lt _ (by decide)⟩ : Fin 512) (⟨(i 1).val, h1⟩ : Fin 1024) := by
    funext a; apply Fin.ext
    match a with
    | ⟨0, _⟩ => rfl
    | ⟨1, _⟩ => show (i 1).val % 1024 = (i 1).val; omega
  rw [hl, Payload.pay4_apply]
  have hr : row (pt q 0 (by omega)) ⟨(i 0).val % 512, Nat.mod_lt _ (by decide)⟩ = ⟨(i 0).val, h0⟩ := Fin.ext (by
    show (11 * ((i 0).val / 512) + 0) / 11 * 512 + (i 0).val % 512 = (i 0).val; omega)
  unfold result
  congr 1
  · funext d
    rw [← hr]
    exact acc_last m c q _ d
  · funext d; exact blk_g m c _ d
  · funext d; exact blk_b m c _ d

end Cert.FfnIdeal.FfnValue

end
-- ==== Proof.FfnRef.lean ====
/-
  The feed-forward reference's result, entry by entry.
-/
module

public import proofs.«01_k».proof.Proof.Common
public import proofs.«01_k».proof.Proof.Gen.FfnRefIdeal.Read

@[expose] public section

set_option maxRecDepth 16384

noncomputable section

open Idealize.ShloMosaic

namespace Cert.FfnRefIdeal.Entry

open Cert.FfnRefIdeal Cert.FfnRefIdeal.Gen Cert.FfnRefIdeal.Read Cert.Common Idealize.ShloMosaic.Pointwise

variable (x : S16384x1024.Idx → EReal) (wg wu : S1024x2816.Idx → EReal) (wd : S2816x1024.Idx → EReal)
  (g b : S1024.Idx → EReal)

theorem gate_apply (R : Fin 16384) (n : Fin 2816) :
    val_main_v1 (F := Ideal) x wg (ix2 R n) = silu (∑ l : Fin 1024, x (ix2 R l) * wg (ix2 l n)) := by
  pointwise [val_main_v1, val_main_v0, val_main_call0_v5, val_main_call0_v4, val_main_call0_v3, val_main_call0_v2, val_main_call0_v1, val_main_call0_v0, val_main_call0_cst, val_main_call0_cst_0]
  rfl

/-- The row before the normalization. -/
theorem pre_apply (R : Fin 16384) (d : Fin 1024) :
    val_main_v7 (F := Ideal) x wg wu wd (ix2 R d) = alpha * x (ix2 R d)
      + ∑ n : Fin 2816, silu (∑ l : Fin 1024, x (ix2 R l) * wg (ix2 l n)) * (∑ l : Fin 1024, x (ix2 R l) * wu (ix2 l n))
          * wd (ix2 n d) := by
  pointwise [val_main_v7, val_main_v6, val_main_v5, val_main_cst, val_main_v4, val_main_v3, val_main_v2]
  simp only [gate_apply]
  rfl

/-- The result. -/
theorem out_apply (R : Fin 16384) (d : Fin 1024) :
    val_main_v31 (F := Ideal) x wg wu wd g b (ix2 R d)
      = layerNorm (fun k => val_main_v7 (F := Ideal) x wg wu wd (ix2 R k)) (fun k => g (ix1 k)) (fun k => b (ix1 k)) d := by
  pointwise [val_main_v31, val_main_v30, val_main_v29, val_main_v28, val_main_v27, val_main_v26, val_main_v25, val_main_v24,
    val_main_v23, val_main_v22, val_main_v21, val_main_cst_4, val_main_v20, val_main_v19, val_main_v18, val_main_v17,
    val_main_cst_3, val_main_v16, val_main_v15, val_main_cst_2, val_main_v14, val_main_v13, val_main_v12, val_main_v11,
    val_main_v10, val_main_cst_1, val_main_v9, val_main_v8, val_main_cst_0]
  rfl

end Cert.FfnRefIdeal.Entry

end
-- ==== Proof.FfnClaims.lean ====
/-
  The dense layer's claims: every frame is the generated one, and the two programs' results are the same rows, normalized.
-/
module

public import proofs.«01_k».proof.Defs
public import proofs.«01_k».proof.Proof.FfnValue
public import proofs.«01_k».proof.Proof.FfnRef
public import proofs.«01_k».proof.Proof.Gen.Ffn.Frame
public import proofs.«01_k».proof.Proof.Gen.FfnIdeal.Frame
public import proofs.«01_k».proof.Proof.Gen.FfnRefIdeal.Run

@[expose] public section

noncomputable section

open Idealize.ShloMosaic Idealize.SL.Sem

namespace Cert.Proof.FfnClaims

open Cert.Common Idealize.ShloMosaic.Pointwise

theorem frame_kernel : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

theorem preserves : Cert.preserves_Ffn_FfnIdeal := trivial

/-- The reference's first result, from a memory that agrees with the kernel's on the arguments. -/
theorem ref_eq (m : (ℓ : Loc Cert.FfnIdeal.nD Cert.FfnIdeal.τ Cert.FfnIdeal.sig) → Buf (Elt Ideal) ℓ) (c : Dev Cert.FfnIdeal.nD) :
    Cert.FfnRefIdeal.Read.val_main_v31 (F := Ideal) (Cert.FfnIdeal.Blocks.argX m c) (Cert.FfnIdeal.Blocks.argWg m c)
      (Cert.FfnIdeal.Blocks.argWu m c) (Cert.FfnIdeal.Blocks.argWd m c) (Cert.FfnIdeal.Blocks.argG m c) (Cert.FfnIdeal.Blocks.argB m c)
      = Cert.FfnIdeal.FfnValue.result m c := by
  funext i
  have hi : i = ix2 (⟨(i 0).val, (i 0).isLt⟩ : Fin 16384) (⟨(i 1).val, (i 1).isLt⟩ : Fin 1024) := by
    funext a; match a with
    | ⟨0, _⟩ => rfl
    | ⟨1, _⟩ => rfl
  rw [hi, Cert.FfnRefIdeal.Entry.out_apply]
  unfold Cert.FfnIdeal.FfnValue.result
  congr 1
  funext k
  rw [Cert.FfnRefIdeal.Entry.pre_apply]
  rfl

/-- The kernel's two results and the reference's are the same extended reals. -/
theorem algebraic : Cert.algebraic_FfnIdeal_FfnRefIdeal := by
  intro m ρ m' ρ' _ hag
  refine ⟨fun c => Cert.FfnIdeal.Value.G7 m c, fun c => Cert.FfnIdeal.Value.G8 m c, Cert.FfnIdeal.Value.run m ρ, ?_⟩
  refine (θ_run Cert.FfnRefIdeal.defs _ _).mono (fun _ h c => ?_) (Cert.FfnRefIdeal.Value.run (F := Ideal) m' ρ')
  obtain ⟨h1, h2, hk⟩ := h c
  obtain ⟨a0, a1, a2, a3, a4, a5⟩ := hag c
  refine ⟨h1.trans ?_, h2.trans ?_, hk⟩
  · rw [Cert.FfnRefIdeal.Read.val_main_v31_eq, a0, a1, a2, a3, a4, a5]
    exact (ref_eq m c).trans (Cert.FfnIdeal.FfnValue.G7_eq m c).symm
  · rw [Cert.FfnRefIdeal.Read.val_main_v32_eq, a0, a1, a2, a3, a4, a5]
    exact (ref_eq m c).trans (Cert.FfnIdeal.FfnValue.G8_eq m c).symm

end Cert.Proof.FfnClaims

end
-- ==== Proof.MemoryValue.lean ====
/-
  What the memory projections' kernel leaves: the keys and the values of both layers, each row tile the matching tile of
  the reference's. The four full-precision results and their four copies at half the width are the same extended reals.
-/
module

public import Idealize.ShloMosaic.Lib.Pipeline.ValueKit
public import proofs.«01_k».proof.Proof.Gen.MemoryIdeal.Value
public import proofs.«01_k».proof.Proof.Gen.MemoryRefIdeal.Read

@[expose] public section

set_option maxRecDepth 16384

noncomputable section

open Idealize.ShloMosaic Idealize.ShloMosaic.TcCoe Idealize.SL.Sem

namespace Cert.MemoryIdeal.Tiles

open Cert.MemoryIdeal Cert.MemoryIdeal.Gen Idealize.ShloMosaic.Pointwise Cert.MemoryRefIdeal.Read

variable (m : (ℓ : Loc nD τ sig) → Buf (Elt Ideal) ℓ) (c : Dev nD)

/-- The row tiles move with the point; the weights' blocks are whole. -/
theorem idx : ∀ t : Fin cfg0.N, win0_0.index t = ![t.val, 0]
    ∧ (win0_1.index t = ![0, 0] ∧ win0_2.index t = ![0, 0] ∧ win0_3.index t = ![0, 0] ∧ win0_4.index t = ![0, 0])
    ∧ (win0_5.index t = ![t.val, 0] ∧ win0_6.index t = ![t.val, 0] ∧ win0_7.index t = ![t.val, 0] ∧ win0_8.index t = ![t.val, 0])
    ∧ (win0_9.index t = ![t.val, 0] ∧ win0_10.index t = ![t.val, 0] ∧ win0_11.index t = ![t.val, 0] ∧ win0_12.index t = ![t.val, 0]) :=
  (by decide +kernel : ∀ t : Fin grid0.N, _)

abbrev argX : S4x256x1024.Idx → EReal := m ((c : Thread nD τ).loc main_arg0)
abbrev argK : S2x1024x1024.Idx → EReal := m ((c : Thread nD τ).loc main_arg1)
abbrev argV : S2x1024x1024.Idx → EReal := m ((c : Thread nD τ).loc main_arg2)

/-- What the arrays behind the input windows hold when the grid starts: the reference's rows and its four weights. -/
theorem entry_x : (V m c main_v13 : S1024x1024.Idx → EReal) = val_main_v0 (F := Ideal) (argX m c) := by
  show StableHlo.after hostOps0 _ (Proc.devRef .tc main_v13) = _
  after_results
  rfl

theorem entry_k0 : (V m c main_v2 : S1024x1024.Idx → EReal) = val_main_v2 (F := Ideal) (argK m c) := by
  show StableHlo.after hostOps0 _ (Proc.devRef .tc main_v2) = _
  after_results
  rfl

theorem entry_k1 : (V m c main_v5 : S1024x1024.Idx → EReal) = val_main_v5 (F := Ideal) (argK m c) := by
  show StableHlo.after hostOps0 _ (Proc.devRef .tc main_v5) = _
  after_results
  rfl

theorem entry_v0 : (V m c main_v8 : S1024x1024.Idx → EReal) = val_main_v8 (F := Ideal) (argV m c) := by
  show StableHlo.after hostOps0 _ (Proc.devRef .tc main_v8) = _
  after_results
  rfl

theorem entry_v1 : (V m c main_v11 : S1024x1024.Idx → EReal) = val_main_v11 (F := Ideal) (argV m c) := by
  show StableHlo.after hostOps0 _ (Proc.devRef .tc main_v11) = _
  after_results
  rfl

set_option maxHeartbeats 2000000 in
/-- The eight arrays after the run are the reference's eight results on the kernel's arguments. -/
theorem final :
    (dats m 0 c).arrAt 5 cfg0.N = val_main_v3 (F := Ideal) (argX m c) (argK m c)
    ∧ (dats m 0 c).arrAt 6 cfg0.N = val_main_v13 (F := Ideal) (argX m c) (argK m c)
    ∧ (dats m 0 c).arrAt 7 cfg0.N = val_main_v6 (F := Ideal) (argX m c) (argK m c)
    ∧ (dats m 0 c).arrAt 8 cfg0.N = val_main_v14 (F := Ideal) (argX m c) (argK m c)
    ∧ (dats m 0 c).arrAt 9 cfg0.N = val_main_v9 (F := Ideal) (argX m c) (argV m c)
    ∧ (dats m 0 c).arrAt 10 cfg0.N = val_main_v15 (F := Ideal) (argX m c) (argV m c)
    ∧ (dats m 0 c).arrAt 11 cfg0.N = val_main_v12 (F := Ideal) (argX m c) (argV m c)
    ∧ (dats m 0 c).arrAt 12 cfg0.N = val_main_v16 (F := Ideal) (argX m c) (argV m c) := by
  refine ⟨?_, ?_, ?_, ?_, ?_, ?_, ?_, ?_⟩ <;>
  · refine (dats m 0 c).arrAt_eq_of_covers _ _ (by decide +kernel) fun t hf y => ?_
    blk_simp
    simp only [after0_5, after0_6, after0_7, after0_8, after0_9, after0_10, after0_11, after0_12]
    frame_out
    pointwise [k0_pay1, k0_pay2, k0_pay3, k0_pay4, k0_pay5, k0_pay6, k0_pay7, k0_pay8, k0_pay9, val_main_v3, val_main_v6,
      val_main_v9, val_main_v12, val_main_v13, val_main_v14, val_main_v15, val_main_v16]
    blk_point [iblk, entry_x, entry_k0, entry_k1, entry_v0, entry_v1, idx t]

end Cert.MemoryIdeal.Tiles

end
-- ==== Proof.MemoryClaims.lean ====
/-
  The memory projections' claims.
-/
module

public import proofs.«01_k».proof.Defs
public import proofs.«01_k».proof.Proof.MemoryValue
public import proofs.«01_k».proof.Proof.Gen.Memory.Frame
public import proofs.«01_k».proof.Proof.Gen.MemoryIdeal.Frame
public import proofs.«01_k».proof.Proof.Gen.MemoryRefIdeal.Run

@[expose] public section

noncomputable section

open Idealize.ShloMosaic Idealize.SL.Sem

namespace Cert.Proof.MemoryClaims

open Cert.MemoryIdeal.Tiles

theorem frame_kernel : Cert.quiescent_Memory := fun m ρ _ => Cert.Memory.Gen.frame m ρ

theorem frame_ideal : Cert.quiescent_MemoryIdeal := fun m ρ _ => Cert.MemoryIdeal.Gen.frame m ρ

theorem frame_ref : Cert.quiescent_MemoryRefIdeal := fun m ρ _ =>
  (θ_run Cert.MemoryRefIdeal.defs _ _).mono
    (fun r h => ⟨fun c => (h c).2.2.2.2.2.2.2.2, sem_eq_zero_of_no_sems (by decide) r.2⟩)
    (Cert.MemoryRefIdeal.Value.run (F := Ideal) m ρ)

theorem preserves : Cert.preserves_Memory_MemoryIdeal := trivial

/-- The kernel's eight results and the reference's are the same extended reals. -/
theorem algebraic : Cert.algebraic_MemoryIdeal_MemoryRefIdeal := by
  intro m ρ m' ρ' _ hag
  refine ⟨_, _, _, _, _, _, _, _, Cert.MemoryIdeal.Value.run_blocks (F := Ideal) m ρ, ?_⟩
  refine (θ_run Cert.MemoryRefIdeal.defs _ _).mono (fun _ h c => ?_) (Cert.MemoryRefIdeal.Value.run (F := Ideal) m' ρ')
  obtain ⟨h0, h1, h2, h3, h4, h5, h6, h7, hk⟩ := h c
  obtain ⟨a0, a1, a2⟩ := hag c
  obtain ⟨f0, f1, f2, f3, f4, f5, f6, f7⟩ := final m c
  rw [a0, a1] at h0 h1 h2 h3
  rw [a0, a2] at h4 h5 h6 h7
  exact ⟨h0.trans f0.symm, h1.trans f1.symm, h2.trans f2.symm, h3.trans f3.symm, h4.trans f4.symm, h5.trans f5.symm,
    h6.trans f6.symm, h7.trans f7.symm, hk⟩

end Cert.Proof.MemoryClaims

end
-- ==== Proof.Columns.lean ====
/-
  A run of columns of a wide matrix, and a narrow matrix padded with zero columns, entry by entry.
-/
module

public import Idealize.ShloMosaic.Lib.Pipeline.Value
public import Idealize.ShloMosaic.Lib.Pointwise

@[expose] public section

noncomputable section

open Idealize.ShloMosaic

namespace Cert.Common

open Idealize.ShloMosaic.Pointwise

/-- The `n` columns of `W` from column `off` on. -/
def cols {M N : ℕ} (n off : ℕ) (h : off + n ≤ N) (W : (⟨2, ![M, N]⟩ : Shape).Idx → EReal) : (⟨2, ![M, n]⟩ : Shape).Idx → EReal :=
  fun i => W (ix2 (⟨(i 0).val, (i 0).isLt⟩ : Fin M) (⟨off + (i 1).val, by have h1 : (i 1).val < n := (i 1).isLt; omega⟩ : Fin N))

/-- A slice of the columns alone is a run of columns. -/
theorem slice_eq_cols {M N n off : ℕ} (h : off + n ≤ N) (W : (⟨2, ![M, N]⟩ : Shape).Idx → EReal)
    (hs : (⟨2, ![M, N]⟩ : Shape).Slices ![0, off] ⟨2, ![M, n]⟩) :
    extractStridedSlice ⟨2, ![M, n]⟩ ![0, off] W hs = cols n off h W :=
  funext fun i => extractStridedSlice_apply _ _ _ i _ fun a => match a with
    | ⟨0, _⟩ => (Nat.zero_add _).symm
    | ⟨1, _⟩ => rfl

/-- A product with a column that is padding is the padding's zero. -/
theorem sum_mul_pad {K : ℕ} (P : Prop) [Decidable P] (x : Fin K → EReal) (w : P → Fin K → EReal) (z : EReal) (hz : z = 0) :
    (∑ k, x k * (if h : P then w h k else 0)) = if h : P then ∑ k, x k * w h k else z := by
  by_cases h : P
  · simp only [dif_pos h]
  · simp only [dif_neg h, mul_zero, Finset.sum_const_zero, hz]

/-- The padding's value, an integer zero converted to a float. -/
theorem sitofp_zero (φ : FTy) : FloatOps.sitofp (F := Ideal) φ (0#32) = (0 : EReal) := by simp [FloatOps.sitofp]

end Cert.Common

end
-- ==== Proof.EvenPromptValue.lean ====
/-
  What the even layer's input projections leave on the prompt: the projection of the rows by each run of the weight's
  columns, row tile by row tile.
-/
module

public import Idealize.ShloMosaic.Lib.Pipeline.ValueKit
public import proofs.«01_k».proof.Proof.Columns
public import proofs.«01_k».proof.Proof.Gen.EvenPromptIdeal.Value
public import proofs.«01_k».proof.Proof.Gen.EvenPromptRefIdeal.Read

@[expose] public section

set_option maxRecDepth 16384

noncomputable section

open Idealize.ShloMosaic Idealize.ShloMosaic.TcCoe Idealize.SL.Sem

namespace Cert.EvenPromptIdeal.Tiles

open Cert.EvenPromptIdeal Cert.EvenPromptIdeal.Gen Cert.Common Idealize.ShloMosaic.Pointwise Cert.EvenPromptRefIdeal.Read

/-! The launch's arguments, and the reference's rows and weight as matrices. -/

variable (m : (ℓ : Loc nD τ sig) → Buf (Elt Ideal) ℓ) (c : Dev nD)

abbrev argX : S4x4096x1024.Idx → EReal := m ((c : Thread nD τ).loc main_arg0)
abbrev argW : S1x1024x2884.Idx → EReal := m ((c : Thread nD τ).loc main_arg1)

abbrev X : S16384x1024.Idx → EReal := val_main_v0 (F := Ideal) (argX m c)
abbrev W : S1024x2884.Idx → EReal := val_main_v1 (F := Ideal) (argW m c)

/-! What the arrays behind the input windows hold when the grid starts. -/

theorem entry_x : (V m c main_v1 : S16384x1024.Idx → EReal) = X m c := by
  show StableHlo.after (List.flatten [hostOps0, hostOps0_1]) _ (Proc.devRef .tc main_v1) = _
  simp only [List.flatten_cons, List.flatten_nil, List.append_nil, List.cons_append, List.nil_append, StableHlo.TRef.binary, StableHlo.TRef.unary,
    StableHlo.TRef.toBuf, StableHlo.TRef.ofBuf, cast_eq]
  after_results
  rfl

/-- Each weight window stages a run of the weight's columns. -/
theorem entry_w :
    (V m c main_v4 : S1024x512.Idx → EReal) = cols 512 0 (by decide) (W m c)
    ∧ (V m c main_v6 : S1024x512.Idx → EReal) = cols 512 512 (by decide) (W m c)
    ∧ (V m c main_v8 : S1024x512.Idx → EReal) = cols 512 1024 (by decide) (W m c)
    ∧ (V m c main_v10 : S1024x256.Idx → EReal) = cols 256 1536 (by decide) (W m c)
    ∧ (V m c main_v12 : S1024x64.Idx → EReal) = cols 64 1792 (by decide) (W m c)
    ∧ (V m c main_v16 : S1024x512.Idx → EReal) = cols 512 1860 (by decide) (W m c)
    ∧ (V m c main_v18 : S1024x512.Idx → EReal) = cols 512 2372 (by decide) (W m c) := by
  refine ⟨?_, ?_, ?_, ?_, ?_, ?_, ?_⟩ <;>
  · unfold V
    simp only [List.flatten_cons, List.flatten_nil, List.append_nil, List.cons_append, List.nil_append,
      StableHlo.TRef.binary, StableHlo.TRef.unary]
    after_results
    exact slice_eq_cols (by decide) (W m c) (by decide)

/-- One window stages four columns and zeros after them. -/
theorem entry_pad : (V m c main_v19 : S1024x128.Idx → EReal) =
    fun i => if h : (i 1).val < 4 then cols 4 1856 (by decide) (W m c) (ix2 (i 0) (⟨(i 1).val, h⟩ : Fin 4)) else 0 := by
  have e : (V m c main_v19 : S1024x128.Idx → EReal) = pad S1024x128 ![0, 0] ![0, 124] ![0, 0] (cols 4 1856 (by decide) (W m c))
      (sitofp (F := Ideal) .bf16 (constantI S_ 32 0#32)) pads_S1024x4_S1024x128_000_01240 h_S_ := by
    rw [← slice_eq_cols (by decide) (W m c) slices_S1024x2884_S1024x4_0_1856]
    show StableHlo.after (List.flatten [hostOps0, hostOps0_1]) _ (Proc.devRef .tc main_v19) = _
    simp only [List.flatten_cons, List.flatten_nil, List.append_nil, List.cons_append, List.nil_append,
      StableHlo.TRef.binary, StableHlo.TRef.unary]
    after_results
    rfl
  rw [e]
  funext i
  pointwise []
  rw [sitofp_zero]

/-- The row tiles move with the point; the weights' blocks are whole. -/
theorem idx : ∀ t : Fin cfg0.N, win0_0.index t = ![t.val, 0]
    ∧ (win0_1.index t = ![0, 0] ∧ win0_2.index t = ![0, 0] ∧ win0_3.index t = ![0, 0] ∧ win0_4.index t = ![0, 0])
    ∧ (win0_5.index t = ![0, 0] ∧ win0_6.index t = ![0, 0] ∧ win0_7.index t = ![0, 0] ∧ win0_8.index t = ![0, 0])
    ∧ (win0_9.index t = ![t.val, 0] ∧ win0_10.index t = ![t.val, 0] ∧ win0_11.index t = ![t.val, 0] ∧ win0_12.index t = ![t.val, 0])
    ∧ (win0_13.index t = ![t.val, 0] ∧ win0_14.index t = ![t.val, 0] ∧ win0_15.index t = ![t.val, 0] ∧ win0_16.index t = ![t.val, 0])
    ∧ (win0_17.index t = ![t.val, 0] ∧ win0_18.index t = ![t.val, 0] ∧ win0_19.index t = ![t.val, 0]) :=
  (by decide +kernel : ∀ t : Fin grid0.N, _)

/-- The padded window's block: the four columns, and zero past them. -/
theorem blk_pad (t : Fin cfg0.N) (k : Fin 1024) (d : Fin 128) : (iblk m c 6 t : S1024x128.Idx → EReal) (ix2 k d)
    = if h : d.val < 4 then W m c (ix2 k (⟨1856 + d.val, by omega⟩ : Fin 2884)) else 0 := by
  blk_simp [iblk]
  refine (congrFun (entry_pad m c) _).trans ?_
  blk_simp [idx t]
  by_cases h : d.val < 4
  · simp only [dif_pos h, cols]
    blk_ext [idx t]
  · simp only [dif_neg h]

/-- A tile of rows. -/
abbrev blkX (t : Fin cfg0.N) : S512x1024.Idx → EReal := iblk m c 0 t
/-- The padded window's block. -/
abbrev blkP (t : Fin cfg0.N) : S1024x128.Idx → EReal := iblk m c 6 t

/-- The padded product: the four columns' products, and zero past them. -/
theorem pad_point (t : Fin cfg0.N) (r : Fin 512) (d : Fin 128) (R : Fin 16384) (hR : R.val = t.val * 512 + r.val) :
    ∑ x : Fin 1024, blkX m c t (ix2 r x) * blkP m c t (ix2 x d) = val_main_v16 (F := Ideal) (argX m c) (argW m c) (ix2 R d) := by
  have hx : ∀ x : Fin 1024, blkX m c t (ix2 r x) = X m c (ix2 R x) := fun x => by
    blk_ext [iblk, entry_x, idx t]
  have hp : ∀ x : Fin 1024, blkP m c t (ix2 x d) = _ := fun x => blk_pad m c t x d
  simp only [hx, hp]
  refine (sum_mul_pad _ _ _ _ rfl).trans ?_
  pointwise [val_main_v2, val_main_v8, val_main_v16]
  by_cases h : d.val < 4
  · simp only [dif_pos h]
  · simp only [dif_neg h]
    exact (sitofp_zero .f32).symm

theorem final_pad : (dats m 0 c).arrAt 17 cfg0.N = val_main_v16 (F := Ideal) (argX m c) (argW m c) := by
  refine (dats m 0 c).arrAt_eq_of_covers _ _ (by decide +kernel) fun t hf y => ?_
  blk_simp
  simp only [after0_17]
  frame_out
  pointwise [k0_pay3, k0_pay6, k0_pay13]
  refine (pad_point m c t (y 0) (y 1) ⟨(((cfg0.win 17).blk t).view.emb y 0).val, (((cfg0.win 17).blk t).view.emb y 0).isLt⟩
    (by blk_simp [idx t])).trans ?_
  blk_ext [idx t]

set_option maxHeartbeats 4000000 in
/-- The other ten arrays after the run are the reference's results on the kernel's arguments. -/
theorem final :
    (dats m 0 c).arrAt 9 cfg0.N = val_main_v11 (F := Ideal) (argX m c) (argW m c)
    ∧ (dats m 0 c).arrAt 10 cfg0.N = val_main_v4 (F := Ideal) (argX m c) (argW m c)
    ∧ (dats m 0 c).arrAt 11 cfg0.N = val_main_v12 (F := Ideal) (argX m c) (argW m c)
    ∧ (dats m 0 c).arrAt 12 cfg0.N = val_main_v5 (F := Ideal) (argX m c) (argW m c)
    ∧ (dats m 0 c).arrAt 13 cfg0.N = val_main_v13 (F := Ideal) (argX m c) (argW m c)
    ∧ (dats m 0 c).arrAt 14 cfg0.N = val_main_v14 (F := Ideal) (argX m c) (argW m c)
    ∧ (dats m 0 c).arrAt 15 cfg0.N = val_main_v7 (F := Ideal) (argX m c) (argW m c)
    ∧ (dats m 0 c).arrAt 16 cfg0.N = val_main_v15 (F := Ideal) (argX m c) (argW m c)
    ∧ (dats m 0 c).arrAt 18 cfg0.N = val_main_v9 (F := Ideal) (argX m c) (argW m c)
    ∧ (dats m 0 c).arrAt 19 cfg0.N = val_main_v10 (F := Ideal) (argX m c) (argW m c) := by
  obtain ⟨e1, e2, e3, e4, e5, e6, e7⟩ := entry_w m c
  refine ⟨?_, ?_, ?_, ?_, ?_, ?_, ?_, ?_, ?_, ?_⟩ <;>
  · refine (dats m 0 c).arrAt_eq_of_covers _ _ (by decide +kernel) fun t hf y => ?_
    blk_simp
    simp only [after0_9, after0_10, after0_11, after0_12, after0_13, after0_14, after0_15, after0_16, after0_18, after0_19]
    frame_out
    pointwise [k0_pay1, k0_pay2, k0_pay4, k0_pay5, k0_pay6, k0_pay7, k0_pay8, k0_pay9, k0_pay10, k0_pay11, k0_pay12, k0_pay13,
      val_main_v2, val_main_v3, val_main_v4, val_main_v5, val_main_v6, val_main_v7, val_main_v9, val_main_v10, val_main_v11,
      val_main_v12, val_main_v13, val_main_v14, val_main_v15]
    blk_point [iblk, entry_x, e1, e2, e3, e4, e5, e6, e7, cols, idx t]

end Cert.EvenPromptIdeal.Tiles

end
-- ==== Proof.EvenPromptClaims.lean ====
/-
  The claims of the even layer's input projections on the prompt.
-/
module

public import proofs.«01_k».proof.Defs
public import proofs.«01_k».proof.Proof.EvenPromptValue
public import proofs.«01_k».proof.Proof.Gen.EvenPrompt.Frame
public import proofs.«01_k».proof.Proof.Gen.EvenPromptIdeal.Frame
public import proofs.«01_k».proof.Proof.Gen.EvenPromptRefIdeal.Run

@[expose] public section

noncomputable section

open Idealize.ShloMosaic Idealize.SL.Sem

namespace Cert.Proof.EvenPromptClaims

open Cert.EvenPromptIdeal.Tiles

theorem frame_kernel : Cert.quiescent_EvenPrompt := fun m ρ _ => Cert.EvenPrompt.Gen.frame m ρ

theorem frame_ideal : Cert.quiescent_EvenPromptIdeal := fun m ρ _ => Cert.EvenPromptIdeal.Gen.frame m ρ

theorem frame_ref : Cert.quiescent_EvenPromptRefIdeal := fun m ρ _ =>
  (θ_run Cert.EvenPromptRefIdeal.defs _ _).mono
    (fun r h => ⟨fun c => (h c).2.2.2.2.2.2.2.2.2.2.2, sem_eq_zero_of_no_sems (by decide) r.2⟩)
    (Cert.EvenPromptRefIdeal.Value.run (F := Ideal) m ρ)

theorem preserves : Cert.preserves_EvenPrompt_EvenPromptIdeal := trivial

/-- The kernel's eleven results and the reference's are the same extended reals. -/
theorem algebraic : Cert.algebraic_EvenPromptIdeal_EvenPromptRefIdeal := by
  intro m ρ m' ρ' _ hag
  refine ⟨_, _, _, _, _, _, _, _, _, _, _, Cert.EvenPromptIdeal.Value.run_blocks (F := Ideal) m ρ, ?_⟩
  refine (θ_run Cert.EvenPromptRefIdeal.defs _ _).mono (fun _ h c => ?_) (Cert.EvenPromptRefIdeal.Value.run (F := Ideal) m' ρ')
  obtain ⟨h0, h1, h2, h3, h4, h5, h6, h7, h8, h9, h10, hk⟩ := h c
  obtain ⟨a0, a1⟩ := hag c
  obtain ⟨f0, f1, f2, f3, f4, f5, f6, f7, f9, f10⟩ := final m c
  rw [a0, a1] at h0 h1 h2 h3 h4 h5 h6 h7 h8 h9 h10
  exact ⟨h0.trans f0.symm, h1.trans f1.symm, h2.trans f2.symm, h3.trans f3.symm, h4.trans f4.symm, h5.trans f5.symm,
    h6.trans f6.symm, h7.trans f7.symm, h8.trans (final_pad m c).symm, h9.trans f9.symm, h10.trans f10.symm, hk⟩

end Cert.Proof.EvenPromptClaims

end
-- ==== Proof.EvenSampleValue.lean ====
/-
  What the even layer's input projections leave on the sample: the projection of its 128 rows, which are one tile, by
  each run of the weight's columns.
-/
module

public import Idealize.ShloMosaic.Lib.Pipeline.ValueKit
public import proofs.«01_k».proof.Proof.Columns
public import proofs.«01_k».proof.Proof.Gen.EvenSampleIdeal.Value
public import proofs.«01_k».proof.Proof.Gen.EvenSampleRefIdeal.Read

@[expose] public section

set_option maxRecDepth 16384

noncomputable section

open Idealize.ShloMosaic Idealize.ShloMosaic.TcCoe Idealize.SL.Sem

namespace Cert.EvenSampleIdeal.Tiles

open Cert.EvenSampleIdeal Cert.EvenSampleIdeal.Gen Cert.Common Idealize.ShloMosaic.Pointwise Cert.EvenSampleRefIdeal.Read

/-! The launch's arguments, and the reference's rows and weight as matrices. -/

variable (m : (ℓ : Loc nD τ sig) → Buf (Elt Ideal) ℓ) (c : Dev nD)

abbrev argX : S128x1x1024.Idx → EReal := m ((c : Thread nD τ).loc main_arg0)
abbrev argW : S1x1024x2884.Idx → EReal := m ((c : Thread nD τ).loc main_arg1)

abbrev X : S128x1024.Idx → EReal := val_main_v0 (F := Ideal) (argX m c)
abbrev W : S1024x2884.Idx → EReal := val_main_v1 (F := Ideal) (argW m c)

/-! What the arrays behind the input windows hold when the grid starts. -/

theorem entry_x : (V m c main_v1 : S128x1024.Idx → EReal) = X m c := by
  show StableHlo.after (List.flatten [hostOps0, hostOps0_1]) _ (Proc.devRef .tc main_v1) = _
  simp only [List.flatten_cons, List.flatten_nil, List.append_nil, List.cons_append, List.nil_append, StableHlo.TRef.binary, StableHlo.TRef.unary,
    StableHlo.TRef.toBuf, StableHlo.TRef.ofBuf, cast_eq]
  after_results
  rfl

/-- Each weight window stages a run of the weight's columns. -/
theorem entry_w :
    (V m c main_v4 : S1024x512.Idx → EReal) = cols 512 0 (by decide) (W m c)
    ∧ (V m c main_v6 : S1024x512.Idx → EReal) = cols 512 512 (by decide) (W m c)
    ∧ (V m c main_v8 : S1024x512.Idx → EReal) = cols 512 1024 (by decide) (W m c)
    ∧ (V m c main_v10 : S1024x256.Idx → EReal) = cols 256 1536 (by decide) (W m c)
    ∧ (V m c main_v12 : S1024x64.Idx → EReal) = cols 64 1792 (by decide) (W m c)
    ∧ (V m c main_v16 : S1024x512.Idx → EReal) = cols 512 1860 (by decide) (W m c)
    ∧ (V m c main_v18 : S1024x512.Idx → EReal) = cols 512 2372 (by decide) (W m c) := by
  refine ⟨?_, ?_, ?_, ?_, ?_, ?_, ?_⟩ <;>
  · unfold V
    simp only [List.flatten_cons, List.flatten_nil, List.append_nil, List.cons_append, List.nil_append,
      StableHlo.TRef.binary, StableHlo.TRef.unary]
    after_results
    exact slice_eq_cols (by decide) (W m c) (by decide)

/-- One window stages four columns and zeros after them. -/
theorem entry_pad : (V m c main_v19 : S1024x128.Idx → EReal) =
    fun i => if h : (i 1).val < 4 then cols 4 1856 (by decide) (W m c) (ix2 (i 0) (⟨(i 1).val, h⟩ : Fin 4)) else 0 := by
  have e : (V m c main_v19 : S1024x128.Idx → EReal) = pad S1024x128 ![0, 0] ![0, 124] ![0, 0] (cols 4 1856 (by decide) (W m c))
      (sitofp (F := Ideal) .bf16 (constantI S_ 32 0#32)) pads_S1024x4_S1024x128_000_01240 h_S_ := by
    rw [← slice_eq_cols (by decide) (W m c) slices_S1024x2884_S1024x4_0_1856]
    show StableHlo.after (List.flatten [hostOps0, hostOps0_1]) _ (Proc.devRef .tc main_v19) = _
    simp only [List.flatten_cons, List.flatten_nil, List.append_nil, List.cons_append, List.nil_append,
      StableHlo.TRef.binary, StableHlo.TRef.unary]
    after_results
    rfl
  rw [e]
  funext i
  pointwise []
  rw [sitofp_zero]

/-- Every block is at the origin. -/
theorem idx : ∀ t : Fin cfg0.N, win0_0.index t = ![0, 0]
    ∧ (win0_1.index t = ![0, 0] ∧ win0_2.index t = ![0, 0] ∧ win0_3.index t = ![0, 0] ∧ win0_4.index t = ![0, 0])
    ∧ (win0_5.index t = ![0, 0] ∧ win0_6.index t = ![0, 0] ∧ win0_7.index t = ![0, 0] ∧ win0_8.index t = ![0, 0])
    ∧ (win0_9.index t = ![0, 0] ∧ win0_10.index t = ![0, 0] ∧ win0_11.index t = ![0, 0] ∧ win0_12.index t = ![0, 0])
    ∧ (win0_13.index t = ![0, 0] ∧ win0_14.index t = ![0, 0] ∧ win0_15.index t = ![0, 0] ∧ win0_16.index t = ![0, 0]) :=
  (by decide +kernel : ∀ t : Fin grid0.N, _)

/-- The padded window's block: the four columns, and zero past them. -/
theorem blk_pad (t : Fin cfg0.N) (k : Fin 1024) (d : Fin 128) : (iblk m c 6 t : S1024x128.Idx → EReal) (ix2 k d)
    = if h : d.val < 4 then W m c (ix2 k (⟨1856 + d.val, by omega⟩ : Fin 2884)) else 0 := by
  blk_simp [iblk]
  refine (congrFun (entry_pad m c) _).trans ?_
  blk_simp [idx t]
  by_cases h : d.val < 4
  · simp only [dif_pos h, cols]
    blk_ext [idx t]
  · simp only [dif_neg h]

/-- A tile of rows. -/
abbrev blkX (t : Fin cfg0.N) : S128x1024.Idx → EReal := iblk m c 0 t
/-- The padded window's block. -/
abbrev blkP (t : Fin cfg0.N) : S1024x128.Idx → EReal := iblk m c 6 t

/-- The padded product: the four columns' products, and zero past them. -/
theorem pad_point (t : Fin cfg0.N) (r : Fin 128) (d : Fin 128) :
    ∑ x : Fin 1024, blkX m c t (ix2 r x) * blkP m c t (ix2 x d) = val_main_v11 (F := Ideal) (argX m c) (argW m c) (ix2 r d) := by
  have hx : ∀ x : Fin 1024, blkX m c t (ix2 r x) = X m c (ix2 r x) := fun x => by
    blk_ext [iblk, entry_x, idx t]
  have hp : ∀ x : Fin 1024, blkP m c t (ix2 x d) = _ := fun x => blk_pad m c t x d
  simp only [hx, hp]
  refine (sum_mul_pad _ _ _ _ rfl).trans ?_
  pointwise [val_main_v2, val_main_v8, val_main_v11]
  by_cases h : d.val < 4
  · simp only [dif_pos h]
  · simp only [dif_neg h]
    exact (sitofp_zero .f32).symm

theorem final_pad : (dats m 0 c).arrAt 14 cfg0.N = val_main_v11 (F := Ideal) (argX m c) (argW m c) := by
  refine (dats m 0 c).arrAt_eq_of_covers _ _ (by decide +kernel) fun t hf y => ?_
  blk_simp
  simp only [after0_14]
  frame_out
  pointwise [k0_pay1, k0_pay4, k0_pay10, k0_pay11]
  refine (pad_point m c t (y 0) (y 1)).trans ?_
  blk_ext [idx t]

set_option maxHeartbeats 4000000 in
/-- The other seven arrays after the run are the reference's results on the kernel's arguments. -/
theorem final :
    (dats m 0 c).arrAt 9 cfg0.N = val_main_v3 (F := Ideal) (argX m c) (argW m c)
    ∧ (dats m 0 c).arrAt 10 cfg0.N = val_main_v4 (F := Ideal) (argX m c) (argW m c)
    ∧ (dats m 0 c).arrAt 11 cfg0.N = val_main_v5 (F := Ideal) (argX m c) (argW m c)
    ∧ (dats m 0 c).arrAt 12 cfg0.N = val_main_v6 (F := Ideal) (argX m c) (argW m c)
    ∧ (dats m 0 c).arrAt 13 cfg0.N = val_main_v7 (F := Ideal) (argX m c) (argW m c)
    ∧ (dats m 0 c).arrAt 15 cfg0.N = val_main_v9 (F := Ideal) (argX m c) (argW m c)
    ∧ (dats m 0 c).arrAt 16 cfg0.N = val_main_v10 (F := Ideal) (argX m c) (argW m c) := by
  obtain ⟨e1, e2, e3, e4, e5, e6, e7⟩ := entry_w m c
  refine ⟨?_, ?_, ?_, ?_, ?_, ?_, ?_⟩ <;>
  · refine (dats m 0 c).arrAt_eq_of_covers _ _ (by decide +kernel) fun t hf y => ?_
    blk_simp
    simp only [after0_9, after0_10, after0_11, after0_12, after0_13, after0_15, after0_16]
    frame_out
    pointwise [k0_pay2, k0_pay3, k0_pay4, k0_pay5, k0_pay6, k0_pay7, k0_pay8, k0_pay9, k0_pay11,
      val_main_v2, val_main_v3, val_main_v4, val_main_v5, val_main_v6, val_main_v7, val_main_v9, val_main_v10]
    blk_point [iblk, entry_x, e1, e2, e3, e4, e5, e6, e7, cols, idx t]

end Cert.EvenSampleIdeal.Tiles

end
-- ==== Proof.EvenSampleClaims.lean ====
/-
  The claims of the even layer's input projections on the sample.
-/
module

public import proofs.«01_k».proof.Defs
public import proofs.«01_k».proof.Proof.EvenSampleValue
public import proofs.«01_k».proof.Proof.Gen.EvenSample.Frame
public import proofs.«01_k».proof.Proof.Gen.EvenSampleIdeal.Frame
public import proofs.«01_k».proof.Proof.Gen.EvenSampleRefIdeal.Run

@[expose] public section

noncomputable section

open Idealize.ShloMosaic Idealize.SL.Sem

namespace Cert.Proof.EvenSampleClaims

open Cert.EvenSampleIdeal.Tiles

theorem frame_kernel : Cert.quiescent_EvenSample := fun m ρ _ => Cert.EvenSample.Gen.frame m ρ

theorem frame_ideal : Cert.quiescent_EvenSampleIdeal := fun m ρ _ => Cert.EvenSampleIdeal.Gen.frame m ρ

theorem frame_ref : Cert.quiescent_EvenSampleRefIdeal := fun m ρ _ =>
  (θ_run Cert.EvenSampleRefIdeal.defs _ _).mono
    (fun r h => ⟨fun c => (h c).2.2.2.2.2.2.2.2, sem_eq_zero_of_no_sems (by decide) r.2⟩)
    (Cert.EvenSampleRefIdeal.Value.run (F := Ideal) m ρ)

theorem preserves : Cert.preserves_EvenSample_EvenSampleIdeal := trivial

/-- The kernel's eight results and the reference's are the same extended reals. -/
theorem algebraic : Cert.algebraic_EvenSampleIdeal_EvenSampleRefIdeal := by
  intro m ρ m' ρ' _ hag
  refine ⟨_, _, _, _, _, _, _, _, Cert.EvenSampleIdeal.Value.run_blocks (F := Ideal) m ρ, ?_⟩
  refine (θ_run Cert.EvenSampleRefIdeal.defs _ _).mono (fun _ h c => ?_) (Cert.EvenSampleRefIdeal.Value.run (F := Ideal) m' ρ')
  obtain ⟨h0, h1, h2, h3, h4, h5, h6, h7, hk⟩ := h c
  obtain ⟨a0, a1⟩ := hag c
  obtain ⟨f0, f1, f2, f3, f4, f6, f7⟩ := final m c
  rw [a0, a1] at h0 h1 h2 h3 h4 h5 h6 h7
  exact ⟨h0.trans f0.symm, h1.trans f1.symm, h2.trans f2.symm, h3.trans f3.symm, h4.trans f4.symm,
    h5.trans (final_pad m c).symm, h6.trans f6.symm, h7.trans f7.symm, hk⟩

end Cert.Proof.EvenSampleClaims

end
-- ==== Proof.OddPromptValue.lean ====
/-
  What the odd layer's input projections leave on the prompt: the projection of the rows by each run of the weight's
  columns, row tile by row tile.
-/
module

public import Idealize.ShloMosaic.Lib.Pipeline.ValueKit
public import proofs.«01_k».proof.Proof.Columns
public import proofs.«01_k».proof.Proof.Gen.OddPromptIdeal.Value
public import proofs.«01_k».proof.Proof.Gen.OddPromptRefIdeal.Read

@[expose] public section

set_option maxRecDepth 16384

noncomputable section

open Idealize.ShloMosaic Idealize.ShloMosaic.TcCoe Idealize.SL.Sem

namespace Cert.OddPromptIdeal.Tiles

open Cert.OddPromptIdeal Cert.OddPromptIdeal.Gen Cert.Common Idealize.ShloMosaic.Pointwise Cert.OddPromptRefIdeal.Read

/-! The launch's arguments, and the reference's weight as a matrix. -/

variable (m : (ℓ : Loc nD τ sig) → Buf (Elt Ideal) ℓ) (c : Dev nD)

abbrev argX : S16384x1024.Idx → EReal := m ((c : Thread nD τ).loc main_arg0)
abbrev argW : S1x1024x4104.Idx → EReal := m ((c : Thread nD τ).loc main_arg1)

abbrev W : S1024x4104.Idx → EReal := val_main_v0 (F := Ideal) (argW m c)

/-! What the arrays behind the input windows hold when the grid starts. -/

theorem entry_x : (V m c main_v12 : S16384x1024.Idx → EReal) = argX m c := by
  show StableHlo.after (List.flatten [hostOps0, hostOps0_1, hostOps0_2]) _ (Proc.devRef .tc main_v12) = _
  simp only [List.flatten_cons, List.flatten_nil, List.append_nil, List.cons_append, List.nil_append, StableHlo.TRef.binary, StableHlo.TRef.unary,
    StableHlo.TRef.toBuf, StableHlo.TRef.ofBuf, cast_eq]
  after_results
  rfl

/-- Each weight window stages a run of the weight's columns. -/
theorem entry_w :
    (V m c main_v2 : S1024x1024.Idx → EReal) = cols 1024 0 (by decide) (W m c)
    ∧ (V m c main_v4 : S1024x1024.Idx → EReal) = cols 1024 1024 (by decide) (W m c)
    ∧ (V m c main_v6 : S1024x1024.Idx → EReal) = cols 1024 2048 (by decide) (W m c)
    ∧ (V m c main_v8 : S1024x1024.Idx → EReal) = cols 1024 3072 (by decide) (W m c) := by
  refine ⟨?_, ?_, ?_, ?_⟩ <;>
  · unfold V
    simp only [List.flatten_cons, List.flatten_nil, List.append_nil, List.cons_append, List.nil_append,
      StableHlo.TRef.binary, StableHlo.TRef.unary]
    after_results
    exact slice_eq_cols (by decide) (W m c) (by decide)

/-- One window stages eight columns and zeros after them. -/
theorem entry_pad : (V m c main_v11 : S1024x128.Idx → EReal) =
    fun i => if h : (i 1).val < 8 then cols 8 4096 (by decide) (W m c) (ix2 (i 0) (⟨(i 1).val, h⟩ : Fin 8)) else 0 := by
  have e : (V m c main_v11 : S1024x128.Idx → EReal) = pad S1024x128 ![0, 0] ![0, 120] ![0, 0] (cols 8 4096 (by decide) (W m c))
      (sitofp (F := Ideal) .bf16 (constantI S_ 32 0#32)) pads_S1024x8_S1024x128_000_01200 h_S_ := by
    rw [← slice_eq_cols (by decide) (W m c) slices_S1024x4104_S1024x8_0_4096]
    show StableHlo.after (List.flatten [hostOps0, hostOps0_1, hostOps0_2]) _ (Proc.devRef .tc main_v11) = _
    simp only [List.flatten_cons, List.flatten_nil, List.append_nil, List.cons_append, List.nil_append,
      StableHlo.TRef.binary, StableHlo.TRef.unary]
    after_results
    rfl
  rw [e]
  funext i
  pointwise []
  rw [sitofp_zero]

/-- The row tiles move with the point; the weights' blocks are whole. -/
theorem idx : ∀ t : Fin cfg0.N, win0_0.index t = ![t.val, 0]
    ∧ (win0_1.index t = ![0, 0] ∧ win0_2.index t = ![0, 0] ∧ win0_3.index t = ![0, 0] ∧ win0_4.index t = ![0, 0] ∧ win0_5.index t = ![0, 0])
    ∧ (win0_6.index t = ![t.val, 0] ∧ win0_7.index t = ![t.val, 0] ∧ win0_8.index t = ![t.val, 0])
    ∧ (win0_9.index t = ![t.val, 0] ∧ win0_10.index t = ![t.val, 0]) :=
  (by decide +kernel : ∀ t : Fin grid0.N, _)

/-- The padded window's block: the eight columns, and zero past them. -/
theorem blk_pad (t : Fin cfg0.N) (k : Fin 1024) (d : Fin 128) : (iblk m c 5 t : S1024x128.Idx → EReal) (ix2 k d)
    = if h : d.val < 8 then W m c (ix2 k (⟨4096 + d.val, by omega⟩ : Fin 4104)) else 0 := by
  blk_simp [iblk]
  refine (congrFun (entry_pad m c) _).trans ?_
  blk_simp [idx t]
  by_cases h : d.val < 8
  · simp only [dif_pos h, cols]
    blk_ext [idx t]
  · simp only [dif_neg h]

/-- A tile of rows. -/
abbrev blkX (t : Fin cfg0.N) : S512x1024.Idx → EReal := iblk m c 0 t
/-- The padded window's block. -/
abbrev blkP (t : Fin cfg0.N) : S1024x128.Idx → EReal := iblk m c 5 t

/-- The padded product: the eight columns' products, and zero past them. -/
theorem pad_point (t : Fin cfg0.N) (r : Fin 512) (d : Fin 128) (R : Fin 16384) (hR : R.val = t.val * 512 + r.val) :
    ∑ x : Fin 1024, blkX m c t (ix2 r x) * blkP m c t (ix2 x d) = val_main_v10 (F := Ideal) (argX m c) (argW m c) (ix2 R d) := by
  have hx : ∀ x : Fin 1024, blkX m c t (ix2 r x) = argX m c (ix2 R x) := fun x => by
    blk_ext [iblk, entry_x, idx t]
  have hp : ∀ x : Fin 1024, blkP m c t (ix2 x d) = _ := fun x => blk_pad m c t x d
  simp only [hx, hp]
  refine (sum_mul_pad _ _ _ _ rfl).trans ?_
  pointwise [val_main_v1, val_main_v6, val_main_v10]
  by_cases h : d.val < 8
  · simp only [dif_pos h]
  · simp only [dif_neg h]
    exact (sitofp_zero .f32).symm

theorem final_pad : (dats m 0 c).arrAt 10 cfg0.N = val_main_v10 (F := Ideal) (argX m c) (argW m c) := by
  refine (dats m 0 c).arrAt_eq_of_covers _ _ (by decide +kernel) fun t hf y => ?_
  blk_simp
  simp only [after0_10]
  frame_out
  pointwise [k0_pay1, k0_pay6]
  refine (pad_point m c t (y 0) (y 1) ⟨(((cfg0.win 10).blk t).view.emb y 0).val, (((cfg0.win 10).blk t).view.emb y 0).isLt⟩
    (by blk_simp [idx t])).trans ?_
  blk_ext [idx t]

set_option maxHeartbeats 4000000 in
/-- The other four arrays after the run are the reference's results on the kernel's arguments. -/
theorem final :
    (dats m 0 c).arrAt 6 cfg0.N = val_main_v7 (F := Ideal) (argX m c) (argW m c)
    ∧ (dats m 0 c).arrAt 7 cfg0.N = val_main_v8 (F := Ideal) (argX m c) (argW m c)
    ∧ (dats m 0 c).arrAt 8 cfg0.N = val_main_v9 (F := Ideal) (argX m c) (argW m c)
    ∧ (dats m 0 c).arrAt 9 cfg0.N = val_main_v5 (F := Ideal) (argX m c) (argW m c) := by
  obtain ⟨e1, e2, e3, e4⟩ := entry_w m c
  refine ⟨?_, ?_, ?_, ?_⟩ <;>
  · refine (dats m 0 c).arrAt_eq_of_covers _ _ (by decide +kernel) fun t hf y => ?_
    blk_simp
    simp only [after0_6, after0_7, after0_8, after0_9]
    frame_out
    pointwise [k0_pay1, k0_pay2, k0_pay3, k0_pay4, k0_pay5, val_main_v1, val_main_v2, val_main_v3, val_main_v4, val_main_v5,
      val_main_v7, val_main_v8, val_main_v9]
    blk_point [iblk, entry_x, e1, e2, e3, e4, cols, idx t]

end Cert.OddPromptIdeal.Tiles

end
-- ==== Proof.OddPromptClaims.lean ====
/-
  The claims of the odd layer's input projections on the prompt.
-/
module

public import proofs.«01_k».proof.Defs
public import proofs.«01_k».proof.Proof.OddPromptValue
public import proofs.«01_k».proof.Proof.Gen.OddPrompt.Frame
public import proofs.«01_k».proof.Proof.Gen.OddPromptIdeal.Frame
public import proofs.«01_k».proof.Proof.Gen.OddPromptRefIdeal.Run

@[expose] public section

noncomputable section

open Idealize.ShloMosaic Idealize.SL.Sem

namespace Cert.Proof.OddPromptClaims

open Cert.OddPromptIdeal.Tiles

theorem frame_kernel : Cert.quiescent_OddPrompt := fun m ρ _ => Cert.OddPrompt.Gen.frame m ρ

theorem frame_ideal : Cert.quiescent_OddPromptIdeal := fun m ρ _ => Cert.OddPromptIdeal.Gen.frame m ρ

theorem frame_ref : Cert.quiescent_OddPromptRefIdeal := fun m ρ _ =>
  (θ_run Cert.OddPromptRefIdeal.defs _ _).mono
    (fun r h => ⟨fun c => (h c).2.2.2.2.2, sem_eq_zero_of_no_sems (by decide) r.2⟩)
    (Cert.OddPromptRefIdeal.Value.run (F := Ideal) m ρ)

theorem preserves : Cert.preserves_OddPrompt_OddPromptIdeal := trivial

/-- The kernel's five results and the reference's are the same extended reals. -/
theorem algebraic : Cert.algebraic_OddPromptIdeal_OddPromptRefIdeal := by
  intro m ρ m' ρ' _ hag
  refine ⟨_, _, _, _, _, Cert.OddPromptIdeal.Value.run_blocks (F := Ideal) m ρ, ?_⟩
  refine (θ_run Cert.OddPromptRefIdeal.defs _ _).mono (fun _ h c => ?_) (Cert.OddPromptRefIdeal.Value.run (F := Ideal) m' ρ')
  obtain ⟨h0, h1, h2, h3, h4, hk⟩ := h c
  obtain ⟨a0, a1⟩ := hag c
  obtain ⟨f0, f1, f2, f3⟩ := final m c
  rw [a0, a1] at h0 h1 h2 h3 h4
  exact ⟨h0.trans f0.symm, h1.trans f1.symm, h2.trans f2.symm, h3.trans f3.symm, h4.trans (final_pad m c).symm, hk⟩

end Cert.Proof.OddPromptClaims

end
-- ==== Proof.QueryValue.lean ====
/-
  What the query projection's kernel leaves: each row tile of the result is the matching tile of the reference's.
-/
module

public import Idealize.ShloMosaic.Lib.Pipeline.ValueKit
public import proofs.«01_k».proof.Proof.Gen.QueryIdeal.Value
public import proofs.«01_k».proof.Proof.Gen.QueryRefIdeal.Read

@[expose] public section

set_option maxRecDepth 16384

noncomputable section

open Idealize.ShloMosaic Idealize.ShloMosaic.TcCoe Idealize.SL.Sem

namespace Cert.QueryIdeal.Tiles

open Cert.QueryIdeal Cert.QueryIdeal.Gen Idealize.ShloMosaic.Pointwise Cert.QueryRefIdeal.Read

variable (m : (ℓ : Loc nD τ sig) → Buf (Elt Ideal) ℓ) (c : Dev nD)

/-- The row tiles move with the point; the weight's block is the whole weight. -/
theorem idx : ∀ t : Fin cfg0.N, win0_0.index t = ![t.val, 0] ∧ win0_1.index t = ![0, 0] ∧ win0_2.index t = ![t.val, 0] :=
  (by decide +kernel : ∀ t : Fin grid0.N, _)

/-- The reference's result on the kernel's arguments. -/
abbrev result : S16384x1024.Idx → EReal :=
  val_main_v1 (F := Ideal) (m ((c : Thread nD τ).loc main_arg0)) (m ((c : Thread nD τ).loc main_arg1))

theorem final : (dats m 0 c).arrAt 2 cfg0.N = result m c := by
  refine (dats m 0 c).arrAt_eq_of_covers 2 _ (by decide +kernel) fun t hf y => ?_
  blk_simp
  rw [after0_2]; frame_out
  pointwise [k0_pay1, result, val_main_v1, val_main_v0]
  blk_point [iblk, V, idx t]

end Cert.QueryIdeal.Tiles

end
-- ==== Proof.QueryClaims.lean ====
/-
  The query projection's claims.
-/
module

public import proofs.«01_k».proof.Defs
public import proofs.«01_k».proof.Proof.QueryValue
public import proofs.«01_k».proof.Proof.Gen.Query.Frame
public import proofs.«01_k».proof.Proof.Gen.QueryIdeal.Frame
public import proofs.«01_k».proof.Proof.Gen.QueryRefIdeal.Run

@[expose] public section

noncomputable section

open Idealize.ShloMosaic Idealize.SL.Sem

namespace Cert.Proof.QueryClaims

theorem frame_kernel : Cert.quiescent_Query := fun m ρ _ => Cert.Query.Gen.frame m ρ

theorem frame_ideal : Cert.quiescent_QueryIdeal := fun m ρ _ => Cert.QueryIdeal.Gen.frame m ρ

theorem frame_ref : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

theorem preserves : Cert.preserves_Query_QueryIdeal := trivial

theorem algebraic : Cert.algebraic_QueryIdeal_QueryRefIdeal := by
  intro m ρ m' ρ' _ hag
  refine ⟨fun c => Cert.QueryIdeal.Tiles.result m c,
    (θ_run Cert.QueryIdeal.defs _ _).mono (fun _ h c => ⟨(h c).1.trans (Cert.QueryIdeal.Tiles.final m c), (h c).2⟩)
      (Cert.QueryIdeal.Value.run_blocks (F := Ideal) m ρ), ?_⟩
  refine (θ_run Cert.QueryRefIdeal.defs _ _).mono (fun _ h c => ⟨(h c).1.trans ?_, (h c).2⟩)
    (Cert.QueryRefIdeal.Value.run (F := Ideal) m' ρ')
  obtain ⟨a0, a1⟩ := hag c
  rw [a0, a1]
  rfl

end Cert.Proof.QueryClaims

end
-- ==== Proof.MixValue.lean ====
/-
  What the mixer's closing kernel leaves: √2·x plus the projection of the mixer's rows, put through the layer norm,
  a row tile at a time; each tile is the matching tile of the reference's.
-/
module

public import Idealize.ShloMosaic.Lib.Pipeline.ValueKit
public import proofs.«01_k».proof.Proof.Gen.MixIdeal.Value
public import proofs.«01_k».proof.Proof.Gen.MixRefIdeal.Read

@[expose] public section

set_option maxRecDepth 16384

noncomputable section

open Idealize.ShloMosaic Idealize.ShloMosaic.TcCoe Idealize.SL.Sem

namespace Cert.MixIdeal.Tiles

open Cert.MixIdeal Cert.MixIdeal.Gen Idealize.ShloMosaic.Pointwise Cert.MixRefIdeal.Read

variable (m : (ℓ : Loc nD τ sig) → Buf (Elt Ideal) ℓ) (c : Dev nD)

/-- The row tiles move with the point; the weight, the gain and the bias are staged whole. -/
theorem idx : ∀ t : Fin cfg0.N, win0_0.index t = ![t.val, 0] ∧ win0_1.index t = ![0, 0] ∧ win0_2.index t = ![t.val, 0]
    ∧ (win0_3.index t = ![0, 0] ∧ win0_4.index t = ![0, 0] ∧ win0_5.index t = ![t.val, 0] ∧ win0_6.index t = ![t.val, 0]) :=
  (by decide +kernel : ∀ t : Fin grid0.N, _)

set_option maxHeartbeats 4000000 in
theorem final :
    (dats m 0 c).arrAt 5 cfg0.N = val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
    ∧ (dats m 0 c).arrAt 6 cfg0.N = val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine ⟨?_, ?_⟩ <;>
  · refine (dats m 0 c).arrAt_eq_of_covers _ _ (by decide +kernel) fun t hf y => ?_
    blk_simp
    simp only [after0_5, after0_6]
    frame_out
    pointwise [k0_pay1, k0_pay2, val_main_v0, val_main_v1, val_main_v2, val_main_v3, val_main_v4, val_main_v5, val_main_v6, val_main_v7,
      val_main_v8, val_main_v9, val_main_v10, val_main_v11, val_main_v12, val_main_v13, val_main_v14, val_main_v15, val_main_v16,
      val_main_v17, val_main_v18, val_main_v19, val_main_v20, val_main_v21, val_main_v22, val_main_v23, val_main_v24, val_main_v25,
      val_main_v26, val_main_v27, val_main_v28, val_main_v29, val_main_cst, val_main_cst_0, val_main_cst_1, val_main_cst_2,
      val_main_cst_3, val_main_cst_4]
    blk_point [iblk, V, idx t]

end Cert.MixIdeal.Tiles

end
-- ==== Proof.MixClaims.lean ====
/-
  The claims of the mixer's closing kernel.
-/
module

public import proofs.«01_k».proof.Defs
public import proofs.«01_k».proof.Proof.MixValue
public import proofs.«01_k».proof.Proof.Gen.Mix.Frame
public import proofs.«01_k».proof.Proof.Gen.MixIdeal.Frame
public import proofs.«01_k».proof.Proof.Gen.MixRefIdeal.Run

@[expose] public section

noncomputable section

open Idealize.ShloMosaic Idealize.SL.Sem

namespace Cert.Proof.MixClaims

open Cert.MixIdeal.Tiles

theorem frame_kernel : Cert.quiescent_Mix := fun m ρ _ => Cert.Mix.Gen.frame m ρ

theorem frame_ideal : Cert.quiescent_MixIdeal := fun m ρ _ => Cert.MixIdeal.Gen.frame m ρ

theorem frame_ref : Cert.quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

theorem preserves : Cert.preserves_Mix_MixIdeal := trivial

/-- The kernel's two results, the normed rows and the same rows to be cast, are the reference's. -/
theorem algebraic : Cert.algebraic_MixIdeal_MixRefIdeal := by
  intro m ρ m' ρ' _ hag
  refine ⟨_, _, Cert.MixIdeal.Value.run_blocks (F := Ideal) m ρ, ?_⟩
  refine (θ_run Cert.MixRefIdeal.defs _ _).mono (fun _ h c => ?_) (Cert.MixRefIdeal.Value.run (F := Ideal) m' ρ')
  obtain ⟨h0, h1, hk⟩ := h c
  obtain ⟨a0, a1, a2, a3, a4⟩ := hag c
  obtain ⟨f0, f1⟩ := final m c
  rw [a0, a1, a2, a3, a4] at h0 h1
  exact ⟨h0.trans f0.symm, h1.trans f1.symm, hk⟩

end Cert.Proof.MixClaims

end
-- ==== Proof.MixPairValue.lean ====
/-
  What the mixer's closing kernel leaves: √2·x plus the projections of the two mixers' rows, put through the layer norm,
  a row tile at a time; each tile is the matching tile of the reference's.
-/
module

public import Idealize.ShloMosaic.Lib.Pipeline.ValueKit
public import proofs.«01_k».proof.Proof.Gen.MixPairIdeal.Value
public import proofs.«01_k».proof.Proof.Gen.MixPairRefIdeal.Read

@[expose] public section

set_option maxRecDepth 16384

noncomputable section

open Idealize.ShloMosaic Idealize.ShloMosaic.TcCoe Idealize.SL.Sem

namespace Cert.MixPairIdeal.Tiles

open Cert.MixPairIdeal Cert.MixPairIdeal.Gen Idealize.ShloMosaic.Pointwise Cert.MixPairRefIdeal.Read

variable (m : (ℓ : Loc nD τ sig) → Buf (Elt Ideal) ℓ) (c : Dev nD)

/-- The row tiles move with the point; the weight's halves, the gain and the bias are staged whole. -/
theorem idx : ∀ t : Fin cfg0.N, win0_0.index t = ![t.val, 0] ∧ win0_1.index t = ![t.val, 0] ∧ win0_2.index t = ![0, 0]
    ∧ (win0_3.index t = ![0, 0] ∧ win0_4.index t = ![t.val, 0] ∧ win0_5.index t = ![0, 0] ∧ win0_6.index t = ![0, 0])
    ∧ (win0_7.index t = ![t.val, 0] ∧ win0_8.index t = ![t.val, 0]) :=
  (by decide +kernel : ∀ t : Fin grid0.N, _)

set_option maxHeartbeats 4000000 in
/-- The reference multiplies the joined rows by the whole weight; the kernel adds the two halves' products one after
    the other, so the sums agree once regrouped. -/
theorem final :
    (dats m 0 c).arrAt 7 cfg0.N = val_main_v29 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5))
    ∧ (dats m 0 c).arrAt 8 cfg0.N = val_main_v30 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  refine ⟨?_, ?_⟩ <;>
  · refine (dats m 0 c).arrAt_eq_of_covers _ _ (by decide +kernel) fun t hf y => ?_
    blk_simp
    simp only [after0_7, after0_8]
    frame_out
    pointwise [k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15,
      val_main_v16, val_main_v17, val_main_v18, val_main_v19, val_main_v20, val_main_v21, val_main_v22, val_main_v23, val_main_v24, val_main_v25, val_main_v26, val_main_v27, val_main_v28, val_main_v29, val_main_v30, val_main_cst, val_main_cst_0, val_main_cst_1, val_main_cst_2,
      val_main_cst_3, val_main_cst_4]
    simp only [← add_assoc]
    blk_point [iblk, V, idx t]

end Cert.MixPairIdeal.Tiles

end
-- ==== Proof.MixPairClaims.lean ====
/-
  The claims of the closing kernel of the two mixers.
-/
module

public import proofs.«01_k».proof.Defs
public import proofs.«01_k».proof.Proof.MixPairValue
public import proofs.«01_k».proof.Proof.Gen.MixPair.Frame
public import proofs.«01_k».proof.Proof.Gen.MixPairIdeal.Frame
public import proofs.«01_k».proof.Proof.Gen.MixPairRefIdeal.Run

@[expose] public section

noncomputable section

open Idealize.ShloMosaic Idealize.SL.Sem

namespace Cert.Proof.MixPairClaims

open Cert.MixPairIdeal.Tiles

theorem frame_kernel : Cert.quiescent_MixPair := fun m ρ _ => Cert.MixPair.Gen.frame m ρ

theorem frame_ideal : Cert.quiescent_MixPairIdeal := fun m ρ _ => Cert.MixPairIdeal.Gen.frame m ρ

theorem frame_ref : Cert.quiescent_MixPairRefIdeal := fun m ρ _ =>
  (θ_run Cert.MixPairRefIdeal.defs _ _).mono (fun r h => ⟨fun c => (h c).2.2, sem_eq_zero_of_no_sems (by decide) r.2⟩)
    (Cert.MixPairRefIdeal.Value.run (F := Ideal) m ρ)

theorem preserves : Cert.preserves_MixPair_MixPairIdeal := trivial

/-- The kernel's two results, the normed rows and the same rows to be cast, are the reference's. -/
theorem algebraic : Cert.algebraic_MixPairIdeal_MixPairRefIdeal := by
  intro m ρ m' ρ' _ hag
  refine ⟨_, _, Cert.MixPairIdeal.Value.run_blocks (F := Ideal) m ρ, ?_⟩
  refine (θ_run Cert.MixPairRefIdeal.defs _ _).mono (fun _ h c => ?_) (Cert.MixPairRefIdeal.Value.run (F := Ideal) m' ρ')
  obtain ⟨h0, h1, hk⟩ := h c
  obtain ⟨a0, a1, a2, a3, a4, a5⟩ := hag c
  obtain ⟨f0, f1⟩ := final m c
  rw [Cert.MixPairRefIdeal.Read.val_main_v29_eq] at h0
  rw [Cert.MixPairRefIdeal.Read.val_main_v30_eq] at h1
  rw [a0, a1, a2, a3, a4, a5] at h0 h1
  exact ⟨h0.trans f0.symm, h1.trans f1.symm, hk⟩

end Cert.Proof.MixPairClaims

end
-- ==== Proof.AttentionValue.lean ====
/-
  What the memory attention's kernel leaves: head by head, each tile of rows is the matching tile of the reference's.
-/
module

public import Idealize.ShloMosaic.Lib.Pipeline.ValueKit
public import proofs.«01_k».proof.Proof.Gen.AttentionIdeal.Value
public import proofs.«01_k».proof.Proof.Gen.AttentionRefIdeal.Read

@[expose] public section

set_option maxRecDepth 16384

noncomputable section

open Idealize.ShloMosaic Idealize.ShloMosaic.TcCoe Idealize.SL.Sem

namespace Cert.AttentionIdeal.Tiles

open Cert.AttentionIdeal Cert.AttentionIdeal.Gen Idealize.ShloMosaic.Pointwise Cert.AttentionRefIdeal.Read

variable (m : (ℓ : Loc nD τ sig) → Buf (Elt Ideal) ℓ) (c : Dev nD)

/-- One entry of one head's result: the softmax of a row's scores, weighing a column of the values. -/
def weighed (s v : Fin 256 → EReal) : EReal :=
  ∑ n, Ideal.div (Ideal.exp (s n - Finset.univ.fold max (Ideal.ofBits .f32 0xFF800000#32) s))
    (∑ k, Ideal.exp (s k - Finset.univ.fold max (Ideal.ofBits .f32 0xFF800000#32) s)) * v n

/-- A head's payload at an index. -/
theorem head_at (q : Vec Ideal S1x512x256 .bf16) (k v : Vec Ideal S1x256x256 .bf16) (x : S1x512x256.Idx) :
    k0_pay3 (F := Ideal) q k v x
      = weighed (fun n => (∑ d : Fin 256, q (ix3 0 (x 1) d) * k (ix3 0 n d)) * Ideal.ofBits .f32 0x3D800000#32)
          (fun n => v (ix3 0 n (x 2))) := by
  pointwise [k0_pay3, weighed]

/-- The reference's queries by head. -/
theorem query_at (A : S4x4096x1024.Idx → EReal) (b : Fin 4) (r : Fin 4096) (h : Fin 4) (d : Fin 256) :
    val_main_v1 (F := Ideal) A (ix4 b r h d) = A (ix3 b r ⟨h.val * 256 + d.val, by omega⟩) := by
  pointwise [val_main_v0, val_main_v1]
  blk_ext []

/-- The reference's keys by head. -/
theorem key_at (K : S4x256x1024.Idx → EReal) (b : Fin 4) (r : Fin 256) (h : Fin 4) (d : Fin 256) :
    val_main_v3 (F := Ideal) K (ix4 b r h d) = K (ix3 b r ⟨h.val * 256 + d.val, by omega⟩) := by
  pointwise [val_main_v2, val_main_v3]
  blk_ext []

/-- The reference's scores at an index. -/
theorem score_at (A : S4x4096x1024.Idx → EReal) (K : S4x256x1024.Idx → EReal) (b h : Fin 4) (r : Fin 4096) (n : Fin 256) :
    val_main_v8 (F := Ideal) A K (ix4 b h r n)
      = (∑ d : Fin 256, A (ix3 b r ⟨h.val * 256 + d.val, by omega⟩) * K (ix3 b n ⟨h.val * 256 + d.val, by omega⟩))
          * Ideal.ofBits .f32 0x3D800000#32 := by
  pointwise [val_main_v6, val_main_v7, val_main_v8, val_main_cst]
  simp only [query_at, key_at]

/-- The maximum over the last of four axes is the fold over that axis. -/
theorem max_last {n0 n1 n2 n3 : ℕ} {u : Shape} (x : (⟨4, ![n0, n1, n2, n3]⟩ : Shape).Idx → EReal) (init : u.Idx → EReal) (z : EReal)
    (h : (⟨4, ![n0, n1, n2, n3]⟩ : Shape).ReducesTo [3] ⟨3, ![n0, n1, n2]⟩) (hu : 0 < u.numel) (a : Fin n0) (b : Fin n1) (r : Fin n2)
    (hz : init (Shape.Idx.first hu) = z) :
    Host.reduce (FloatOps.maximumf : Ideal .f32 → Ideal .f32 → Ideal .f32) x init h hu (ix3 a b r)
      = Finset.univ.fold max z (fun k => x (ix4 a b r k)) := by
  subst hz
  rw [Host.reduce_eq_fold, h.fold_fiber_r4_a3]
  rfl

/-- The value at which a maximum starts. -/
abbrev z0 : EReal := Ideal.ofBits .f32 0xFF800000#32

/-- The reference's maximum starts there. -/
theorem start_at (i) : val_main_cst_0 (F := Ideal) i = z0 := rfl

/-- The reference's maximum over a row of scores. -/
theorem fold_at (A : S4x4096x1024.Idx → EReal) (K : S4x256x1024.Idx → EReal) (b h : Fin 4) (r : Fin 4096) :
    val_main_v9 (F := Ideal) A K (ix3 b h r)
      = Finset.univ.fold max z0 (fun n => val_main_v8 (F := Ideal) A K (ix4 b h r n)) := by
  unfold val_main_v9
  exact max_last _ _ _ _ _ b h r (start_at _)

/-- The reference takes the greater of the start and the maximum once more, -/
theorem top_at (A : S4x4096x1024.Idx → EReal) (K : S4x256x1024.Idx → EReal) (b h : Fin 4) (r : Fin 4096) :
    val_main_v11 (F := Ideal) A K (ix3 b h r) = max z0 (val_main_v9 (F := Ideal) A K (ix3 b h r)) := by
  rw [val_main_v11_apply, val_main_v10_apply, val_main_cst_1_apply]
  generalize val_main_v9 (F := Ideal) A K (ix3 b h r) = w
  rfl

/-- which changes nothing. -/
theorem max_self (z : EReal) (s : Fin 256 → EReal) : max z (Finset.univ.fold max z s) = Finset.univ.fold max z s :=
  max_eq_right ((Finset.le_fold_max _).2 (.inl le_rfl))

/-- The largest score of a row. -/
theorem max_at (A : S4x4096x1024.Idx → EReal) (K : S4x256x1024.Idx → EReal) (b h : Fin 4) (r : Fin 4096) :
    val_main_v11 (F := Ideal) A K (ix3 b h r) = Finset.univ.fold max z0 (fun n => val_main_v8 (F := Ideal) A K (ix4 b h r n)) :=
  ((top_at A K b h r).trans (congrArg (max z0) (fold_at A K b h r))).trans (max_self _ _)

/-- The softmax's numerators. -/
theorem exp_at (A : S4x4096x1024.Idx → EReal) (K : S4x256x1024.Idx → EReal) (b h : Fin 4) (r : Fin 4096) (n : Fin 256) :
    val_main_v15 (F := Ideal) A K (ix4 b h r n)
      = Ideal.exp (val_main_v8 (F := Ideal) A K (ix4 b h r n) - val_main_v11 (F := Ideal) A K (ix3 b h r)) := by
  pointwise [val_main_v12, val_main_v13, val_main_v14, val_main_v15]

/-- The softmax's weights. -/
theorem weight_at (A : S4x4096x1024.Idx → EReal) (K : S4x256x1024.Idx → EReal) (b h : Fin 4) (r : Fin 4096) (n : Fin 256) :
    val_main_v19 (F := Ideal) A K (ix4 b h r n)
      = Ideal.div (val_main_v15 (F := Ideal) A K (ix4 b h r n)) (∑ k, val_main_v15 (F := Ideal) A K (ix4 b h r k)) := by
  pointwise [val_main_v16, val_main_v17, val_main_v18, val_main_v19, val_main_cst_2]

/-- The softmax's weights, from the scores. -/
theorem weight_row (A : S4x4096x1024.Idx → EReal) (K : S4x256x1024.Idx → EReal) (b h : Fin 4) (r : Fin 4096) (n : Fin 256) :
    val_main_v19 (F := Ideal) A K (ix4 b h r n)
      = Ideal.div (Ideal.exp (val_main_v8 (F := Ideal) A K (ix4 b h r n)
            - Finset.univ.fold max z0 (fun n => val_main_v8 (F := Ideal) A K (ix4 b h r n))))
          (∑ k, Ideal.exp (val_main_v8 (F := Ideal) A K (ix4 b h r k)
            - Finset.univ.fold max z0 (fun n => val_main_v8 (F := Ideal) A K (ix4 b h r n)))) := by
  rw [weight_at]
  simp only [exp_at, max_at]

/-- The weighed values. -/
theorem out_at (A : S4x4096x1024.Idx → EReal) (K W : S4x256x1024.Idx → EReal) (j : S4x4096x1024.Idx) :
    val_main_v23 (F := Ideal) A K W j
      = ∑ n, W (ix3 (j 0) n (j 2))
          * val_main_v19 (F := Ideal) A K (ix4 (j 0) ⟨(j 2).val / 256, by have : (j 2).val < 1024 := (j 2).isLt; omega⟩ (j 1) n) := by
  pointwise [val_main_v4, val_main_v5, val_main_v20, val_main_v21, val_main_v22, val_main_v23]

/-- The reference's result at an index: column `j 2` belongs to head `j 2 / 256`. -/
theorem ref_at (A : S4x4096x1024.Idx → EReal) (K W : S4x256x1024.Idx → EReal) (j : S4x4096x1024.Idx) :
    val_main_v23 (F := Ideal) A K W j
      = weighed (fun n => val_main_v8 (F := Ideal) A K (ix4 (j 0) ⟨(j 2).val / 256, by have : (j 2).val < 1024 := (j 2).isLt; omega⟩ (j 1) n))
          (fun n => W (ix3 (j 0) n (j 2))) := by
  rw [out_at]
  unfold weighed
  refine Finset.sum_congr rfl fun n _ => ?_
  exact (mul_comm _ _).trans (congrArg (· * W (ix3 (j 0) n (j 2))) (weight_row A K _ _ _ n))

/-- The block windows move over the batch and the row tiles, those of the keys and the values over the batch. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

/-- The four heads are computed alike. -/
theorem pay1 (q : Vec Ideal S1x512x256 .bf16) (k v : Vec Ideal S1x256x256 .bf16) :
    k0_pay1 (F := Ideal) (k0_pay6 q k v) = k0_pay3 q k v := rfl

theorem pay2 (q : Vec Ideal S1x512x256 .bf16) (k v : Vec Ideal S1x256x256 .bf16) :
    k0_pay2 (F := Ideal) q k v = k0_pay3 q k v := rfl

theorem pay5 (q : Vec Ideal S1x512x256 .bf16) (k v : Vec Ideal S1x256x256 .bf16) :
    k0_pay5 (F := Ideal) (k0_pay4 q k) v = k0_pay3 q k v := rfl

set_option maxHeartbeats 4000000 in
/-- The kernel's result is the reference's. -/
theorem final :
    (dats m 0 c).arrAt 3 cfg0.N = val_main_v23 (F := Ideal) (m ((c : Thread nD τ).loc main_arg0)) (m ((c : Thread nD τ).loc main_arg1))
        (m ((c : Thread nD τ).loc main_arg2)) := by
  refine (dats m 0 c).arrAt_eq_of_covers _ _ (by decide +kernel) fun t hf y => ?_
  blk_simp
  simp only [after0_3]
  unfold out0_3
  rw [pay1, pay2, pay5, ref_at]
  canon_tiles x h
  all_goals
    rw [head_at]
    refine congr (congrArg weighed (funext fun n => ?_)) (funext fun n => ?_)
    · refine Eq.trans ?_ (score_at _ _ _ _ _ _).symm
      blk_point [iblk, V, idx t]
    · blk_point [iblk, V, idx t]

end Cert.AttentionIdeal.Tiles

end
-- ==== Proof.AttentionClaims.lean ====
/-
  The claims of the memory attention.
-/
module

public import proofs.«01_k».proof.Defs
public import proofs.«01_k».proof.Proof.AttentionValue
public import proofs.«01_k».proof.Proof.Gen.Attention.Frame
public import proofs.«01_k».proof.Proof.Gen.AttentionIdeal.Frame
public import proofs.«01_k».proof.Proof.Gen.AttentionRefIdeal.Run

@[expose] public section

noncomputable section

open Idealize.ShloMosaic Idealize.SL.Sem

namespace Cert.Proof.AttentionClaims

open Cert.AttentionIdeal.Tiles

theorem frame_kernel : Cert.quiescent_Attention := fun m ρ _ => Cert.Attention.Gen.frame m ρ

theorem frame_ideal : Cert.quiescent_AttentionIdeal := fun m ρ _ => Cert.AttentionIdeal.Gen.frame m ρ

theorem frame_ref : Cert.quiescent_AttentionRefIdeal := fun m ρ _ =>
  (θ_run Cert.AttentionRefIdeal.defs _ _).mono (fun r h => ⟨fun c => (h c).2, sem_eq_zero_of_no_sems (by decide) r.2⟩)
    (Cert.AttentionRefIdeal.Value.run (F := Ideal) m ρ)

theorem preserves : Cert.preserves_Attention_AttentionIdeal := trivial

/-- The kernel's rows are the reference's. -/
theorem algebraic : Cert.algebraic_AttentionIdeal_AttentionRefIdeal := by
  intro m ρ m' ρ' _ hag
  refine ⟨_, Cert.AttentionIdeal.Value.run_blocks (F := Ideal) m ρ, ?_⟩
  refine (θ_run Cert.AttentionRefIdeal.defs _ _).mono (fun _ h c => ?_) (Cert.AttentionRefIdeal.Value.run (F := Ideal) m' ρ')
  obtain ⟨h0, hk⟩ := h c
  obtain ⟨a0, a1, a2⟩ := hag c
  rw [a0, a1, a2] at h0
  refine ⟨h0.trans (Eq.trans ?_ (final m c).symm), hk⟩
  rfl

end Cert.Proof.AttentionClaims

end
-- ==== Proof.RecurrenceValue.lean ====
/-
  What the recurrence's step leaves: the new state and its gated copy, entry by entry the reference's. The kernel multiplies
  by a matrix whose blocks off the diagonal are zero where the reference multiplies block by block.
-/
module

public import Idealize.ShloMosaic.Lib.Pipeline.ValueKit
public import proofs.«01_k».proof.Proof.Gen.RecurrenceIdeal.Value
public import proofs.«01_k».proof.Proof.Gen.RecurrenceRefIdeal.Read

@[expose] public section

set_option maxRecDepth 16384

noncomputable section

open Idealize.ShloMosaic Idealize.ShloMosaic.TcCoe Idealize.SL.Sem

namespace Cert.RecurrenceIdeal.Tiles

open Cert.RecurrenceIdeal Cert.RecurrenceIdeal.Gen Idealize.ShloMosaic.Pointwise Cert.RecurrenceRefIdeal.Read

variable (m : (ℓ : Loc nD τ sig) → Buf (Elt Ideal) ℓ) (c : Dev nD)

/-- The gate's strength: the softplus of the negated parameter. -/
def soft (l : EReal) : EReal :=
  if -l ≠ -l then -l else max (-l) 0 + Ideal.log1p (Ideal.exp (-FloatOps.absf (F := Ideal) (φ := .f32) (-l)))

/-- The logarithm of the decay. -/
def decay (r l : EReal) : EReal := Ideal.ofBits .f32 0xC1000000#32 * Ideal.logistic r * soft l

/-- The new state from the two gates' arguments, the convolved input, the parameter and the old state. -/
def step (r i x l h : EReal) : EReal :=
  Ideal.exp (decay r l) * h
    + Ideal.sqrt (1 - Ideal.exp (Ideal.ofBits .f32 0x40000000#32 * decay r l)) * (Ideal.logistic i * x)

/-- A state's gated copy. -/
def gated (g h : EReal) : EReal :=
  h * (g * (Ideal.ofBits .f32 0x3F000000#32 * (1 + Ideal.tanh (Ideal.ofBits .f32 0x3F4C422A#32
    * (g + Ideal.ofBits .f32 0x3D372713#32 * (g * (g * g)))))))

/-- The square root's argument, computed from `exp x - 1` or from `exp x`. -/
theorem neg_sub_one (x : EReal) : -(x - 1) = 1 - x := by
  rw [EReal.neg_sub (Or.inr (by decide)) (Or.inr (by decide)), add_comm, sub_eq_add_neg]

/-- The kernel's state, from the values read before it. -/
theorem state_at (x : Vec Ideal S128x512 .f32) (wa wi : Vec Ideal S512x512 .bf16) (ba bi l : Vec Ideal S1x512 .f32)
    (h : Vec Ideal S128x512 .f32) (j : S128x512.Idx) :
    k0_pay7 (F := Ideal) x wa ba wi bi l h j
      = step ((∑ k : Fin 512, x (ix2 (j 0) k) * wa (ix2 k (j 1))) + ba (ix2 0 (j 1)))
          ((∑ k : Fin 512, x (ix2 (j 0) k) * wi (ix2 k (j 1))) + bi (ix2 0 (j 1))) (x j) (l (ix2 0 (j 1))) (h j) := by
  pointwise [k0_pay7]
  simp only [zero_sub]
  rfl

/-- The kernel's gated copy. -/
theorem gated_at (h g : Vec Ideal S128x512 .f32) (j : S128x512.Idx) : k0_pay1 (F := Ideal) h g j = gated (g j) (h j) := by
  pointwise [k0_pay1]
  rfl

/-- The reference's product with the blocks. -/
theorem block_at (A0 : S128x512.Idx → EReal) (A2 : S128x3x512.Idx → EReal) (A4 : S4x512.Idx → EReal) (A5 : S512.Idx → EReal)
    (W : S8x64x64.Idx → EReal) (j : S128x512.Idx) :
    val_main_v39 (F := Ideal) A0 A2 A4 A5 W j
      = ∑ d : Fin 64, W (ix3 ⟨(j 1).val / 64, by have : (j 1).val < 512 := (j 1).isLt; omega⟩ d ⟨(j 1).val % 64, by omega⟩)
          * val_main_v35 (F := Ideal) A0 A2 A4 A5
              (ix2 (j 0) ⟨(j 1).val / 64 * 64 + d.val, by have : (j 1).val < 512 := (j 1).isLt; omega⟩) := by
  pointwise [val_main_v36, val_main_v37, val_main_v38, val_main_v39]

/-- Both gates multiply alike. -/
theorem block_alike (A0 : S128x512.Idx → EReal) (A2 : S128x3x512.Idx → EReal) (A4 : S4x512.Idx → EReal) (A5 : S512.Idx → EReal)
    (W : S8x64x64.Idx → EReal) : val_main_v51 (F := Ideal) A0 A2 A4 A5 W = val_main_v39 (F := Ideal) A0 A2 A4 A5 W := rfl

/-- The reference's strength of the gate. -/
theorem soft_at (L : S512.Idx → EReal) (i : S512.Idx) : val_main_v64 (F := Ideal) L i = soft (L i) := by
  pointwise [val_main_v63, val_main_call0_cst, val_main_call0_v0, val_main_call0_v1, val_main_call0_v2, val_main_call0_v3, val_main_call0_v4,
     val_main_call0_v5, val_main_call0_v6, val_main_call0_v7, val_main_call0_v8, val_main_call0_v9, val_main_call0_v10, val_main_call0_v11, val_main_v64]
  rfl

/-- The reference's state. -/
theorem ref_state_at (A0 : S128x512.Idx → EReal) (A2 : S128x3x512.Idx → EReal) (A3 : S128x512.Idx → EReal) (A4 : S4x512.Idx → EReal) (A5 : S512.Idx → EReal)
    (A6 : S8x64x64.Idx → EReal) (A7 : S512.Idx → EReal) (A8 : S8x64x64.Idx → EReal) (A9 A10 : S512.Idx → EReal) (j : S128x512.Idx) :
    val_main_v77 (F := Ideal) A0 A2 A3 A4 A5 A6 A7 A8 A9 A10 j
      = step (val_main_v39 (F := Ideal) A0 A2 A4 A5 A6 j + A7 (ix1 (j 1))) (val_main_v39 (F := Ideal) A0 A2 A4 A5 A8 j + A9 (ix1 (j 1)))
          (val_main_v35 (F := Ideal) A0 A2 A4 A5 j) (A10 (ix1 (j 1))) (A3 j) := by
  pointwise [val_main_v40, val_main_v41, val_main_v42, val_main_v43, val_main_v44, val_main_v45, val_main_v46, val_main_v47, val_main_v48, val_main_v52,
    val_main_v53, val_main_v54, val_main_v55, val_main_v56, val_main_v57, val_main_v58, val_main_v59, val_main_v60, val_main_v61, val_main_v62, val_main_v65,
    val_main_v66, val_main_v67, val_main_v68, val_main_v69, val_main_v70, val_main_v71, val_main_v72, val_main_v73, val_main_v74, val_main_v75, val_main_v76, val_main_v77,
    val_main_cst, val_main_cst_0, val_main_cst_1, val_main_cst_2, val_main_cst_3, val_main_cst_4]
  rw [neg_sub_one, add_comm, block_alike, soft_at]
  rfl

/-- The reference's gated copy. -/
theorem ref_gated_at (A0 A1 : S128x512.Idx → EReal) (A2 : S128x3x512.Idx → EReal) (A3 : S128x512.Idx → EReal) (A4 : S4x512.Idx → EReal) (A5 : S512.Idx → EReal)
    (A6 : S8x64x64.Idx → EReal) (A7 : S512.Idx → EReal) (A8 : S8x64x64.Idx → EReal) (A9 A10 : S512.Idx → EReal) (j : S128x512.Idx) :
    val_main_v92 (F := Ideal) A0 A1 A2 A3 A4 A5 A6 A7 A8 A9 A10 j
      = gated (A1 j) (val_main_v77 (F := Ideal) A0 A2 A3 A4 A5 A6 A7 A8 A9 A10 j) := by
  pointwise [val_main_v78, val_main_v79, val_main_cst_5, val_main_v80, val_main_v81, val_main_v82, val_main_cst_6, val_main_v83, val_main_v84,
    val_main_v85, val_main_cst_7, val_main_v86, val_main_v87, val_main_cst_8, val_main_v88, val_main_v89, val_main_v90, val_main_v91, val_main_v92]
  unfold gated
  simp only [mul_assoc]

/-- An entry of the matrix with the blocks `W` on its diagonal and zeros elsewhere. -/
def diag (W : S8x64x64.Idx → EReal) (k w : Fin 512) : EReal :=
  W (ix3 ⟨k.val / 64, by omega⟩ ⟨k.val % 64, by omega⟩ ⟨w.val % 64, by omega⟩) * (if k.val / 64 = w.val / 64 then 1 else 0)

/-- A product with it is a product with a block. -/
theorem sum_diag (x : Fin 512 → EReal) (W : S8x64x64.Idx → EReal) (w : Fin 512) :
    (∑ k, x k * diag W k w)
      = ∑ d : Fin 64, W (ix3 ⟨w.val / 64, by omega⟩ d ⟨w.val % 64, by omega⟩) * x ⟨w.val / 64 * 64 + d.val, by omega⟩ := by
  have e : (∑ k, x k * diag W k w) = ∑ a : Fin 8, ∑ d : Fin 64, x ⟨a.val * 64 + d.val, by omega⟩ * diag W ⟨a.val * 64 + d.val, by omega⟩ w :=
    (Fin.sum_mul_add_fin 8 64 fun k => x k * diag W k w).symm
  rw [e, Finset.sum_eq_single (⟨w.val / 64, by omega⟩ : Fin 8)]
  · refine Finset.sum_congr rfl fun d _ => ?_
    unfold diag
    have h1 : (w.val / 64 * 64 + d.val) / 64 = w.val / 64 := by omega
    have h2 : (w.val / 64 * 64 + d.val) % 64 = d.val := by omega
    simp only [h1, h2, if_true, mul_one, Fin.eta]
    exact mul_comm _ _
  · intro a _ ha
    refine Finset.sum_eq_zero fun d _ => ?_
    unfold diag
    have h1 : (a.val * 64 + d.val) / 64 = a.val := by omega
    have h3 : ¬ a.val = w.val / 64 := fun h => ha (Fin.ext h)
    simp only [h1, if_neg h3, mul_zero]
  · exact fun h => absurd (Finset.mem_univ _) h

abbrev argA : S8x64x64.Idx → EReal := m ((c : Thread nD τ).loc main_arg6)
abbrev argI : S8x64x64.Idx → EReal := m ((c : Thread nD τ).loc main_arg8)

/-- The identity's entries, as computed: two counters compared and the outcome converted. -/
theorem eye_bit : ∀ a b : Fin 8, IntOp.cmpi CmpIPredicate.eq (IntOp.addi (BitVec.ofNat 32 a.val) 0#32) (BitVec.ofNat 32 b.val)
    = if a.val = b.val then 1#1 else 0#1 := by decide

/-- The identity's entry as a number. -/
theorem eye_at (a b : ℕ) (ha : a < 8) (hb : b < 8) :
    FloatOps.uitofp (F := Ideal) FTy.f32 (IntOp.cmpi CmpIPredicate.eq (IntOp.addi (BitVec.ofNat 32 a) 0#32) (BitVec.ofNat 32 b))
      = (if a = b then 1 else 0 : EReal) := by
  rw [eye_bit ⟨a, ha⟩ ⟨b, hb⟩]
  by_cases h : a = b
  · simp [h, FloatOps.uitofp]
  · simp [h, FloatOps.uitofp]

/-- What the arrays behind the input windows hold when the grid starts. -/
theorem entry_a (k w : Fin 512) : (V m c main_v12 : S512x512.Idx → EReal) (ix2 k w) = diag (argA m c) k w := by
  show StableHlo.after hostOps0 _ (Proc.devRef .tc main_v12) _ = _
  after_results
  pointwise
  rw [eye_at _ _ (by omega) (by omega)]
  rfl

theorem entry_i (k w : Fin 512) : (V m c main_v25 : S512x512.Idx → EReal) (ix2 k w) = diag (argI m c) k w := by
  show StableHlo.after hostOps0 _ (Proc.devRef .tc main_v25) _ = _
  after_results
  pointwise
  rw [eye_at _ _ (by omega) (by omega)]
  rfl

abbrev argBuf : S128x3x512.Idx → EReal := m ((c : Thread nD τ).loc main_arg2)
abbrev arg5 : S512.Idx → EReal := m ((c : Thread nD τ).loc main_arg5)
abbrev arg7 : S512.Idx → EReal := m ((c : Thread nD τ).loc main_arg7)
abbrev arg9 : S512.Idx → EReal := m ((c : Thread nD τ).loc main_arg9)
abbrev arg10 : S512.Idx → EReal := m ((c : Thread nD τ).loc main_arg10)

/-- The three earlier rows of the convolution's window. -/
theorem entry_rows (r : Fin 128) (w : Fin 512) :
    (V m c main_v27 : S128x512.Idx → EReal) (ix2 r w) = argBuf m c (ix3 r 0 w)
    ∧ (V m c main_v29 : S128x512.Idx → EReal) (ix2 r w) = argBuf m c (ix3 r 1 w)
    ∧ (V m c main_v31 : S128x512.Idx → EReal) (ix2 r w) = argBuf m c (ix3 r 2 w) := by
  refine ⟨?_, ?_, ?_⟩ <;>
  · unfold V
    after_results
    pointwise

/-- The vectors, each staged as one row. -/
theorem entry_vec (w : Fin 512) :
    (V m c main_v32 : S1x512.Idx → EReal) (ix2 0 w) = arg5 m c (ix1 w)
    ∧ (V m c main_v33 : S1x512.Idx → EReal) (ix2 0 w) = arg7 m c (ix1 w)
    ∧ (V m c main_v34 : S1x512.Idx → EReal) (ix2 0 w) = arg9 m c (ix1 w)
    ∧ (V m c main_v35 : S1x512.Idx → EReal) (ix2 0 w) = arg10 m c (ix1 w) := by
  refine ⟨?_, ?_, ?_, ?_⟩ <;>
  · unfold V
    after_results
    pointwise

/-- The grid has one point, and every window is staged whole. -/
theorem idx : ∀ t : Fin cfg0.N, (win0_0.index t = ![0, 0] ∧ win0_1.index t = ![0, 0] ∧ win0_2.index t = ![0, 0] ∧ win0_3.index t = ![0, 0])
    ∧ (win0_4.index t = ![0, 0] ∧ win0_5.index t = ![0, 0] ∧ win0_6.index t = ![0, 0] ∧ win0_7.index t = ![0, 0] ∧ win0_8.index t = ![0, 0])
    ∧ (win0_9.index t = ![0, 0] ∧ win0_10.index t = ![0, 0] ∧ win0_11.index t = ![0, 0] ∧ win0_12.index t = ![0, 0])
    ∧ (win0_13.index t = ![0, 0] ∧ win0_14.index t = ![0, 0]) :=
  (by decide +kernel : ∀ t : Fin grid0.N, _)

/-- A block's entry sits at the same place in the staged array. -/
theorem emb_rows (t : Fin cfg0.N) (r : Fin 128) (w : Fin 512) :
    (win0_2.blk t).view.emb (ix2 r w) = ix2 r w ∧ (win0_3.blk t).view.emb (ix2 r w) = ix2 r w
    ∧ (win0_4.blk t).view.emb (ix2 r w) = ix2 r w := by
  refine ⟨?_, ?_, ?_⟩ <;> blk_ext [idx t]

theorem emb_vec (t : Fin cfg0.N) (w : Fin 512) :
    (win0_7.blk t).view.emb (ix2 0 w) = ix2 0 w ∧ (win0_9.blk t).view.emb (ix2 0 w) = ix2 0 w
    ∧ (win0_11.blk t).view.emb (ix2 0 w) = ix2 0 w ∧ (win0_12.blk t).view.emb (ix2 0 w) = ix2 0 w := by
  refine ⟨?_, ?_, ?_, ?_⟩ <;> blk_ext [idx t]

theorem emb_weight (t : Fin cfg0.N) (k w : Fin 512) :
    (win0_8.blk t).view.emb (ix2 k w) = ix2 k w ∧ (win0_10.blk t).view.emb (ix2 k w) = ix2 k w := by
  refine ⟨?_, ?_⟩ <;> blk_ext [idx t]

/-- The staged blocks' entries. -/
theorem blk_arg0 (t : Fin cfg0.N) (r : Fin 128) (w : Fin 512) :
    (iblk m c 0 t : S128x512.Idx → EReal) (ix2 r w) = (m ((c : Thread nD τ).loc main_arg0) : S128x512.Idx → EReal) (ix2 r w) := by
  blk_ext [iblk, V, idx t]

theorem blk_arg1 (t : Fin cfg0.N) (r : Fin 128) (w : Fin 512) :
    (iblk m c 1 t : S128x512.Idx → EReal) (ix2 r w) = (m ((c : Thread nD τ).loc main_arg1) : S128x512.Idx → EReal) (ix2 r w) := by
  blk_ext [iblk, V, idx t]

theorem blk_arg3 (t : Fin cfg0.N) (r : Fin 128) (w : Fin 512) :
    (iblk m c 5 t : S128x512.Idx → EReal) (ix2 r w) = (m ((c : Thread nD τ).loc main_arg3) : S128x512.Idx → EReal) (ix2 r w) := by
  blk_ext [iblk, V, idx t]

theorem blk_rows (t : Fin cfg0.N) (r : Fin 128) (w : Fin 512) :
    (iblk m c 2 t : S128x512.Idx → EReal) (ix2 r w) = argBuf m c (ix3 r 0 w)
    ∧ (iblk m c 3 t : S128x512.Idx → EReal) (ix2 r w) = argBuf m c (ix3 r 1 w)
    ∧ (iblk m c 4 t : S128x512.Idx → EReal) (ix2 r w) = argBuf m c (ix3 r 2 w) := by
  obtain ⟨e0, e1, e2⟩ := entry_rows m c r w
  obtain ⟨p2, p3, p4⟩ := emb_rows t r w
  exact ⟨(congrArg (V m c main_v27) p2).trans e0, (congrArg (V m c main_v29) p3).trans e1, (congrArg (V m c main_v31) p4).trans e2⟩

theorem blk_vec (t : Fin cfg0.N) (w : Fin 512) :
    (iblk m c 7 t : S1x512.Idx → EReal) (ix2 0 w) = arg5 m c (ix1 w)
    ∧ (iblk m c 9 t : S1x512.Idx → EReal) (ix2 0 w) = arg7 m c (ix1 w)
    ∧ (iblk m c 11 t : S1x512.Idx → EReal) (ix2 0 w) = arg9 m c (ix1 w)
    ∧ (iblk m c 12 t : S1x512.Idx → EReal) (ix2 0 w) = arg10 m c (ix1 w) := by
  obtain ⟨e0, e1, e2, e3⟩ := entry_vec m c w
  obtain ⟨p0, p1, p2, p3⟩ := emb_vec t w
  exact ⟨(congrArg (V m c main_v32) p0).trans e0, (congrArg (V m c main_v33) p1).trans e1,
    (congrArg (V m c main_v34) p2).trans e2, (congrArg (V m c main_v35) p3).trans e3⟩

theorem blk_weight (t : Fin cfg0.N) (k w : Fin 512) :
    (iblk m c 8 t : S512x512.Idx → EReal) (ix2 k w) = diag (argA m c) k w
    ∧ (iblk m c 10 t : S512x512.Idx → EReal) (ix2 k w) = diag (argI m c) k w :=
  ⟨(congrArg (V m c main_v12) (emb_weight t k w).1).trans (entry_a m c k w),
    (congrArg (V m c main_v25) (emb_weight t k w).2).trans (entry_i m c k w)⟩

theorem blk_taps (t : Fin cfg0.N) (k : Fin 4) (w : Fin 512) :
    (iblk m c 6 t : S4x512.Idx → EReal) (ix2 k w) = (m ((c : Thread nD τ).loc main_arg4) : S4x512.Idx → EReal) (ix2 k w) := by
  blk_ext [iblk, V, idx t]

/-- The reference's convolved input, new state and gated copy. -/
abbrev conv : S128x512.Idx → EReal :=
  val_main_v35 (F := Ideal) (m ((c : Thread nD τ).loc main_arg0)) (m ((c : Thread nD τ).loc main_arg2))
    (m ((c : Thread nD τ).loc main_arg4)) (m ((c : Thread nD τ).loc main_arg5))

/-- The convolved input, from the blocks and from the arguments. -/
theorem conv_at (t : Fin cfg0.N) (r : Fin 128) (w : Fin 512) :
    k0_pay8 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r w)
      = conv m c (ix2 r w) := by
  obtain ⟨b2, b3, b4⟩ := blk_rows m c t r w
  have b0 := blk_arg0 m c t r w
  obtain ⟨b7, b9, b11, b12⟩ := blk_vec m c t w
  have b60 := blk_taps m c t 0 w
  have b61 := blk_taps m c t 1 w
  have b62 := blk_taps m c t 2 w
  have b63 := blk_taps m c t 3 w
  generalize iblk m c 0 t = B0, iblk m c 1 t = B1, iblk m c 2 t = B2, iblk m c 3 t = B3, iblk m c 4 t = B4, iblk m c 5 t = B5,
    iblk m c 6 t = B6, iblk m c 7 t = B7, iblk m c 8 t = B8, iblk m c 9 t = B9, iblk m c 10 t = B10, iblk m c 11 t = B11,
    iblk m c 12 t = B12 at *
  unfold conv
  pointwise [k0_pay8, k0_pay2, val_main_v0, val_main_v1, val_main_v2, val_main_v3, val_main_v4, val_main_v5, val_main_v6, val_main_v7,
    val_main_v8, val_main_v9, val_main_v10, val_main_v11, val_main_v12, val_main_v13, val_main_v14, val_main_v15, val_main_v16, val_main_v17,
    val_main_v18, val_main_v19, val_main_v20, val_main_v21, val_main_v22, val_main_v23, val_main_v24, val_main_v25, val_main_v26, val_main_v27,
    val_main_v28, val_main_v29, val_main_v30, val_main_v31, val_main_v32, val_main_v33, val_main_v34, val_main_v35]
  rw [b7, b60, b61, b62, b63, b0, b2, b3, b4]

abbrev state : S128x512.Idx → EReal :=
  val_main_v77 (F := Ideal) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

abbrev copy : S128x512.Idx → EReal :=
  val_main_v92 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- A gate's product: the block-diagonal sum is the block's. -/
theorem product_at (W : S8x64x64.Idx → EReal) (x : Fin 512 → EReal) (wa : Fin 512 → EReal) (r : Fin 128) (w : Fin 512)
    (hx : ∀ k, x k = conv m c (ix2 r k)) (hw : ∀ k, wa k = diag W k w) :
    (∑ k, x k * wa k) = val_main_v39 (F := Ideal) (m ((c : Thread nD τ).loc main_arg0)) (m ((c : Thread nD τ).loc main_arg2))
      (m ((c : Thread nD τ).loc main_arg4)) (m ((c : Thread nD τ).loc main_arg5)) W (ix2 r w) := by
  rw [block_at]
  simp only [hx, hw]
  exact sum_diag (fun k => conv m c (ix2 r k)) W w

/-- The new state from the blocks. -/
theorem state_blk (t : Fin cfg0.N) (r : Fin 128) (w : Fin 512) :
    k0_pay7 (F := Ideal)
      (k0_pay8 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t))
      (k0_pay9 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t))
      (k0_pay10 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t))
      (k0_pay11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t))
      (k0_pay12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t))
      (iblk m c 12 t) (iblk m c 5 t) (ix2 r w) = state m c (ix2 r w) := by
  have b5 := blk_arg3 m c t r w
  obtain ⟨_, b9, b11, b12⟩ := blk_vec m c t w
  have hc := fun k => conv_at m c t r k
  have hw := fun k => blk_weight m c t k w
  unfold state
  rw [ref_state_at, state_at]
  generalize iblk m c 0 t = B0, iblk m c 1 t = B1, iblk m c 2 t = B2, iblk m c 3 t = B3, iblk m c 4 t = B4, iblk m c 5 t = B5,
    iblk m c 6 t = B6, iblk m c 7 t = B7, iblk m c 8 t = B8, iblk m c 9 t = B9, iblk m c 10 t = B10, iblk m c 11 t = B11,
    iblk m c 12 t = B12 at *
  have e9 : ∀ k, k0_pay9 (F := Ideal) B0 B1 B2 B3 B4 B5 B6 B7 B8 B9 B10 B11 B12 (ix2 k w) = diag (argA m c) k w := fun k => by
    rw [← (hw k).1]; pointwise [k0_pay9, k0_pay3]
  have e11 : ∀ k, k0_pay11 (F := Ideal) B0 B1 B2 B3 B4 B5 B6 B7 B8 B9 B10 B11 B12 (ix2 k w) = diag (argI m c) k w := fun k => by
    rw [← (hw k).2]; pointwise [k0_pay11, k0_pay5]
  have e10 : k0_pay10 (F := Ideal) B0 B1 B2 B3 B4 B5 B6 B7 B8 B9 B10 B11 B12 (ix2 0 w) = arg7 m c (ix1 w) := by
    rw [← b9]; pointwise [k0_pay10, k0_pay4]
  have e12 : k0_pay12 (F := Ideal) B0 B1 B2 B3 B4 B5 B6 B7 B8 B9 B10 B11 B12 (ix2 0 w) = arg9 m c (ix1 w) := by
    rw [← b11]; pointwise [k0_pay12, k0_pay6]
  have s1 := product_at m c (argA m c) _ _ r w hc e9
  have s2 := product_at m c (argI m c) _ _ r w hc e11
  refine congr (congr (congr (congr (congrArg step ?_) ?_) (hc w)) b12) b5
  · exact congrArg₂ (· + ·) s1 e10
  · exact congrArg₂ (· + ·) s2 e12

/-- An index is its two coordinates. -/
theorem eta2 (y : S128x512.Idx) : y = ix2 (y 0) (y 1) := by
  funext a
  match a with
  | ⟨0, _⟩ => rfl
  | ⟨1, _⟩ => rfl

/-- The results, as the windows leave them. -/
theorem final : (dats m 0 c).arrAt 13 cfg0.N = copy m c ∧ (dats m 0 c).arrAt 14 cfg0.N = state m c := by
  refine ⟨?_, ?_⟩
  · refine (dats m 0 c).arrAt_eq_of_covers _ _ (by decide +kernel) fun t hf y => ?_
    blk_simp
    simp only [after0_13]
    frame_out
    have hy : ((View.whole main_v36_0).slice (win0_13.rect t)).emb y = ix2 (y 0) (y 1) := by blk_ext [idx t]
    rw [hy]
    refine Eq.trans (congrArg _ (eta2 y)) ?_
    refine (gated_at _ _ _).trans ?_
    exact (congr (congrArg gated (blk_arg1 m c t (y 0) (y 1))) (state_blk m c t (y 0) (y 1))).trans (ref_gated_at _ _ _ _ _ _ _ _ _ _ _ _).symm
  · refine (dats m 0 c).arrAt_eq_of_covers _ _ (by decide +kernel) fun t hf y => ?_
    blk_simp
    simp only [after0_14]
    frame_out
    have hy : ((View.whole main_v36_1).slice (win0_14.rect t)).emb y = ix2 (y 0) (y 1) := by blk_ext [idx t]
    rw [hy]
    refine Eq.trans ?_ (state_blk m c t (y 0) (y 1))
    exact congrArg _ (eta2 y)
-- ==== Proof.RecurrenceClaims.lean ====
/-
  The claims of one step of the gated linear recurrence.
-/
module

public import proofs.«01_k».proof.Defs
public import proofs.«01_k».proof.Proof.RecurrenceValue
public import proofs.«01_k».proof.Proof.Gen.Recurrence.Frame
public import proofs.«01_k».proof.Proof.Gen.RecurrenceIdeal.Frame
public import proofs.«01_k».proof.Proof.Gen.RecurrenceRefIdeal.Run

@[expose] public section

noncomputable section

open Idealize.ShloMosaic Idealize.SL.Sem

namespace Cert.Proof.RecurrenceClaims

open Cert.RecurrenceIdeal.Tiles

theorem frame_kernel : Cert.quiescent_Recurrence := fun m ρ _ => Cert.Recurrence.Gen.frame m ρ

theorem frame_ideal : Cert.quiescent_RecurrenceIdeal := fun m ρ _ => Cert.RecurrenceIdeal.Gen.frame m ρ

theorem frame_ref : Cert.quiescent_RecurrenceRefIdeal := fun m ρ _ =>
  (θ_run Cert.RecurrenceRefIdeal.defs _ _).mono (fun r h => ⟨fun c => (h c).2.2, sem_eq_zero_of_no_sems (by decide) r.2⟩)
    (Cert.RecurrenceRefIdeal.Value.run (F := Ideal) m ρ)

theorem preserves : Cert.preserves_Recurrence_RecurrenceIdeal := trivial

/-- The kernel's two results, the gated copy of the new state and the new state, are the reference's. -/
theorem algebraic : Cert.algebraic_RecurrenceIdeal_RecurrenceRefIdeal := by
  intro m ρ m' ρ' _ hag
  refine ⟨_, _, Cert.RecurrenceIdeal.Value.run_blocks (F := Ideal) m ρ, ?_⟩
  refine (θ_run Cert.RecurrenceRefIdeal.defs _ _).mono (fun _ h c => ?_) (Cert.RecurrenceRefIdeal.Value.run (F := Ideal) m' ρ')
  obtain ⟨h0, h1, hk⟩ := h c
  obtain ⟨a0, a1, a2, a3, a4, a5, a6, a7, a8, a9, a10⟩ := hag c
  obtain ⟨f0, f1⟩ := final m c
  rw [Cert.RecurrenceRefIdeal.Read.val_main_v92_eq] at h0
  rw [Cert.RecurrenceRefIdeal.Read.val_main_v77_eq] at h1
  rw [a0, a1, a2, a3, a4, a5, a6, a7, a8, a9, a10] at h0
  rw [a0, a2, a3, a4, a5, a6, a7, a8, a9, a10] at h1
  exact ⟨h0.trans f0.symm, h1.trans f1.symm, hk⟩

end Cert.Proof.RecurrenceClaims

end
-- ==== Proof.SamplePayload.lean ====
/-
  The stored values of the expert layer at the samples, read at an index over the extended reals.
-/
module

public import proofs.«01_k».proof.Proof.Common
public import proofs.«01_k».proof.Proof.Gen.SampleIdeal.Skeleton

@[expose] public section

set_option maxRecDepth 16384

noncomputable section

open Idealize.ShloMosaic

namespace Cert.SampleIdeal.Payload

open Cert.SampleIdeal Cert.SampleIdeal.Gen Cert.Common Idealize.ShloMosaic.Pointwise

/-- The value stored back into the accumulator is the value computed. -/
theorem pay1_eq (v : Vec Ideal S128x1024 .f32) : k0_pay1 (F := Ideal) v = v := by
  unfold k0_pay1
  exact shapeCast_self _ _

/-- The accumulator starts at the scaled residual. -/
theorem pay4_apply (v : Vec Ideal S128x1024 .f32) (r : Fin 128) (d : Fin 1024) :
    k0_pay4 (F := Ideal) v (ix2 r d) = alpha * v (ix2 r d) := by
  pointwise [k0_pay4]
  rfl

/-- One point adds, for its expert and its tile of 512 hidden columns, the gated products. -/
theorem pay5_apply (i : grid0.Coords) (gt : Vec Ideal S128x128 .f32) (x : Vec Ideal S128x1024 .bf16)
    (wg wu : Vec Ideal S1x1024x512 .bf16) (acc : Vec Ideal S128x1024 .f32)
    (wd : Vec Ideal S1x512x1024 .bf16) (r : Fin 128) (d : Fin 1024) :
    k0_pay5 (F := Ideal) i gt x wg wu acc wd (ix2 r d) = acc (ix2 r d)
      + ∑ k : Fin 512, silu (∑ l : Fin 1024, x (ix2 r l) * wg (ix3 0 l k)) * (∑ l : Fin 1024, x (ix2 r l) * wu (ix3 0 l k))
          * gt (ix2 r ⟨(i 1).val, lt_of_lt_of_le (i 1).isLt (by decide)⟩) * wd (ix3 0 k d) := by
  pointwise [k0_pay5]
  rw [sum_select_word 128 (by decide) (fun l => gt (ix2 r l)) (i 1).val (lt_of_lt_of_le (i 1).isLt (by decide))]
  rfl

/-- The last point of a row tile normalizes the accumulated rows. -/
theorem pay2_apply (v : Vec Ideal S128x1024 .f32) (g b : Vec Ideal S1x1024 .f32) (r : Fin 128) (d : Fin 1024) :
    k0_pay2 (F := Ideal) v g b (ix2 r d)
      = layerNorm (fun k => v (ix2 r k)) (fun k => g (ix2 0 k)) (fun k => b (ix2 0 k)) d := by
  pointwise [k0_pay2]
  rfl

/-- The bfloat16 copy holds the same values. -/
theorem pay3_apply (v : Vec Ideal S128x1024 .f32) (g b : Vec Ideal S1x1024 .f32) (r : Fin 128) (d : Fin 1024) :
    k0_pay3 (F := Ideal) v g b (ix2 r d)
      = layerNorm (fun k => v (ix2 r k)) (fun k => g (ix2 0 k)) (fun k => b (ix2 0 k)) d :=
  pay2_apply v g b r d

end Cert.SampleIdeal.Payload

end
-- ==== Proof.SampleCases.lean ====
/-
  What one point of the expert layer's grid at the samples leaves in the accumulator and in its two result blocks, as the stored
  values of the blocks it read. Three kinds of points: the first of a row tile, the last, and those between.
-/
module

public import proofs.«01_k».proof.Proof.SamplePayload
public import proofs.«01_k».proof.Proof.Gen.SampleIdeal.Frame

@[expose] public section

set_option maxRecDepth 16384

noncomputable section

open Idealize.ShloMosaic Idealize.ShloMosaic.TcCoe Idealize.SL.Sem

namespace Cert.SampleIdeal.Cases

open Cert.SampleIdeal Cert.SampleIdeal.Gen Cert.Common

variable (c : Dev nD) (i : grid0.Coords)
variable (a3 : Memref sig .tc .vmem S128x1024 .bf16) (h3 : a3.IsWhole) (a4 : Memref sig .tc .vmem S128x1024 .f32) (h4 : a4.IsWhole)
  (a5 : Memref sig .tc .vmem S128x128 .f32) (h5 : a5.IsWhole) (a6 : Memref sig .tc .vmem S1x1024x512 .bf16) (h6 : a6.IsWhole)
  (a7 : Memref sig .tc .vmem S1x1024x512 .bf16) (h7 : a7.IsWhole) (a8 : Memref sig .tc .vmem S1x512x1024 .bf16) (h8 : a8.IsWhole)
  (a9 : Memref sig .tc .vmem S1x1024 .f32) (h9 : a9.IsWhole) (a10 : Memref sig .tc .vmem S1x1024 .f32) (h10 : a10.IsWhole)
  (a11 : Memref sig .tc .vmem S128x1024 .f32) (h11 : a11.IsWhole) (a12 : Memref sig .tc .vmem S128x1024 .bf16) (h12 : a12.IsWhole)
  (a13 : Memref sig .tc .vmem S128x1024 .f32) (h13 : a13.IsWhole)
variable (x0 : Vec Ideal S128x1024 .bf16) (x1 : Vec Ideal S128x1024 .f32) (x2 : Vec Ideal S128x128 .f32)
  (x3 x4 : Vec Ideal S1x1024x512 .bf16) (x5 : Vec Ideal S1x512x1024 .bf16) (x6 x7 : Vec Ideal S1x1024 .f32)
  (xs : Vec Ideal S128x1024 .f32)

/-- Between the first and the last point: the accumulator grows by the point's products. -/
theorem acc_B (hc0 : ¬cond0_0 i) (hc1 : ¬cond0_1 i) :
    sout0_B_0 c i a3 h3 a4 h4 a5 h5 a6 h6 a7 h7 a8 h8 a9 h9 a10 h10 a11 h11 a12 h12 a13 h13 hc0 hc1 x0 x1 x2 x3 x4 x5 x6 x7 xs
      = k0_pay5 i x2 x0 x3 x4 xs x5 := by
  unfold sout0_B_0
  rw [View.read_writes_eq_canon _ _ _ (scover0_B_0 c i a3 h3 a4 h4 a5 h5 a6 h6 a7 h7 a8 h8 a9 h9 a10 h10 a11 h11 a12 h12 a13 h13 hc0 hc1 x0 x1 x2 x3 x4 x5 x6 x7 xs)]
  unfold kernelRun0_B
  dsimp only
  (try sl_unfold_words)
  rw [View.canon_unit_zero hz, Payload.pay1_eq]
  simp only [View.readAt_eq_ld, h3.read_unread, h5.read_unread, h6.read_unread, h7.read_unread, h8.read_unread, h13.read_unread,
    View.ld_unit_zero (S := S128x1024) hz, View.ld_unit_zero (S := S128x128) hz, View.ld_unit_zero (S := S1x1024x512) hz3,
    View.ld_unit_zero (S := S1x512x1024) hz3]

/-- The first point of a row tile: the accumulator is set to the scaled residual, then grows by the point's products. -/
theorem acc_A (hc0 : cond0_0 i) (hc1 : ¬cond0_1 i) :
    sout0_A_0 c i a3 h3 a4 h4 a5 h5 a6 h6 a7 h7 a8 h8 a9 h9 a10 h10 a11 h11 a12 h12 a13 h13 hc0 hc1 x0 x1 x2 x3 x4 x5 x6 x7
      = k0_pay5 i x2 x0 x3 x4 (k0_pay4 x1) x5 := by
  unfold sout0_A_0
  rw [View.read_writes_eq_canon _ _ _ (scover0_A_0 c i a3 h3 a4 h4 a5 h5 a6 h6 a7 h7 a8 h8 a9 h9 a10 h10 a11 h11 a12 h12 a13 h13 hc0 hc1 x0 x1 x2 x3 x4 x5 x6 x7)]
  unfold kernelRun0_A
  dsimp only
  (try sl_unfold_words)
  rw [View.canon_cons_unit_zero (S := S128x1024) hz, View.readCov_unit_zero (S := S128x1024) _ hz, Payload.pay1_eq]
  simp only [View.readAt_eq_ld, h3.read_unread, h4.read_unread, h5.read_unread, h6.read_unread, h7.read_unread, h8.read_unread,
    View.ld_unit_zero (S := S128x1024) hz, View.ld_unit_zero (S := S128x128) hz, View.ld_unit_zero (S := S1x1024x512) hz3,
    View.ld_unit_zero (S := S1x512x1024) hz3]

/-- The last point of a row tile: the result block holds the normalized rows of the completed accumulator. -/
theorem out8_C (hc0 : ¬cond0_0 i) (hc1 : cond0_1 i) :
    out0_C_8 c i a3 h3 a4 h4 a5 h5 a6 h6 a7 h7 a8 h8 a9 h9 a10 h10 a11 h11 a12 h12 a13 h13 hc0 hc1 x0 x1 x2 x3 x4 x5 x6 x7 xs
      = k0_pay2 (k0_pay5 i x2 x0 x3 x4 xs x5) x6 x7 := by
  unfold out0_C_8
  rw [View.read_writes_eq_canon _ _ _ (cover0_C_8 c i a3 h3 a4 h4 a5 h5 a6 h6 a7 h7 a8 h8 a9 h9 a10 h10 a11 h11 a12 h12 a13 h13 hc0 hc1 x0 x1 x2 x3 x4 x5 x6 x7 xs)]
  unfold kernelRun0_C
  dsimp only
  (try sl_unfold_words)
  rw [View.canon_unit_zero hz, View.readCov_unit_zero (S := S128x1024) _ hz, Payload.pay1_eq]
  simp only [View.readAt_eq_ld, h3.read_unread, h5.read_unread, h6.read_unread, h7.read_unread, h8.read_unread, h9.read_unread,
    h10.read_unread, h13.read_unread,
    View.ld_unit_zero (S := S128x1024) hz, View.ld_unit_zero (S := S128x128) hz, View.ld_unit_zero (S := S1x1024x512) hz3,
    View.ld_unit_zero (S := S1x512x1024) hz3, View.ld_unit_zero (S := S1x1024) hz]

/-- And the second result block the same rows, in the shorter format. -/
theorem out9_C (hc0 : ¬cond0_0 i) (hc1 : cond0_1 i) :
    out0_C_9 c i a3 h3 a4 h4 a5 h5 a6 h6 a7 h7 a8 h8 a9 h9 a10 h10 a11 h11 a12 h12 a13 h13 hc0 hc1 x0 x1 x2 x3 x4 x5 x6 x7 xs
      = k0_pay3 (k0_pay5 i x2 x0 x3 x4 xs x5) x6 x7 := by
  unfold out0_C_9
  rw [View.read_writes_eq_canon _ _ _ (cover0_C_9 c i a3 h3 a4 h4 a5 h5 a6 h6 a7 h7 a8 h8 a9 h9 a10 h10 a11 h11 a12 h12 a13 h13 hc0 hc1 x0 x1 x2 x3 x4 x5 x6 x7 xs)]
  unfold kernelRun0_C
  dsimp only
  (try sl_unfold_words)
  rw [View.canon_unit_zero hz, View.readCov_unit_zero (S := S128x1024) _ hz, Payload.pay1_eq]
  simp only [View.readAt_eq_ld, h3.read_unread, h5.read_unread, h6.read_unread, h7.read_unread, h8.read_unread, h9.read_unread,
    h10.read_unread, h13.read_unread,
    View.ld_unit_zero (S := S128x1024) hz, View.ld_unit_zero (S := S128x128) hz, View.ld_unit_zero (S := S1x1024x512) hz3,
    View.ld_unit_zero (S := S1x512x1024) hz3, View.ld_unit_zero (S := S1x1024) hz]

end Cert.SampleIdeal.Cases

end
-- ==== Proof.SampleBlocks.lean ====
/-
  The blocks one point of the expert layer's grid at the samples reads, as entries of the launch's arguments. Point `t` works on row
  tile `t / 56`, expert `t / 7 % 8` and hidden tile `t % 7`.
-/
module

public import proofs.«01_k».proof.Proof.Common
public import proofs.«01_k».proof.Proof.Gen.SampleIdeal.Frame

@[expose] public section

set_option maxRecDepth 16384

noncomputable section

open Idealize.ShloMosaic Idealize.ShloMosaic.TcCoe Idealize.SL.Sem

namespace Cert.SampleIdeal.Blocks

open Cert.SampleIdeal Cert.SampleIdeal.Gen Cert.Common Idealize.ShloMosaic.Pointwise

variable (m : (ℓ : Loc nD τ sig) → Buf (Elt Ideal) ℓ) (c : Dev nD)

/-! The launch's arguments. -/

abbrev argX : S128x1024.Idx → EReal := m ((c : Thread nD τ).loc main_arg0)
abbrev argGate : S128x128.Idx → EReal := m ((c : Thread nD τ).loc main_arg1)
abbrev argWg : S8x1024x3584.Idx → EReal := m ((c : Thread nD τ).loc main_arg2)
abbrev argWu : S8x1024x3584.Idx → EReal := m ((c : Thread nD τ).loc main_arg3)
abbrev argWd : S8x3584x1024.Idx → EReal := m ((c : Thread nD τ).loc main_arg4)
abbrev argG : S1024.Idx → EReal := m ((c : Thread nD τ).loc main_arg5)
abbrev argB : S1024.Idx → EReal := m ((c : Thread nD τ).loc main_arg6)

/-! What the arrays behind the windows hold when the grid starts: a conversion of format changes no value, and a
    row vector holds the entries of the vector. -/

theorem V_x : (V m c main_v0 : S128x1024.Idx → EReal) = argX m c := by
  show StableHlo.after hostOps0 _ (Proc.devRef .tc main_v0) = _
  after_results
  rfl

theorem V_r : (V m c main_arg0 : S128x1024.Idx → EReal) = argX m c := by
  show StableHlo.after hostOps0 _ (Proc.devRef .tc main_arg0) = _
  after_results

theorem V_gate : (V m c main_arg1 : S128x128.Idx → EReal) = argGate m c := by
  show StableHlo.after hostOps0 _ (Proc.devRef .tc main_arg1) = _
  after_results

theorem V_wg : (V m c main_v1 : S8x1024x3584.Idx → EReal) = argWg m c := by
  show StableHlo.after hostOps0 _ (Proc.devRef .tc main_v1) = _
  after_results
  rfl

theorem V_wu : (V m c main_v2 : S8x1024x3584.Idx → EReal) = argWu m c := by
  show StableHlo.after hostOps0 _ (Proc.devRef .tc main_v2) = _
  after_results
  rfl

theorem V_wd : (V m c main_v3 : S8x3584x1024.Idx → EReal) = argWd m c := by
  show StableHlo.after hostOps0 _ (Proc.devRef .tc main_v3) = _
  after_results
  rfl

theorem V_g : (V m c main_v4 : S1x1024.Idx → EReal) = shapeCast S1x1024 (argG m c) shapeCasts_S1024_S1x1024 := by
  show StableHlo.after hostOps0 _ (Proc.devRef .tc main_v4) = _
  after_results
  rfl

theorem V_b : (V m c main_v5 : S1x1024.Idx → EReal) = shapeCast S1x1024 (argB m c) shapeCasts_S1024_S1x1024 := by
  show StableHlo.after hostOps0 _ (Proc.devRef .tc main_v5) = _
  after_results
  rfl

/-! The index maps, as functions of the point's number. -/

theorem idx_x : ∀ t : Fin cfg0.N, win0_0.index t (0 : Fin 2) = t.val / 56 ∧ win0_0.index t (1 : Fin 2) = 0 := by decide +kernel
theorem idx_r : ∀ t : Fin cfg0.N, win0_1.index t (0 : Fin 2) = t.val / 56 ∧ win0_1.index t (1 : Fin 2) = 0 := by decide +kernel
theorem idx_gate : ∀ t : Fin cfg0.N, win0_2.index t (0 : Fin 2) = t.val / 56 ∧ win0_2.index t (1 : Fin 2) = 0 := by decide +kernel
theorem idx_wg : ∀ t : Fin cfg0.N, win0_3.index t (0 : Fin 3) = t.val / 7 % 8 ∧ win0_3.index t (1 : Fin 3) = 0
    ∧ win0_3.index t (2 : Fin 3) = t.val % 7 := by decide +kernel
theorem idx_wu : ∀ t : Fin cfg0.N, win0_4.index t (0 : Fin 3) = t.val / 7 % 8 ∧ win0_4.index t (1 : Fin 3) = 0
    ∧ win0_4.index t (2 : Fin 3) = t.val % 7 := by decide +kernel
theorem idx_wd : ∀ t : Fin cfg0.N, win0_5.index t (0 : Fin 3) = t.val / 7 % 8 ∧ win0_5.index t (1 : Fin 3) = t.val % 7
    ∧ win0_5.index t (2 : Fin 3) = 0 := by decide +kernel
theorem idx_g : ∀ t : Fin cfg0.N, win0_6.index t (0 : Fin 2) = 0 ∧ win0_6.index t (1 : Fin 2) = 0 := by decide +kernel
theorem idx_b : ∀ t : Fin cfg0.N, win0_7.index t (0 : Fin 2) = 0 ∧ win0_7.index t (1 : Fin 2) = 0 := by decide +kernel
theorem coord_e : ∀ t : Fin cfg0.N, (grid0.coords t 1).val = t.val / 7 % 8 := by decide +kernel

/-! The blocks. -/

theorem N_lt (t : Fin cfg0.N) : t.val < 56 := lt_of_lt_of_eq t.isLt (show cfg0.N = 56 from N_0)

/-- The row of the array that row `r` of point `t`'s row tile is. -/
def row (t : Fin cfg0.N) (r : Fin 128) : Fin 128 := ⟨t.val / 56 * 128 + r.val, by have := N_lt t; have := r.isLt; omega⟩
/-- Point `t`'s expert. -/
def exp (t : Fin cfg0.N) : Fin 8 := ⟨t.val / 7 % 8, Nat.mod_lt _ (by decide)⟩
/-- The hidden column that column `k` of point `t`'s hidden tile is. -/
def col (t : Fin cfg0.N) (k : Fin 512) : Fin 3584 := ⟨t.val % 7 * 512 + k.val, by
  have := Nat.mod_lt t.val (show 0 < 7 by decide); have := k.isLt; omega⟩

theorem blk_x (t : Fin cfg0.N) (r : Fin 128) (l : Fin 1024) :
    (iblk m c 0 t : S128x1024.Idx → EReal) (ix2 r l) = argX m c (ix2 (row t r) l) := by
  unfold iblk
  rw [View.read_apply]
  show (V m c main_v0 : S128x1024.Idx → EReal) _ = _
  rw [V_x]
  refine congrArg _ (funext fun a => Fin.ext ?_)
  match a with
  | ⟨0, _⟩ => show win0_0.index t 0 * 128 + 1 * r.val = t.val / 56 * 128 + r.val; rw [(idx_x t).1]; omega
  | ⟨1, _⟩ => show win0_0.index t 1 * 1024 + 1 * l.val = l.val; rw [(idx_x t).2]; omega

theorem blk_r (t : Fin cfg0.N) (r : Fin 128) (l : Fin 1024) :
    (iblk m c 1 t : S128x1024.Idx → EReal) (ix2 r l) = argX m c (ix2 (row t r) l) := by
  unfold iblk
  rw [View.read_apply]
  show (V m c main_arg0 : S128x1024.Idx → EReal) _ = _
  rw [V_r]
  refine congrArg _ (funext fun a => Fin.ext ?_)
  match a with
  | ⟨0, _⟩ => show win0_1.index t 0 * 128 + 1 * r.val = t.val / 56 * 128 + r.val; rw [(idx_r t).1]; omega
  | ⟨1, _⟩ => show win0_1.index t 1 * 1024 + 1 * l.val = l.val; rw [(idx_r t).2]; omega

theorem blk_gate (t : Fin cfg0.N) (r : Fin 128) (l : Fin 128) :
    (iblk m c 2 t : S128x128.Idx → EReal) (ix2 r l) = argGate m c (ix2 (row t r) l) := by
  unfold iblk
  rw [View.read_apply]
  show (V m c main_arg1 : S128x128.Idx → EReal) _ = _
  rw [V_gate]
  refine congrArg _ (funext fun a => Fin.ext ?_)
  match a with
  | ⟨0, _⟩ => show win0_2.index t 0 * 128 + 1 * r.val = t.val / 56 * 128 + r.val; rw [(idx_gate t).1]; omega
  | ⟨1, _⟩ => show win0_2.index t 1 * 128 + 1 * l.val = l.val; rw [(idx_gate t).2]; omega

theorem blk_wg (t : Fin cfg0.N) (l : Fin 1024) (k : Fin 512) :
    (iblk m c 3 t : S1x1024x512.Idx → EReal) (ix3 0 l k) = argWg m c (ix3 (exp t) l (col t k)) := by
  unfold iblk
  rw [View.read_apply]
  show (V m c main_v1 : S8x1024x3584.Idx → EReal) _ = _
  rw [V_wg]
  refine congrArg _ (funext fun a => Fin.ext ?_)
  match a with
  | ⟨0, _⟩ => show win0_3.index t 0 * 1 + 1 * 0 = t.val / 7 % 8; rw [(idx_wg t).1]; omega
  | ⟨1, _⟩ => show win0_3.index t 1 * 1024 + 1 * l.val = l.val; rw [(idx_wg t).2.1]; omega
  | ⟨2, _⟩ => show win0_3.index t 2 * 512 + 1 * k.val = t.val % 7 * 512 + k.val; rw [(idx_wg t).2.2]; omega

theorem blk_wu (t : Fin cfg0.N) (l : Fin 1024) (k : Fin 512) :
    (iblk m c 4 t : S1x1024x512.Idx → EReal) (ix3 0 l k) = argWu m c (ix3 (exp t) l (col t k)) := by
  unfold iblk
  rw [View.read_apply]
  show (V m c main_v2 : S8x1024x3584.Idx → EReal) _ = _
  rw [V_wu]
  refine congrArg _ (funext fun a => Fin.ext ?_)
  match a with
  | ⟨0, _⟩ => show win0_4.index t 0 * 1 + 1 * 0 = t.val / 7 % 8; rw [(idx_wu t).1]; omega
  | ⟨1, _⟩ => show win0_4.index t 1 * 1024 + 1 * l.val = l.val; rw [(idx_wu t).2.1]; omega
  | ⟨2, _⟩ => show win0_4.index t 2 * 512 + 1 * k.val = t.val % 7 * 512 + k.val; rw [(idx_wu t).2.2]; omega

theorem blk_wd (t : Fin cfg0.N) (k : Fin 512) (d : Fin 1024) :
    (iblk m c 5 t : S1x512x1024.Idx → EReal) (ix3 0 k d) = argWd m c (ix3 (exp t) (col t k) d) := by
  unfold iblk
  rw [View.read_apply]
  show (V m c main_v3 : S8x3584x1024.Idx → EReal) _ = _
  rw [V_wd]
  refine congrArg _ (funext fun a => Fin.ext ?_)
  match a with
  | ⟨0, _⟩ => show win0_5.index t 0 * 1 + 1 * 0 = t.val / 7 % 8; rw [(idx_wd t).1]; omega
  | ⟨1, _⟩ => show win0_5.index t 1 * 512 + 1 * k.val = t.val % 7 * 512 + k.val; rw [(idx_wd t).2.1]; omega
  | ⟨2, _⟩ => show win0_5.index t 2 * 1024 + 1 * d.val = d.val; rw [(idx_wd t).2.2]; omega

theorem blk_g (t : Fin cfg0.N) (d : Fin 1024) :
    (iblk m c 6 t : S1x1024.Idx → EReal) (ix2 0 d) = argG m c (ix1 d) := by
  have e : (iblk m c 6 t : S1x1024.Idx → EReal) (ix2 0 d) = (V m c main_v4 : S1x1024.Idx → EReal) (ix2 0 d) := by
    unfold iblk
    rw [View.read_apply]
    show (V m c main_v4 : S1x1024.Idx → EReal) _ = _
    refine congrArg _ (funext fun a => Fin.ext ?_)
    match a with
    | ⟨0, _⟩ => show win0_6.index t 0 * 1 + 1 * 0 = 0; rw [(idx_g t).1]
    | ⟨1, _⟩ => show win0_6.index t 1 * 1024 + 1 * d.val = d.val; rw [(idx_g t).2]; omega
  rw [e, V_g]
  pointwise

theorem blk_b (t : Fin cfg0.N) (d : Fin 1024) :
    (iblk m c 7 t : S1x1024.Idx → EReal) (ix2 0 d) = argB m c (ix1 d) := by
  have e : (iblk m c 7 t : S1x1024.Idx → EReal) (ix2 0 d) = (V m c main_v5 : S1x1024.Idx → EReal) (ix2 0 d) := by
    unfold iblk
    rw [View.read_apply]
    show (V m c main_v5 : S1x1024.Idx → EReal) _ = _
    refine congrArg _ (funext fun a => Fin.ext ?_)
    match a with
    | ⟨0, _⟩ => show win0_7.index t 0 * 1 + 1 * 0 = 0; rw [(idx_b t).1]
    | ⟨1, _⟩ => show win0_7.index t 1 * 1024 + 1 * d.val = d.val; rw [(idx_b t).2]; omega
  rw [e, V_b]
  pointwise

end Cert.SampleIdeal.Blocks

end
-- ==== Proof.SampleValue.lean ====
/-
  The result of the expert layer at the samples, entry by entry: after point `56 q + j` the accumulator holds the scaled residual of
  row tile `q` plus the products of the first `j + 1` points of the tile, in their order; the last point normalizes it.
-/
module

public import proofs.«01_k».proof.Proof.SampleCases
public import proofs.«01_k».proof.Proof.SampleBlocks
public import proofs.«01_k».proof.Proof.Gen.SampleIdeal.Value

@[expose] public section

set_option maxRecDepth 16384

noncomputable section

open Idealize.ShloMosaic Idealize.ShloMosaic.TcCoe Idealize.SL.Sem

namespace Cert.SampleIdeal.SampleValue

open Cert.SampleIdeal Cert.SampleIdeal.Gen Cert.SampleIdeal.Blocks Cert.Common Idealize.ShloMosaic.Pointwise

variable (m : (ℓ : Loc nD τ sig) → Buf (Elt Ideal) ℓ) (c : Dev nD)

/-- What row `R` owes to hidden column `n` of expert `e`, at output column `d`: the gated product. -/
def term (R : Fin 128) (d : Fin 1024) (e : Fin 8) (n : Fin 3584) : EReal :=
  silu (∑ l : Fin 1024, argX m c (ix2 R l) * argWg m c (ix3 e l n)) * (∑ l : Fin 1024, argX m c (ix2 R l) * argWu m c (ix3 e l n))
    * argGate m c (ix2 R ⟨e.val, lt_trans e.isLt (by decide)⟩) * argWd m c (ix3 e n d)

/-- What one point adds. -/
def part (t : Fin cfg0.N) (r : Fin 128) (d : Fin 1024) : EReal :=
  ∑ k : Fin 512, term m c (row t r) d (exp t) (col t k)

/-- One point's step of the accumulator, at an index. -/
theorem step (t : Fin cfg0.N) (acc : Vec Ideal S128x1024 .f32) (r : Fin 128) (d : Fin 1024) :
    k0_pay5 (F := Ideal) (grid0.coords t) (iblk m c 2 t) (iblk m c 0 t) (iblk m c 3 t) (iblk m c 4 t) acc (iblk m c 5 t) (ix2 r d)
      = acc (ix2 r d) + part m c t r d := by
  rw [Payload.pay5_apply]
  refine congrArg (acc (ix2 r d) + ·) (Finset.sum_congr rfl fun k _ => ?_)
  unfold term
  simp only [blk_x m c t, blk_wg m c t, blk_wu m c t, blk_wd m c t, blk_gate m c t]
  have he : (⟨(grid0.coords t 1).val, lt_of_lt_of_le (grid0.coords t 1).isLt (by decide)⟩ : Fin 128)
      = ⟨(exp t).val, lt_trans (exp t).isLt (by decide)⟩ := Fin.ext (coord_e t)
  rw [he]

/-- Point `56 q + j`. -/
def pt (q : Fin 1) (j : ℕ) (hj : j < 56) : Fin cfg0.N :=
  ⟨56 * q.val + j, by rw [show cfg0.N = 56 from N_0]; have := q.isLt; omega⟩

/-- The accumulator after point `56 q + j`, before the last point of the tile. -/
theorem acc_eq (q : Fin 1) (r : Fin 128) (d : Fin 1024) : ∀ (j : ℕ) (hj : j < 55),
    (outsAt0 m c (pt q j (by omega)).val (pt q j (by omega)).isLt).2.2 (ix2 r d)
      = alpha * argX m c (ix2 (row (pt q 0 (by omega)) r) d)
        + ∑ i : Fin (j + 1), part m c (pt q i.val (by have := i.isLt; omega)) r d
  | 0, hj => by
    rw [outsAt0_A m c (pt q 0 (by omega)) (by show (56 * q.val + 0) % 56 = 0; omega) (by show ¬(56 * q.val + 0) % 56 = 55; omega)]
    dsimp only
    rw [Cases.acc_A, step, Payload.pay4_apply, blk_r]
    simp
  | j + 1, hj => by
    have ih := acc_eq q r d j (by omega)
    rw [outsAt0_B m c (pt q (j + 1) (by omega)) (by show ¬(56 * q.val + (j + 1)) % 56 = 0; omega)
      (by show ¬(56 * q.val + (j + 1)) % 56 = 55; omega)]
    dsimp only
    rw [Cases.acc_B, step, Fin.sum_univ_castSucc, ← add_assoc]
    exact congrArg (· + part m c (pt q (j + 1) (by omega)) r d) ih

/-- The 56 points of a row tile add up to the products of all experts and all their hidden columns. -/
theorem sum_part (q : Fin 1) (r : Fin 128) (d : Fin 1024) :
    (∑ i : Fin 56, part m c (pt q i.val i.isLt) r d)
      = ∑ e : Fin 8, ∑ n : Fin 3584, term m c (row (pt q 0 (by omega)) r) d e n := by
  rw [Fin.sum_univ_tiles 8 7 rfl]
  refine Finset.sum_congr rfl fun e _ => ?_
  rw [Fin.sum_univ_tiles 7 512 rfl]
  refine Finset.sum_congr rfl fun f _ => Finset.sum_congr rfl fun k _ => ?_
  have he := e.isLt
  have hf := f.isLt
  have e1 : row (pt q (e.val * 7 + f.val) (by omega)) r = row (pt q 0 (by omega)) r := Fin.ext (by
    show (56 * q.val + (e.val * 7 + f.val)) / 56 * 128 + r.val = (56 * q.val + 0) / 56 * 128 + r.val; omega)
  have e2 : exp (pt q (e.val * 7 + f.val) (by omega)) = e := Fin.ext (by
    show (56 * q.val + (e.val * 7 + f.val)) / 7 % 8 = e.val; omega)
  have e3 : col (pt q (e.val * 7 + f.val) (by omega)) k = ⟨f.val * 512 + k.val, by have := k.isLt; omega⟩ := Fin.ext (by
    show (56 * q.val + (e.val * 7 + f.val)) % 7 * 512 + k.val = f.val * 512 + k.val; omega)
  rw [e1, e2, e3]

/-- Row `R` before the normalization. -/
def pre (R : Fin 128) (d : Fin 1024) : EReal :=
  alpha * argX m c (ix2 R d) + ∑ e : Fin 8, ∑ n : Fin 3584, term m c R d e n

/-- The completed accumulator of a row tile. -/
theorem acc_last (q : Fin 1) (r : Fin 128) (d : Fin 1024) :
    k0_pay5 (F := Ideal) (grid0.coords (pt q 55 (by omega))) (iblk m c 2 (pt q 55 (by omega))) (iblk m c 0 (pt q 55 (by omega)))
      (iblk m c 3 (pt q 55 (by omega))) (iblk m c 4 (pt q 55 (by omega)))
      (outsAt0 m c (pt q 54 (by omega)).val (pt q 54 (by omega)).isLt).2.2 (iblk m c 5 (pt q 55 (by omega))) (ix2 r d)
      = pre m c (row (pt q 0 (by omega)) r) d := by
  rw [step, acc_eq m c q r d 54 (by omega)]
  unfold pre
  rw [← sum_part, Fin.sum_univ_castSucc (n := 55), ← add_assoc]
  rfl

/-- The result, as contents of the result array. -/
def result (i : S128x1024.Idx) : EReal :=
  layerNorm (pre m c ⟨(i 0).val, (i 0).isLt⟩) (fun d => argG m c (ix1 d)) (fun d => argB m c (ix1 d)) ⟨(i 1).val, (i 1).isLt⟩

/-- The state's fold read at a point is the state at the point. -/
theorem G8_eq : (Value.G8 m c : S128x1024.Idx → EReal) = result m c := by
  funext i
  have h0 : (i 0).val < 128 := (i 0).isLt
  have h1 : (i 1).val < 1024 := (i 1).isLt
  let q : Fin 1 := ⟨(i 0).val / 128, by omega⟩
  have hp : Value.pt8Of i = (pt q 55 (by omega)).val := by
    show 56 * (1 * ((i 0).val / 128 - 0) + 1 * ((i 1).val / 1024 - 0)) + 55 = 56 * ((i 0).val / 128) + 55
    omega
  unfold Value.G8
  rw [dif_pos (by rw [hp]; exact (pt q 55 (by omega)).isLt), ← Value.outsAt0_sweep m c (Value.pt8Of i) (by rw [hp]; exact (pt q 55 (by omega)).isLt)]
  simp only [hp]
  rw [outsAt0_C m c (pt q 55 (by omega)) (by show ¬(56 * q.val + 55) % 56 = 0; omega) (by show (56 * q.val + 55) % 56 = 55; omega)]
  dsimp only
  rw [Cases.out8_C]
  have hl : Value.loc8Of i = ix2 (⟨(i 0).val % 128, Nat.mod_lt _ (by decide)⟩ : Fin 128) (⟨(i 1).val, h1⟩ : Fin 1024) := by
    funext a; apply Fin.ext
    match a with
    | ⟨0, _⟩ => rfl
    | ⟨1, _⟩ => show (i 1).val % 1024 = (i 1).val; omega
  rw [hl, Payload.pay2_apply]
  have hr : row (pt q 0 (by omega)) ⟨(i 0).val % 128, Nat.mod_lt _ (by decide)⟩ = ⟨(i 0).val, h0⟩ := Fin.ext (by
    show (56 * ((i 0).val / 128) + 0) / 56 * 128 + (i 0).val % 128 = (i 0).val; omega)
  unfold result
  congr 1
  · funext d
    rw [← hr]
    exact acc_last m c q _ d
  · funext d; exact blk_g m c _ d
  · funext d; exact blk_b m c _ d

/-- The second result holds the same entries. -/
theorem G9_eq : (Value.G9 m c : S128x1024.Idx → EReal) = result m c := by
  funext i
  have h0 : (i 0).val < 128 := (i 0).isLt
  have h1 : (i 1).val < 1024 := (i 1).isLt
  let q : Fin 1 := ⟨(i 0).val / 128, by omega⟩
  have hp : Value.pt9Of i = (pt q 55 (by omega)).val := by
    show 56 * (1 * ((i 0).val / 128 - 0) + 1 * ((i 1).val / 1024 - 0)) + 55 = 56 * ((i 0).val / 128) + 55
    omega
  unfold Value.G9
  rw [dif_pos (by rw [hp]; exact (pt q 55 (by omega)).isLt), ← Value.outsAt0_sweep m c (Value.pt9Of i) (by rw [hp]; exact (pt q 55 (by omega)).isLt)]
  simp only [hp]
  rw [outsAt0_C m c (pt q 55 (by omega)) (by show ¬(56 * q.val + 55) % 56 = 0; omega) (by show (56 * q.val + 55) % 56 = 55; omega)]
  dsimp only
  rw [Cases.out9_C]
  have hl : Value.loc9Of i = ix2 (⟨(i 0).val % 128, Nat.mod_lt _ (by decide)⟩ : Fin 128) (⟨(i 1).val, h1⟩ : Fin 1024) := by
    funext a; apply Fin.ext
    match a with
    | ⟨0, _⟩ => rfl
    | ⟨1, _⟩ => show (i 1).val % 1024 = (i 1).val; omega
  rw [hl, Payload.pay3_apply]
  have hr : row (pt q 0 (by omega)) ⟨(i 0).val % 128, Nat.mod_lt _ (by decide)⟩ = ⟨(i 0).val, h0⟩ := Fin.ext (by
    show (56 * ((i 0).val / 128) + 0) / 56 * 128 + (i 0).val % 128 = (i 0).val; omega)
  unfold result
  congr 1
  · funext d
    rw [← hr]
    exact acc_last m c q _ d
  · funext d; exact blk_g m c _ d
  · funext d; exact blk_b m c _ d

end Cert.SampleIdeal.SampleValue

end
-- ==== Proof.SampleRef.lean ====
/-
  The reference of the expert layer at the samples, entry by entry.
-/
module

public import proofs.«01_k».proof.Proof.Common
public import proofs.«01_k».proof.Proof.Gen.SampleRefIdeal.Read

@[expose] public section

set_option maxRecDepth 16384

noncomputable section

open Idealize.ShloMosaic

namespace Cert.SampleRefIdeal.Entry

open Cert.SampleRefIdeal Cert.SampleRefIdeal.Gen Cert.SampleRefIdeal.Read Cert.Common Idealize.ShloMosaic.Pointwise

variable (x : S128x1024.Idx → EReal) (gates : S128x128.Idx → EReal) (wg wu : S8x1024x3584.Idx → EReal)
  (wd : S8x3584x1024.Idx → EReal) (g b : S1024.Idx → EReal)

/-- What expert `e` makes of row `R`, at output column `d`. -/
def expert (R : Fin 128) (d : Fin 1024) (e : Fin 8) : EReal :=
  ∑ n : Fin 3584, silu (∑ l : Fin 1024, x (ix2 R l) * wg (ix3 e l n)) * (∑ l : Fin 1024, x (ix2 R l) * wu (ix3 e l n))
    * wd (ix3 e n d)

/-- The gated sum of the experts, in their order. -/
theorem sum_apply (R : Fin 128) (d : Fin 1024) :
    val_main_v120 (F := Ideal) x gates wg wu wd (ix2 R d)
      = ∑ e : Fin 8, gates (ix2 R ⟨e.val, lt_trans e.isLt (by decide)⟩) * expert x wg wu wd R d e := by
  pointwise [val_main_v120, val_main_v119, val_main_v118, val_main_v117, val_main_v116, val_main_v115, val_main_v114,
    val_main_v113, val_main_v112, val_main_v111, val_main_v110, val_main_v109, val_main_call7_v5,
    val_main_call7_v4, val_main_call7_cst_0, val_main_call7_v3, val_main_call7_v2, val_main_call7_cst,
    val_main_call7_v1, val_main_call7_v0, val_main_v108, val_main_v107, val_main_v106, val_main_v105,
    val_main_v104, val_main_v103, val_main_v102, val_main_v101, val_main_v100, val_main_v99, val_main_v98,
    val_main_v97, val_main_v96, val_main_v95, val_main_v94, val_main_call6_v5, val_main_call6_v4,
    val_main_call6_cst_0, val_main_call6_v3, val_main_call6_v2, val_main_call6_cst, val_main_call6_v1,
    val_main_call6_v0, val_main_v93, val_main_v92, val_main_v91, val_main_v90, val_main_v89, val_main_v88,
    val_main_v87, val_main_v86, val_main_v85, val_main_v84, val_main_v83, val_main_v82, val_main_v81, val_main_v80,
    val_main_v79, val_main_call5_v5, val_main_call5_v4, val_main_call5_cst_0, val_main_call5_v3, val_main_call5_v2,
    val_main_call5_cst, val_main_call5_v1, val_main_call5_v0, val_main_v78, val_main_v77, val_main_v76,
    val_main_v75, val_main_v74, val_main_v73, val_main_v72, val_main_v71, val_main_v70, val_main_v69, val_main_v68,
    val_main_v67, val_main_v66, val_main_v65, val_main_v64, val_main_call4_v5, val_main_call4_v4,
    val_main_call4_cst_0, val_main_call4_v3, val_main_call4_v2, val_main_call4_cst, val_main_call4_v1,
    val_main_call4_v0, val_main_v63, val_main_v62, val_main_v61, val_main_v60, val_main_v59, val_main_v58,
    val_main_v57, val_main_v56, val_main_v55, val_main_v54, val_main_v53, val_main_v52, val_main_v51, val_main_v50,
    val_main_v49, val_main_call3_v5, val_main_call3_v4, val_main_call3_cst_0, val_main_call3_v3, val_main_call3_v2,
    val_main_call3_cst, val_main_call3_v1, val_main_call3_v0, val_main_v48, val_main_v47, val_main_v46,
    val_main_v45, val_main_v44, val_main_v43, val_main_v42, val_main_v41, val_main_v40, val_main_v39, val_main_v38,
    val_main_v37, val_main_v36, val_main_v35, val_main_v34, val_main_call2_v5, val_main_call2_v4,
    val_main_call2_cst_0, val_main_call2_v3, val_main_call2_v2, val_main_call2_cst, val_main_call2_v1,
    val_main_call2_v0, val_main_v33, val_main_v32, val_main_v31, val_main_v30, val_main_v29, val_main_v28,
    val_main_v27, val_main_v26, val_main_v25, val_main_v24, val_main_v23, val_main_v22, val_main_v21, val_main_v20,
    val_main_v19, val_main_call1_v5, val_main_call1_v4, val_main_call1_cst_0, val_main_call1_v3, val_main_call1_v2,
    val_main_call1_cst, val_main_call1_v1, val_main_call1_v0, val_main_v18, val_main_v17, val_main_v16,
    val_main_v15, val_main_v14, val_main_v13, val_main_v12, val_main_v11, val_main_v10, val_main_v9, val_main_v8,
    val_main_v7, val_main_v6, val_main_v5, val_main_v4, val_main_call0_v5, val_main_call0_v4, val_main_call0_cst_0,
    val_main_call0_v3, val_main_call0_v2, val_main_call0_cst, val_main_call0_v1, val_main_call0_v0, val_main_v3,
    val_main_v2, val_main_v1, val_main_v0, val_main_cst]
  rw [Fin.sum_univ_eight]
  rfl

/-- The row before the normalization. -/
theorem pre_apply (R : Fin 128) (d : Fin 1024) :
    val_main_v123 (F := Ideal) x gates wg wu wd (ix2 R d) = alpha * x (ix2 R d)
      + ∑ e : Fin 8, gates (ix2 R ⟨e.val, lt_trans e.isLt (by decide)⟩) * expert x wg wu wd R d e := by
  rw [← sum_apply]
  pointwise [val_main_v123, val_main_v122, val_main_v121, val_main_cst_0]
  rfl

/-- The result. -/
theorem out_apply (R : Fin 128) (d : Fin 1024) :
    val_main_v147 (F := Ideal) x gates wg wu wd g b (ix2 R d)
      = layerNorm (fun k => val_main_v123 (F := Ideal) x gates wg wu wd (ix2 R k)) (fun k => g (ix1 k)) (fun k => b (ix1 k)) d := by
  pointwise [val_main_v147, val_main_v146, val_main_v145, val_main_v144, val_main_v143, val_main_v142, val_main_v141,
    val_main_v140, val_main_v139, val_main_v138, val_main_v137, val_main_cst_5, val_main_v136, val_main_v135, val_main_v134,
    val_main_v133, val_main_cst_4, val_main_v132, val_main_v131, val_main_cst_3, val_main_v130, val_main_v129, val_main_v128,
    val_main_v127, val_main_v126, val_main_cst_2, val_main_v125, val_main_v124, val_main_cst_1]
  rfl

end Cert.SampleRefIdeal.Entry

end
-- ==== Proof.SampleClaims.lean ====
/-
  The claims of the expert layer at the samples. The kernel scales each expert's hidden activations by the gate before the last product,
  the reference scales the product: with gates that are finite and not negative the two sums agree.
-/
module

public import proofs.«01_k».proof.Defs
public import proofs.«01_k».proof.Proof.SampleValue
public import proofs.«01_k».proof.Proof.SampleRef
public import proofs.«01_k».proof.Proof.Gen.Sample.Frame
public import proofs.«01_k».proof.Proof.Gen.SampleIdeal.Frame
public import proofs.«01_k».proof.Proof.Gen.SampleRefIdeal.Run
public import proofs.«01_k».proof.Proof.Gen.Pre_sample_gates_nonneg

@[expose] public section

noncomputable section

open Idealize.ShloMosaic Idealize.SL.Sem

namespace Cert.Proof.SampleClaims

open Cert.Common Idealize.ShloMosaic.Pointwise

theorem frame_kernel : Cert.quiescent_Sample := fun m ρ _ => Cert.Sample.Gen.frame m ρ

theorem frame_ideal : Cert.quiescent_SampleIdeal := fun m ρ _ => Cert.SampleIdeal.Gen.frame m ρ

theorem frame_ideal_pre : Cert.quiescent_SampleIdeal_pre_sample_gates_nonneg := fun m ρ _ => Cert.SampleIdeal.Gen.frame m ρ

theorem frame_ref : Cert.quiescent_SampleRefIdeal := fun m ρ _ =>
  (θ_run Cert.SampleRefIdeal.defs _ _).mono (fun r h => ⟨fun c => (h c).2.2, sem_eq_zero_of_no_sems (by decide) r.2⟩)
    (Cert.SampleRefIdeal.Value.run (F := Ideal) m ρ)

theorem frame_ref_pre : Cert.quiescent_SampleRefIdeal_pre_sample_gates_nonneg := fun m ρ _ => frame_ref m ρ trivial

theorem preserves : Cert.preserves_Sample_SampleIdeal := trivial

section

variable (m : (ℓ : Loc Cert.SampleIdeal.nD Cert.SampleIdeal.τ Cert.SampleIdeal.sig) → Buf (Elt Ideal) ℓ) (c : Dev Cert.SampleIdeal.nD)

/-- What the precondition says of one gate. -/
theorem gate_range (h : Cert.Pre_SampleIdeal_sample_gates_nonneg m) (i : Cert.SampleIdeal.S128x128.Idx) :
    0 ≤ Cert.SampleIdeal.Blocks.argGate m c i ∧ Cert.SampleIdeal.Blocks.argGate m c i ≠ ⊤ := by
  have h1 : IntOp.andi (Ideal.cmp .oge (Cert.SampleIdeal.Blocks.argGate m c i) (Ideal.ofBits .f32 0x00000000#32))
      (Ideal.cmp .olt (Cert.SampleIdeal.Blocks.argGate m c i) (Ideal.ofBits .f32 0x7F800000#32)) = 1#1 := congrFun (h c) i
  have hz : Ideal.ofBits .f32 0x00000000#32 = 0 := by simp
  have ht : Ideal.ofBits .f32 0x7F800000#32 = ⊤ := by simp [Ideal.ofBits, Ideal.ieee]
  rw [hz, ht] at h1
  by_cases ha : 0 ≤ Cert.SampleIdeal.Blocks.argGate m c i <;> by_cases hb : Cert.SampleIdeal.Blocks.argGate m c i < ⊤
  · exact ⟨ha, ne_of_lt hb⟩
  all_goals simp [Ideal.cmp, IntOp.andi, ha, hb] at h1

/-- A row's two sums. -/
theorem sum_eq (h : Cert.Pre_SampleIdeal_sample_gates_nonneg m) (R : Fin 128) (d : Fin 1024) (e : Fin 8) :
    Cert.SampleIdeal.Blocks.argGate m c (ix2 R ⟨e.val, lt_trans e.isLt (by decide)⟩)
      * Cert.SampleRefIdeal.Entry.expert (Cert.SampleIdeal.Blocks.argX m c) (Cert.SampleIdeal.Blocks.argWg m c)
          (Cert.SampleIdeal.Blocks.argWu m c) (Cert.SampleIdeal.Blocks.argWd m c) R d e
      = ∑ n : Fin 3584, Cert.SampleIdeal.SampleValue.term m c R d e n := by
  obtain ⟨h0, h1⟩ := gate_range m c h (ix2 R ⟨e.val, lt_trans e.isLt (by decide)⟩)
  unfold Cert.SampleRefIdeal.Entry.expert
  rw [mul_sum_of_nonneg _ _ h0 h1]
  refine Finset.sum_congr rfl fun n _ => ?_
  unfold Cert.SampleIdeal.SampleValue.term
  ac_rfl

/-- The reference's first result, of the kernel's arguments. -/
theorem ref_eq (h : Cert.Pre_SampleIdeal_sample_gates_nonneg m) :
    Cert.SampleRefIdeal.Read.val_main_v147 (F := Ideal) (Cert.SampleIdeal.Blocks.argX m c) (Cert.SampleIdeal.Blocks.argGate m c)
      (Cert.SampleIdeal.Blocks.argWg m c) (Cert.SampleIdeal.Blocks.argWu m c) (Cert.SampleIdeal.Blocks.argWd m c)
      (Cert.SampleIdeal.Blocks.argG m c) (Cert.SampleIdeal.Blocks.argB m c)
      = Cert.SampleIdeal.SampleValue.result m c := by
  funext i
  have hi : i = ix2 (⟨(i 0).val, (i 0).isLt⟩ : Fin 128) (⟨(i 1).val, (i 1).isLt⟩ : Fin 1024) := by
    funext a; match a with
    | ⟨0, _⟩ => rfl
    | ⟨1, _⟩ => rfl
  rw [hi, Cert.SampleRefIdeal.Entry.out_apply]
  unfold Cert.SampleIdeal.SampleValue.result
  congr 1
  funext k
  rw [Cert.SampleRefIdeal.Entry.pre_apply]
  exact congrArg (alpha * Cert.SampleIdeal.Blocks.argX m c _ + ·) (Finset.sum_congr rfl fun e _ => sum_eq m c h _ k e)

end

/-- The kernel's two results and the reference's are the same extended reals. -/
theorem algebraic : Cert.algebraic_SampleIdeal_SampleRefIdeal_pre_sample_gates_nonneg := by
  intro m ρ m' ρ' hpre hag
  refine ⟨fun c => Cert.SampleIdeal.Value.G8 m c, fun c => Cert.SampleIdeal.Value.G9 m c, Cert.SampleIdeal.Value.run m ρ, ?_⟩
  refine (θ_run Cert.SampleRefIdeal.defs _ _).mono (fun _ h c => ?_) (Cert.SampleRefIdeal.Value.run (F := Ideal) m' ρ')
  obtain ⟨h1, h2, hk⟩ := h c
  obtain ⟨a0, a1, a2, a3, a4, a5, a6⟩ := hag c
  have e0 : StableHlo.launchContents m' c (Proc.devRef .tc Cert.SampleRefIdeal.main_arg0) = Cert.SampleIdeal.Blocks.argX m c := a0
  have e1 : StableHlo.launchContents m' c (Proc.devRef .tc Cert.SampleRefIdeal.main_arg1) = Cert.SampleIdeal.Blocks.argGate m c := a1
  have e2 : StableHlo.launchContents m' c (Proc.devRef .tc Cert.SampleRefIdeal.main_arg2) = Cert.SampleIdeal.Blocks.argWg m c := a2
  have e3 : StableHlo.launchContents m' c (Proc.devRef .tc Cert.SampleRefIdeal.main_arg3) = Cert.SampleIdeal.Blocks.argWu m c := a3
  have e4 : StableHlo.launchContents m' c (Proc.devRef .tc Cert.SampleRefIdeal.main_arg4) = Cert.SampleIdeal.Blocks.argWd m c := a4
  have e5 : StableHlo.launchContents m' c (Proc.devRef .tc Cert.SampleRefIdeal.main_arg5) = Cert.SampleIdeal.Blocks.argG m c := a5
  have e6 : StableHlo.launchContents m' c (Proc.devRef .tc Cert.SampleRefIdeal.main_arg6) = Cert.SampleIdeal.Blocks.argB m c := a6
  refine ⟨h1.trans ?_, h2.trans ?_, hk⟩
  · rw [Cert.SampleRefIdeal.Read.val_main_v147_eq, e0, e1, e2, e3, e4, e5, e6]
    exact (ref_eq m c hpre).trans (Cert.SampleIdeal.SampleValue.G8_eq m c).symm
  · rw [Cert.SampleRefIdeal.Read.val_main_v148_eq, e0, e1, e2, e3, e4, e5, e6]
    exact (ref_eq m c hpre).trans (Cert.SampleIdeal.SampleValue.G9_eq m c).symm

end Cert.Proof.SampleClaims

end
-- ==== Proof.MatrixStep.lean ====
/-
  One head of the matrix memory's step: the gates' stabiliser, the two weights they leave, the new matrix and normaliser, and the
  normed, gated reading, entry by entry.
-/
module

public import Idealize.ShloMosaic.Lib.Pipeline.ValueKit
public import proofs.«01_k».proof.Proof.Gen.MatrixIdeal.Skeleton

@[expose] public section

set_option maxRecDepth 16384

noncomputable section

open Idealize.ShloMosaic Idealize.ShloMosaic.TcCoe Idealize.SL.Sem

namespace Cert.MatrixIdeal.Tiles

open Cert.MatrixIdeal Cert.MatrixIdeal.Gen Idealize.ShloMosaic.Pointwise

/-- The softplus of the negated forget gate. -/
def soft (l : EReal) : EReal :=
  if -l ≠ -l then -l else max (-l) 0 + Ideal.log1p (Ideal.exp (-FloatOps.absf (F := Ideal) (φ := .f32) (-l)))

/-- The old stabiliser, decayed by the forget gate. -/
def inter (f m : EReal) : EReal := -soft f + m

/-- The new stabiliser, and the old and the new content's weights. -/
def stab (i f m : EReal) : EReal := max (inter f m) i
def old (i f m : EReal) : EReal := Ideal.exp (inter f m - stab i f m)
def new (i f m : EReal) : EReal := Ideal.exp (i - stab i f m)

/-- The gates' arguments in a row, the input's at the head's column and the forget gate's four columns further. -/
def gateI (v4 v5 : Vec Ideal S1x128 .f32) (h : Fin 4) : EReal :=
  v4 (ix2 0 ⟨h.val, by omega⟩) + v5 (ix2 0 ⟨h.val, by omega⟩)
def gateF (v4 v5 : Vec Ideal S1x128 .f32) (h : Fin 4) : EReal :=
  v4 (ix2 0 ⟨4 + h.val, by omega⟩) + v5 (ix2 0 ⟨4 + h.val, by omega⟩)

theorem one (j : S1x1.Idx) : j = ix2 0 0 := by
  funext a
  match a with
  | ⟨0, _⟩ => exact Subsingleton.elim (α := Fin 1) _ _
  | ⟨1, _⟩ => exact Subsingleton.elim (α := Fin 1) _ _

/-- The input gate's argument, head by head. -/
theorem gate0 (v4 v5 : Vec Ideal S1x128 .f32) : k0_pay4 (F := Ideal) v4 v5 = fun _ => gateI v4 v5 0 := by
  funext j; rw [one j]; pointwise [k0_pay4, k0_pay2]; rfl
theorem gate1 (v4 v5 : Vec Ideal S1x128 .f32) : k0_pay17 (F := Ideal) (k0_pay2 v4 v5) = fun _ => gateI v4 v5 1 := by
  funext j; rw [one j]; pointwise [k0_pay17, k0_pay2]; rfl
theorem gate2 (v4 v5 : Vec Ideal S1x128 .f32) : k0_pay31 (F := Ideal) (k0_pay2 v4 v5) = fun _ => gateI v4 v5 2 := by
  funext j; rw [one j]; pointwise [k0_pay31, k0_pay2]; rfl
theorem gate3 (v4 v5 : Vec Ideal S1x128 .f32) : k0_pay53 (F := Ideal) (k0_pay2 v4 v5) = fun _ => gateI v4 v5 3 := by
  funext j; rw [one j]; pointwise [k0_pay53, k0_pay2]; rfl

/-- The decayed stabiliser, head by head. -/
theorem inter0 (v4 v5 : Vec Ideal S1x128 .f32) (v : Vec Ideal S1x1 .f32) :
    k0_pay7 (F := Ideal) v4 v5 v = fun _ => inter (gateF v4 v5 0) (v (ix2 0 0)) := by
  funext j; rw [one j]; pointwise [k0_pay7, k0_pay2]; simp only [zero_sub]; rfl
theorem inter1 (v4 v5 : Vec Ideal S1x128 .f32) (v : Vec Ideal S1x1 .f32) :
    k0_pay20 (F := Ideal) (k0_pay2 v4 v5) v = fun _ => inter (gateF v4 v5 1) (v (ix2 0 0)) := by
  funext j; rw [one j]; pointwise [k0_pay20, k0_pay2]; simp only [zero_sub]; rfl
theorem inter2 (v4 v5 : Vec Ideal S1x128 .f32) (v : Vec Ideal S1x1 .f32) :
    k0_pay39 (F := Ideal) (k0_pay32 (k0_pay2 v4 v5)) (k0_pay33 (k0_pay2 v4 v5)) (k0_pay34 (k0_pay2 v4 v5)) (k0_pay35 (k0_pay2 v4 v5))
      k0_pay36 v = fun _ => inter (gateF v4 v5 2) (v (ix2 0 0)) := by
  funext j; rw [one j]; pointwise [k0_pay39, k0_pay32, k0_pay33, k0_pay34, k0_pay35, k0_pay36, k0_pay2]; simp only [zero_sub]; rfl
theorem inter3 (v4 v5 : Vec Ideal S1x128 .f32) (v : Vec Ideal S1x1 .f32) :
    k0_pay58 (F := Ideal) (k0_pay54 (k0_pay2 v4 v5)) (k0_pay55 v) = fun _ => inter (gateF v4 v5 3) (v (ix2 0 0)) := by
  funext j; rw [one j]; pointwise [k0_pay58, k0_pay54, k0_pay55, k0_pay2]; simp only [zero_sub]; rfl

/-- The stabiliser and the weights from the two gates' vectors, as the first head writes them. -/
theorem stab_at (i n : EReal) : k0_pay8 (F := Ideal) (fun _ => i) (fun _ => n) = fun _ => max n i := by
  funext j; rw [one j]; pointwise [k0_pay8]
theorem old_at (i n : EReal) : k0_pay9 (F := Ideal) (fun _ => i) (fun _ => n) = fun _ => Ideal.exp (n - max n i) := by
  funext j; rw [one j]; pointwise [k0_pay9, k0_pay8]
theorem new_at (i n : EReal) : k0_pay10 (F := Ideal) (fun _ => i) (fun _ => n) = fun _ => Ideal.exp (i - max n i) := by
  funext j; rw [one j]; pointwise [k0_pay10, k0_pay8]

/-- The new matrix. -/
theorem mat_at (k v : Vec Ideal S1x256 .f32) (C : Vec Ideal S1x1x256x256 .f32) (g w : EReal) (a b : Fin 256) :
    k0_pay27 (F := Ideal) k v (k0_pay18 C) (fun _ => g) (fun _ => w) (ix4 0 0 a b)
      = g * C (ix4 0 0 a b) + (w * v (ix2 0 a)) * k (ix2 0 b) := by
  pointwise [k0_pay27, k0_pay18]
  have row : ∀ (A : EReal) (x : Fin 8), Scalar.select (IntOp.cmpi CmpIPredicate.eq (BitVec.ofNat 32 x.val) 0#32) A 0 = if x = 0 then A else 0 := by
    intro A x
    fin_cases x <;> rfl
  simp only [row, Finset.sum_ite_eq', Finset.mem_univ, if_true]

/-- The new normaliser. -/
theorem nrm_at (k : Vec Ideal S1x256 .f32) (n : Vec Ideal S1x1x256 .f32) (g w : EReal) (b : Fin 256) :
    k0_pay28 (F := Ideal) k (k0_pay19 n) (fun _ => g) (fun _ => w) (ix3 0 0 b)
      = g * n (ix3 0 0 b) + w * k (ix2 0 b) := by
  pointwise [k0_pay28, k0_pay19]

/-- The scaled key. -/
theorem key_at (k : Vec Ideal S1x256 .f32) (b : Fin 256) : k0_pay3 (F := Ideal) k (ix2 0 b) = k (ix2 0 b) * Ideal.ofBits .f32 0x3D800000#32 := by
  pointwise [k0_pay3]

/-- The reading before the norm. -/
def read (q k v n : Fin 256 → EReal) (C : Fin 256 → Fin 256 → EReal) (g w m : EReal) (a : Fin 256) : EReal :=
  Ideal.div (g * (∑ d, q d * C a d) + w * (∑ d, q d * k d) * v a)
    (max (FloatOps.absf (F := Ideal) (φ := .f32) (g * (∑ d, n d * q d) + w * (∑ d, q d * k d))) (Ideal.exp (-m)))

/-- The kernel's reading before the norm. -/
theorem read_at (q k v : Vec Ideal S1x256 .f32) (C : Vec Ideal S1x1x256x256 .f32) (n : Vec Ideal S1x1x256 .f32) (i u : EReal) (a : Fin 256) :
    k0_pay11 (F := Ideal) q k v (fun _ => i) (k0_pay5 C) (k0_pay6 n) (fun _ => u) (ix2 0 a)
      = read (fun d => q (ix2 0 d)) (fun d => k (ix2 0 d)) (fun d => v (ix2 0 d)) (fun d => n (ix3 0 0 d)) (fun a d => C (ix4 0 0 a d))
          (Ideal.exp (u - max u i)) (Ideal.exp (i - max u i)) (max u i) a := by
  pointwise [k0_pay11, k0_pay5, k0_pay6, k0_pay8, k0_pay9, k0_pay10]
  simp only [zero_sub]
  rfl

/-- The mean over the head's columns. -/
def mean (h : Fin 256 → EReal) : EReal := Ideal.div (∑ d, h d) (Ideal.ofBits .f32 0x43800000#32)

/-- The reading normed over the head's columns, scaled and gated. -/
def normed (h : Fin 256 → EReal) (ng og : EReal) (a : Fin 256) : EReal :=
  (h a - mean h) * Ideal.rsqrt (mean (fun d => (h d - mean h) * (h d - mean h)) + Ideal.ofBits .f32 0x3727C5AC#32) * ng * Ideal.logistic og

theorem normed_at (h ng og : Vec Ideal S1x256 .f32) (a : Fin 256) :
    k0_pay14 (F := Ideal) h ng og (ix2 0 a) = normed (fun d => h (ix2 0 d)) (ng (ix2 0 a)) (og (ix2 0 a)) a := by
  pointwise [k0_pay14]
  rfl

end Cert.MatrixIdeal.Tiles

end
-- ==== Proof.MatrixRows.lean ====
/-
  The matrix memory's step over a whole array of rows, in the terms of one head; and one store of the kernel as a block of it.
-/
module

public import Idealize.ShloMosaic.Lib.Pipeline.ReadBack
public import Idealize.ShloMosaic.Lib.WholeRead
public import proofs.«01_k».proof.Proof.MatrixStep

@[expose] public section

set_option maxRecDepth 16384

noncomputable section

open Idealize.ShloMosaic Idealize.ShloMosaic.TcCoe Idealize.SL.Sem

namespace Cert.MatrixIdeal.Tiles

open Cert.MatrixIdeal Cert.MatrixIdeal.Gen Idealize.ShloMosaic.Pointwise

/-- The column of a head's entry. -/
def place (h : Fin 4) (d : Fin 256) : Fin 1024 := ⟨h.val * 256 + d.val, by omega⟩

section
variable {R : ℕ} (q k v o : (⟨2, ![R, 1024]⟩ : Shape).Idx → EReal) (gates : (⟨2, ![R, 128]⟩ : Shape).Idx → EReal)
  (bias : S1x128.Idx → EReal) (scale : Fin 1024 → EReal) (c : (⟨4, ![R, 4, 256, 256]⟩ : Shape).Idx → EReal)
  (n : (⟨3, ![R, 4, 256]⟩ : Shape).Idx → EReal) (m : Fin R → Fin 4 → EReal)

/-- The gates' arguments at a row and a head. -/
def inG (r : Fin R) (h : Fin 4) : EReal := gates (ix2 r ⟨h.val, by omega⟩) + bias (ix2 0 ⟨h.val, by omega⟩)
def fgG (r : Fin R) (h : Fin 4) : EReal := gates (ix2 r ⟨4 + h.val, by omega⟩) + bias (ix2 0 ⟨4 + h.val, by omega⟩)

/-- The new stabiliser and the two weights at a row and a head. -/
def stabR (r : Fin R) (h : Fin 4) : EReal := stab (inG gates bias r h) (fgG gates bias r h) (m r h)
def oldR (r : Fin R) (h : Fin 4) : EReal := old (inG gates bias r h) (fgG gates bias r h) (m r h)
def newR (r : Fin R) (h : Fin 4) : EReal := new (inG gates bias r h) (fgG gates bias r h) (m r h)

/-- The scaled key. -/
def keyR (r : Fin R) (h : Fin 4) (d : Fin 256) : EReal := k (ix2 r (place h d)) * Ideal.ofBits .f32 0x3D800000#32

/-- The new matrix, the new normaliser, the reading and its normed, gated form. -/
def matR (r : Fin R) (h : Fin 4) (a b : Fin 256) : EReal :=
  oldR gates bias m r h * c (ix4 r h a b) + (newR gates bias m r h * v (ix2 r (place h a))) * keyR k r h b
def nrmR (r : Fin R) (h : Fin 4) (b : Fin 256) : EReal :=
  oldR gates bias m r h * n (ix3 r h b) + newR gates bias m r h * keyR k r h b
def readR (r : Fin R) (h : Fin 4) (a : Fin 256) : EReal :=
  read (fun d => q (ix2 r (place h d))) (fun d => keyR k r h d) (fun d => v (ix2 r (place h d))) (fun d => n (ix3 r h d))
    (fun a d => c (ix4 r h a d)) (oldR gates bias m r h) (newR gates bias m r h) (stabR gates bias m r h) a
def outR (r : Fin R) (h : Fin 4) (a : Fin 256) : EReal :=
  normed (fun d => readR q k v gates bias c n m r h d) (scale (place h a)) (o (ix2 r (place h a))) a

end

/-- Where a store's rectangle puts its entries. -/
theorem emb4 (r : Fin 8) (h : Fin 4) (off : Fin 4 → ℕ) (ho : off = ![r.val, h.val, 0, 0]) (inb) (x : S1x1x256x256.Idx) :
    (Rect.unit (s := S8x4x256x256) off S1x1x256x256.size inb).emb x = ix4 r h (x 2) (x 3) := by
  subst ho
  funext a
  refine Fin.ext ((Rect.idx_unit_val _ _ inb x a).trans ?_)
  match a with
  | ⟨0, _⟩ => have : (x 0).val < 1 := (x 0).isLt; show r.val + (x 0).val = r.val; omega
  | ⟨1, _⟩ => have : (x 1).val < 1 := (x 1).isLt; show h.val + (x 1).val = h.val; omega
  | ⟨2, _⟩ => show 0 + (x 2).val = (x 2).val; omega
  | ⟨3, _⟩ => show 0 + (x 3).val = (x 3).val; omega

theorem emb3 (r : Fin 8) (h : Fin 4) (off : Fin 3 → ℕ) (ho : off = ![r.val, h.val, 0]) (inb) (x : S1x1x256.Idx) :
    (Rect.unit (s := S8x4x256) off S1x1x256.size inb).emb x = ix3 r h (x 2) := by
  subst ho
  funext a
  refine Fin.ext ((Rect.idx_unit_val _ _ inb x a).trans ?_)
  match a with
  | ⟨0, _⟩ => have : (x 0).val < 1 := (x 0).isLt; show r.val + (x 0).val = r.val; omega
  | ⟨1, _⟩ => have : (x 1).val < 1 := (x 1).isLt; show h.val + (x 1).val = h.val; omega
  | ⟨2, _⟩ => show 0 + (x 2).val = (x 2).val; omega

theorem emb2 (r : Fin 8) (h : Fin 4) (off : Fin 2 → ℕ) (ho : off = ![r.val, h.val * 256]) (inb) (x : S1x256.Idx) :
    (Rect.unit (s := S8x1024) off S1x256.size inb).emb x = ix2 r (place h (x 1)) := by
  subst ho
  funext a
  refine Fin.ext ((Rect.idx_unit_val _ _ inb x a).trans ?_)
  match a with
  | ⟨0, _⟩ => have : (x 0).val < 1 := (x 0).isLt; show r.val + (x 0).val = r.val; omega
  | ⟨1, _⟩ => rfl

theorem emb1 (r : Fin 8) (h : Fin 4) (off : Fin 2 → ℕ) (ho : off = ![r.val, h.val]) (inb) (x : S1x1.Idx) :
    (Rect.unit (s := S8x128) off S1x1.size inb).emb x = ix2 r ⟨h.val, by omega⟩ := by
  subst ho
  funext a
  refine Fin.ext ((Rect.idx_unit_val _ _ inb x a).trans ?_)
  match a with
  | ⟨0, _⟩ => have : (x 0).val < 1 := (x 0).isLt; show r.val + (x 0).val = r.val; omega
  | ⟨1, _⟩ => have : (x 1).val < 1 := (x 1).isLt; show h.val + (x 1).val = h.val; omega

theorem eta4 (x : S1x1x256x256.Idx) : x = ix4 0 0 (x 2) (x 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem eta3 (x : S1x1x256.Idx) : x = ix3 0 0 (x 2) := by
  funext a
  match a with
  | ⟨0, _⟩ => exact Subsingleton.elim (α := Fin 1) _ _
  | ⟨1, _⟩ => exact Subsingleton.elim (α := Fin 1) _ _
  | ⟨2, _⟩ => rfl

theorem etaRow (x : S1x256.Idx) : x = ix2 0 (x 1) := by
  funext a
  match a with
  | ⟨0, _⟩ => exact Subsingleton.elim (α := Fin 1) _ _
  | ⟨1, _⟩ => rfl

section
variable (x0 x1 x2 x3 : S8x1024.Idx → EReal) (x4 : S8x128.Idx → EReal) (x5 : S1x128.Idx → EReal) (x6 : S1x1024.Idx → EReal)
  (x7 : S8x4x256x256.Idx → EReal) (x8 : S8x4x256.Idx → EReal) (x9 : S8x128.Idx → EReal)

/-- The old stabilisers of a block. -/
def mm (r : Fin 8) (h : Fin 4) : EReal := x9 (ix2 r ⟨h.val, by omega⟩)

/-- What a grid point leaves in its four blocks. -/
def blkY : S8x1024.Idx → EReal := fun y =>
  outR x0 x1 x2 x3 x4 x5 (fun d => x6 (ix2 0 d)) x7 x8 (mm x9) (y 0)
    ⟨(y 1).val / 256, by have : (y 1).val < 1024 := (y 1).isLt; omega⟩ ⟨(y 1).val % 256, by omega⟩
def blkC : S8x4x256x256.Idx → EReal := fun y => matR x1 x2 x4 x5 x7 (mm x9) (y 0) (y 1) (y 2) (y 3)
def blkN : S8x4x256.Idx → EReal := fun y => nrmR x1 x4 x5 x8 (mm x9) (y 0) (y 1) (y 2)
def blkM : S8x128.Idx → EReal := fun y => if h : (y 1).val < 4 then stabR x4 x5 (mm x9) (y 0) ⟨(y 1).val, h⟩ else 0

variable (r : Fin 8) (h : Fin 4) {v4 v5 : Vec Ideal S1x128 .f32} {mv : Vec Ideal S1x1 .f32} {I N : FVec Ideal S1x1 .f32}
  {Q K V O Z : Vec Ideal S1x256 .f32} {C : Vec Ideal S1x1x256x256 .f32} {n : Vec Ideal S1x1x256 .f32}
  (hI : I = fun _ => gateI v4 v5 h) (hN : N = fun _ => inter (gateF v4 v5 h) (mv (ix2 0 0)))
  (h4 : ∀ c, v4 (ix2 0 c) = x4 (ix2 r c)) (h5 : ∀ c, v5 (ix2 0 c) = x5 (ix2 0 c))
  (hm : mv (ix2 0 0) = x9 (ix2 r ⟨h.val, by omega⟩))

include hI hN h4 h5 hm

/-- The gates' vectors at a row and a head. -/
theorem gates_of : I = (fun _ => inG x4 x5 r h) ∧ N = fun _ => inter (fgG x4 x5 r h) (mm x9 r h) := by
  subst hI hN
  unfold gateI gateF inG fgG mm
  simp only [h4, h5, hm, and_self]

theorem stab_piece (off : Fin 2 → ℕ) (ho : off = ![r.val, h.val]) (inb) (x : S1x1.Idx) :
    k0_pay8 (F := Ideal) I N x = blkM x4 x5 x9 ((Rect.unit (s := S8x128) off S1x1.size inb).emb x) := by
  obtain ⟨rfl, rfl⟩ := gates_of x4 x5 x9 r h hI hN h4 h5 hm
  rw [emb1 r h off ho, stab_at]
  unfold blkM
  rw [dif_pos (show ((ix2 r (⟨h.val, by omega⟩ : Fin 128) : S8x128.Idx) 1).val < 4 from h.isLt)]
  rfl

theorem mat_piece (hK : ∀ d, K (ix2 0 d) = x1 (ix2 r (place h d))) (hV : ∀ d, V (ix2 0 d) = x2 (ix2 r (place h d)))
    (hC : ∀ a b, C (ix4 0 0 a b) = x7 (ix4 r h a b))
    (off : Fin 4 → ℕ) (ho : off = ![r.val, h.val, 0, 0]) (inb) (x : S1x1x256x256.Idx) :
    k0_pay27 (F := Ideal) (k0_pay3 K) V (k0_pay18 C) (k0_pay9 I N) (k0_pay10 I N) x
      = blkC x1 x2 x4 x5 x7 x9 ((Rect.unit (s := S8x4x256x256) off S1x1x256x256.size inb).emb x) := by
  obtain ⟨rfl, rfl⟩ := gates_of x4 x5 x9 r h hI hN h4 h5 hm
  rw [emb4 r h off ho, old_at, new_at]
  refine (congrArg _ (eta4 x)).trans ?_
  obtain ⟨a, ea⟩ : ∃ a : Fin 256, a = x 2 := ⟨_, rfl⟩
  obtain ⟨b, eb⟩ : ∃ b : Fin 256, b = x 3 := ⟨_, rfl⟩
  rw [← ea, ← eb]
  refine (mat_at (k0_pay3 K) V C _ _ a b).trans ?_
  rw [key_at, hK, hV, hC]
  rfl

theorem nrm_piece (hK : ∀ d, K (ix2 0 d) = x1 (ix2 r (place h d))) (hn : ∀ a, n (ix3 0 0 a) = x8 (ix3 r h a))
    (off : Fin 3 → ℕ) (ho : off = ![r.val, h.val, 0]) (inb) (x : S1x1x256.Idx) :
    k0_pay28 (F := Ideal) (k0_pay3 K) (k0_pay19 n) (k0_pay9 I N) (k0_pay10 I N) x
      = blkN x1 x4 x5 x8 x9 ((Rect.unit (s := S8x4x256) off S1x1x256.size inb).emb x) := by
  obtain ⟨rfl, rfl⟩ := gates_of x4 x5 x9 r h hI hN h4 h5 hm
  rw [emb3 r h off ho, old_at, new_at]
  refine (congrArg _ (eta3 x)).trans ?_
  obtain ⟨b, eb⟩ : ∃ b : Fin 256, b = x 2 := ⟨_, rfl⟩
  rw [← eb]
  refine (nrm_at (k0_pay3 K) n _ _ b).trans ?_
  rw [key_at, hK, hn]
  rfl

theorem out_piece (hQ : ∀ d, Q (ix2 0 d) = x0 (ix2 r (place h d))) (hK : ∀ d, K (ix2 0 d) = x1 (ix2 r (place h d)))
    (hV : ∀ d, V (ix2 0 d) = x2 (ix2 r (place h d))) (hO : ∀ d, O (ix2 0 d) = x3 (ix2 r (place h d)))
    (hZ : ∀ d, Z (ix2 0 d) = x6 (ix2 0 (place h d)))
    (hC : ∀ a b, C (ix4 0 0 a b) = x7 (ix4 r h a b)) (hn : ∀ a, n (ix3 0 0 a) = x8 (ix3 r h a))
    (off : Fin 2 → ℕ) (ho : off = ![r.val, h.val * 256]) (inb) (x : S1x256.Idx) :
    k0_pay14 (F := Ideal) (k0_pay11 Q (k0_pay3 K) V I (k0_pay5 C) (k0_pay6 n) N) Z O x
      = blkY x0 x1 x2 x3 x4 x5 x6 x7 x8 x9 ((Rect.unit (s := S8x1024) off S1x256.size inb).emb x) := by
  obtain ⟨rfl, rfl⟩ := gates_of x4 x5 x9 r h hI hN h4 h5 hm
  rw [emb2 r h off ho]
  refine (congrArg _ (etaRow x)).trans ?_
  obtain ⟨d, ed⟩ : ∃ d : Fin 256, d = x 1 := ⟨_, rfl⟩
  rw [← ed]
  refine (normed_at _ Z O d).trans ?_
  simp only [read_at, key_at, hQ, hK, hV, hO, hZ, hC, hn]
  unfold blkY
  have e1 : (⟨(place h d).val / 256, by have := (place h d).isLt; omega⟩ : Fin 4) = h := Fin.ext (by have : d.val < 256 := d.isLt; show (h.val * 256 + d.val) / 256 = h.val; omega)
  have e2 : (⟨(place h d).val % 256, by omega⟩ : Fin 256) = d := Fin.ext (by have : d.val < 256 := d.isLt; show (h.val * 256 + d.val) % 256 = d.val; omega)
  refine Eq.trans ?_ (congrArg₂ (outR x0 x1 x2 x3 x4 x5 (fun d => x6 (ix2 0 d)) x7 x8 (mm x9) r) e1 e2).symm
  rfl

end

/-- The rows a trip's loads read. -/
theorem ld_row (a : Memref sig .tc .vmem S8x1024 .f32) (ha : a.IsWhole) (x : S8x1024.Idx → EReal) (r : Fin 8) (h : Fin 4)
    (off : Fin 2 → ℕ) (ho : off = ![r.val, h.val * 256]) (inb) (d : Fin 256) :
    View.readAt (Elt Ideal) a.view (Rect.unit (s := S8x1024) off S1x256.size inb).toLoadRect (ha.unread x) (ix2 0 d) = x (ix2 r (place h d)) :=
  Eq.trans (Memref.IsWhole.readAt_unread (Val := Elt Ideal) ha x (Rect.unit (s := S8x1024) off S1x256.size inb).toLoadRect (ix2 0 d)) (congrArg x (emb2 r h off ho inb (ix2 0 d)))

theorem ld_mat (a : Memref sig .tc .vmem S8x4x256x256 .f32) (ha : a.IsWhole) (x : S8x4x256x256.Idx → EReal) (r : Fin 8) (h : Fin 4)
    (off : Fin 4 → ℕ) (ho : off = ![r.val, h.val, 0, 0]) (inb) (d e : Fin 256) :
    View.readAt (Elt Ideal) a.view (Rect.unit (s := S8x4x256x256) off S1x1x256x256.size inb).toLoadRect (ha.unread x) (ix4 0 0 d e) = x (ix4 r h d e) :=
  Eq.trans (Memref.IsWhole.readAt_unread (Val := Elt Ideal) ha x (Rect.unit (s := S8x4x256x256) off S1x1x256x256.size inb).toLoadRect (ix4 0 0 d e)) (congrArg x (emb4 r h off ho inb (ix4 0 0 d e)))

theorem ld_nrm (a : Memref sig .tc .vmem S8x4x256 .f32) (ha : a.IsWhole) (x : S8x4x256.Idx → EReal) (r : Fin 8) (h : Fin 4)
    (off : Fin 3 → ℕ) (ho : off = ![r.val, h.val, 0]) (inb) (d : Fin 256) :
    View.readAt (Elt Ideal) a.view (Rect.unit (s := S8x4x256) off S1x1x256.size inb).toLoadRect (ha.unread x) (ix3 0 0 d) = x (ix3 r h d) :=
  Eq.trans (Memref.IsWhole.readAt_unread (Val := Elt Ideal) ha x (Rect.unit (s := S8x4x256) off S1x1x256.size inb).toLoadRect (ix3 0 0 d)) (congrArg x (emb3 r h off ho inb (ix3 0 0 d)))

theorem ld_stab (a : Memref sig .tc .vmem S8x128 .f32) (ha : a.IsWhole) (x : S8x128.Idx → EReal) (r : Fin 8) (h : Fin 4)
    (off : Fin 2 → ℕ) (ho : off = ![r.val, h.val]) (inb) :
    View.readAt (Elt Ideal) a.view (Rect.unit (s := S8x128) off S1x1.size inb).toLoadRect (ha.unread x) (ix2 0 0) = x (ix2 r ⟨h.val, by omega⟩) :=
  Eq.trans (Memref.IsWhole.readAt_unread (Val := Elt Ideal) ha x (Rect.unit (s := S8x128) off S1x1.size inb).toLoadRect (ix2 0 0)) (congrArg x (emb1 r h off ho inb (ix2 0 0)))

theorem ld_gates (a : Memref sig .tc .vmem S8x128 .f32) (ha : a.IsWhole) (x : S8x128.Idx → EReal) (r : Fin 8)
    (off : Fin 2 → ℕ) (ho : off = ![r.val, 0]) (inb) (d : Fin 128) :
    View.readAt (Elt Ideal) a.view (Rect.unit (s := S8x128) off S1x128.size inb).toLoadRect (ha.unread x) (ix2 0 d) = x (ix2 r d) := by
  subst ho
  refine Eq.trans (Memref.IsWhole.readAt_unread (Val := Elt Ideal) ha x (Rect.unit (s := S8x128) _ S1x128.size inb).toLoadRect (ix2 0 d)) (congrArg x (funext fun e => Fin.ext ((Rect.idx_unit_val _ _ inb _ e).trans ?_)))
  match e with
  | ⟨0, _⟩ => rfl
  | ⟨1, _⟩ => show 0 + d.val = d.val; omega

theorem ld_bias (a : Memref sig .tc .vmem S1x128 .f32) (ha : a.IsWhole) (x : S1x128.Idx → EReal) (inb) (d : Fin 128) :
    View.readAt (Elt Ideal) a.view (Rect.unit (s := S1x128) ![0, 0] S1x128.size inb).toLoadRect (ha.unread x) (ix2 0 d) = x (ix2 0 d) := by
  refine Eq.trans (Memref.IsWhole.readAt_unread (Val := Elt Ideal) ha x (Rect.unit (s := S1x128) ![0, 0] S1x128.size inb).toLoadRect (ix2 0 d)) (congrArg x (funext fun e => Fin.ext ((Rect.idx_unit_val _ _ inb _ e).trans ?_)))
  match e with
  | ⟨0, _⟩ => rfl
  | ⟨1, _⟩ => show 0 + d.val = d.val; omega

theorem ld_scale (a : Memref sig .tc .vmem S1x1024 .f32) (ha : a.IsWhole) (x : S1x1024.Idx → EReal) (h : Fin 4)
    (off : Fin 2 → ℕ) (ho : off = ![0, h.val * 256]) (inb) (d : Fin 256) :
    View.readAt (Elt Ideal) a.view (Rect.unit (s := S1x1024) off S1x256.size inb).toLoadRect (ha.unread x) (ix2 0 d) = x (ix2 0 (place h d)) := by
  subst ho
  refine Eq.trans (Memref.IsWhole.readAt_unread (Val := Elt Ideal) ha x (Rect.unit (s := S1x1024) _ S1x256.size inb).toLoadRect (ix2 0 d)) (congrArg x (funext fun e => Fin.ext ((Rect.idx_unit_val _ _ inb _ e).trans ?_)))
  match e with
  | ⟨0, _⟩ => rfl
  | ⟨1, _⟩ => rfl

end Cert.MatrixIdeal.Tiles

end
-- ==== Proof.MatrixTrip.lean ====
/-
  One trip of the kernel's loop: the stores of row `k`, head by head, are blocks of the four results.
-/
module

public import proofs.«01_k».proof.Proof.Gen.MatrixIdeal.Loops
public import proofs.«01_k».proof.Proof.MatrixRows

@[expose] public section

set_option maxRecDepth 16384

noncomputable section

open Idealize.ShloMosaic Idealize.ShloMosaic.TcCoe Idealize.SL.Sem

namespace Cert.MatrixIdeal.Tiles

open Cert.MatrixIdeal Cert.MatrixIdeal.Gen Idealize.ShloMosaic.Pointwise

/-- The trip's row. -/
def row (k : Fin k0_t1_loop.trips) : Fin 8 := ⟨k.val, k.isLt⟩

/-- Where the trip reads and writes. -/
theorem off1 : ∀ k : Fin k0_t1_loop.trips, k0_off1 k = ![(row k).val, 0] := by decide +kernel
theorem off2 : ∀ k : Fin k0_t1_loop.trips, k0_off2 k = ![(row k).val, (0 : Fin 4).val * 256] := by decide +kernel
theorem off3 : ∀ k : Fin k0_t1_loop.trips, k0_off3 k = ![(row k).val, (0 : Fin 4).val] := by decide +kernel
theorem off4 : ∀ k : Fin k0_t1_loop.trips, k0_off4 k = ![(row k).val, (0 : Fin 4).val, 0, 0] := by decide +kernel
theorem off5 : ∀ k : Fin k0_t1_loop.trips, k0_off5 k = ![(row k).val, (0 : Fin 4).val, 0] := by decide +kernel
theorem off6 : ∀ k : Fin k0_t1_loop.trips, k0_off6 k = ![(row k).val, (1 : Fin 4).val * 256] := by decide +kernel
theorem off7 : ∀ k : Fin k0_t1_loop.trips, k0_off7 k = ![(row k).val, (1 : Fin 4).val] := by decide +kernel
theorem off8 : ∀ k : Fin k0_t1_loop.trips, k0_off8 k = ![(row k).val, (1 : Fin 4).val, 0, 0] := by decide +kernel
theorem off9 : ∀ k : Fin k0_t1_loop.trips, k0_off9 k = ![(row k).val, (1 : Fin 4).val, 0] := by decide +kernel
theorem off10 : ∀ k : Fin k0_t1_loop.trips, k0_off10 k = ![(row k).val, (2 : Fin 4).val * 256] := by decide +kernel
theorem off11 : ∀ k : Fin k0_t1_loop.trips, k0_off11 k = ![(row k).val, (2 : Fin 4).val] := by decide +kernel
theorem off12 : ∀ k : Fin k0_t1_loop.trips, k0_off12 k = ![(row k).val, (2 : Fin 4).val, 0, 0] := by decide +kernel
theorem off13 : ∀ k : Fin k0_t1_loop.trips, k0_off13 k = ![(row k).val, (2 : Fin 4).val, 0] := by decide +kernel
theorem off14 : ∀ k : Fin k0_t1_loop.trips, k0_off14 k = ![(row k).val, (3 : Fin 4).val * 256] := by decide +kernel
theorem off15 : ∀ k : Fin k0_t1_loop.trips, k0_off15 k = ![(row k).val, (3 : Fin 4).val] := by decide +kernel
theorem off16 : ∀ k : Fin k0_t1_loop.trips, k0_off16 k = ![(row k).val, (3 : Fin 4).val, 0, 0] := by decide +kernel
theorem off17 : ∀ k : Fin k0_t1_loop.trips, k0_off17 k = ![(row k).val, (3 : Fin 4).val, 0] := by decide +kernel

variable (𝒱 : Variants) (c : Dev nD) (bd : Option 𝒱.V) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S8x4x256x256 .f32) (harg8 : arg8.IsWhole) (arg9 : Memref sig .tc .vmem S8x4x256 .f32) (harg9 : arg9.IsWhole) (arg10 : Memref sig .tc .vmem S8x128 .f32) (harg10 : arg10.IsWhole) (arg11 : Memref sig .tc .vmem S8x1024 .f32) (harg11 : arg11.IsWhole) (arg12 : Memref sig .tc .vmem S8x4x256x256 .f32) (harg12 : arg12.IsWhole) (arg13 : Memref sig .tc .vmem S8x4x256 .f32) (harg13 : arg13.IsWhole) (arg14 : Memref sig .tc .vmem S8x128 .f32) (harg14 : arg14.IsWhole)
  (x0 : S8x1024.Idx → EReal) (x1 : S8x1024.Idx → EReal) (x2 : S8x1024.Idx → EReal) (x3 : S8x1024.Idx → EReal) (x4 : S8x128.Idx → EReal) (x5 : S1x128.Idx → EReal) (x6 : S1x1024.Idx → EReal) (x7 : S8x4x256x256.Idx → EReal) (x8 : S8x4x256.Idx → EReal) (x9 : S8x128.Idx → EReal)

/-- A trip's stores of the gated reading. -/
theorem out_trip (k : Fin k0_t1_loop.trips) :
    View.PiecesOf (e := .f32) (Val := Elt Ideal) (blkY x0 x1 x2 x3 x4 x5 x6 x7 x8 x9)
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) k).1 := by
  unfold tripL_k0_t1 trip_k0_t1
  dsimp only
  refine ⟨?_, ?_, ?_, ?_, trivial⟩
  · intro x
    exact out_piece x0 x1 x2 x3 x4 x5 x6 x7 x8 x9 (row k) 3
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off15 k) S1x1.size (k0_off15_inb k)).toLoadRect (harg10.unread x9)))
      (Q := (View.readAt (Elt Ideal) arg1.view (Rect.unit (s := S8x1024) (k0_off14 k) S1x256.size (k0_off14_inb k)).toLoadRect (harg1.unread x0)))
      (K := (View.readAt (Elt Ideal) arg2.view (Rect.unit (s := S8x1024) (k0_off14 k) S1x256.size (k0_off14_inb k)).toLoadRect (harg2.unread x1)))
      (V := (View.readAt (Elt Ideal) arg3.view (Rect.unit (s := S8x1024) (k0_off14 k) S1x256.size (k0_off14_inb k)).toLoadRect (harg3.unread x2)))
      (O := (View.readAt (Elt Ideal) arg4.view (Rect.unit (s := S8x1024) (k0_off14 k) S1x256.size (k0_off14_inb k)).toLoadRect (harg4.unread x3)))
      (Z := (View.readAt (Elt Ideal) arg7.view (Rect.unit (s := S1x1024) ![0, 768] S1x256.size inb_S1x1024_S1x256_0_768).toLoadRect (harg7.unread x6)))
      (C := (View.readAt (Elt Ideal) arg8.view (Rect.unit (s := S8x4x256x256) (k0_off16 k) S1x1x256x256.size (k0_off16_inb k)).toLoadRect (harg8.unread x7)))
      (n := (View.readAt (Elt Ideal) arg9.view (Rect.unit (s := S8x4x256) (k0_off17 k) S1x1x256.size (k0_off17_inb k)).toLoadRect (harg9.unread x8)))
      (gate3 _ _) (inter3 _ _ _)
      (fun d => ld_gates arg5 harg5 x4 (row k) _ (off1 k) _ d)
      (fun d => ld_bias arg6 harg6 x5 _ d)
      (ld_stab arg10 harg10 x9 (row k) 3 _ (off15 k) _)
      (fun d => ld_row arg1 harg1 x0 (row k) 3 _ (off14 k) _ d)
      (fun d => ld_row arg2 harg2 x1 (row k) 3 _ (off14 k) _ d)
      (fun d => ld_row arg3 harg3 x2 (row k) 3 _ (off14 k) _ d)
      (fun d => ld_row arg4 harg4 x3 (row k) 3 _ (off14 k) _ d)
      (fun d => ld_scale arg7 harg7 x6 3 _ rfl _ d)
      (fun a b => ld_mat arg8 harg8 x7 (row k) 3 _ (off16 k) _ a b)
      (fun d => ld_nrm arg9 harg9 x8 (row k) 3 _ (off17 k) _ d)
      _ (off14 k) (k0_off14_inb k) x
  · intro x
    exact out_piece x0 x1 x2 x3 x4 x5 x6 x7 x8 x9 (row k) 2
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off11 k) S1x1.size (k0_off11_inb k)).toLoadRect (harg10.unread x9)))
      (Q := (View.readAt (Elt Ideal) arg1.view (Rect.unit (s := S8x1024) (k0_off10 k) S1x256.size (k0_off10_inb k)).toLoadRect (harg1.unread x0)))
      (K := (View.readAt (Elt Ideal) arg2.view (Rect.unit (s := S8x1024) (k0_off10 k) S1x256.size (k0_off10_inb k)).toLoadRect (harg2.unread x1)))
      (V := (View.readAt (Elt Ideal) arg3.view (Rect.unit (s := S8x1024) (k0_off10 k) S1x256.size (k0_off10_inb k)).toLoadRect (harg3.unread x2)))
      (O := (View.readAt (Elt Ideal) arg4.view (Rect.unit (s := S8x1024) (k0_off10 k) S1x256.size (k0_off10_inb k)).toLoadRect (harg4.unread x3)))
      (Z := (View.readAt (Elt Ideal) arg7.view (Rect.unit (s := S1x1024) ![0, 512] S1x256.size inb_S1x1024_S1x256_0_512).toLoadRect (harg7.unread x6)))
      (C := (View.readAt (Elt Ideal) arg8.view (Rect.unit (s := S8x4x256x256) (k0_off12 k) S1x1x256x256.size (k0_off12_inb k)).toLoadRect (harg8.unread x7)))
      (n := (View.readAt (Elt Ideal) arg9.view (Rect.unit (s := S8x4x256) (k0_off13 k) S1x1x256.size (k0_off13_inb k)).toLoadRect (harg9.unread x8)))
      (gate2 _ _) (inter2 _ _ _)
      (fun d => ld_gates arg5 harg5 x4 (row k) _ (off1 k) _ d)
      (fun d => ld_bias arg6 harg6 x5 _ d)
      (ld_stab arg10 harg10 x9 (row k) 2 _ (off11 k) _)
      (fun d => ld_row arg1 harg1 x0 (row k) 2 _ (off10 k) _ d)
      (fun d => ld_row arg2 harg2 x1 (row k) 2 _ (off10 k) _ d)
      (fun d => ld_row arg3 harg3 x2 (row k) 2 _ (off10 k) _ d)
      (fun d => ld_row arg4 harg4 x3 (row k) 2 _ (off10 k) _ d)
      (fun d => ld_scale arg7 harg7 x6 2 _ rfl _ d)
      (fun a b => ld_mat arg8 harg8 x7 (row k) 2 _ (off12 k) _ a b)
      (fun d => ld_nrm arg9 harg9 x8 (row k) 2 _ (off13 k) _ d)
      _ (off10 k) (k0_off10_inb k) x
  · intro x
    exact out_piece x0 x1 x2 x3 x4 x5 x6 x7 x8 x9 (row k) 1
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off7 k) S1x1.size (k0_off7_inb k)).toLoadRect (harg10.unread x9)))
      (Q := (View.readAt (Elt Ideal) arg1.view (Rect.unit (s := S8x1024) (k0_off6 k) S1x256.size (k0_off6_inb k)).toLoadRect (harg1.unread x0)))
      (K := (View.readAt (Elt Ideal) arg2.view (Rect.unit (s := S8x1024) (k0_off6 k) S1x256.size (k0_off6_inb k)).toLoadRect (harg2.unread x1)))
      (V := (View.readAt (Elt Ideal) arg3.view (Rect.unit (s := S8x1024) (k0_off6 k) S1x256.size (k0_off6_inb k)).toLoadRect (harg3.unread x2)))
      (O := (View.readAt (Elt Ideal) arg4.view (Rect.unit (s := S8x1024) (k0_off6 k) S1x256.size (k0_off6_inb k)).toLoadRect (harg4.unread x3)))
      (Z := (View.readAt (Elt Ideal) arg7.view (Rect.unit (s := S1x1024) ![0, 256] S1x256.size inb_S1x1024_S1x256_0_256).toLoadRect (harg7.unread x6)))
      (C := (View.readAt (Elt Ideal) arg8.view (Rect.unit (s := S8x4x256x256) (k0_off8 k) S1x1x256x256.size (k0_off8_inb k)).toLoadRect (harg8.unread x7)))
      (n := (View.readAt (Elt Ideal) arg9.view (Rect.unit (s := S8x4x256) (k0_off9 k) S1x1x256.size (k0_off9_inb k)).toLoadRect (harg9.unread x8)))
      (gate1 _ _) (inter1 _ _ _)
      (fun d => ld_gates arg5 harg5 x4 (row k) _ (off1 k) _ d)
      (fun d => ld_bias arg6 harg6 x5 _ d)
      (ld_stab arg10 harg10 x9 (row k) 1 _ (off7 k) _)
      (fun d => ld_row arg1 harg1 x0 (row k) 1 _ (off6 k) _ d)
      (fun d => ld_row arg2 harg2 x1 (row k) 1 _ (off6 k) _ d)
      (fun d => ld_row arg3 harg3 x2 (row k) 1 _ (off6 k) _ d)
      (fun d => ld_row arg4 harg4 x3 (row k) 1 _ (off6 k) _ d)
      (fun d => ld_scale arg7 harg7 x6 1 _ rfl _ d)
      (fun a b => ld_mat arg8 harg8 x7 (row k) 1 _ (off8 k) _ a b)
      (fun d => ld_nrm arg9 harg9 x8 (row k) 1 _ (off9 k) _ d)
      _ (off6 k) (k0_off6_inb k) x
  · intro x
    exact out_piece x0 x1 x2 x3 x4 x5 x6 x7 x8 x9 (row k) 0
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off3 k) S1x1.size (k0_off3_inb k)).toLoadRect (harg10.unread x9)))
      (Q := (View.readAt (Elt Ideal) arg1.view (Rect.unit (s := S8x1024) (k0_off2 k) S1x256.size (k0_off2_inb k)).toLoadRect (harg1.unread x0)))
      (K := (View.readAt (Elt Ideal) arg2.view (Rect.unit (s := S8x1024) (k0_off2 k) S1x256.size (k0_off2_inb k)).toLoadRect (harg2.unread x1)))
      (V := (View.readAt (Elt Ideal) arg3.view (Rect.unit (s := S8x1024) (k0_off2 k) S1x256.size (k0_off2_inb k)).toLoadRect (harg3.unread x2)))
      (O := (View.readAt (Elt Ideal) arg4.view (Rect.unit (s := S8x1024) (k0_off2 k) S1x256.size (k0_off2_inb k)).toLoadRect (harg4.unread x3)))
      (Z := (View.readAt (Elt Ideal) arg7.view (Rect.unit (s := S1x1024) ![0, 0] S1x256.size inb_S1x1024_S1x256_0_0).toLoadRect (harg7.unread x6)))
      (C := (View.readAt (Elt Ideal) arg8.view (Rect.unit (s := S8x4x256x256) (k0_off4 k) S1x1x256x256.size (k0_off4_inb k)).toLoadRect (harg8.unread x7)))
      (n := (View.readAt (Elt Ideal) arg9.view (Rect.unit (s := S8x4x256) (k0_off5 k) S1x1x256.size (k0_off5_inb k)).toLoadRect (harg9.unread x8)))
      (gate0 _ _) (inter0 _ _ _)
      (fun d => ld_gates arg5 harg5 x4 (row k) _ (off1 k) _ d)
      (fun d => ld_bias arg6 harg6 x5 _ d)
      (ld_stab arg10 harg10 x9 (row k) 0 _ (off3 k) _)
      (fun d => ld_row arg1 harg1 x0 (row k) 0 _ (off2 k) _ d)
      (fun d => ld_row arg2 harg2 x1 (row k) 0 _ (off2 k) _ d)
      (fun d => ld_row arg3 harg3 x2 (row k) 0 _ (off2 k) _ d)
      (fun d => ld_row arg4 harg4 x3 (row k) 0 _ (off2 k) _ d)
      (fun d => ld_scale arg7 harg7 x6 0 _ rfl _ d)
      (fun a b => ld_mat arg8 harg8 x7 (row k) 0 _ (off4 k) _ a b)
      (fun d => ld_nrm arg9 harg9 x8 (row k) 0 _ (off5 k) _ d)
      _ (off2 k) (k0_off2_inb k) x

/-- A trip's stores of the matrix. -/
theorem mat_trip (k : Fin k0_t1_loop.trips) :
    View.PiecesOf (e := .f32) (Val := Elt Ideal) (blkC x1 x2 x4 x5 x7 x9)
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) k).2.1 := by
  unfold tripL_k0_t1 trip_k0_t1
  dsimp only
  refine ⟨?_, ?_, ?_, ?_, trivial⟩
  · intro x
    exact mat_piece x1 x2 x4 x5 x7 x9 (row k) 3
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off15 k) S1x1.size (k0_off15_inb k)).toLoadRect (harg10.unread x9)))
      (K := (View.readAt (Elt Ideal) arg2.view (Rect.unit (s := S8x1024) (k0_off14 k) S1x256.size (k0_off14_inb k)).toLoadRect (harg2.unread x1)))
      (V := (View.readAt (Elt Ideal) arg3.view (Rect.unit (s := S8x1024) (k0_off14 k) S1x256.size (k0_off14_inb k)).toLoadRect (harg3.unread x2)))
      (C := (View.readAt (Elt Ideal) arg8.view (Rect.unit (s := S8x4x256x256) (k0_off16 k) S1x1x256x256.size (k0_off16_inb k)).toLoadRect (harg8.unread x7)))
      (gate3 _ _) (inter3 _ _ _)
      (fun d => ld_gates arg5 harg5 x4 (row k) _ (off1 k) _ d)
      (fun d => ld_bias arg6 harg6 x5 _ d)
      (ld_stab arg10 harg10 x9 (row k) 3 _ (off15 k) _)
      (fun d => ld_row arg2 harg2 x1 (row k) 3 _ (off14 k) _ d)
      (fun d => ld_row arg3 harg3 x2 (row k) 3 _ (off14 k) _ d)
      (fun a b => ld_mat arg8 harg8 x7 (row k) 3 _ (off16 k) _ a b)
      _ (off16 k) (k0_off16_inb k) x
  · intro x
    exact mat_piece x1 x2 x4 x5 x7 x9 (row k) 2
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off11 k) S1x1.size (k0_off11_inb k)).toLoadRect (harg10.unread x9)))
      (K := (View.readAt (Elt Ideal) arg2.view (Rect.unit (s := S8x1024) (k0_off10 k) S1x256.size (k0_off10_inb k)).toLoadRect (harg2.unread x1)))
      (V := (View.readAt (Elt Ideal) arg3.view (Rect.unit (s := S8x1024) (k0_off10 k) S1x256.size (k0_off10_inb k)).toLoadRect (harg3.unread x2)))
      (C := (View.readAt (Elt Ideal) arg8.view (Rect.unit (s := S8x4x256x256) (k0_off12 k) S1x1x256x256.size (k0_off12_inb k)).toLoadRect (harg8.unread x7)))
      (gate2 _ _) (inter2 _ _ _)
      (fun d => ld_gates arg5 harg5 x4 (row k) _ (off1 k) _ d)
      (fun d => ld_bias arg6 harg6 x5 _ d)
      (ld_stab arg10 harg10 x9 (row k) 2 _ (off11 k) _)
      (fun d => ld_row arg2 harg2 x1 (row k) 2 _ (off10 k) _ d)
      (fun d => ld_row arg3 harg3 x2 (row k) 2 _ (off10 k) _ d)
      (fun a b => ld_mat arg8 harg8 x7 (row k) 2 _ (off12 k) _ a b)
      _ (off12 k) (k0_off12_inb k) x
  · intro x
    exact mat_piece x1 x2 x4 x5 x7 x9 (row k) 1
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off7 k) S1x1.size (k0_off7_inb k)).toLoadRect (harg10.unread x9)))
      (K := (View.readAt (Elt Ideal) arg2.view (Rect.unit (s := S8x1024) (k0_off6 k) S1x256.size (k0_off6_inb k)).toLoadRect (harg2.unread x1)))
      (V := (View.readAt (Elt Ideal) arg3.view (Rect.unit (s := S8x1024) (k0_off6 k) S1x256.size (k0_off6_inb k)).toLoadRect (harg3.unread x2)))
      (C := (View.readAt (Elt Ideal) arg8.view (Rect.unit (s := S8x4x256x256) (k0_off8 k) S1x1x256x256.size (k0_off8_inb k)).toLoadRect (harg8.unread x7)))
      (gate1 _ _) (inter1 _ _ _)
      (fun d => ld_gates arg5 harg5 x4 (row k) _ (off1 k) _ d)
      (fun d => ld_bias arg6 harg6 x5 _ d)
      (ld_stab arg10 harg10 x9 (row k) 1 _ (off7 k) _)
      (fun d => ld_row arg2 harg2 x1 (row k) 1 _ (off6 k) _ d)
      (fun d => ld_row arg3 harg3 x2 (row k) 1 _ (off6 k) _ d)
      (fun a b => ld_mat arg8 harg8 x7 (row k) 1 _ (off8 k) _ a b)
      _ (off8 k) (k0_off8_inb k) x
  · intro x
    exact mat_piece x1 x2 x4 x5 x7 x9 (row k) 0
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off3 k) S1x1.size (k0_off3_inb k)).toLoadRect (harg10.unread x9)))
      (K := (View.readAt (Elt Ideal) arg2.view (Rect.unit (s := S8x1024) (k0_off2 k) S1x256.size (k0_off2_inb k)).toLoadRect (harg2.unread x1)))
      (V := (View.readAt (Elt Ideal) arg3.view (Rect.unit (s := S8x1024) (k0_off2 k) S1x256.size (k0_off2_inb k)).toLoadRect (harg3.unread x2)))
      (C := (View.readAt (Elt Ideal) arg8.view (Rect.unit (s := S8x4x256x256) (k0_off4 k) S1x1x256x256.size (k0_off4_inb k)).toLoadRect (harg8.unread x7)))
      (gate0 _ _) (inter0 _ _ _)
      (fun d => ld_gates arg5 harg5 x4 (row k) _ (off1 k) _ d)
      (fun d => ld_bias arg6 harg6 x5 _ d)
      (ld_stab arg10 harg10 x9 (row k) 0 _ (off3 k) _)
      (fun d => ld_row arg2 harg2 x1 (row k) 0 _ (off2 k) _ d)
      (fun d => ld_row arg3 harg3 x2 (row k) 0 _ (off2 k) _ d)
      (fun a b => ld_mat arg8 harg8 x7 (row k) 0 _ (off4 k) _ a b)
      _ (off4 k) (k0_off4_inb k) x

/-- A trip's stores of the normaliser. -/
theorem nrm_trip (k : Fin k0_t1_loop.trips) :
    View.PiecesOf (e := .f32) (Val := Elt Ideal) (blkN x1 x4 x5 x8 x9)
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) k).2.2.1 := by
  unfold tripL_k0_t1 trip_k0_t1
  dsimp only
  refine ⟨?_, ?_, ?_, ?_, trivial⟩
  · intro x
    exact nrm_piece x1 x4 x5 x8 x9 (row k) 3
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off15 k) S1x1.size (k0_off15_inb k)).toLoadRect (harg10.unread x9)))
      (K := (View.readAt (Elt Ideal) arg2.view (Rect.unit (s := S8x1024) (k0_off14 k) S1x256.size (k0_off14_inb k)).toLoadRect (harg2.unread x1)))
      (n := (View.readAt (Elt Ideal) arg9.view (Rect.unit (s := S8x4x256) (k0_off17 k) S1x1x256.size (k0_off17_inb k)).toLoadRect (harg9.unread x8)))
      (gate3 _ _) (inter3 _ _ _)
      (fun d => ld_gates arg5 harg5 x4 (row k) _ (off1 k) _ d)
      (fun d => ld_bias arg6 harg6 x5 _ d)
      (ld_stab arg10 harg10 x9 (row k) 3 _ (off15 k) _)
      (fun d => ld_row arg2 harg2 x1 (row k) 3 _ (off14 k) _ d)
      (fun d => ld_nrm arg9 harg9 x8 (row k) 3 _ (off17 k) _ d)
      _ (off17 k) (k0_off17_inb k) x
  · intro x
    exact nrm_piece x1 x4 x5 x8 x9 (row k) 2
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off11 k) S1x1.size (k0_off11_inb k)).toLoadRect (harg10.unread x9)))
      (K := (View.readAt (Elt Ideal) arg2.view (Rect.unit (s := S8x1024) (k0_off10 k) S1x256.size (k0_off10_inb k)).toLoadRect (harg2.unread x1)))
      (n := (View.readAt (Elt Ideal) arg9.view (Rect.unit (s := S8x4x256) (k0_off13 k) S1x1x256.size (k0_off13_inb k)).toLoadRect (harg9.unread x8)))
      (gate2 _ _) (inter2 _ _ _)
      (fun d => ld_gates arg5 harg5 x4 (row k) _ (off1 k) _ d)
      (fun d => ld_bias arg6 harg6 x5 _ d)
      (ld_stab arg10 harg10 x9 (row k) 2 _ (off11 k) _)
      (fun d => ld_row arg2 harg2 x1 (row k) 2 _ (off10 k) _ d)
      (fun d => ld_nrm arg9 harg9 x8 (row k) 2 _ (off13 k) _ d)
      _ (off13 k) (k0_off13_inb k) x
  · intro x
    exact nrm_piece x1 x4 x5 x8 x9 (row k) 1
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off7 k) S1x1.size (k0_off7_inb k)).toLoadRect (harg10.unread x9)))
      (K := (View.readAt (Elt Ideal) arg2.view (Rect.unit (s := S8x1024) (k0_off6 k) S1x256.size (k0_off6_inb k)).toLoadRect (harg2.unread x1)))
      (n := (View.readAt (Elt Ideal) arg9.view (Rect.unit (s := S8x4x256) (k0_off9 k) S1x1x256.size (k0_off9_inb k)).toLoadRect (harg9.unread x8)))
      (gate1 _ _) (inter1 _ _ _)
      (fun d => ld_gates arg5 harg5 x4 (row k) _ (off1 k) _ d)
      (fun d => ld_bias arg6 harg6 x5 _ d)
      (ld_stab arg10 harg10 x9 (row k) 1 _ (off7 k) _)
      (fun d => ld_row arg2 harg2 x1 (row k) 1 _ (off6 k) _ d)
      (fun d => ld_nrm arg9 harg9 x8 (row k) 1 _ (off9 k) _ d)
      _ (off9 k) (k0_off9_inb k) x
  · intro x
    exact nrm_piece x1 x4 x5 x8 x9 (row k) 0
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off3 k) S1x1.size (k0_off3_inb k)).toLoadRect (harg10.unread x9)))
      (K := (View.readAt (Elt Ideal) arg2.view (Rect.unit (s := S8x1024) (k0_off2 k) S1x256.size (k0_off2_inb k)).toLoadRect (harg2.unread x1)))
      (n := (View.readAt (Elt Ideal) arg9.view (Rect.unit (s := S8x4x256) (k0_off5 k) S1x1x256.size (k0_off5_inb k)).toLoadRect (harg9.unread x8)))
      (gate0 _ _) (inter0 _ _ _)
      (fun d => ld_gates arg5 harg5 x4 (row k) _ (off1 k) _ d)
      (fun d => ld_bias arg6 harg6 x5 _ d)
      (ld_stab arg10 harg10 x9 (row k) 0 _ (off3 k) _)
      (fun d => ld_row arg2 harg2 x1 (row k) 0 _ (off2 k) _ d)
      (fun d => ld_nrm arg9 harg9 x8 (row k) 0 _ (off5 k) _ d)
      _ (off5 k) (k0_off5_inb k) x

/-- A trip's stores of the stabiliser. -/
theorem stab_trip (k : Fin k0_t1_loop.trips) :
    View.PiecesOf (e := .f32) (Val := Elt Ideal) (blkM x4 x5 x9)
      (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) k).2.2.2 := by
  unfold tripL_k0_t1 trip_k0_t1
  dsimp only
  refine ⟨?_, ?_, ?_, ?_, trivial⟩
  · intro x
    exact stab_piece x4 x5 x9 (row k) 3
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off15 k) S1x1.size (k0_off15_inb k)).toLoadRect (harg10.unread x9)))
      (gate3 _ _) (inter3 _ _ _)
      (fun d => ld_gates arg5 harg5 x4 (row k) _ (off1 k) _ d)
      (fun d => ld_bias arg6 harg6 x5 _ d)
      (ld_stab arg10 harg10 x9 (row k) 3 _ (off15 k) _)
      _ (off15 k) (k0_off15_inb k) x
  · intro x
    exact stab_piece x4 x5 x9 (row k) 2
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off11 k) S1x1.size (k0_off11_inb k)).toLoadRect (harg10.unread x9)))
      (gate2 _ _) (inter2 _ _ _)
      (fun d => ld_gates arg5 harg5 x4 (row k) _ (off1 k) _ d)
      (fun d => ld_bias arg6 harg6 x5 _ d)
      (ld_stab arg10 harg10 x9 (row k) 2 _ (off11 k) _)
      _ (off11 k) (k0_off11_inb k) x
  · intro x
    exact stab_piece x4 x5 x9 (row k) 1
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off7 k) S1x1.size (k0_off7_inb k)).toLoadRect (harg10.unread x9)))
      (gate1 _ _) (inter1 _ _ _)
      (fun d => ld_gates arg5 harg5 x4 (row k) _ (off1 k) _ d)
      (fun d => ld_bias arg6 harg6 x5 _ d)
      (ld_stab arg10 harg10 x9 (row k) 1 _ (off7 k) _)
      _ (off7 k) (k0_off7_inb k) x
  · intro x
    exact stab_piece x4 x5 x9 (row k) 0
      (v4 := (View.readAt (Elt Ideal) arg5.view (Rect.unit (s := S8x128) (k0_off1 k) S1x128.size (k0_off1_inb k)).toLoadRect (harg5.unread x4)))
      (v5 := (View.readAt (Elt Ideal) arg6.view (Rect.unit (s := S1x128) ![0, 0] S1x128.size inb_S1x128_S1x128_0_0).toLoadRect (harg6.unread x5)))
      (mv := (View.readAt (Elt Ideal) arg10.view (Rect.unit (s := S8x128) (k0_off3 k) S1x1.size (k0_off3_inb k)).toLoadRect (harg10.unread x9)))
      (gate0 _ _) (inter0 _ _ _)
      (fun d => ld_gates arg5 harg5 x4 (row k) _ (off1 k) _ d)
      (fun d => ld_bias arg6 harg6 x5 _ d)
      (ld_stab arg10 harg10 x9 (row k) 0 _ (off3 k) _)
      _ (off3 k) (k0_off3_inb k) x

end Cert.MatrixIdeal.Tiles

end
-- ==== Proof.MatrixBlocks.lean ====
/-
  The whole loop: what a grid point leaves in its four blocks.
-/
module

public import Idealize.ShloMosaic.Lib.Pipeline.ValueKit
public import proofs.«01_k».proof.Proof.Gen.MatrixIdeal.Value
public import proofs.«01_k».proof.Proof.MatrixTrip

@[expose] public section

set_option maxRecDepth 16384

noncomputable section

open Idealize.ShloMosaic Idealize.ShloMosaic.TcCoe Idealize.SL.Sem

namespace Cert.MatrixIdeal.Tiles

open Cert.MatrixIdeal Cert.MatrixIdeal.Gen Idealize.ShloMosaic.Pointwise

/-- Two lists of stores, each of blocks. -/
theorem pieces_append {s : Shape} {e : EltTy} (G : s.Idx → Elt Ideal e) : ∀ (A B : List (View.Piece (Elt Ideal) s e)),
    View.PiecesOf G A → View.PiecesOf G B → View.PiecesOf G (A ++ B)
  | [], _, _, hB => hB
  | _ :: A, B, hA, hB => ⟨hA.1, pieces_append G A B hA.2 hB⟩

variable (𝒱 : Variants) (c : Dev nD) (bd : Option 𝒱.V) (i : grid0.Coords) (arg1 : Memref sig .tc .vmem S8x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S8x128 .f32) (harg5 : arg5.IsWhole) (arg6 : Memref sig .tc .vmem S1x128 .f32) (harg6 : arg6.IsWhole) (arg7 : Memref sig .tc .vmem S1x1024 .f32) (harg7 : arg7.IsWhole) (arg8 : Memref sig .tc .vmem S8x4x256x256 .f32) (harg8 : arg8.IsWhole) (arg9 : Memref sig .tc .vmem S8x4x256 .f32) (harg9 : arg9.IsWhole) (arg10 : Memref sig .tc .vmem S8x128 .f32) (harg10 : arg10.IsWhole) (arg11 : Memref sig .tc .vmem S8x1024 .f32) (harg11 : arg11.IsWhole) (arg12 : Memref sig .tc .vmem S8x4x256x256 .f32) (harg12 : arg12.IsWhole) (arg13 : Memref sig .tc .vmem S8x4x256 .f32) (harg13 : arg13.IsWhole) (arg14 : Memref sig .tc .vmem S8x128 .f32) (harg14 : arg14.IsWhole)
  (x0 : S8x1024.Idx → EReal) (x1 : S8x1024.Idx → EReal) (x2 : S8x1024.Idx → EReal) (x3 : S8x1024.Idx → EReal) (x4 : S8x128.Idx → EReal) (x5 : S1x128.Idx → EReal) (x6 : S1x1024.Idx → EReal) (x7 : S8x4x256x256.Idx → EReal) (x8 : S8x4x256.Idx → EReal) (x9 : S8x128.Idx → EReal)

theorem out_trips : ∀ n : ℕ, n ≤ k0_t1_loop.trips → View.PiecesOf (e := .f32) (Val := Elt Ideal) (blkY x0 x1 x2 x3 x4 x5 x6 x7 x8 x9)
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) n).1
  | 0, _ => trivial
  | n + 1, hn =>
    (congrArg (fun L => View.PiecesOf (e := .f32) (Val := Elt Ideal) (blkY x0 x1 x2 x3 x4 x5 x6 x7 x8 x9) L.1)
      (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) ⟨n, hn⟩)).mpr
      (pieces_append _ _ _ (out_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 ⟨n, hn⟩) (out_trips n (Nat.le_of_succ_le hn)))

theorem mat_trips : ∀ n : ℕ, n ≤ k0_t1_loop.trips → View.PiecesOf (e := .f32) (Val := Elt Ideal) (blkC x1 x2 x4 x5 x7 x9)
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) n).2.1
  | 0, _ => trivial
  | n + 1, hn =>
    (congrArg (fun L => View.PiecesOf (e := .f32) (Val := Elt Ideal) (blkC x1 x2 x4 x5 x7 x9) L.2.1)
      (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) ⟨n, hn⟩)).mpr
      (pieces_append _ _ _ (mat_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 ⟨n, hn⟩) (mat_trips n (Nat.le_of_succ_le hn)))

theorem nrm_trips : ∀ n : ℕ, n ≤ k0_t1_loop.trips → View.PiecesOf (e := .f32) (Val := Elt Ideal) (blkN x1 x4 x5 x8 x9)
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) n).2.2.1
  | 0, _ => trivial
  | n + 1, hn =>
    (congrArg (fun L => View.PiecesOf (e := .f32) (Val := Elt Ideal) (blkN x1 x4 x5 x8 x9) L.2.2.1)
      (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) ⟨n, hn⟩)).mpr
      (pieces_append _ _ _ (nrm_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 ⟨n, hn⟩) (nrm_trips n (Nat.le_of_succ_le hn)))

theorem stab_trips : ∀ n : ℕ, n ≤ k0_t1_loop.trips → View.PiecesOf (e := .f32) (Val := Elt Ideal) (blkM x4 x5 x9)
      (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) n).2.2.2
  | 0, _ => trivial
  | n + 1, hn =>
    (congrArg (fun L => View.PiecesOf (e := .f32) (Val := Elt Ideal) (blkM x4 x5 x9) L.2.2.2)
      (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) ⟨n, hn⟩)).mpr
      (pieces_append _ _ _ (stab_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 ⟨n, hn⟩) (stab_trips n (Nat.le_of_succ_le hn)))

theorem out_left : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = blkY x0 x1 x2 x3 x4 x5 x6 x7 x8 x9 := by
  unfold out0_A_10
  refine (View.read_writes_eq_canon (Val := Elt Ideal) _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)).trans ?_
  funext y
  refine (congrArg (fun L => View.canon L y) (List.append_nil _).symm).trans ?_
  refine View.canon_append_of_piecesOf _ [] _ ?_ y (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  exact out_trips _ c _ i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _ (le_refl _)

theorem mat_left : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = blkC x1 x2 x4 x5 x7 x9 := by
  unfold out0_A_11
  refine (View.read_writes_eq_canon (Val := Elt Ideal) _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)).trans ?_
  funext y
  refine (congrArg (fun L => View.canon L y) (List.append_nil _).symm).trans ?_
  refine View.canon_append_of_piecesOf _ [] _ ?_ y (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  exact mat_trips _ c _ i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _ (le_refl _)

theorem nrm_left : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = blkN x1 x4 x5 x8 x9 := by
  unfold out0_A_12
  refine (View.read_writes_eq_canon (Val := Elt Ideal) _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)).trans ?_
  funext y
  refine (congrArg (fun L => View.canon L y) (List.append_nil _).symm).trans ?_
  refine View.canon_append_of_piecesOf _ [] _ ?_ y (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 y)
  unfold kernelRun0_A
  dsimp only
  exact nrm_trips _ c _ i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _ (le_refl _)

/-- A trip's stores stay in the list. -/
theorem stab_mem : ∀ n : ℕ, n ≤ k0_t1_loop.trips → ∀ k : Fin k0_t1_loop.trips, k.val < n →
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) k).2.2.2,
      p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) n).2.2.2
  | 0, _, k, hk, _, _ => absurd hk (Nat.not_lt_zero _)
  | n + 1, hn, k, hk, p, hp =>
    (congrArg (fun L => p ∈ L.2.2.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) ⟨n, hn⟩)).mpr (by
      rcases Nat.lt_succ_iff_lt_or_eq.mp hk with h | h
      · exact List.mem_append_right _ (stab_mem n (Nat.le_of_succ_le hn) k h p hp)
      · have e : k = ⟨n, hn⟩ := Fin.ext h
        subst e
        exact List.mem_append_left _ hp)

/-- A trip stores its row's four stabilisers. -/
theorem stab_hit (k : Fin k0_t1_loop.trips) (h : Fin 4) :
    ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 (harg1.unread x0) (harg2.unread x1) (harg3.unread x2) (harg4.unread x3) (harg5.unread x4) (harg6.unread x5) (harg7.unread x6) (harg8.unread x7) (harg9.unread x8) (harg10.unread x9) k).2.2.2,
      (ix2 (row k) (⟨h.val, by omega⟩ : Fin 128) : S8x128.Idx) ∈ p.1.set := by
  unfold tripL_k0_t1 trip_k0_t1
  dsimp only
  match h with
  | ⟨0, _⟩ => exact ⟨_, .tail _ (.tail _ (.tail _ (.head _))), emb1 (row k) 0 _ (off3 k) (k0_off3_inb k) (ix2 0 0) ▸ LoadRect.idx_mem _ _⟩
  | ⟨1, _⟩ => exact ⟨_, .tail _ (.tail _ (.head _)), emb1 (row k) 1 _ (off7 k) (k0_off7_inb k) (ix2 0 0) ▸ LoadRect.idx_mem _ _⟩
  | ⟨2, _⟩ => exact ⟨_, .tail _ (.head _), emb1 (row k) 2 _ (off11 k) (k0_off11_inb k) (ix2 0 0) ▸ LoadRect.idx_mem _ _⟩
  | ⟨3, _⟩ => exact ⟨_, .head _, emb1 (row k) 3 _ (off15 k) (k0_off15_inb k) (ix2 0 0) ▸ LoadRect.idx_mem _ _⟩

/-- Where every store that covers an index holds the same entry there, that entry is left. -/
theorem canon_at {s : Shape} {e : EltTy} (G : s.Idx → Elt Ideal e) (y : s.Idx) : ∀ L : List (View.Piece (Elt Ideal) s e),
    (∀ p ∈ L, ∀ x, p.1.emb x = y → p.2 x = G y) → (∃ p ∈ L, y ∈ p.1.set) → View.canon L y = G y
  | [], _, h => by obtain ⟨_, hm, _⟩ := h; exact absurd hm List.not_mem_nil
  | ⟨r, w⟩ :: L, hG, h => by
    by_cases hy : y ∈ r.set
    · obtain ⟨x, rfl⟩ : ∃ x, r.emb x = y := r.exists_idx_of_mem hy
      rw [View.canon_cons_emb]
      exact hG _ (.head _) x rfl
    · rw [View.canon_cons_of_not_mem _ _ hy]
      refine canon_at G y L (fun p hp => hG p (.tail _ hp)) ?_
      obtain ⟨p, hm, hp⟩ := h
      rcases List.mem_cons.mp hm with rfl | hm
      · exact absurd hp hy
      · exact ⟨p, hm, hp⟩

/-- The zeros stored before the loop. -/
theorem zeros_at (p : View.Piece (Elt Ideal) S8x128 .f32) (hp : p ∈ kernelRun0_A.sl.H13_1 (F := Ideal)) (x) : p.2 x = (0 : EReal) := by
  unfold kernelRun0_A.sl.H13_1 at hp
  rcases List.mem_cons.mp hp with rfl | hp
  · pointwise [k0_pay1]
  · exact absurd hp List.not_mem_nil

theorem stab_left : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = blkM x4 x5 x9 := by
  have hc := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
  unfold out0_A_13
  refine (View.read_writes_eq_canon (Val := Elt Ideal) _ _ _ hc).trans ?_
  revert hc
  unfold kernelRun0_A
  dsimp only
  intro hc
  funext y
  by_cases h : (y 1).val < 4
  · refine View.canon_append_of_piecesOf _ _ _ (stab_trips _ c _ i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _ (le_refl _)) y ?_
    obtain ⟨p, hp, hm⟩ := stab_hit Variants.none c none i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 ⟨(y 0).val, (y 0).isLt⟩ ⟨(y 1).val, h⟩
    refine ⟨p, stab_mem _ c _ i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _ (le_refl _) _ (y 0).isLt p hp, ?_⟩
    have e : y = ix2 (row ⟨(y 0).val, (y 0).isLt⟩) (⟨(y 1).val, (y 1).isLt⟩ : Fin 128) := by
      funext a
      match a with
      | ⟨0, _⟩ => rfl
      | ⟨1, _⟩ => rfl
    rw [e]
    exact hm
  · refine canon_at _ y _ (fun p hp x hx => ?_) (hc y)
    rcases List.mem_append.mp hp with hp | hp
    · exact (View.PiecesOf.mem (stab_trips _ c _ i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 _ (le_refl _)) p hp x).trans (congrArg _ hx)
    · refine (zeros_at p hp x).trans ?_
      unfold blkM
      rw [dif_neg h]

end Cert.MatrixIdeal.Tiles

end
-- ==== Proof.MatrixRef.lean ====
/-
  The reference's one step of the matrix memory, entry by entry, in the terms of one head.
-/
module

public import Idealize.ShloMosaic.Lib.Pipeline.ValueKit
public import proofs.«01_k».proof.Proof.MatrixRows
public import proofs.«01_k».proof.Proof.Gen.MatrixRefIdeal.Read

@[expose] public section

set_option maxRecDepth 16384

noncomputable section

open Idealize.ShloMosaic Idealize.ShloMosaic.TcCoe Idealize.SL.Sem

namespace Cert.MatrixIdeal.Tiles

open Cert.MatrixIdeal Cert.MatrixIdeal.Gen Idealize.ShloMosaic.Pointwise Cert.MatrixRefIdeal.Read

variable (x0 x1 x2 x3 : S128x1024.Idx → EReal) (x4 : S128x128.Idx → EReal) (x5 : S1x128.Idx → EReal) (x6 : S1024.Idx → EReal)
  (x7 : S128x4x256x256.Idx → EReal) (x8 : S128x4x256.Idx → EReal) (x9 : S128x4.Idx → EReal)
  (r : Fin 128) (h : Fin 4)

/-- The old stabilisers, by row and head. -/
def ms (r : Fin 128) (h : Fin 4) : EReal := x9 (ix2 r h)

/-- The gates' arguments. -/
theorem ref_in : val_main_v3 (F := Ideal) x4 x5 (ix2 r h) = inG x4 x5 r h := by
  pointwise [val_main_v0, val_main_v1, val_main_v2, val_main_v3]
  rfl

theorem ref_fg : val_main_v7 (F := Ideal) x4 x5 (ix2 r h) = fgG x4 x5 r h := by
  pointwise [val_main_v4, val_main_v5, val_main_v6, val_main_v7]
  rfl

/-- The decayed stabiliser. -/
theorem ref_inter : val_main_v14 (F := Ideal) x4 x5 x9 (ix2 r h) = inter (fgG x4 x5 r h) (ms x9 r h) := by
  rw [← ref_fg]
  pointwise [val_main_v14, val_main_v8, val_main_call0_v0, val_main_call0_v1, val_main_call0_call0_cst, val_main_call0_call0_v0,
    val_main_call0_call0_v1, val_main_call0_call0_v2, val_main_call0_call0_v3, val_main_call0_call0_v4, val_main_call0_call0_v5,
    val_main_call0_call0_v6, val_main_call0_call0_v7, val_main_call0_call0_v8, val_main_call0_call0_v9, val_main_call0_call0_v10,
    val_main_call0_call0_v11]
  rfl

/-- The new stabiliser and the two weights. -/
theorem ref_stab : val_main_v15 (F := Ideal) x4 x5 x9 (ix2 r h) = stabR x4 x5 (ms x9) r h := by
  pointwise [val_main_v15]
  rw [ref_inter, ref_in]
  rfl

theorem ref_old : val_main_v17 (F := Ideal) x4 x5 x9 (ix2 r h) = oldR x4 x5 (ms x9) r h := by
  pointwise [val_main_v17, val_main_v16]
  rw [ref_inter, ref_stab]
  rfl

theorem ref_new : val_main_v19 (F := Ideal) x4 x5 x9 (ix2 r h) = newR x4 x5 (ms x9) r h := by
  pointwise [val_main_v19, val_main_v18]
  rw [ref_in, ref_stab]
  rfl

/-- The scaled key. -/
theorem ref_key (d : Fin 256) : val_main_v12 (F := Ideal) x1 (ix3 r h d) = keyR x1 r h d := by
  pointwise [val_main_v12, val_main_v11, val_main_v10, val_main_cst]
  rfl

/-- The new matrix. -/
theorem ref_mat (a b : Fin 256) : val_main_v51 (F := Ideal) x1 x2 x4 x5 x7 x9 (ix4 r h a b) = matR x1 x2 x4 x5 x7 (ms x9) r h a b := by
  pointwise [val_main_v51, val_main_v50, val_main_v49, val_main_v48, val_main_v47, val_main_v46, val_main_v45, val_main_v44, val_main_v43,
    val_main_v42, val_main_v41, val_main_v40, val_main_v13]
  rw [ref_old, ref_new, ref_key]
  rfl

/-- The new normaliser. -/
theorem ref_nrm (b : Fin 256) : val_main_v58 (F := Ideal) x1 x4 x5 x8 x9 (ix3 r h b) = nrmR x1 x4 x5 x8 (ms x9) r h b := by
  pointwise [val_main_v58, val_main_v57, val_main_v56, val_main_v55, val_main_v54, val_main_v53, val_main_v52]
  rw [ref_old, ref_new, ref_key]
  rfl

/-- The reading before the norm. -/
theorem ref_read (a : Fin 256) :
    val_main_v39 (F := Ideal) x0 x1 x2 x4 x5 x7 x8 x9 (ix3 r h a) = readR x0 x1 x2 x4 x5 x7 x8 (ms x9) r h a := by
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v13, val_main_v9]
  simp only [ref_old, ref_new, ref_key, ref_stab]
  unfold readR read
  simp only [mul_comm (x7 _) (x0 _)]
  rfl

/-- The gated reading. -/
theorem ref_out (w : Fin 1024) :
    val_main_v87 (F := Ideal) x0 x1 x2 x3 x4 x5 x6 x7 x8 x9 (ix2 r w)
      = outR x0 x1 x2 x3 x4 x5 (fun d => x6 (ix1 d)) x7 x8 (ms x9) r ⟨w.val / 256, by omega⟩ ⟨w.val % 256, by omega⟩ := by
  have e : place (⟨w.val / 256, by omega⟩ : Fin 4) (⟨w.val % 256, by omega⟩ : Fin 256) = w :=
    Fin.ext (show w.val / 256 * 256 + w.val % 256 = w.val by omega)
  pointwise [val_main_v87, val_main_v86, val_main_v85, val_main_v84, val_main_v83, val_main_v82, val_main_v81, val_main_v80, val_main_v79, val_main_v78, val_main_v77, val_main_v76,
    val_main_v75, val_main_v74, val_main_v73, val_main_v72, val_main_v71, val_main_v70, val_main_v69, val_main_v68, val_main_v67, val_main_v66,
    val_main_v65, val_main_v64, val_main_v63, val_main_v62, val_main_v61, val_main_v60, val_main_v59,
    val_main_cst_0, val_main_cst_1, val_main_cst_2, val_main_cst_3, val_main_cst_4, val_main_cst_5, val_main_cst_6]
  simp only [ref_read]
  unfold outR
  rw [e]
  rfl

/-- The stabilisers, padded with zeros. -/
theorem ref_pad (d : Fin 128) : val_main_v88 (F := Ideal) x4 x5 x9 (ix2 r d)
    = if e : d.val < 4 then stabR x4 x5 (ms x9) r ⟨d.val, e⟩ else 0 := by
  have z : FloatOps.sitofp (F := Ideal) FTy.f32 0#32 = (0 : EReal) := by simp [FloatOps.sitofp]
  pointwise [val_main_v88, val_main_call1_v0, val_main_c]
  simp only [ref_stab, z]

section

variable {R R' : ℕ} {q k v o : (⟨2, ![R, 1024]⟩ : Shape).Idx → EReal} {gates : (⟨2, ![R, 128]⟩ : Shape).Idx → EReal}
  {bias : S1x128.Idx → EReal} {scale : Fin 1024 → EReal} {c : (⟨4, ![R, 4, 256, 256]⟩ : Shape).Idx → EReal}
  {n : (⟨3, ![R, 4, 256]⟩ : Shape).Idx → EReal} {m : Fin R → Fin 4 → EReal}
  {q' k' v' o' : (⟨2, ![R', 1024]⟩ : Shape).Idx → EReal} {gates' : (⟨2, ![R', 128]⟩ : Shape).Idx → EReal}
  {bias' : S1x128.Idx → EReal} {scale' : Fin 1024 → EReal} {c' : (⟨4, ![R', 4, 256, 256]⟩ : Shape).Idx → EReal}
  {n' : (⟨3, ![R', 4, 256]⟩ : Shape).Idx → EReal} {m' : Fin R' → Fin 4 → EReal} {r : Fin R} {r' : Fin R'}
  (hq : ∀ w, q (ix2 r w) = q' (ix2 r' w)) (hk : ∀ w, k (ix2 r w) = k' (ix2 r' w)) (hv : ∀ w, v (ix2 r w) = v' (ix2 r' w))
  (ho : ∀ w, o (ix2 r w) = o' (ix2 r' w)) (hg : ∀ w, gates (ix2 r w) = gates' (ix2 r' w)) (hb : ∀ w, bias (ix2 0 w) = bias' (ix2 0 w))
  (hs : ∀ w, scale w = scale' w) (hc : ∀ h a b, c (ix4 r h a b) = c' (ix4 r' h a b)) (hn : ∀ h b, n (ix3 r h b) = n' (ix3 r' h b))
  (hm : ∀ h, m r h = m' r' h)

include hg hb hm in
/-- The step reads nothing but its row. -/
theorem moved_gates (h : Fin 4) : stabR gates bias m r h = stabR gates' bias' m' r' h ∧ oldR gates bias m r h = oldR gates' bias' m' r' h
    ∧ newR gates bias m r h = newR gates' bias' m' r' h := by
  simp only [stabR, oldR, newR, inG, fgG, hg, hb, hm, and_self]

include hk hv hg hb hc hm in
theorem moved_mat (h : Fin 4) (a b : Fin 256) : matR k v gates bias c m r h a b = matR k' v' gates' bias' c' m' r' h a b := by
  obtain ⟨_, e1, e2⟩ := moved_gates hg hb hm h
  simp only [matR, keyR, e1, e2, hk, hv, hc]

include hk hg hb hn hm in
theorem moved_nrm (h : Fin 4) (b : Fin 256) : nrmR k gates bias n m r h b = nrmR k' gates' bias' n' m' r' h b := by
  obtain ⟨_, e1, e2⟩ := moved_gates hg hb hm h
  simp only [nrmR, keyR, e1, e2, hk, hn]

include hq hk hv ho hg hb hs hc hn hm in
theorem moved_out (h : Fin 4) (a : Fin 256) :
    outR q k v o gates bias scale c n m r h a = outR q' k' v' o' gates' bias' scale' c' n' m' r' h a := by
  obtain ⟨e0, e1, e2⟩ := moved_gates hg hb hm h
  simp only [outR, readR, keyR, e0, e1, e2, hq, hk, hv, ho, hs, hc, hn]

end

end Cert.MatrixIdeal.Tiles

end
-- ==== Proof.MatrixValue.lean ====
/-
  What the grid leaves of one step of the matrix memory, array by array: the reference's values.
-/
module

public import Idealize.ShloMosaic.Lib.Pipeline.ValueKit
public import proofs.«01_k».proof.Proof.MatrixBlocks
public import proofs.«01_k».proof.Proof.MatrixRef
public import proofs.«01_k».proof.Proof.Gen.MatrixIdeal.Value

@[expose] public section

set_option maxRecDepth 16384

noncomputable section

open Idealize.ShloMosaic Idealize.ShloMosaic.TcCoe Idealize.SL.Sem

namespace Cert.MatrixIdeal.Tiles

open Cert.MatrixIdeal Cert.MatrixIdeal.Gen Idealize.ShloMosaic.Pointwise Cert.MatrixRefIdeal.Read

variable (m : (ℓ : Loc nD τ sig) → Buf (Elt Ideal) ℓ) (c : Dev nD)

abbrev A0 : S128x1024.Idx → EReal := m ((c : Thread nD τ).loc main_arg0)
abbrev A1 : S128x1024.Idx → EReal := m ((c : Thread nD τ).loc main_arg1)
abbrev A2 : S128x1024.Idx → EReal := m ((c : Thread nD τ).loc main_arg2)
abbrev A3 : S128x1024.Idx → EReal := m ((c : Thread nD τ).loc main_arg3)
abbrev A4 : S128x128.Idx → EReal := m ((c : Thread nD τ).loc main_arg4)
abbrev A5 : S1x128.Idx → EReal := m ((c : Thread nD τ).loc main_arg5)
abbrev A6 : S1024.Idx → EReal := m ((c : Thread nD τ).loc main_arg6)
abbrev A7 : S128x4x256x256.Idx → EReal := m ((c : Thread nD τ).loc main_arg7)
abbrev A8 : S128x4x256.Idx → EReal := m ((c : Thread nD τ).loc main_arg8)
abbrev A9 : S128x4.Idx → EReal := m ((c : Thread nD τ).loc main_arg9)

/-- What the arrays computed before the grid hold: the stabilisers, padded, and the norm's scales as one row. -/
theorem entry_m (r : Fin 128) (h : Fin 4) :
    (V m c main_v0 : S128x128.Idx → EReal) (ix2 r (⟨h.val, by omega⟩ : Fin 128)) = A9 m c (ix2 r h) := by
  have e : (V m c main_v0 : S128x128.Idx → EReal) = pad S128x128 ![0, 0] ![0, 124] ![0, 0] (A9 m c)
      (sitofp (F := Ideal) .f32 (constantI S_ 32 0#32)) pads_S128x4_S128x128_000_01240 h_S_ := by
    show StableHlo.after (List.flatten [hostOps0, hostOps0_1, hostOps0_2]) _ (Proc.devRef .tc main_v0) = _
    simp only [List.flatten_cons, List.flatten_nil, List.append_nil, List.cons_append, List.nil_append,
      StableHlo.TRef.binary, StableHlo.TRef.unary]
    after_results
    rfl
  rw [e]
  pointwise

theorem entry_g (w : Fin 1024) : (V m c main_v1 : S1x1024.Idx → EReal) (ix2 0 w) = A6 m c (ix1 w) := by
  show StableHlo.after (List.flatten [hostOps0, hostOps0_1, hostOps0_2]) _ (Proc.devRef .tc main_v1) _ = _
  simp only [List.flatten_cons, List.flatten_nil, List.append_nil, List.cons_append, List.nil_append,
    StableHlo.TRef.binary, StableHlo.TRef.unary]
  after_results
  pointwise

/-- The grid has one point for each eight rows. -/
theorem idx : ∀ t : Fin cfg0.N, (win0_0.index t = ![t.val, 0] ∧ win0_1.index t = ![t.val, 0] ∧ win0_2.index t = ![t.val, 0]
      ∧ win0_3.index t = ![t.val, 0] ∧ win0_4.index t = ![t.val, 0])
    ∧ (win0_5.index t = ![0, 0] ∧ win0_6.index t = ![0, 0] ∧ win0_7.index t = ![t.val, 0, 0, 0] ∧ win0_8.index t = ![t.val, 0, 0]
      ∧ win0_9.index t = ![t.val, 0])
    ∧ (win0_10.index t = ![t.val, 0] ∧ win0_11.index t = ![t.val, 0, 0, 0] ∧ win0_12.index t = ![t.val, 0, 0]
      ∧ win0_13.index t = ![t.val, 0]) :=
  (by decide +kernel : ∀ t : Fin grid0.N, _)

/-- The array's row behind a block's. -/
def tile (t : Fin cfg0.N) (r : Fin 8) : Fin 128 := ⟨t.val * 8 + r.val, by have : t.val < 16 := t.isLt; omega⟩

/-- The staged blocks' entries. -/
theorem blk0 (t : Fin cfg0.N) (r : Fin 8) (w : Fin 1024) : (iblk m c 0 t : S8x1024.Idx → EReal) (ix2 r w) = A0 m c (ix2 (tile t r) w) := by
  blk_ext [iblk, V, idx t, tile]
theorem blk1 (t : Fin cfg0.N) (r : Fin 8) (w : Fin 1024) : (iblk m c 1 t : S8x1024.Idx → EReal) (ix2 r w) = A1 m c (ix2 (tile t r) w) := by
  blk_ext [iblk, V, idx t, tile]
theorem blk2 (t : Fin cfg0.N) (r : Fin 8) (w : Fin 1024) : (iblk m c 2 t : S8x1024.Idx → EReal) (ix2 r w) = A2 m c (ix2 (tile t r) w) := by
  blk_ext [iblk, V, idx t, tile]
theorem blk3 (t : Fin cfg0.N) (r : Fin 8) (w : Fin 1024) : (iblk m c 3 t : S8x1024.Idx → EReal) (ix2 r w) = A3 m c (ix2 (tile t r) w) := by
  blk_ext [iblk, V, idx t, tile]
theorem blk4 (t : Fin cfg0.N) (r : Fin 8) (w : Fin 128) : (iblk m c 4 t : S8x128.Idx → EReal) (ix2 r w) = A4 m c (ix2 (tile t r) w) := by
  blk_ext [iblk, V, idx t, tile]
theorem blk5 (t : Fin cfg0.N) (w : Fin 128) : (iblk m c 5 t : S1x128.Idx → EReal) (ix2 0 w) = A5 m c (ix2 0 w) := by
  blk_ext [iblk, V, idx t, tile]
theorem blk7 (t : Fin cfg0.N) (r : Fin 8) (h : Fin 4) (a b : Fin 256) :
    (iblk m c 7 t : S8x4x256x256.Idx → EReal) (ix4 r h a b) = A7 m c (ix4 (tile t r) h a b) := by
  blk_ext [iblk, V, idx t, tile]
theorem blk8 (t : Fin cfg0.N) (r : Fin 8) (h : Fin 4) (b : Fin 256) :
    (iblk m c 8 t : S8x4x256.Idx → EReal) (ix3 r h b) = A8 m c (ix3 (tile t r) h b) := by
  blk_ext [iblk, V, idx t, tile]

theorem emb_g (t : Fin cfg0.N) (w : Fin 1024) : (win0_6.blk t).view.emb (ix2 0 w) = ix2 0 w := by blk_ext [idx t]
theorem emb_m (t : Fin cfg0.N) (r : Fin 8) (w : Fin 128) : (win0_9.blk t).view.emb (ix2 r w) = ix2 (tile t r) w := by blk_ext [idx t, tile]

theorem blk6 (t : Fin cfg0.N) (w : Fin 1024) : (iblk m c 6 t : S1x1024.Idx → EReal) (ix2 0 w) = A6 m c (ix1 w) :=
  (congrArg (V m c main_v1) (emb_g t w)).trans (entry_g m c w)
theorem blk9 (t : Fin cfg0.N) (r : Fin 8) (h : Fin 4) : mm (iblk m c 9 t : S8x128.Idx → EReal) r h = ms (A9 m c) (tile t r) h :=
  (congrArg (V m c main_v0) (emb_m t r _)).trans (entry_m m c _ h)

/-- The reference's four results. -/
abbrev resY : S128x1024.Idx → EReal :=
  val_main_v87 (F := Ideal) (A0 m c) (A1 m c) (A2 m c) (A3 m c) (A4 m c) (A5 m c) (A6 m c) (A7 m c) (A8 m c) (A9 m c)
abbrev resC : S128x4x256x256.Idx → EReal := val_main_v51 (F := Ideal) (A1 m c) (A2 m c) (A4 m c) (A5 m c) (A7 m c) (A9 m c)
abbrev resN : S128x4x256.Idx → EReal := val_main_v58 (F := Ideal) (A1 m c) (A4 m c) (A5 m c) (A8 m c) (A9 m c)
abbrev resM : S128x128.Idx → EReal := val_main_v88 (F := Ideal) (A4 m c) (A5 m c) (A9 m c)

/-- A grid point's blocks are the reference's rows. -/
theorem point_y (t : Fin cfg0.N) (y : S8x1024.Idx) :
    blkY (iblk m c 0 t) (iblk m c 1 t) (iblk m c 2 t) (iblk m c 3 t) (iblk m c 4 t) (iblk m c 5 t) (iblk m c 6 t) (iblk m c 7 t)
      (iblk m c 8 t) (iblk m c 9 t) y = resY m c (ix2 (tile t (y 0)) (y 1)) :=
  (moved_out (blk0 m c t (y 0)) (blk1 m c t (y 0)) (blk2 m c t (y 0)) (blk3 m c t (y 0)) (blk4 m c t (y 0)) (blk5 m c t) (blk6 m c t)
    (blk7 m c t (y 0)) (blk8 m c t (y 0)) (blk9 m c t (y 0)) _ _).trans (ref_out _ _ _ _ _ _ _ _ _ _ (tile t (y 0)) (y 1)).symm

theorem point_c (t : Fin cfg0.N) (y : S8x4x256x256.Idx) :
    blkC (iblk m c 1 t) (iblk m c 2 t) (iblk m c 4 t) (iblk m c 5 t) (iblk m c 7 t) (iblk m c 9 t) y
      = resC m c (ix4 (tile t (y 0)) (y 1) (y 2) (y 3)) :=
  (moved_mat (blk1 m c t (y 0)) (blk2 m c t (y 0)) (blk4 m c t (y 0)) (blk5 m c t)
    (blk7 m c t (y 0)) (blk9 m c t (y 0)) _ _ _).trans (ref_mat _ _ _ _ _ _ (tile t (y 0)) (y 1) (y 2) (y 3)).symm

theorem point_n (t : Fin cfg0.N) (y : S8x4x256.Idx) :
    blkN (iblk m c 1 t) (iblk m c 4 t) (iblk m c 5 t) (iblk m c 8 t) (iblk m c 9 t) y = resN m c (ix3 (tile t (y 0)) (y 1) (y 2)) :=
  (moved_nrm (blk1 m c t (y 0)) (blk4 m c t (y 0)) (blk5 m c t)
    (blk8 m c t (y 0)) (blk9 m c t (y 0)) _ _).trans (ref_nrm _ _ _ _ _ (tile t (y 0)) (y 1) (y 2)).symm

theorem point_m (t : Fin cfg0.N) (y : S8x128.Idx) :
    blkM (iblk m c 4 t) (iblk m c 5 t) (iblk m c 9 t) y = resM m c (ix2 (tile t (y 0)) (y 1)) := by
  refine Eq.trans ?_ (ref_pad (A4 m c) (A5 m c) (A9 m c) (tile t (y 0)) (y 1)).symm
  unfold blkM
  by_cases h : (y 1).val < 4
  · rw [dif_pos h, dif_pos h]
    exact (moved_gates (blk4 m c t (y 0)) (blk5 m c t) (blk9 m c t (y 0)) _).1
  · rw [dif_neg h, dif_neg h]

/-- The results, as the windows leave them. -/
theorem final : (dats m 0 c).arrAt 10 cfg0.N = resY m c ∧ (dats m 0 c).arrAt 11 cfg0.N = resC m c
    ∧ (dats m 0 c).arrAt 12 cfg0.N = resN m c ∧ (dats m 0 c).arrAt 13 cfg0.N = resM m c := by
  refine ⟨?_, ?_, ?_, ?_⟩
  · refine (dats m 0 c).arrAt_eq_of_covers _ _ (by decide +kernel) fun t hf y => ?_
    blk_simp
    simp only [after0_10, outsAt0, out_left]
    have hy : ((View.whole main_v2_0).slice (win0_10.rect t)).emb y = ix2 (tile t (y 0)) (y 1) := by blk_ext [idx t, tile]
    rw [hy]
    exact point_y m c t y
  · refine (dats m 0 c).arrAt_eq_of_covers _ _ (by decide +kernel) fun t hf y => ?_
    blk_simp
    simp only [after0_11, outsAt0, mat_left]
    have hy : ((View.whole main_v2_1).slice (win0_11.rect t)).emb y = ix4 (tile t (y 0)) (y 1) (y 2) (y 3) := by blk_ext [idx t, tile]
    rw [hy]
    exact point_c m c t y
  · refine (dats m 0 c).arrAt_eq_of_covers _ _ (by decide +kernel) fun t hf y => ?_
    blk_simp
    simp only [after0_12, outsAt0, nrm_left]
    have hy : ((View.whole main_v2_2).slice (win0_12.rect t)).emb y = ix3 (tile t (y 0)) (y 1) (y 2) := by blk_ext [idx t, tile]
    rw [hy]
    exact point_n m c t y
  · refine (dats m 0 c).arrAt_eq_of_covers _ _ (by decide +kernel) fun t hf y => ?_
    blk_simp
    simp only [after0_13, outsAt0, stab_left]
    have hy : ((View.whole main_v2_3).slice (win0_13.rect t)).emb y = ix2 (tile t (y 0)) (y 1) := by blk_ext [idx t, tile]
    rw [hy]
    exact point_m m c t y

end Cert.MatrixIdeal.Tiles

end
-- ==== Proof.MatrixClaims.lean ====
/-
  The claims of one step of the matrix memory.
-/
module

public import proofs.«01_k».proof.Defs
public import proofs.«01_k».proof.Proof.MatrixValue
public import proofs.«01_k».proof.Proof.Gen.Matrix.Frame
public import proofs.«01_k».proof.Proof.Gen.MatrixIdeal.Frame
public import proofs.«01_k».proof.Proof.Gen.MatrixRefIdeal.Run

@[expose] public section

noncomputable section

open Idealize.ShloMosaic Idealize.SL.Sem

namespace Cert.Proof.MatrixClaims

open Cert.MatrixIdeal.Tiles

theorem frame_kernel : Cert.quiescent_Matrix := fun m ρ _ => Cert.Matrix.Gen.frame m ρ

theorem frame_ideal : Cert.quiescent_MatrixIdeal := fun m ρ _ => Cert.MatrixIdeal.Gen.frame m ρ

theorem frame_ref : Cert.quiescent_MatrixRefIdeal := fun m ρ _ =>
  (θ_run Cert.MatrixRefIdeal.defs _ _).mono (fun r h => ⟨fun c => (h c).2.2.2.2, sem_eq_zero_of_no_sems (by decide) r.2⟩)
    (Cert.MatrixRefIdeal.Value.run (F := Ideal) m ρ)

theorem preserves : Cert.preserves_Matrix_MatrixIdeal := trivial

/-- The kernel's four results, the gated reading, the new matrices, normalisers and stabilisers, are the reference's. -/
theorem algebraic : Cert.algebraic_MatrixIdeal_MatrixRefIdeal := by
  intro m ρ m' ρ' _ hag
  refine ⟨_, _, _, _, Cert.MatrixIdeal.Value.run_blocks (F := Ideal) m ρ, ?_⟩
  refine (θ_run Cert.MatrixRefIdeal.defs _ _).mono (fun _ h c => ?_) (Cert.MatrixRefIdeal.Value.run (F := Ideal) m' ρ')
  obtain ⟨h0, h1, h2, h3, hk⟩ := h c
  obtain ⟨a0, a1, a2, a3, a4, a5, a6, a7, a8, a9⟩ := hag c
  obtain ⟨f0, f1, f2, f3⟩ := final m c
  have e0 : StableHlo.launchContents m' c (Proc.devRef .tc Cert.MatrixRefIdeal.main_arg0) = A0 m c := a0
  have e1 : StableHlo.launchContents m' c (Proc.devRef .tc Cert.MatrixRefIdeal.main_arg1) = A1 m c := a1
  have e2 : StableHlo.launchContents m' c (Proc.devRef .tc Cert.MatrixRefIdeal.main_arg2) = A2 m c := a2
  have e3 : StableHlo.launchContents m' c (Proc.devRef .tc Cert.MatrixRefIdeal.main_arg3) = A3 m c := a3
  have e4 : StableHlo.launchContents m' c (Proc.devRef .tc Cert.MatrixRefIdeal.main_arg4) = A4 m c := a4
  have e5 : StableHlo.launchContents m' c (Proc.devRef .tc Cert.MatrixRefIdeal.main_arg5) = A5 m c := a5
  have e6 : StableHlo.launchContents m' c (Proc.devRef .tc Cert.MatrixRefIdeal.main_arg6) = A6 m c := a6
  have e7 : StableHlo.launchContents m' c (Proc.devRef .tc Cert.MatrixRefIdeal.main_arg7) = A7 m c := a7
  have e8 : StableHlo.launchContents m' c (Proc.devRef .tc Cert.MatrixRefIdeal.main_arg8) = A8 m c := a8
  have e9 : StableHlo.launchContents m' c (Proc.devRef .tc Cert.MatrixRefIdeal.main_arg9) = A9 m c := a9
  refine ⟨h0.trans (Eq.trans ?_ f0.symm), h1.trans (Eq.trans ?_ f1.symm), h2.trans (Eq.trans ?_ f2.symm), h3.trans (Eq.trans ?_ f3.symm), hk⟩
  · rw [Cert.MatrixRefIdeal.Read.val_main_v87_eq, e0, e1, e2, e3, e4, e5, e6, e7, e8, e9]
  · rw [Cert.MatrixRefIdeal.Read.val_main_v51_eq, e1, e2, e4, e5, e7, e9]
  · rw [Cert.MatrixRefIdeal.Read.val_main_v58_eq, e1, e4, e5, e8, e9]
  · rw [Cert.MatrixRefIdeal.Read.val_main_v88_eq, e4, e5, e9]

end Cert.Proof.MatrixClaims

end
-- ==== Proof.lean ====
/-
  The certificate's claims together. Each pair of programs has a module of its own: its frames, its idealization and
  its value claim.
-/
module

public import proofs.«01_k».proof.Defs
public import proofs.«01_k».proof.Proof.MoeClaims
public import proofs.«01_k».proof.Proof.FfnClaims
public import proofs.«01_k».proof.Proof.MemoryClaims
public import proofs.«01_k».proof.Proof.EvenPromptClaims
public import proofs.«01_k».proof.Proof.EvenSampleClaims
public import proofs.«01_k».proof.Proof.OddPromptClaims
public import proofs.«01_k».proof.Proof.QueryClaims
public import proofs.«01_k».proof.Proof.MixClaims
public import proofs.«01_k».proof.Proof.MixPairClaims
public import proofs.«01_k».proof.Proof.AttentionClaims
public import proofs.«01_k».proof.Proof.RecurrenceClaims
public import proofs.«01_k».proof.Proof.SampleClaims
public import proofs.«01_k».proof.Proof.MatrixClaims

@[expose] public section

namespace Cert.Proof

/-- Every pair's claims, in the order of the pairs. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Memory.Gen.facts, Cert.MemoryIdeal.Gen.facts, Cert.MemoryRefIdeal.Gen.facts,
    Cert.EvenPrompt.Gen.facts, Cert.EvenPromptIdeal.Gen.facts, Cert.EvenPromptRefIdeal.Gen.facts,
    Cert.EvenSample.Gen.facts, Cert.EvenSampleIdeal.Gen.facts, Cert.EvenSampleRefIdeal.Gen.facts,
    Cert.OddPrompt.Gen.facts, Cert.OddPromptIdeal.Gen.facts, Cert.OddPromptRefIdeal.Gen.facts,
    Cert.Query.Gen.facts, Cert.QueryIdeal.Gen.facts, Cert.QueryRefIdeal.Gen.facts,
    Cert.Mix.Gen.facts, Cert.MixIdeal.Gen.facts, Cert.MixRefIdeal.Gen.facts,
    Cert.MixPair.Gen.facts, Cert.MixPairIdeal.Gen.facts, Cert.MixPairRefIdeal.Gen.facts,
    Cert.Attention.Gen.facts, Cert.AttentionIdeal.Gen.facts, Cert.AttentionRefIdeal.Gen.facts,
    Cert.Recurrence.Gen.facts, Cert.RecurrenceIdeal.Gen.facts, Cert.RecurrenceRefIdeal.Gen.facts,
    Cert.Sample.Gen.facts, Cert.SampleIdeal.Gen.facts, Cert.SampleRefIdeal.Gen.facts,
    Cert.Matrix.Gen.facts, Cert.MatrixIdeal.Gen.facts, Cert.MatrixRefIdeal.Gen.facts,
    Cert.Pre_gates_nonneg.Gen.facts, Cert.Pre_sample_gates_nonneg.Gen.facts,
    MoeClaims.frame_kernel, MoeClaims.frame_ideal, MoeClaims.frame_ideal_pre, MoeClaims.frame_ref, MoeClaims.frame_ref_pre,
    FfnClaims.frame_kernel, FfnClaims.frame_ideal, FfnClaims.frame_ref,
    MemoryClaims.frame_kernel, MemoryClaims.frame_ideal, MemoryClaims.frame_ref,
    EvenPromptClaims.frame_kernel, EvenPromptClaims.frame_ideal, EvenPromptClaims.frame_ref,
    EvenSampleClaims.frame_kernel, EvenSampleClaims.frame_ideal, EvenSampleClaims.frame_ref,
    OddPromptClaims.frame_kernel, OddPromptClaims.frame_ideal, OddPromptClaims.frame_ref,
    QueryClaims.frame_kernel, QueryClaims.frame_ideal, QueryClaims.frame_ref,
    MixClaims.frame_kernel, MixClaims.frame_ideal, MixClaims.frame_ref,
    MixPairClaims.frame_kernel, MixPairClaims.frame_ideal, MixPairClaims.frame_ref,
    AttentionClaims.frame_kernel, AttentionClaims.frame_ideal, AttentionClaims.frame_ref,
    RecurrenceClaims.frame_kernel, RecurrenceClaims.frame_ideal, RecurrenceClaims.frame_ref,
    SampleClaims.frame_kernel, SampleClaims.frame_ideal, SampleClaims.frame_ideal_pre, SampleClaims.frame_ref, SampleClaims.frame_ref_pre,
    MatrixClaims.frame_kernel, MatrixClaims.frame_ideal, MatrixClaims.frame_ref,
    MoeClaims.preserves, MoeClaims.algebraic,
    FfnClaims.preserves, FfnClaims.algebraic,
    MemoryClaims.preserves, MemoryClaims.algebraic,
    EvenPromptClaims.preserves, EvenPromptClaims.algebraic,
    EvenSampleClaims.preserves, EvenSampleClaims.algebraic,
    OddPromptClaims.preserves, OddPromptClaims.algebraic,
    QueryClaims.preserves, QueryClaims.algebraic,
    MixClaims.preserves, MixClaims.algebraic,
    MixPairClaims.preserves, MixPairClaims.algebraic,
    AttentionClaims.preserves, AttentionClaims.algebraic,
    RecurrenceClaims.preserves, RecurrenceClaims.algebraic,
    SampleClaims.preserves, SampleClaims.algebraic,
    MatrixClaims.preserves, MatrixClaims.algebraic⟩

end Cert.Proof
